-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_wkv [hPre_finite_wkv : Cert.Pre_finite_wkv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_wkv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_wkv [hPre_finite_wkv : Cert.Pre_finite_wkv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_wkv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite_wkv [hKernel7Ideal : Cert.Kernel7Ideal.Facts] [hPre_finite_wkv : Cert.Pre_finite_wkv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_wkv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite_wkv [hReference7Ideal : Cert.Reference7Ideal.Facts] [hPre_finite_wkv : Cert.Pre_finite_wkv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_wkv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_wkv [hKernel7Ideal : Cert.Kernel7Ideal.Facts] [hReference7Ideal : Cert.Reference7Ideal.Facts] [hPre_finite_wkv : Cert.Pre_finite_wkv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_wkv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v116) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_finite_wkv : Cert.Pre_finite_wkv.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_wkv (hKernel7Ideal := hKernel7Ideal) (hPre_finite_wkv := hPre_finite_wkv)
    ∧ quiescent_Reference7Ideal (hReference7Ideal := hReference7Ideal)
    ∧ quiescent_Reference7Ideal_pre_finite_wkv (hReference7Ideal := hReference7Ideal) (hPre_finite_wkv := hPre_finite_wkv)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_wkv (hKernel7Ideal := hKernel7Ideal) (hReference7Ideal := hReference7Ideal) (hPre_finite_wkv := hPre_finite_wkv)
-- ==== Pre_finite_inputs.lean ====
abbrev S16384x3072 : Shape := ⟨2, ![16384, 3072]⟩
abbrev S16x257 : Shape := ⟨2, ![16, 257]⟩
abbrev S16384x2048 : Shape := ⟨2, ![16384, 2048]⟩
abbrev S_ : Shape := ⟨0, ![]⟩

class Facts : Prop where
  bitsLt_bf16_f32 : FTy.bits .bf16 < FTy.bits .f32
  slices_S16384x3072_S16384x2048_0_0 : S16384x3072.Slices ![0, 0] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S16384x3072 .bf16) (main_arg1 : FVec F S16x257 .f32) : IVec S_ 1 :=
  let main_v0 : FVec F S16384x3072 .f32 := (extf .f32 · bitsLt_bf16_f32) main_arg0
  let main_v1 : FVec F S16384x2048 .f32 := (extractStridedSlice S16384x2048 ![0, 0] · slices_S16384x3072_S16384x2048_0_0) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S16x257 .f32 := Host.absf main_arg1
  let main_cst_0 : FVec F S_ .f32 := constant S_ .f32 0x7F800000#32
  let main_v7 : FVec F S16x257 .f32 := broadcastInDim S16x257 ![] bcast_S_S16x257 main_cst_0
  let main_v8 : IVec S16x257 1 := cmpf .olt main_v6 main_v7
  let main_c_1 : IVec S_ 1 := constantI S_ 1 1#1
  let main_v9 : IVec S_ 1 := (fun x v => Host.reduce IntOp.andi x v reducesTo_S16x257_S_d0_1 h_S_) main_v8 main_c_1
  let main_v10 : IVec S_ 1 := andi main_v5 main_v9
  main_v10
-- ==== Pre_finite_wkv.lean ====
abbrev S16384x3328 : Shape := ⟨2, ![16384, 3328]⟩
abbrev S3328 : Shape := ⟨1, ![3328]⟩
abbrev S64x1024 : Shape := ⟨2, ![64, 1024]⟩
abbrev S1024 : Shape := ⟨1, ![1024]⟩
abbrev S128x1024 : Shape := ⟨2, ![128, 1024]⟩
abbrev S16x64 : Shape := ⟨2, ![16, 64]⟩
abbrev S_ : Shape := ⟨0, ![]⟩

class Facts : Prop where
  bcast_S_S16384x3328 : S_.BroadcastsInDim S16384x3328 (![] : Fin 0 → Fin S16384x3328.rank)
  reducesTo_S16384x3328_S_d0_1 : S16384x3328.ReducesTo [0, 1] S_
  h_S_ : 0 < S_.numel
  bcast_S_S3328 : S_.BroadcastsInDim S3328 (![] : Fin 0 → Fin S3328.rank)
  reducesTo_S3328_S_d0 : S3328.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S16x64 : S_.BroadcastsInDim S16x64 (![] : Fin 0 → Fin S16x64.rank)
  reducesTo_S16x64_S_d0_1 : S16x64.ReducesTo [0, 1] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S16x64 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S64x1024 .f32) (main_arg5 : FVec F S1024 .f32) (main_arg6 : FVec F S128x1024 .f32) (main_arg7 : FVec F S1024 .f32) (main_arg8 : FVec F S1024 .f32) (main_arg9 : FVec F S16x64 .f32) (main_arg10 : FVec F S1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S128x1024 .f32 := Host.absf main_arg6
  let main_cst_10 : FVec F S_ .f32 := constant S_ .f32 0x7F800000#32
  let main_v30 : FVec F S128x1024 .f32 := broadcastInDim S128x1024 ![] bcast_S_S128x1024 main_cst_10
  let main_v31 : IVec S128x1024 1 := cmpf .olt main_v29 main_v30
  let main_c_11 : IVec S_ 1 := constantI S_ 1 1#1
  let main_v32 : IVec S_ 1 := (fun x v => Host.reduce IntOp.andi x v reducesTo_S128x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x3328 .f32) (main_arg1 : FVec F S3328 .f32) (main_arg2 : FVec F S64x1024 .f32) (main_arg3 : FVec F S1024 .f32) (main_arg4 : FVec F S64x1024 .f32) (main_arg5 : FVec F S1024 .f32) (main_arg6 : FVec F S128x1024 .f32) (main_arg7 : FVec F S1024 .f32) (main_arg8 : FVec F S1024 .f32) (main_arg9 : FVec F S16x64 .f32) (main_arg10 : FVec F S1024 .f32) (main_arg11 : FVec F S1024 .f32) : IVec S_ 1 :=
  let main_v0 : FVec F S16384x3328 .f32 := Host.absf main_arg0
  let main_cst : FVec F S_ .f32 := constant S_ .f32 0x7F800000#32
  let main_v1 : FVec F S16384x3328 .f32 := broadcastInDim S16384x3328 ![] bcast_S_S16384x3328 main_cst
  let main_v2 : IVec S16384x3328 1 := cmpf .olt main_v0 main_v1
  let main_c : IVec S_ 1 := constantI S_ 1 1#1
  let main_v3 : IVec S_ 1 := (fun x v => Host.reduce IntOp.andi x v reducesTo_S16384x3328_S_d0_1 h_S_) main_v2 main_c
  let main_v4 : FVec F S3328 .f32 := Host.absf main_arg1
  let main_cst_0 : FVec F S_ .f32 := constant S_ .f32 0x7F800000#32
  let main_v5 : FVec F S3328 .f32 := broadcastInDim S3328 ![] bcast_S_S3328 main_cst_0
  let main_v6 : IVec S3328 1 := cmpf .olt main_v4 main_v5
  let main_c_1 : IVec S_ 1 := constantI S_ 1 1#1
  let main_v7 : IVec S_ 1 := (fun x v => Host.reduce IntOp.andi x v reducesTo_S3328_S_d0 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S16384x3072 : Shape := ⟨2, ![16384, 3072]⟩
abbrev S16x257 : Shape := ⟨2, ![16, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S257 : Shape := ⟨1, ![257]⟩
abbrev S1x1x257 : Shape := ⟨3, ![1, 1, 257]⟩
abbrev S64x576x257 : Shape := ⟨3, ![64, 576, 257]⟩
abbrev S16x64x576 : Shape := ⟨3, ![16, 64, 576]⟩
abbrev S16x64x1024 : Shape := ⟨3, ![16, 64, 1024]⟩
abbrev S16x512x1024 : Shape := ⟨3, ![16, 512, 1024]⟩
abbrev S16384x1024 : Shape := ⟨2, ![16384, 1024]⟩
abbrev S512x128 : Shape := ⟨2, ![512, 128]⟩
abbrev S2x512x1024 : Shape := ⟨3, ![2, 512, 1024]⟩
abbrev S1024x128 : Shape := ⟨2, ![1024, 128]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 57
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S16x257, .f32⟩
  | .hbm, ⟨2, _⟩ => ⟨S64, .i32⟩
  | .hbm, ⟨3, _⟩ => ⟨S64x1, .i32⟩
  | .hbm, ⟨4, _⟩ => ⟨S_, .i32⟩
  | .hbm, ⟨5, _⟩ => ⟨S64x1, .i32⟩
  | .hbm, ⟨6, _⟩ => ⟨S64x1, .i32⟩
  | .hbm, ⟨7, _⟩ => ⟨S576, .i32⟩
  | .hbm, ⟨8, _⟩ => ⟨S1x576, .i32⟩
  | .hbm, ⟨9, _⟩ => ⟨S64x576, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S64x576x1, .i32⟩
  | .hbm, ⟨24, _⟩ => ⟨S257, .i32⟩
  | .hbm, ⟨25, _⟩ => ⟨S1x1x257, .i32⟩
  | .hbm, ⟨26, _⟩ => ⟨S64x576x257, .i32⟩
  | .hbm, ⟨27, _⟩ => ⟨S64x576x257, .i32⟩
  | .hbm, ⟨28, _⟩ => ⟨S64x576x257, .i1⟩
  | .hbm, ⟨29, _⟩ => ⟨S64x576x257, .f32⟩
  | .hbm, ⟨30, _⟩ => ⟨S16x64x576, .f32⟩
  | .hbm, ⟨31, _⟩ => ⟨S_, .f32⟩
  | .hbm, ⟨32, _⟩ => ⟨S_, .f32⟩
  | .hbm, ⟨33, _⟩ => ⟨S16x64x1024, .f32⟩
  | .hbm, ⟨34, _⟩ => ⟨S_, .f32⟩
  | .hbm, ⟨35, _⟩ => ⟨S_, .f32⟩
  | .hbm, ⟨36, _⟩ => ⟨S16x64x1024, .f32⟩
  | .hbm, ⟨37, _⟩ => ⟨S_, .f32⟩
  | .hbm, ⟨38, _⟩ => ⟨S_, .f32⟩
  | .hbm, ⟨39, _⟩ => ⟨S16x64x1024, .f32⟩
  | .hbm, ⟨40, _⟩ => ⟨S_, .f32⟩
  | .hbm, ⟨41, _⟩ => ⟨S_, .f32⟩
  | .hbm, ⟨42, _⟩ => ⟨S16x64x1024, .f32⟩
  | .hbm, ⟨43, _⟩ => ⟨S_, .f32⟩
  | .hbm, ⟨44, _⟩ => ⟨S_, .f32⟩
  | .hbm, ⟨45, _⟩ => ⟨S16x64x1024, .f32⟩
  | .hbm, ⟨46, _⟩ => ⟨S_, .f32⟩
  | .hbm, ⟨47, _⟩ => ⟨S_, .f32⟩
  | .hbm, ⟨48, _⟩ => ⟨S16x64x1024, .f32⟩
  | .hbm, ⟨49, _⟩ => ⟨S_, .f32⟩
  | .hbm, ⟨50, _⟩ => ⟨S_, .f32⟩
  | .hbm, ⟨51, _⟩ => ⟨S16x64x1024, .f32⟩
  | .hbm, ⟨52, _⟩ => ⟨S_, .f32⟩
  | .hbm, ⟨53, _⟩ => ⟨S_, .f32⟩
  | .hbm, ⟨54, _⟩ => ⟨S16x64x1024, .f32⟩
  | .hbm, ⟨55, _⟩ => ⟨S16x512x1024, .f32⟩
  | .hbm, ⟨56, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S2x512x1024, .f32⟩
  | .local _ .vmem, ⟨11, _⟩ => ⟨S2x512x1024, .f32⟩
  | .local _ .vmem, ⟨12, _⟩ => ⟨S512x128, .bf16⟩
  | .local _ .vmem, ⟨13, _⟩ => ⟨S512x128, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_call1_v0 : Ref sig .tc := ⟨.hbm, 32, rfl⟩
abbrev main_v20 : Ref sig .tc := ⟨.hbm, 33, rfl⟩
abbrev main_cst_3 : Ref sig .tc := ⟨.hbm, 34, rfl⟩
abbrev main_call2_v0 : Ref sig .tc := ⟨.hbm, 35, rfl⟩
abbrev main_v21 : Ref sig .tc := ⟨.hbm, 36, rfl⟩
abbrev main_cst_4 : Ref sig .tc := ⟨.hbm, 37, rfl⟩
abbrev main_call3_v0 : Ref sig .tc := ⟨.hbm, 38, rfl⟩
abbrev main_v22 : Ref sig .tc := ⟨.hbm, 39, rfl⟩
abbrev main_cst_5 : Ref sig .tc := ⟨.hbm, 40, rfl⟩
abbrev main_call4_v0 : Ref sig .tc := ⟨.hbm, 41, rfl⟩
abbrev main_v23 : Ref sig .tc := ⟨.hbm, 42, rfl⟩
abbrev main_cst_6 : Ref sig .tc := ⟨.hbm, 43, rfl⟩
abbrev main_call5_v0 : Ref sig .tc := ⟨.hbm, 44, rfl⟩
abbrev main_v24 : Ref sig .tc := ⟨.hbm, 45, rfl⟩
abbrev main_cst_7 : Ref sig .tc := ⟨.hbm, 46, rfl⟩
abbrev main_call6_v0 : Ref sig .tc := ⟨.hbm, 47, rfl⟩
abbrev main_v25 : Ref sig .tc := ⟨.hbm, 48, rfl⟩
abbrev main_cst_8 : Ref sig .tc := ⟨.hbm, 49, rfl⟩
abbrev main_call7_v0 : Ref sig .tc := ⟨.hbm, 50, rfl⟩
abbrev main_v26 : Ref sig .tc := ⟨.hbm, 51, rfl⟩
abbrev main_cst_9 : Ref sig .tc := ⟨.hbm, 52, rfl⟩
abbrev main_call8_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c8_i32 : BitVec 32 := 8#32
  let v4 : BitVec 32 := Scalar.addi c8_i32 arg1
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c16_i32_0 : BitVec 32 := 16#32
  let v4 : BitVec 32 := Scalar.addi c16_i32_0 arg1
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x3072 : Shape := ⟨2, ![16384, 3072]⟩
abbrev S16x257 : Shape := ⟨2, ![16, 257]⟩
abbrev S2x8192x3072 : Shape := ⟨3, ![2, 8192, 3072]⟩
abbrev S2x8192x1024 : Shape := ⟨3, ![2, 8192, 1024]⟩
abbrev S2x8192x16x64 : Shape := ⟨4, ![2, 8192, 16, 64]⟩
abbrev S2x16x8192x64 : Shape := ⟨4, ![2, 16, 8192, 64]⟩
abbrev S_ : Shape := ⟨0, ![]⟩
abbrev S2x16x8704x64 : Shape := ⟨4, ![2, 16, 8704, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x4 : Shape := ⟨2, ![128, 4]⟩
abbrev S128x2x16x64x64 : Shape := ⟨5, ![128, 2, 16, 64, 64]⟩
abbrev S128x2x16x576x64 : Shape := ⟨5, ![128, 2, 16, 576, 64]⟩
abbrev S128x2x16x64x576 : Shape := ⟨5, ![128, 2, 16, 64, 576]⟩
abbrev S1x16x64x576 : Shape := ⟨4, ![1, 16, 64, 576]⟩
abbrev S1x1x16x64x576 : Shape := ⟨5, ![1, 1, 16, 64, 576]⟩
abbrev S1x1x576 : Shape := ⟨3, ![1, 1, 576]⟩
abbrev S128x1x1 : Shape := ⟨3, ![128, 1, 1]⟩
abbrev S128x1x576 : Shape := ⟨3, ![128, 1, 576]⟩
abbrev S2x16x64x576 : Shape := ⟨4, ![2, 16, 64, 576]⟩
abbrev S128x2x16x64 : Shape := ⟨4, ![128, 2, 16, 64]⟩
abbrev S128x2x16x64x1 : Shape := ⟨5, ![128, 2, 16, 64, 1]⟩
abbrev S2x128x64x16x64 : Shape := ⟨5, ![2, 128, 64, 16, 64]⟩
abbrev S16384x1024 : Shape := ⟨2, ![16384, 1024]⟩

abbrev nBuf : Space → Nat
  | .hbm => 141
  | .vmem => 0
  | .smem => 0
  | _ => 0

abbrev hbmTy0_0 (i : Nat) : BufTy := match i % 128 with
  | 0 => ⟨S16384x3072, .bf16⟩
  | 1 => ⟨S16x257, .f32⟩
  | 2 => ⟨S16384x3072, .f32⟩
  | 3 => ⟨S2x8192x3072, .f32⟩
  | 4 => ⟨S2x8192x1024, .f32⟩
  | 5 => ⟨S2x8192x1024, .f32⟩
  | 6 => ⟨S2x8192x1024, .f32⟩
  | 7 => ⟨S2x8192x16x64, .f32⟩
  | 8 => ⟨S2x16x8192x64, .f32⟩
  | 9 => ⟨S_, .f32⟩
  | 10 => ⟨S2x16x8192x64, .f32⟩
  | 11 => ⟨S2x16x8192x64, .f32⟩
  | 12 => ⟨S2x8192x16x64, .f32⟩
  | 13 => ⟨S2x16x8192x64, .f32⟩
  | 14 => ⟨S_, .i32⟩
  | 15 => ⟨S_, .f32⟩
  | 16 => ⟨S2x16x8704x64, .f32⟩
  | 17 => ⟨S2x8192x16x64, .f32⟩
  | 18 => ⟨S2x16x8192x64, .f32⟩
  | 19 => ⟨S_, .i32⟩
  | 20 => ⟨S_, .f32⟩
  | 21 => ⟨S2x16x8704x64, .f32⟩
  | 22 => ⟨S64, .i32⟩
  | 23 => ⟨S64x1, .i32⟩
  | 24 => ⟨S_, .i32⟩
  | 25 => ⟨S64x1, .i32⟩
  | 26 => ⟨S64x1, .i32⟩
  | 27 => ⟨S576, .i32⟩
  | 28 => ⟨S1x576, .i32⟩
  | 29 => ⟨S64x576, .i32⟩
  | 30 => ⟨S64x576, .i32⟩
  | 31 => ⟨S64x576, .i32⟩
  | 32 => ⟨S_, .i32⟩
  | 33 => ⟨S_, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i32⟩
  | 40 => ⟨S_, .i32⟩
  | 41 => ⟨S64x576, .i32⟩
  | 42 => ⟨S64x576, .i32⟩
  | 43 => ⟨S_, .i32⟩
  | 44 => ⟨S64x576, .i32⟩
  | 45 => ⟨S64x576, .i1⟩
  | 46 => ⟨S_, .i32⟩
  | 47 => ⟨S64x576, .i32⟩
  | 48 => ⟨S64x576, .i32⟩
  | 49 => ⟨S64x576, .i32⟩
  | 50 => ⟨S64x576x1, .i32⟩
  | 51 => ⟨S16x64x576, .f32⟩
  | 52 => ⟨S128, .i32⟩
  | 53 => ⟨S_, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i32⟩
  | 62 => ⟨S128, .i32⟩
  | 63 => ⟨S_, .i32⟩
  | 64 => ⟨S128x1, .i32⟩
  | 65 => ⟨S_, .i32⟩
  | 66 => ⟨S128x1, .i32⟩
  | 67 => ⟨S128x1, .i32⟩
  | 68 => ⟨S_, .i32⟩
  | 69 => ⟨S128x1, .i32⟩
  | 70 => ⟨S128x4, .i32⟩
  | 71 => ⟨S128x2x16x64x64, .f32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S_, .i32⟩
  | 80 => ⟨S128x1, .i32⟩
  | 81 => ⟨S_, .i32⟩
  | 82 => ⟨S128x1, .i32⟩
  | 83 => ⟨S128x1, .i32⟩
  | 84 => ⟨S_, .i32⟩
  | 85 => ⟨S128x1, .i32⟩
  | 86 => ⟨S128x4, .i32⟩
  | 87 => ⟨S128x2x16x576x64, .f32⟩
  | 88 => ⟨S_, .i32⟩
  | 89 => ⟨S128, .i32⟩
  | 90 => ⟨S128, .i1⟩
  | 91 => ⟨S_, .i32⟩
  | 92 => ⟨S128, .i32⟩
  | 93 => ⟨S128, .i32⟩
  | 94 => ⟨S128, .i32⟩
  | 95 => ⟨S_, .i32⟩
  | 96 => ⟨S128x1, .i32⟩
  | 97 => ⟨S_, .i32⟩
  | 98 => ⟨S128x1, .i32⟩
  | 99 => ⟨S128x1, .i32⟩
  | 100 => ⟨S_, .i32⟩
  | 101 => ⟨S128x1, .i32⟩
  | 102 => ⟨S128x4, .i32⟩
  | 103 => ⟨S128x2x16x576x64, .f32⟩
  | 104 => ⟨S128x2x16x64x576, .f32⟩
  | 105 => ⟨S1x16x64x576, .f32⟩
  | 106 => ⟨S1x1x16x64x576, .f32⟩
  | 107 => ⟨S128x2x16x64x576, .f32⟩
  | 108 => ⟨S128x2x16x64x576, .f32⟩
  | 109 => ⟨S_, .i32⟩
  | 110 => ⟨S128, .i32⟩
  | 111 => ⟨S128, .i32⟩
  | 112 => ⟨S1x1x576, .i32⟩
  | 113 => ⟨S128x1x1, .i32⟩
  | 114 => ⟨S128x1x576, .i32⟩
  | 115 => ⟨S128x1x576, .i32⟩
  | 116 => ⟨S128x1x576, .i1⟩
  | 117 => ⟨S_, .f32⟩
  | 118 => ⟨S_, .f32⟩
  | 119 => ⟨S128x2x16x64x576, .i1⟩
  | 120 => ⟨S2x16x64x576, .f32⟩
  | 121 => ⟨S128x2x16x64x576, .f32⟩
  | 122 => ⟨S128x2x16x64x576, .f32⟩
  | 123 => ⟨S_, .f32⟩
  | 124 => ⟨S128x2x16x64, .f32⟩
  | 125 => ⟨S_, .f32⟩
  | 126 => ⟨S128x2x16x64, .f32⟩
  | 127 => ⟨S128x2x16x64, .f32⟩
  | _ => ⟨S16384x3072, .bf16⟩

abbrev hbmTy0_1 (i : Nat) : BufTy := match i % 128 with
  | 0 => ⟨S128x2x16x64x1, .f32⟩
  | 1 => ⟨S128x2x16x64x576, .f32⟩
  | 2 => ⟨S128x2x16x64x576, .f32⟩
  | 3 => ⟨S128x2x16x64x576, .f32⟩
  | 4 => ⟨S_, .f32⟩
  | 5 => ⟨S128x2x16x64, .f32⟩
  | 6 => ⟨S128x2x16x64x1, .f32⟩
  | 7 => ⟨S128x2x16x64x576, .f32⟩
  | 8 => ⟨S128x2x16x64x576, .f32⟩
  | 9 => ⟨S128x2x16x64x64, .f32⟩
  | 10 => ⟨S2x128x64x16x64, .f32⟩
  | 11 => ⟨S16384x1024, .f32⟩
  | 12 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_c_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_13 : Ref sig .tc := ⟨.hbm, 72, rfl⟩
abbrev main_v48 : Ref sig .tc := ⟨.hbm, 73, rfl⟩
abbrev main_v49 : Ref sig .tc := ⟨.hbm, 74, rfl⟩
abbrev main_c_14 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_15 : Ref sig .tc := ⟨.hbm, 79, rfl⟩
abbrev main_v53 : Ref sig .tc := ⟨.hbm, 80, rfl⟩
abbrev main_c_16 : Ref sig .tc := ⟨.hbm, 81, rfl⟩
abbrev main_v54 : Ref sig .tc := ⟨.hbm, 82, rfl⟩
abbrev main_v55 : Ref sig .tc := ⟨.hbm, 83, rfl⟩
abbrev main_c_17 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_18 : Ref sig .tc := ⟨.hbm, 88, rfl⟩
abbrev main_v59 : Ref sig .tc := ⟨.hbm, 89, rfl⟩
abbrev main_v60 : Ref sig .tc := ⟨.hbm, 90, rfl⟩
abbrev main_c_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_20 : Ref sig .tc := ⟨.hbm, 95, rfl⟩
abbrev main_v64 : Ref sig .tc := ⟨.hbm, 96, rfl⟩
abbrev main_c_21 : Ref sig .tc := ⟨.hbm, 97, rfl⟩
abbrev main_v65 : Ref sig .tc := ⟨.hbm, 98, rfl⟩
abbrev main_v66 : Ref sig .tc := ⟨.hbm, 99, rfl⟩
abbrev main_c_22 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_23 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_24 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_v82 : Ref sig .tc := ⟨.hbm, 122, rfl⟩
abbrev main_cst_25 : Ref sig .tc := ⟨.hbm, 123, rfl⟩
abbrev main_v83 : Ref sig .tc := ⟨.hbm, 124, rfl⟩
abbrev main_cst_26 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_27 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x6400 : Shape := ⟨2, ![2048, 6400]⟩
abbrev S2048x3328 : Shape := ⟨2, ![2048, 3328]⟩
abbrev S1x2048 : Shape := ⟨2, ![1, 2048]⟩
abbrev S16384x3328 : Shape := ⟨2, ![16384, 3328]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6400, .f32⟩
  | .hbm, ⟨3, _⟩ => ⟨S2048x6400, .bf16⟩
  | .hbm, ⟨4, _⟩ => ⟨S2048x3328, .bf16⟩
  | .hbm, ⟨5, _⟩ => ⟨S1x2048, .f32⟩
  | .hbm, ⟨6, _⟩ => ⟨S16384x3328, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x6400 : Shape := ⟨2, ![2048, 6400]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6400 : Shape := ⟨2, ![16384, 6400]⟩
abbrev S16384x3328 : Shape := ⟨2, ![16384, 3328]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6400, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6400, .f32⟩
  | .hbm, ⟨20, _⟩ => ⟨S16384x3328, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x6400 : Shape := ⟨2, ![2048, 6400]⟩
abbrev S2048x3072 : Shape := ⟨2, ![2048, 3072]⟩
abbrev S1x2048 : Shape := ⟨2, ![1, 2048]⟩
abbrev S16384x3072 : Shape := ⟨2, ![16384, 3072]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6400, .f32⟩
  | .hbm, ⟨3, _⟩ => ⟨S2048x6400, .bf16⟩
  | .hbm, ⟨4, _⟩ => ⟨S2048x3072, .bf16⟩
  | .hbm, ⟨5, _⟩ => ⟨S1x2048, .f32⟩
  | .hbm, ⟨6, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x6400 : Shape := ⟨2, ![2048, 6400]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6400 : Shape := ⟨2, ![16384, 6400]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6400, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6400, .f32⟩
  | .hbm, ⟨20, _⟩ => ⟨S16384x3072, .f32⟩
  | .hbm, ⟨21, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S16384x2048, .bf16⟩
  | .hbm, ⟨6, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | .hbm, ⟨21, _⟩ => ⟨S2048x16384, .f32⟩
  | .hbm, ⟨22, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S16384x2048 : Shape := ⟨2, ![16384, 2048]⟩
abbrev S2048x16384 : Shape := ⟨2, ![2048, 16384]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S1x2048 : Shape := ⟨2, ![1, 2048]⟩
abbrev S512x2048 : Shape := ⟨2, ![512, 2048]⟩
abbrev S2048x512 : Shape := ⟨2, ![2048, 512]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S2048, .f32⟩
  | .hbm, ⟨3, _⟩ => ⟨S2048x2048, .f32⟩
  | .hbm, ⟨4, _⟩ => ⟨S16384x256, .f32⟩
  | .hbm, ⟨5, _⟩ => ⟨S256x2048, .f32⟩
  | .hbm, ⟨6, _⟩ => ⟨S2048, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S2048x2048, .bf16⟩
  | .local _ .vmem, ⟨6, _⟩ => ⟨S512x256, .f32⟩
  | .local _ .vmem, ⟨7, _⟩ => ⟨S512x256, .f32⟩
  | .local _ .vmem, ⟨8, _⟩ => ⟨S256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x2048 : Shape := ⟨2, ![16384, 2048]⟩
abbrev S2048x16384 : Shape := ⟨2, ![2048, 16384]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S2048, .f32⟩
  | .hbm, ⟨3, _⟩ => ⟨S2048x2048, .f32⟩
  | .hbm, ⟨4, _⟩ => ⟨S16384x256, .f32⟩
  | .hbm, ⟨5, _⟩ => ⟨S256x2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel7.lean ====
abbrev S16384x3328 : Shape := ⟨2, ![16384, 3328]⟩
abbrev S3328 : Shape := ⟨1, ![3328]⟩
abbrev S64x1024 : Shape := ⟨2, ![64, 1024]⟩
abbrev S1024 : Shape := ⟨1, ![1024]⟩
abbrev S128x1024 : Shape := ⟨2, ![128, 1024]⟩
abbrev S16x64 : Shape := ⟨2, ![16, 64]⟩
abbrev S1x3328 : Shape := ⟨2, ![1, 3328]⟩
abbrev S1x1024 : Shape := ⟨2, ![1, 1024]⟩
abbrev S16384x1024 : Shape := ⟨2, ![16384, 1024]⟩
abbrev S512x256 : Shape := ⟨2, ![512, 256]⟩
abbrev S1x256 : Shape := ⟨2, ![1, 256]⟩
abbrev S64x256 : Shape := ⟨2, ![64, 256]⟩
abbrev S128x256 : Shape := ⟨2, ![128, 256]⟩
abbrev S256x256 : Shape := ⟨2, ![256, 256]⟩
abbrev S8x256 : Shape := ⟨2, ![8, 256]⟩
abbrev S512x64 : Shape := ⟨2, ![512, 64]⟩
abbrev S512x128 : Shape := ⟨2, ![512, 128]⟩
abbrev S64x64 : Shape := ⟨2, ![64, 64]⟩
abbrev S512x512 : Shape := ⟨2, ![512, 512]⟩
abbrev S256x512 : Shape := ⟨2, ![256, 512]⟩

abbrev nBuf : Space → Nat
  | .hbm => 25
  | .vmem => 39
  | .smem => 0
  | _ => 0

abbrev bufTy : (tb : Table) → Fin (tcTables nBuf tb) → BufTy
  | .hbm, ⟨0, _⟩ => ⟨S16384x3328, .f32⟩
  | .hbm, ⟨1, _⟩ => ⟨S3328, .f32⟩
  | .hbm, ⟨2, _⟩ => ⟨S64x1024, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S128x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x3328, .f32⟩
  | .hbm, ⟨14, _⟩ => ⟨S64x1024, .bf16⟩
  | .hbm, ⟨15, _⟩ => ⟨S1x1024, .f32⟩
  | .hbm, ⟨16, _⟩ => ⟨S64x1024, .bf16⟩
  | .hbm, ⟨17, _⟩ => ⟨S1x1024, .f32⟩
  | .hbm, ⟨18, _⟩ => ⟨S128x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S64x256, .bf16⟩
  | .local _ .vmem, ⟨16, _⟩ => ⟨S64x256, .bf16⟩
  | .local _ .vmem, ⟨17, _⟩ => ⟨S1x256, .f32⟩
  | .local _ .vmem, ⟨18, _⟩ => ⟨S1x256, .f32⟩
  | .local _ .vmem, ⟨19, _⟩ => ⟨S64x256, .bf16⟩
  | .local _ .vmem, ⟨20, _⟩ => ⟨S64x256, .bf16⟩
  | .local _ .vmem, ⟨21, _⟩ => ⟨S1x256, .f32⟩
  | .local _ .vmem, ⟨22, _⟩ => ⟨S1x256, .f32⟩
  | .local _ .vmem, ⟨23, _⟩ => ⟨S128x256, .bf16⟩
  | .local _ .vmem, ⟨24, _⟩ => ⟨S128x256, .bf16⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S512x256, .bf16⟩
  | .local _ .vmem, ⟨36, _⟩ => ⟨S512x256, .bf16⟩
  | .local _ .vmem, ⟨37, _⟩ => ⟨S256x256, .f32⟩
  | .local _ .vmem, ⟨38, _⟩ => ⟨S8x256, .f32⟩
  | _, _ => ⟨S16384x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let c0_i32 : BitVec 32 := 0#32
  ![v1.toNat, c12_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c12_i32 : BitVec 32 := 12#32
  let c0_i32_0 : BitVec 32 := 0#32
  ![c0_i32.toNat, c12_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== Reference7Ideal.lean ====
abbrev S16384x3328 : Shape := ⟨2, ![16384, 3328]⟩
abbrev S3328 : Shape := ⟨1, ![3328]⟩
abbrev S64x1024 : Shape := ⟨2, ![64, 1024]⟩
abbrev S1024 : Shape := ⟨1, ![1024]⟩
abbrev S128x1024 : Shape := ⟨2, ![128, 1024]⟩
abbrev S16x64 : Shape := ⟨2, ![16, 64]⟩
abbrev S2x8192x3328 : Shape := ⟨3, ![2, 8192, 3328]⟩
abbrev S2x8191x3328 : Shape := ⟨3, ![2, 8191, 3328]⟩
abbrev S_ : Shape := ⟨0, ![]⟩
abbrev S1x1x3328 : Shape := ⟨3, ![1, 1, 3328]⟩
abbrev S2x8192x1024 : Shape := ⟨3, ![2, 8192, 1024]⟩
abbrev S2x8192x64 : Shape := ⟨3, ![2, 8192, 64]⟩
abbrev S2x8192x128 : Shape := ⟨3, ![2, 8192, 128]⟩
abbrev S1x1x1024 : Shape := ⟨3, ![1, 1, 1024]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S2x16x64x64 : Shape := ⟨4, ![2, 16, 64, 64]⟩
abbrev S8192x2x16x64 : Shape := ⟨4, ![8192, 2, 16, 64]⟩
abbrev S1x2x16x64 : Shape := ⟨4, ![1, 2, 16, 64]⟩
abbrev S2x16x64 : Shape := ⟨3, ![2, 16, 64]⟩
abbrev S2x16x1x64 : Shape := ⟨4, ![2, 16, 1, 64]⟩
abbrev S2x16x64x1 : Shape := ⟨4, ![2, 16, 64, 1]⟩
abbrev S1x1x16x64 : Shape := ⟨4, ![1, 1, 16, 64]⟩
abbrev S16384x1024 : Shape := ⟨2, ![16384, 1024]⟩

abbrev nBuf : Space → Nat
  | .hbm => 228
  | .vmem => 0
  | .smem => 0
  | _ => 0

abbrev hbmTy0_0 (i : Nat) : BufTy := match i % 128 with
  | 0 => ⟨S16384x3328, .f32⟩
  | 1 => ⟨S3328, .f32⟩
  | 2 => ⟨S64x1024, .f32⟩
  | 3 => ⟨S1024, .f32⟩
  | 4 => ⟨S64x1024, .f32⟩
  | 5 => ⟨S1024, .f32⟩
  | 6 => ⟨S128x1024, .f32⟩
  | 7 => ⟨S1024, .f32⟩
  | 8 => ⟨S1024, .f32⟩
  | 9 => ⟨S16x64, .f32⟩
  | 10 => ⟨S1024, .f32⟩
  | 11 => ⟨S1024, .f32⟩
  | 12 => ⟨S2x8192x3328, .f32⟩
  | 13 => ⟨S2x8191x3328, .f32⟩
  | 14 => ⟨S_, .i32⟩
  | 15 => ⟨S_, .f32⟩
  | 16 => ⟨S2x8192x3328, .f32⟩
  | 17 => ⟨S2x8192x3328, .f32⟩
  | 18 => ⟨S1x1x3328, .f32⟩
  | 19 => ⟨S2x8192x3328, .f32⟩
  | 20 => ⟨S2x8192x3328, .f32⟩
  | 21 => ⟨S2x8192x3328, .f32⟩
  | 22 => ⟨S2x8192x1024, .f32⟩
  | 23 => ⟨S2x8192x1024, .f32⟩
  | 24 => ⟨S2x8192x1024, .f32⟩
  | 25 => ⟨S2x8192x64, .f32⟩
  | 26 => ⟨S2x8192x64, .f32⟩
  | 27 => ⟨S2x8192x128, .f32⟩
  | 28 => ⟨S2x8192x64, .f32⟩
  | 29 => ⟨S2x8192x1024, .f32⟩
  | 30 => ⟨S1x1x1024, .f32⟩
  | 31 => ⟨S2x8192x1024, .f32⟩
  | 32 => ⟨S2x8192x1024, .f32⟩
  | 33 => ⟨S2x8192x1024, .f32⟩
  | 34 => ⟨S_, .f32⟩
  | 35 => ⟨S2x8192x1024, .f32⟩
  | 36 => ⟨S2x8192x1024, .f32⟩
  | 37 => ⟨S2x8192x1024, .f32⟩
  | 38 => ⟨S2x8192x1024, .f32⟩
  | 39 => ⟨S2x8192x1024, .i1⟩
  | 40 => ⟨S2x8192x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S1x1x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S_, .f32⟩
  | 65 => ⟨S2x8192x1024, .f32⟩
  | 66 => ⟨S2x8192x1024, .f32⟩
  | 67 => ⟨S2x8192x128, .f32⟩
  | 68 => ⟨S2x8192x128, .f32⟩
  | 69 => ⟨S_, .f32⟩
  | 70 => ⟨S2x8192x128, .f32⟩
  | 71 => ⟨S2x8192x128, .f32⟩
  | 72 => ⟨S_, .f32⟩
  | 73 => ⟨S2x8192x128, .f32⟩
  | 74 => ⟨S2x8192x128, .f32⟩
  | 75 => ⟨S2x8192x1024, .f32⟩
  | 76 => ⟨S1x1x1024, .f32⟩
  | 77 => ⟨S2x8192x1024, .f32⟩
  | 78 => ⟨S2x8192x1024, .f32⟩
  | 79 => ⟨S2x8192x16x64, .f32⟩
  | 80 => ⟨S2x8192x16x64, .f32⟩
  | 81 => ⟨S_, .f32⟩
  | 82 => ⟨S2x8192x16, .f32⟩
  | 83 => ⟨S2x8192x16x1, .f32⟩
  | 84 => ⟨S2x8192x16x1, .f32⟩
  | 85 => ⟨S_, .f32⟩
  | 86 => ⟨S2x8192x16x1, .f32⟩
  | 87 => ⟨S2x8192x16x1, .f32⟩
  | 88 => ⟨S2x8192x16x64, .f32⟩
  | 89 => ⟨S2x8192x16x64, .f32⟩
  | 90 => ⟨S_, .f32⟩
  | 91 => ⟨S2x8192x1024, .f32⟩
  | 92 => ⟨S2x8192x1024, .f32⟩
  | 93 => ⟨S1x1x1024, .f32⟩
  | 94 => ⟨S2x8192x1024, .f32⟩
  | 95 => ⟨S2x8192x1024, .f32⟩
  | 96 => ⟨S_, .f32⟩
  | 97 => ⟨S2x8192x1024, .f32⟩
  | 98 => ⟨S2x8192x1024, .f32⟩
  | 99 => ⟨S2x8192x1024, .f32⟩
  | 100 => ⟨S2x8192x16x64, .f32⟩
  | 101 => ⟨S2x8192x16x64, .f32⟩
  | 102 => ⟨S2x8192x16x64, .f32⟩
  | 103 => ⟨S2x8192x16x64, .f32⟩
  | 104 => ⟨S2x8192x16x64, .f32⟩
  | 105 => ⟨S_, .f32⟩
  | 106 => ⟨S2x16x64x64, .f32⟩
  | 107 => ⟨S8192x2x16x64, .f32⟩
  | 108 => ⟨S8192x2x16x64, .f32⟩
  | 109 => ⟨S8192x2x16x64, .f32⟩
  | 110 => ⟨S8192x2x16x64, .f32⟩
  | 111 => ⟨S8192x2x16x64, .f32⟩
  | 112 => ⟨S8192x2x16x64, .f32⟩
  | 113 => ⟨S_, .f32⟩
  | 114 => ⟨S8192x2x16x64, .f32⟩
  | 115 => ⟨S_, .i32⟩
  | 116 => ⟨S8192x2x16x64, .f32⟩
  | 117 => ⟨S8192x2x16x64, .f32⟩
  | 118 => ⟨S8192x2x16x64, .f32⟩
  | 119 => ⟨S8192x2x16x64, .f32⟩
  | 120 => ⟨S8192x2x16x64, .f32⟩
  | 121 => ⟨S8192x2x16x64, .f32⟩
  | 122 => ⟨S_, .i32⟩
  | 123 => ⟨S2x16x64x64, .f32⟩
  | 124 => ⟨S8192x2x16x64, .f32⟩
  | 125 => ⟨S_, .i32⟩
  | 126 => ⟨S_, .i1⟩
  | 127 => ⟨S_, .i32⟩
  | _ => ⟨S16384x3328, .f32⟩

abbrev hbmTy0_1 (i : Nat) : BufTy := match i % 128 with
  | 0 => ⟨S_, .i32⟩
  | 1 => ⟨S_, .i32⟩
  | 2 => ⟨S1x2x16x64, .f32⟩
  | 3 => ⟨S2x16x64, .f32⟩
  | 4 => ⟨S_, .i32⟩
  | 5 => ⟨S_, .i32⟩
  | 6 => ⟨S_, .i32⟩
  | 7 => ⟨S1x2x16x64, .f32⟩
  | 8 => ⟨S2x16x64, .f32⟩
  | 9 => ⟨S_, .i32⟩
  | 10 => ⟨S_, .i32⟩
  | 11 => ⟨S_, .i32⟩
  | 12 => ⟨S1x2x16x64, .f32⟩
  | 13 => ⟨S2x16x64, .f32⟩
  | 14 => ⟨S_, .i32⟩
  | 15 => ⟨S_, .i32⟩
  | 16 => ⟨S_, .i32⟩
  | 17 => ⟨S1x2x16x64, .f32⟩
  | 18 => ⟨S2x16x64, .f32⟩
  | 19 => ⟨S_, .i32⟩
  | 20 => ⟨S_, .i32⟩
  | 21 => ⟨S_, .i32⟩
  | 22 => ⟨S1x2x16x64, .f32⟩
  | 23 => ⟨S2x16x64, .f32⟩
  | 24 => ⟨S_, .i32⟩
  | 25 => ⟨S_, .i32⟩
  | 26 => ⟨S_, .i32⟩
  | 27 => ⟨S1x2x16x64, .f32⟩
  | 28 => ⟨S2x16x64, .f32⟩
  | 29 => ⟨S2x16x64, .f32⟩
  | 30 => ⟨S2x16x64, .f32⟩
  | 31 => ⟨S2x16x1x64, .f32⟩
  | 32 => ⟨S2x16x64x64, .f32⟩
  | 33 => ⟨S2x16x64x64, .f32⟩
  | 34 => ⟨S2x16x64x1, .f32⟩
  | 35 => ⟨S2x16x64, .f32⟩
  | 36 => ⟨S2x16x1x64, .f32⟩
  | 37 => ⟨S2x16x64x64, .f32⟩
  | 38 => ⟨S2x16x64x64, .f32⟩
  | 39 => ⟨S2x16x64x64, .f32⟩
  | 40 => ⟨S2x16x64x64, .f32⟩
  | 41 => ⟨S2x16x64x1, .f32⟩
  | 42 => ⟨S2x16x1x64, .f32⟩
  | 43 => ⟨S2x16x64x64, .f32⟩
  | 44 => ⟨S2x16x64x64, .f32⟩
  | 45 => ⟨S2x16x64x64, .f32⟩
  | 46 => ⟨S2x16x64x64, .f32⟩
  | 47 => ⟨S2x16x64, .f32⟩
  | 48 => ⟨S1x2x16x64, .f32⟩
  | 49 => ⟨S_, .i32⟩
  | 50 => ⟨S_, .i32⟩
  | 51 => ⟨S_, .i32⟩
  | 52 => ⟨S8192x2x16x64, .f32⟩
  | 53 => ⟨S_, .i32⟩
  | 54 => ⟨S_, .i32⟩
  | 55 => ⟨S2x8192x16x64, .f32⟩
  | 56 => ⟨S_, .f32⟩
  | 57 => ⟨S2x8192x16, .f32⟩
  | 58 => ⟨S2x8192x16x1, .f32⟩
  | 59 => ⟨S_, .f32⟩
  | 60 => ⟨S2x8192x16x1, .f32⟩
  | 61 => ⟨S2x8192x16x1, .f32⟩
  | 62 => ⟨S2x8192x16x64, .f32⟩
  | 63 => ⟨S2x8192x16x64, .f32⟩
  | 64 => ⟨S2x8192x16x64, .f32⟩
  | 65 => ⟨S_, .f32⟩
  | 66 => ⟨S2x8192x16, .f32⟩
  | 67 => ⟨S2x8192x16x1, .f32⟩
  | 68 => ⟨S_, .f32⟩
  | 69 => ⟨S2x8192x16x1, .f32⟩
  | 70 => ⟨S2x8192x16x1, .f32⟩
  | 71 => ⟨S2x8192x16x64, .f32⟩
  | 72 => ⟨S2x8192x16x64, .f32⟩
  | 73 => ⟨S_, .f32⟩
  | 74 => ⟨S2x8192x16x1, .f32⟩
  | 75 => ⟨S2x8192x16x1, .f32⟩
  | 76 => ⟨S2x8192x16x1, .f32⟩
  | 77 => ⟨S2x8192x16x64, .f32⟩
  | 78 => ⟨S2x8192x16x64, .f32⟩
  | 79 => ⟨S2x8192x1024, .f32⟩
  | 80 => ⟨S1x1x1024, .f32⟩
  | 81 => ⟨S2x8192x1024, .f32⟩
  | 82 => ⟨S2x8192x1024, .f32⟩
  | 83 => ⟨S1x1x1024, .f32⟩
  | 84 => ⟨S2x8192x1024, .f32⟩
  | 85 => ⟨S2x8192x1024, .f32⟩
  | 86 => ⟨S2x8192x16x64, .f32⟩
  | 87 => ⟨S1x1x16x64, .f32⟩
  | 88 => ⟨S2x8192x16x64, .f32⟩
  | 89 => ⟨S2x8192x16x64, .f32⟩
  | 90 => ⟨S_, .f32⟩
  | 91 => ⟨S2x8192x16, .f32⟩
  | 92 => ⟨S2x8192x16x1, .f32⟩
  | 93 => ⟨S2x8192x16x64, .f32⟩
  | 94 => ⟨S2x8192x16x64, .f32⟩
  | 95 => ⟨S2x8192x1024, .f32⟩
  | 96 => ⟨S2x8192x1024, .f32⟩
  | 97 => ⟨S2x8192x1024, .f32⟩
  | 98 => ⟨S16384x1024, .f32⟩
  | 99 => ⟨S16384x1024, .bf16⟩
  | _ => ⟨S16384x3328, .f32⟩

abbrev hbmTy (i : Nat) : BufTy := match i / 128 with
  | 0 => hbmTy0_0 i
  | 1 => hbmTy0_1 i
  | _ => ⟨S16384x3328, .f32⟩

abbrev bufTy : (tb : Table) → Fin (tcTables nBuf tb) → BufTy
  | .hbm, ⟨i, _⟩ => hbmTy i
  | _, _ => ⟨S16384x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_0 : Ref sig .tc := ⟨.hbm, 61, rfl⟩
abbrev main_v33 : Ref sig .tc := ⟨.hbm, 62, rfl⟩
abbrev main_v34 : Ref sig .tc := ⟨.hbm, 63, rfl⟩
abbrev main_cst_1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_2 : Ref sig .tc := ⟨.hbm, 69, rfl⟩
abbrev main_v39 : Ref sig .tc := ⟨.hbm, 70, rfl⟩
abbrev main_v40 : Ref sig .tc := ⟨.hbm, 71, rfl⟩
abbrev main_cst_3 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_6 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_8 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_9 : Ref sig .tc := ⟨.hbm, 113, rfl⟩
abbrev main_v76 : Ref sig .tc := ⟨.hbm, 114, rfl⟩
abbrev main_c_10 : Ref sig .tc := ⟨.hbm, 115, rfl⟩
abbrev main_v77_0 : Ref sig .tc := ⟨.hbm, 116, rfl⟩
abbrev main_v77_1 : Ref sig .tc := ⟨.hbm, 117, rfl⟩
abbrev main_v77_2 : Ref sig .tc := ⟨.hbm, 118, rfl⟩
abbrev main_v77_3 : Ref sig .tc := ⟨.hbm, 119, rfl⟩
abbrev main_v77_4 : Ref sig .tc := ⟨.hbm, 120, rfl⟩
abbrev main_v77_5 : Ref sig .tc := ⟨.hbm, 121, rfl⟩
abbrev main_v77_6 : Ref sig .tc := ⟨.hbm, 122, rfl⟩
abbrev main_v77_7 : Ref sig .tc := ⟨.hbm, 123, rfl⟩
abbrev main_v77_8 : Ref sig .tc := ⟨.hbm, 124, rfl⟩
abbrev main_while0c_c_25 : Ref sig .tc := ⟨.hbm, 125, rfl⟩
abbrev main_while0c_v117 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_c_1 : Ref sig .tc := ⟨.hbm, 129, rfl⟩
abbrev main_while0b_call2_v0 : Ref sig .tc := ⟨.hbm, 130, rfl⟩
abbrev main_while0b_v117 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_c_1 : Ref sig .tc := ⟨.hbm, 134, rfl⟩
abbrev main_while0b_call3_v0 : Ref sig .tc := ⟨.hbm, 135, rfl⟩
abbrev main_while0b_v118 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_c_1 : Ref sig .tc := ⟨.hbm, 139, rfl⟩
abbrev main_while0b_call4_v0 : Ref sig .tc := ⟨.hbm, 140, rfl⟩
abbrev main_while0b_v119 : Ref sig .tc := ⟨.hbm, 141, rfl⟩
abbrev main_while0b_call5_c : Ref sig .tc := ⟨.hbm, 142, rfl⟩
abbrev main_while0b_call5_c_0 : Ref sig .tc := ⟨.hbm, 143, rfl⟩
abbrev main_while0b_call5_c_1 : Ref sig .tc := ⟨.hbm, 144, rfl⟩
abbrev main_while0b_call5_v0 : Ref sig .tc := ⟨.hbm, 145, rfl⟩
abbrev main_while0b_v120 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_v0 : Ref sig .tc := ⟨.hbm, 150, rfl⟩
abbrev main_while0b_v121 : Ref sig .tc := ⟨.hbm, 151, rfl⟩
abbrev main_while0b_call7_c : Ref sig .tc := ⟨.hbm, 152, rfl⟩
abbrev main_while0b_call7_c_0 : Ref sig .tc := ⟨.hbm, 153, rfl⟩
abbrev main_while0b_call7_c_1 : Ref sig .tc := ⟨.hbm, 154, rfl⟩
abbrev main_while0b_call7_v0 : Ref sig .tc := ⟨.hbm, 155, rfl⟩
abbrev main_while0b_v122 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_v127 : Ref sig .tc := ⟨.hbm, 161, rfl⟩
abbrev main_while0b_v128 : Ref sig .tc := ⟨.hbm, 162, rfl⟩
abbrev main_while0b_v129 : Ref sig .tc := ⟨.hbm, 163, rfl⟩
abbrev main_while0b_v130 : Ref sig .tc := ⟨.hbm, 164, rfl⟩
abbrev main_while0b_v131 : Ref sig .tc := ⟨.hbm, 165, rfl⟩
abbrev main_while0b_v132 : Ref sig .tc := ⟨.hbm, 166, rfl⟩
abbrev main_while0b_v133 : Ref sig .tc := ⟨.hbm, 167, rfl⟩
abbrev main_while0b_v134 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_v141 : Ref sig .tc := ⟨.hbm, 175, rfl⟩
abbrev main_while0b_call8_v0 : Ref sig .tc := ⟨.hbm, 176, rfl⟩
abbrev main_while0b_call8_c : Ref sig .tc := ⟨.hbm, 177, rfl⟩
abbrev main_while0b_call8_c_0 : Ref sig .tc := ⟨.hbm, 178, rfl⟩
abbrev main_while0b_call8_c_1 : Ref sig .tc := ⟨.hbm, 179, rfl⟩
abbrev main_while0b_v142 : Ref sig .tc := ⟨.hbm, 180, rfl⟩
abbrev main_while0b_c_25 : Ref sig .tc := ⟨.hbm, 181, rfl⟩
abbrev main_while0b_v143 : Ref sig .tc := ⟨.hbm, 182, rfl⟩
abbrev main_v78 : Ref sig .tc := ⟨.hbm, 183, rfl⟩
abbrev main_cst_11 : Ref sig .tc := ⟨.hbm, 184, rfl⟩
abbrev main_v79 : Ref sig .tc := ⟨.hbm, 185, rfl⟩
abbrev main_v80 : Ref sig .tc := ⟨.hbm, 186, rfl⟩
abbrev main_cst_12 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_cst_13 : Ref sig .tc := ⟨.hbm, 193, rfl⟩
abbrev main_v86 : Ref sig .tc := ⟨.hbm, 194, rfl⟩
abbrev main_v87 : Ref sig .tc := ⟨.hbm, 195, rfl⟩
abbrev main_cst_14 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_v91 : Ref sig .tc := ⟨.hbm, 200, rfl⟩
abbrev main_cst_15 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_cst_16 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩

abbrev nD : Nat := 1
abbrev τ : Topo := Topo.v7x

variable {F : FTy → Type} [FloatOps F]

abbrev main_while0_count : Scf.Loop 32 := ⟨0#32, 8192#32, 1#32⟩
-- ==== Proof.BiasTerm.lean ====
module

public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen

variable (m : (ℓ : Loc nD τ sig) → Buf (Elt Ideal) ℓ)

/-- The clipped distance of a query and a key of its band, as the kernel's host computes it. -/
def relIdx : IVec S64x576 32 := addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

/-- One where the distance is the last coordinate. -/
def oneHot : FVec Ideal S64x576x257 .f32 := uitofp .f32 (cmpi .eq (broadcastInDim S64x576x257 ![0, 1, 2] bcast_S64x576x1_S64x576x257_0_1_2 (broadcastInDim S64x576x1 ![0, 1] bcast_S64x576_S64x576x1_0_1 relIdx)) (broadcastInDim S64x576x257 ![0, 1, 2] bcast_S1x1x257_S64x576x257_0_1_2 (broadcastInDim S1x1x257 ![2] bcast_S257_S1x1x257_2 (iotaInDim S257 32 0))))

/-- The bias of every head over a band. -/
def bandBias (B : FVec Ideal S16x257 .f32) : FVec Ideal S16x64x576 .f32 := Host.dotGeneral dot_S16x257_S64x576x257_S16x64x576_1_2_0_01_n_n (some .fp32) B oneHot

/-- The bias operand of the kernel: a band shifted by its chunk, minus infinity elsewhere. -/
def biasTab (B : FVec Ideal S16x257 .f32) : FVec Ideal S16x512x1024 .f32 := concatenate S16x512x1024 1 [⟨S16x64x1024, pad S16x64x1024 ![0, 0, 0] ![0, 0, 448] ![0, 0, 0] (bandBias B) (id (constant S_ .f32 0xFF800000#32)) pads_S16x64x576_S16x64x1024_000_000_04480 h_S_⟩, ⟨S16x64x1024, pad S16x64x1024 ![0, 0, 64] ![0, 0, 384] ![0, 0, 0] (bandBias B) (id (constant S_ .f32 0xFF800000#32)) pads_S16x64x576_S16x64x1024_000_000_643840 h_S_⟩, ⟨S16x64x1024, pad S16x64x1024 ![0, 0, 128] ![0, 0, 320] ![0, 0, 0] (bandBias B) (id (constant S_ .f32 0xFF800000#32)) pads_S16x64x576_S16x64x1024_000_000_1283200 h_S_⟩, ⟨S16x64x1024, pad S16x64x1024 ![0, 0, 192] ![0, 0, 256] ![0, 0, 0] (bandBias B) (id (constant S_ .f32 0xFF800000#32)) pads_S16x64x576_S16x64x1024_000_000_1922560 h_S_⟩, ⟨S16x64x1024, pad S16x64x1024 ![0, 0, 256] ![0, 0, 192] ![0, 0, 0] (bandBias B) (id (constant S_ .f32 0xFF800000#32)) pads_S16x64x576_S16x64x1024_000_000_2561920 h_S_⟩, ⟨S16x64x1024, pad S16x64x1024 ![0, 0, 320] ![0, 0, 128] ![0, 0, 0] (bandBias B) (id (constant S_ .f32 0xFF800000#32)) pads_S16x64x576_S16x64x1024_000_000_3201280 h_S_⟩, ⟨S16x64x1024, pad S16x64x1024 ![0, 0, 384] ![0, 0, 64] ![0, 0, 0] (bandBias B) (id (constant S_ .f32 0xFF800000#32)) pads_S16x64x576_S16x64x1024_000_000_384640 h_S_⟩, ⟨S16x64x1024, pad S16x64x1024 ![0, 0, 448] ![0, 0, 0] ![0, 0, 0] (bandBias B) (id (constant S_ .f32 0xFF800000#32)) pads_S16x64x576_S16x64x1024_000_000_44800 h_S_⟩] concatenates_S16x64x1024_S16x64x1024_S16x64x1024_S16x64x1024_S16x64x1024_S16x64x1024_S16x64x1024_S16x64x1024_S16x512x1024_d1

/-- Two concatenations of eight pieces are equal when the pieces are. -/
theorem concat_eq {x0 x1 x2 x3 x4 x5 x6 x7 y0 y1 y2 y3 y4 y5 y6 y7 : FVec Ideal S16x64x1024 .f32} {h : Shape.Concatenates [S16x64x1024, S16x64x1024, S16x64x1024, S16x64x1024, S16x64x1024, S16x64x1024, S16x64x1024, S16x64x1024] S16x512x1024 1}
    (h0 : x0 = y0) (h1 : x1 = y1) (h2 : x2 = y2) (h3 : x3 = y3) (h4 : x4 = y4) (h5 : x5 = y5) (h6 : x6 = y6) (h7 : x7 = y7) :
    concatenate S16x512x1024 1 [⟨S16x64x1024, x0⟩, ⟨S16x64x1024, x1⟩, ⟨S16x64x1024, x2⟩, ⟨S16x64x1024, x3⟩, ⟨S16x64x1024, x4⟩, ⟨S16x64x1024, x5⟩, ⟨S16x64x1024, x6⟩, ⟨S16x64x1024, x7⟩] h
      = concatenate S16x512x1024 1 [⟨S16x64x1024, y0⟩, ⟨S16x64x1024, y1⟩, ⟨S16x64x1024, y2⟩, ⟨S16x64x1024, y3⟩, ⟨S16x64x1024, y4⟩, ⟨S16x64x1024, y5⟩, ⟨S16x64x1024, y6⟩, ⟨S16x64x1024, y7⟩] h := by
  subst h0 h1 h2 h3 h4 h5 h6 h7; rfl

set_option maxHeartbeats 2000000 in
theorem V_bias (c : Dev nD) : V m c main_v28 = biasTab (m ((c.tc : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  dsimp only [Matrix.cons_val]
  apply concat_eq <;> after_results_simp <;> rfl

end Cert.KernelIdeal.Block

end
-- ==== Proof.Blocks.lean ====
module

public import proofs.«01_k».proof.Proof.BiasTerm
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Block

variable (m : (ℓ : Loc nD τ sig) → Buf (Elt Ideal) ℓ)

/-- The block each window stages at a grid point. -/
theorem idx : ∀ t : Fin cfg0.N,
    win0_0.index t = ![16 * (t.val / 128) + t.val % 16, t.val / 16 % 8]
    ∧ win0_1.index t = ![16 * (t.val / 128) + (t.val % 16 - 1), 8 + t.val / 16 % 8]
    ∧ win0_2.index t = ![16 * (t.val / 128) + t.val % 16, 8 + t.val / 16 % 8]
    ∧ win0_3.index t = ![16 * (t.val / 128) + (t.val % 16 - 1), 16 + t.val / 16 % 8]
    ∧ win0_4.index t = ![16 * (t.val / 128) + t.val % 16, 16 + t.val / 16 % 8]
    ∧ win0_5.index t = ![t.val / 16 % 8, 0, 0]
    ∧ win0_6.index t = ![16 * (t.val / 128) + t.val % 16, t.val / 16 % 8]
    ∧ (grid0.coords t 2).val = t.val % 16 := (by decide +kernel : ∀ t : Fin grid0.N, _)

theorem q_at (c : Dev nD) (t : Fin cfg0.N) (ht : t.val < 256) (r : Fin 512) (l : Fin 128) :
    (iblk m c 0 t : FVec Ideal S512x128 .bf16) (ix2 r l)
      = (m ((c.tc : Thread nD τ).loc main_arg0) : FVec Ideal S16384x3072 .bf16) (ix2 (⟨8192 * (t.val / 128) + 512 * (t.val % 16) + r.val, by omega⟩ : Fin 16384) (⟨128 * (t.val / 16 % 8) + l.val, by omega⟩ : Fin 3072)) := by
  blk_point [iblk, V_main_arg0, idx t]

theorem kp_at (c : Dev nD) (t : Fin cfg0.N) (ht : t.val < 256) (r : Fin 512) (l : Fin 128) :
    (iblk m c 1 t : FVec Ideal S512x128 .bf16) (ix2 r l)
      = (m ((c.tc : Thread nD τ).loc main_arg0) : FVec Ideal S16384x3072 .bf16) (ix2 (⟨8192 * (t.val / 128) + 512 * (t.val % 16 - 1) + r.val, by omega⟩ : Fin 16384) (⟨1024 + 128 * (t.val / 16 % 8) + l.val, by omega⟩ : Fin 3072)) := by
  blk_point [iblk, V_main_arg0, idx t]

theorem kc_at (c : Dev nD) (t : Fin cfg0.N) (ht : t.val < 256) (r : Fin 512) (l : Fin 128) :
    (iblk m c 2 t : FVec Ideal S512x128 .bf16) (ix2 r l)
      = (m ((c.tc : Thread nD τ).loc main_arg0) : FVec Ideal S16384x3072 .bf16) (ix2 (⟨8192 * (t.val / 128) + 512 * (t.val % 16) + r.val, by omega⟩ : Fin 16384) (⟨1024 + 128 * (t.val / 16 % 8) + l.val, by omega⟩ : Fin 3072)) := by
  blk_point [iblk, V_main_arg0, idx t]

theorem vp_at (c : Dev nD) (t : Fin cfg0.N) (ht : t.val < 256) (r : Fin 512) (l : Fin 128) :
    (iblk m c 3 t : FVec Ideal S512x128 .bf16) (ix2 r l)
      = (m ((c.tc : Thread nD τ).loc main_arg0) : FVec Ideal S16384x3072 .bf16) (ix2 (⟨8192 * (t.val / 128) + 512 * (t.val % 16 - 1) + r.val, by omega⟩ : Fin 16384) (⟨2048 + 128 * (t.val / 16 % 8) + l.val, by omega⟩ : Fin 3072)) := by
  blk_point [iblk, V_main_arg0, idx t]

theorem vc_at (c : Dev nD) (t : Fin cfg0.N) (ht : t.val < 256) (r : Fin 512) (l : Fin 128) :
    (iblk m c 4 t : FVec Ideal S512x128 .bf16) (ix2 r l)
      = (m ((c.tc : Thread nD τ).loc main_arg0) : FVec Ideal S16384x3072 .bf16) (ix2 (⟨8192 * (t.val / 128) + 512 * (t.val % 16) + r.val, by omega⟩ : Fin 16384) (⟨2048 + 128 * (t.val / 16 % 8) + l.val, by omega⟩ : Fin 3072)) := by
  blk_point [iblk, V_main_arg0, idx t]

theorem b_at (c : Dev nD) (t : Fin cfg0.N) (ht : t.val < 256) (h : Fin 2) (r : Fin 512) (n : Fin 1024) :
    (iblk m c 5 t : FVec Ideal S2x512x1024 .f32) (ix3 h r n)
      = biasTab (m ((c.tc : Thread nD τ).loc main_arg1)) (ix3 (⟨2 * (t.val / 16 % 8) + h.val, by omega⟩ : Fin 16) r n) := by
  rw [← V_bias]
  blk_point [iblk, idx t]

end Cert.KernelIdeal.Blocks

end
-- ==== Proof.Block.lean ====
module

public import proofs.«01_k».proof.Proof.Gen.KernelIdeal.Value
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen

/-- One row of the kernel's attention: scores `S`, values `V`. -/
def rowAt (S V : Fin 1024 → EReal) : EReal :=
  Ideal.div (∑ n, Ideal.exp (S n - Finset.univ.fold max ⊥ S) * V n)
    (∑ n, Ideal.exp (S n - Finset.univ.fold max ⊥ S))

/-- The score of one half at a row and a column, as the body writes it. -/
def scoreAt (q : FVec Ideal S512x128 .bf16) (k : FVec Ideal S1024x128 .bf16) (msk : IVec S512x1024 1)
    (w : IVec S512x128 32) (h : BitVec 32) (b : FVec Ideal S1x512x1024 .f32) (r : Fin 512) (n : Fin 1024) : EReal :=
  Scalar.select (msk (ix2 r n))
    (∑ d : Fin 128, Scalar.select (IntOp.cmpi .eq (w (ix2 r d)) h)
      (q (ix2 r d) * Ideal.ofBits .bf16 0x3E00#16 * k (ix2 n d)) 0 + b (ix3 0 r n))
    (Ideal.ofBits .f32 0xFF800000#32)

theorem ofBits_neg_inf : Ideal.ofBits .f32 0xFF800000#32 = (⊥ : EReal) := by
  simp [Ideal.ofBits, Ideal.ieee]

theorem pay6_at (q : FVec Ideal S512x128 .bf16) (k v : FVec Ideal S1024x128 .bf16) (msk : IVec S512x1024 1)
    (w : IVec S512x128 32) (b : FVec Ideal S1x512x1024 .f32) (r : Fin 512) (l : Fin 128) :
    k0_pay6 (F := Ideal) q k v msk w b (ix2 r l)
      = rowAt (scoreAt q k msk w 0#32 b r) (fun n => v (ix2 n l)) := by
  unfold rowAt; rw [← ofBits_neg_inf]
  pointwise [k0_pay6]
  rfl

theorem pay10_at (q : FVec Ideal S512x128 .bf16) (k v : FVec Ideal S1024x128 .bf16) (msk : IVec S512x1024 1)
    (b : FVec Ideal S1x512x1024 .f32) (r : Fin 512) (l : Fin 128) (u : IVec S512x128 32) (hu : u = iota .tc S512x128 32 [1] iota_S512x128_d1_w32) :
    k0_pay10 (F := Ideal) q k v msk (k0_pay7 u) (k0_pay8 u) (k0_pay9 u) b (ix2 r l)
      = rowAt (scoreAt q k msk k0_pay5 1#32 b r) (fun n => v (ix2 n l)) := by
  unfold rowAt; rw [← ofBits_neg_inf]; subst hu
  have h : ∀ j, select (andi (k0_pay8 (iota .tc S512x128 32 [1] iota_S512x128_d1_w32)) (k0_pay9 (iota .tc S512x128 32 [1] iota_S512x128_d1_w32)))
      (subi (k0_pay7 (iota .tc S512x128 32 [1] iota_S512x128_d1_w32)) (broadcast S512x128 1#32)) (k0_pay7 (iota .tc S512x128 32 [1] iota_S512x128_d1_w32)) j = k0_pay5 j := fun j => rfl
  pointwise [k0_pay10, scoreAt]
  pointwise at h
  simp only [h]

/-- The half a lane belongs to. -/
theorem half_at (r : Fin 512) (d : Fin 128) : k0_pay5 (ix2 r d) = BitVec.ofNat 32 (d.val / 64) := by
  pointwise [k0_pay5]
  revert d; decide +kernel

theorem pay1_at (a b : FVec Ideal S512x128 .f32) (u : IVec S512x128 32) (hu : u = iota .tc S512x128 32 [1] iota_S512x128_d1_w32)
    (r : Fin 512) (l : Fin 128) :
    k0_pay1 (F := Ideal) u a b 64#32 (k0_pay11 u) (k0_pay12 u) (ix2 r l) = if l.val < 64 then a (ix2 r l) else b (ix2 r l) := by
  subst hu
  have h : k0_pay1 (F := Ideal) (iota .tc S512x128 32 [1] iota_S512x128_d1_w32) a b 64#32 (k0_pay11 (iota .tc S512x128 32 [1] iota_S512x128_d1_w32)) (k0_pay12 (iota .tc S512x128 32 [1] iota_S512x128_d1_w32)) (ix2 r l)
      = Scalar.select (IntOp.cmpi .eq (k0_pay5 (ix2 r l)) 0#32) (a (ix2 r l)) (b (ix2 r l)) := rfl
  rw [h, half_at]
  have h2 : ∀ l : Fin 128, IntOp.cmpi .eq (BitVec.ofNat 32 (l.val / 64)) 0#32 = if l.val < 64 then 1#1 else 0#1 := by decide +kernel
  rw [h2]
  split <;> rfl

/-- The mask of the first block's missing neighbour. -/
theorem mask_at (i : grid0.Coords) (r : Fin 512) (n : Fin 1024) :
    k0_pay4 i (ix2 r n) = if 512 ≤ n.val ∨ 0 < (i 2).val then 1#1 else 0#1 := by
  pointwise [k0_pay4]
  have h1 : ∀ n : Fin 1024, IntOp.cmpi .sge (BitVec.ofNat 32 n.val) 512#32 = if 512 ≤ n.val then 1#1 else 0#1 := by decide +kernel
  have h2 : ∀ j : Fin 16, Scalar.cmpi .sgt (BitVec.ofNat 32 j.val) 0#32 = if 0 < j.val then 1#1 else 0#1 := by decide +kernel
  rw [h1]
  have := h2 (i 2)
  rw [this]
  by_cases ha : 512 ≤ n.val <;> by_cases hb : 0 < (i 2).val
  · rw [if_pos ha, if_pos hb, if_pos (Or.inl ha)]; rfl
  · rw [if_pos ha, if_neg hb, if_pos (Or.inl ha)]; rfl
  · rw [if_neg ha, if_pos hb, if_pos (Or.inr hb)]; rfl
  · rw [if_neg ha, if_neg hb, if_neg (by tauto)]; rfl

theorem eq_bit (h e : Fin 2) : IntOp.cmpi .eq (BitVec.ofNat 32 e.val) (BitVec.ofNat 32 h.val) = if e = h then 1#1 else 0#1 := by
  revert h e; decide +kernel

/-- The lanes of the other half contribute nothing. -/
theorem lanes_sum (f : Fin 128 → EReal) (h : Fin 2) :
    (∑ d : Fin 128, Scalar.select (IntOp.cmpi .eq (BitVec.ofNat 32 (d.val / 64)) (BitVec.ofNat 32 h.val)) (f d) 0)
      = ∑ d : Fin 64, f ⟨64 * h.val + d.val, by omega⟩ := by
  rw [Fin.sum_univ_tiles 2 64 rfl]
  rw [Finset.sum_eq_single h]
  · refine Finset.sum_congr rfl fun d _ => ?_
    have e : (h.val * 64 + d.val) / 64 = h.val := by omega
    simp only [e, eq_bit]
    simp only [if_true]
    exact congrArg f (Fin.ext (by simp only []; omega))
  · intro e _ hne
    refine Finset.sum_eq_zero fun d _ => ?_
    have e1 : (e.val * 64 + d.val) / 64 = e.val := by omega
    simp only [e1, eq_bit, if_neg hne]
    rfl
  · simp

/-- A score of the block, over the lanes of its head. -/
def score (q : FVec Ideal S512x128 .bf16) (k : FVec Ideal S1024x128 .bf16) (j : ℕ) (h : Fin 2)
    (b : Fin 1024 → EReal) (r : Fin 512) (n : Fin 1024) : EReal :=
  if 512 ≤ n.val ∨ 0 < j then
    (∑ d : Fin 64, q (ix2 r (⟨64 * h.val + d.val, by omega⟩ : Fin 128)) * Ideal.ofBits .bf16 0x3E00#16
      * k (ix2 n (⟨64 * h.val + d.val, by omega⟩ : Fin 128))) + b n
  else ⊥

theorem scoreAt_eq (q : FVec Ideal S512x128 .bf16) (k : FVec Ideal S1024x128 .bf16) (i : grid0.Coords)
    (h : Fin 2) (w : BitVec 32) (hw : w = BitVec.ofNat 32 h.val) (b : FVec Ideal S1x512x1024 .f32) (r : Fin 512) :
    scoreAt q k (k0_pay4 i) k0_pay5 w b r = score q k (i 2).val h (fun n => b (ix3 0 r n)) r := by
  subst hw
  funext n
  unfold scoreAt score
  rw [mask_at]
  simp only [half_at]
  rw [lanes_sum (fun d => q (ix2 r d) * Ideal.ofBits .bf16 0x3E00#16 * k (ix2 n d)), ofBits_neg_inf]
  by_cases hc : 512 ≤ n.val ∨ 0 < (i 2).val
  · rw [if_pos hc, if_pos hc]; rfl
  · rw [if_neg hc, if_neg hc]; rfl

/-- The two blocks of keys or values, one above the other. -/
def cat (x y : FVec Ideal S512x128 .bf16) (n : Fin 1024) (l : Fin 128) : EReal :=
  if h : n.val < 512 then x (ix2 ⟨n.val, h⟩ l) else y (ix2 ⟨n.val - 512, by omega⟩ l)

theorem pay2_at (x y : FVec Ideal S512x128 .bf16) (n : Fin 1024) (l : Fin 128) :
    k0_pay2 (F := Ideal) x y (ix2 n l) = cat x y n l := by
  pointwise [k0_pay2, cat]

theorem pay3_at (x y : FVec Ideal S512x128 .bf16) (n : Fin 1024) (l : Fin 128) :
    k0_pay3 (F := Ideal) x y (ix2 n l) = cat x y n l := by
  pointwise [k0_pay3, cat]

/-- What the block at a grid point holds at a row and a lane, from the blocks staged there. -/
def outAt (j : ℕ) (h : Fin 2) (q kp kc vp vc : FVec Ideal S512x128 .bf16) (b : FVec Ideal S2x512x1024 .f32) (r : Fin 512) (l : Fin 128) : EReal :=
  rowAt (fun n =>
      if 512 ≤ n.val ∨ 0 < j then
        (∑ d : Fin 64, q (ix2 r (⟨64 * h.val + d.val, by omega⟩ : Fin 128)) * Ideal.ofBits .bf16 0x3E00#16
          * cat kp kc n ⟨64 * h.val + d.val, by omega⟩) + b (ix3 h r n)
      else ⊥)
    (fun n => cat vp vc n l)

theorem out_at (i : grid0.Coords) (q kp kc vp vc : FVec Ideal S512x128 .bf16) (b : FVec Ideal S2x512x1024 .f32) (r : Fin 512) (l : Fin 128)
    (h : Fin 2) (hh : h.val = l.val / 64) :
    out0_6 (F := Ideal) i q kp kc vp vc b (ix2 r l) = outAt (i 2).val h q kp kc vp vc b r l := by
  unfold_out out0_6
  have hz : (![0, 0] : Fin 2 → ℕ) = fun _ => 0 := by funext a; fin_cases a <;> rfl
  rw [View.canon_unit_zero hz]
  have el := View.ld_unit_zero (Val := Elt Ideal) (S := S512x128) (e := .bf16) hz inb_S512x128_S512x128_0_0
  rw [el q, el kp, el kc, el vp, el vc]
  rw [pay1_at _ _ _ rfl, pay6_at, pay10_at _ _ _ _ _ _ _ _ rfl]
  unfold outAt
  by_cases hl : l.val < 64
  · obtain rfl : h = 0 := Fin.ext (by simp only [Fin.val_zero]; omega)
    rw [if_pos hl, scoreAt_eq _ _ _ (0 : Fin 2) 0#32 rfl]
    congr 1
    · funext n
      unfold score
      simp only [pay2_at]
      pointwise []
    · funext n; exact pay3_at vp vc n l
  · obtain rfl : h = 1 := Fin.ext (by simp only [Fin.val_one]; omega)
    rw [if_neg hl, scoreAt_eq _ _ _ (1 : Fin 2) 1#32 rfl]
    congr 1
    · funext n
      unfold score
      simp only [pay2_at]
      pointwise []
    · funext n; exact pay3_at vp vc n l

end Cert.KernelIdeal.Block

end
-- ==== Proof.Rel.lean ====
module

public import proofs.«01_k».proof.Proof.Block
public import proofs.«01_k».proof.Proof.BiasTerm
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen

variable (m : (ℓ : Loc nD τ sig) → Buf (Elt Ideal) ℓ)

theorem rel_at (q : Fin 64) (k : Fin 576) : relIdx (ix2 q k) = BitVec.ofNat 32 (min 256 (q.val + 640 - k.val)) := by
  pointwise [relIdx]
  revert q k; decide +kernel

theorem bandBias_at (B : FVec Ideal S16x257 .f32) (h : Fin 16) (q : Fin 64) (k : Fin 576) :
    bandBias B (ix3 h q k) = B (ix2 h (⟨min 256 (q.val + 640 - k.val), by omega⟩ : Fin 257)) := by
  pointwise [bandBias, oneHot]
  rw [rel_at]
  have he : ∀ a x : Fin 257, a ≠ x → IntOp.cmpi .eq (BitVec.ofNat 32 a.val) (BitVec.ofNat 32 x.val) = 0#1 := by
    intro a x hne
    have hn : BitVec.ofNat 32 a.val ≠ BitVec.ofNat 32 x.val := by
      intro hc
      have := congrArg BitVec.toNat hc
      simp only [BitVec.toNat_ofNat] at this
      exact hne (Fin.ext (by omega))
    show BitVec.ofBool (BitVec.ofNat 32 a.val == BitVec.ofNat 32 x.val) = 0#1
    rw [beq_false_of_ne hn]; rfl
  have hs : ∀ a : Fin 257, IntOp.cmpi .eq (BitVec.ofNat 32 a.val) (BitVec.ofNat 32 a.val) = 1#1 := by
    intro a
    show BitVec.ofBool (BitVec.ofNat 32 a.val == BitVec.ofNat 32 a.val) = 1#1
    rw [beq_self_eq_true]; rfl
  have h0 : (FloatOps.uitofp FTy.f32 0#1 : Ideal .f32) = (0 : EReal) := by
    simp [FloatOps.uitofp]
  have h1 : (FloatOps.uitofp FTy.f32 1#1 : Ideal .f32) = (1 : EReal) := by
    simp [FloatOps.uitofp]
  rw [Finset.sum_eq_single (⟨min 256 (q.val + 640 - k.val), by omega⟩ : Fin 257)]
  · rw [hs ⟨min 256 (q.val + 640 - k.val), by omega⟩, h1, mul_one]
  · intro x _ hx
    rw [he ⟨min 256 (q.val + 640 - k.val), by omega⟩ x (Ne.symm hx), h0, mul_zero]
  · intro hc; exact absurd (Finset.mem_univ _) hc

end Cert.KernelIdeal.Block

end
-- ==== Proof.Bias.lean ====
module

public import proofs.«01_k».proof.Proof.Block
public import proofs.«01_k».proof.Proof.Rel
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen

variable (m : (ℓ : Loc nD τ sig) → Buf (Elt Ideal) ℓ)

theorem ladder_in (T : (a b : ℕ) → a < 64 → b < 576 → EReal) (z : EReal) (r n q k : ℕ) (hr : r < 512) (hq' : q < 64) (hk : k < 576)
    (hq : q = r % 64) (hn : n = 64 * (r / 64) + k) :
    (if _h : r < 64 then (if h : r < 64 ∧ n < 576 then T (r) (n) h.1 h.2 else z) else
      (if _h : r - 64 < 64 then (if h : r - 64 < 64 ∧ 64 ≤ n ∧ n - 64 < 576 then T (r - 64) (n - 64) h.1 h.2.2 else z) else
      (if _h : r - 64 - 64 < 64 then (if h : r - 64 - 64 < 64 ∧ 128 ≤ n ∧ n - 128 < 576 then T (r - 64 - 64) (n - 128) h.1 h.2.2 else z) else
      (if _h : r - 64 - 64 - 64 < 64 then (if h : r - 64 - 64 - 64 < 64 ∧ 192 ≤ n ∧ n - 192 < 576 then T (r - 64 - 64 - 64) (n - 192) h.1 h.2.2 else z) else
      (if _h : r - 64 - 64 - 64 - 64 < 64 then (if h : r - 64 - 64 - 64 - 64 < 64 ∧ 256 ≤ n ∧ n - 256 < 576 then T (r - 64 - 64 - 64 - 64) (n - 256) h.1 h.2.2 else z) else
      (if _h : r - 64 - 64 - 64 - 64 - 64 < 64 then (if h : r - 64 - 64 - 64 - 64 - 64 < 64 ∧ 320 ≤ n ∧ n - 320 < 576 then T (r - 64 - 64 - 64 - 64 - 64) (n - 320) h.1 h.2.2 else z) else
      (if _h : r - 64 - 64 - 64 - 64 - 64 - 64 < 64 then (if h : r - 64 - 64 - 64 - 64 - 64 - 64 < 64 ∧ 384 ≤ n ∧ n - 384 < 576 then T (r - 64 - 64 - 64 - 64 - 64 - 64) (n - 384) h.1 h.2.2 else z) else
      (if h : r - 64 - 64 - 64 - 64 - 64 - 64 - 64 < 64 ∧ 448 ≤ n ∧ n - 448 < 576 then T (r - 64 - 64 - 64 - 64 - 64 - 64 - 64) (n - 448) h.1 h.2.2 else z)))))))) = T q k hq' hk := by
  have hi : ∀ (a b : ℕ) (ha : a < 64) (hb : b < 576), a = q → b = k → T a b ha hb = T q k hq' hk := by
    intro a b ha hb h1 h2; subst h1 h2; rfl
  split_ifs <;> first
    | (exfalso; omega)
    | exact hi _ _ _ _ (by omega) (by omega)

theorem ladder_out (T : (a b : ℕ) → a < 64 → b < 576 → EReal) (z : EReal) (r n : ℕ) (hr : r < 512)
    (hn : n < 64 * (r / 64) ∨ 64 * (r / 64) + 576 ≤ n) :
    (if _h : r < 64 then (if h : r < 64 ∧ n < 576 then T (r) (n) h.1 h.2 else z) else
      (if _h : r - 64 < 64 then (if h : r - 64 < 64 ∧ 64 ≤ n ∧ n - 64 < 576 then T (r - 64) (n - 64) h.1 h.2.2 else z) else
      (if _h : r - 64 - 64 < 64 then (if h : r - 64 - 64 < 64 ∧ 128 ≤ n ∧ n - 128 < 576 then T (r - 64 - 64) (n - 128) h.1 h.2.2 else z) else
      (if _h : r - 64 - 64 - 64 < 64 then (if h : r - 64 - 64 - 64 < 64 ∧ 192 ≤ n ∧ n - 192 < 576 then T (r - 64 - 64 - 64) (n - 192) h.1 h.2.2 else z) else
      (if _h : r - 64 - 64 - 64 - 64 < 64 then (if h : r - 64 - 64 - 64 - 64 < 64 ∧ 256 ≤ n ∧ n - 256 < 576 then T (r - 64 - 64 - 64 - 64) (n - 256) h.1 h.2.2 else z) else
      (if _h : r - 64 - 64 - 64 - 64 - 64 < 64 then (if h : r - 64 - 64 - 64 - 64 - 64 < 64 ∧ 320 ≤ n ∧ n - 320 < 576 then T (r - 64 - 64 - 64 - 64 - 64) (n - 320) h.1 h.2.2 else z) else
      (if _h : r - 64 - 64 - 64 - 64 - 64 - 64 < 64 then (if h : r - 64 - 64 - 64 - 64 - 64 - 64 < 64 ∧ 384 ≤ n ∧ n - 384 < 576 then T (r - 64 - 64 - 64 - 64 - 64 - 64) (n - 384) h.1 h.2.2 else z) else
      (if h : r - 64 - 64 - 64 - 64 - 64 - 64 - 64 < 64 ∧ 448 ≤ n ∧ n - 448 < 576 then T (r - 64 - 64 - 64 - 64 - 64 - 64 - 64) (n - 448) h.1 h.2.2 else z)))))))) = z := by
  split_ifs <;> first
    | rfl
    | (exfalso; omega)

theorem bot_at : id (constant (F := Ideal) S_ .f32 0xFF800000#32) (Shape.Idx.first h_S_) = (⊥ : EReal) := ofBits_neg_inf

theorem pad_in (B : FVec Ideal S16x257 .f32) (h : Fin 16) (r : Fin 512) (n : Fin 1024) (q : Fin 64) (k : Fin 576)
    (hq : q.val = r.val % 64) (hn : n.val = 64 * (r.val / 64) + k.val) :
    biasTab B (ix3 h r n) = B (ix2 h (⟨min 256 (q.val + 640 - k.val), by omega⟩ : Fin 257)) := by
  rw [← bandBias_at B h q k]
  pointwise [biasTab]
  exact ladder_in (fun a b ha hb => bandBias B (ix3 h ⟨a, ha⟩ ⟨b, hb⟩)) _ r.val n.val q.val k.val r.isLt q.isLt k.isLt hq hn

theorem pad_out (B : FVec Ideal S16x257 .f32) (h : Fin 16) (r : Fin 512) (n : Fin 1024)
    (hn : n.val < 64 * (r.val / 64) ∨ 64 * (r.val / 64) + 576 ≤ n.val) :
    biasTab B (ix3 h r n) = (⊥ : EReal) := by
  refine Eq.trans ?_ bot_at
  pointwise [biasTab]
  exact ladder_out (fun a b ha hb => bandBias B (ix3 h ⟨a, ha⟩ ⟨b, hb⟩)) _ r.val n.val r.isLt hn

end Cert.KernelIdeal.Block

end
-- ==== Proof.RefTerm.lean ====
module

public import proofs.«01_k».proof.Proof.Gen.ReferenceIdeal.Run
public import Idealize.ShloMosaic.Lib.Pointwise

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable {F : FTy → Type} [FloatOps F]

/-- Start positions of the chunks, as indices of the scaled queries. -/
def idxQ : IVec S128x4 32 := (concatenate S128x4 1 [⟨S128x1, ((broadcastInDim S128x1 ![] bcast_S_S128x1 (constantI S_ 32 0#32)) : IVec S128x1 32)⟩, ⟨S128x1, ((broadcastInDim S128x1 ![] bcast_S_S128x1 (constantI S_ 32 0#32)) : IVec S128x1 32)⟩, ⟨S128x1, ((broadcastInDim S128x1 ![0] bcast_S128_S128x1_0 (select (cmpi .slt (muli (iotaInDim S128 32 0) (broadcastInDim S128 ![] bcast_S_S128 (constantI S_ 32 64#32))) (broadcastInDim S128 ![] bcast_S_S128 (constantI S_ 32 0#32))) (addi (muli (iotaInDim S128 32 0) (broadcastInDim S128 ![] bcast_S_S128 (constantI S_ 32 64#32))) (broadcastInDim S128 ![] bcast_S_S128 (constantI S_ 32 8192#32))) (muli (iotaInDim S128 32 0) (broadcastInDim S128 ![] bcast_S_S128 (constantI S_ 32 64#32))))) : IVec S128x1 32)⟩, ⟨S128x1, ((broadcastInDim S128x1 ![] bcast_S_S128x1 (constantI S_ 32 0#32)) : IVec S128x1 32)⟩] concatenates_S128x1_S128x1_S128x1_S128x1_S128x4_d1 : IVec S128x4 32)

/-- Start positions of the chunks, as indices of the padded keys and values. -/
def idxK : IVec S128x4 32 := (concatenate S128x4 1 [⟨S128x1, ((broadcastInDim S128x1 ![] bcast_S_S128x1 (constantI S_ 32 0#32)) : IVec S128x1 32)⟩, ⟨S128x1, ((broadcastInDim S128x1 ![] bcast_S_S128x1 (constantI S_ 32 0#32)) : IVec S128x1 32)⟩, ⟨S128x1, ((broadcastInDim S128x1 ![0] bcast_S128_S128x1_0 (select (cmpi .slt (muli (iotaInDim S128 32 0) (broadcastInDim S128 ![] bcast_S_S128 (constantI S_ 32 64#32))) (broadcastInDim S128 ![] bcast_S_S128 (constantI S_ 32 0#32))) (addi (muli (iotaInDim S128 32 0) (broadcastInDim S128 ![] bcast_S_S128 (constantI S_ 32 64#32))) (broadcastInDim S128 ![] bcast_S_S128 (constantI S_ 32 8704#32))) (muli (iotaInDim S128 32 0) (broadcastInDim S128 ![] bcast_S_S128 (constantI S_ 32 64#32))))) : IVec S128x1 32)⟩, ⟨S128x1, ((broadcastInDim S128x1 ![] bcast_S_S128x1 (constantI S_ 32 0#32)) : IVec S128x1 32)⟩] concatenates_S128x1_S128x1_S128x1_S128x1_S128x4_d1 : IVec S128x4 32)

/-- The clipped distance of a query and a key of its band. -/
def relIdx : IVec S64x576 32 := (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32)))

def idxB : IVec S64x576x1 32 := (broadcastInDim S64x576x1 ![0, 1] bcast_S64x576_S64x576x1_0_1 (select (cmpi .slt relIdx (broadcastInDim S64x576 ![] bcast_S_S64x576 (constantI S_ 32 0#32))) (addi relIdx (broadcastInDim S64x576 ![] bcast_S_S64x576 (constantI S_ 32 257#32))) relIdx))

def refQ (X : FVec F S16384x3072 .bf16) : FVec F S2x16x8192x64 .f32 := (mulf (transpose S2x16x8192x64 [0, 2, 1, 3] (shapeCast _ (extractStridedSlice S2x8192x1024 ![0, 0, 0] (shapeCast _ (extf .f32 X bitsLt_bf16_f32) shapeCasts_S16384x3072_S2x8192x3072) slices_S2x8192x3072_S2x8192x1024_0_0_0) shapeCasts_S2x8192x1024_S2x8192x16x64) transposes_S2x8192x16x64_S2x16x8192x64_0_2_1_3) (broadcastInDim S2x16x8192x64 ![] bcast_S_S2x16x8192x64 (constant S_ .f32 0x3E000000#32)))

def refK (X : FVec F S16384x3072 .bf16) : FVec F S2x16x8704x64 .f32 := (pad S2x16x8704x64 ![0, 0, 512, 0] ![0, 0, 0, 0] ![0, 0, 0, 0] (transpose S2x16x8192x64 [0, 2, 1, 3] (shapeCast _ (extractStridedSlice S2x8192x1024 ![0, 0, 1024] (shapeCast _ (extf .f32 X bitsLt_bf16_f32) shapeCasts_S16384x3072_S2x8192x3072) slices_S2x8192x3072_S2x8192x1024_0_0_1024) shapeCasts_S2x8192x1024_S2x8192x16x64) transposes_S2x8192x16x64_S2x16x8192x64_0_2_1_3) (sitofp .f32 (constantI S_ 32 0#32)) pads_S2x16x8192x64_S2x16x8704x64_000_000_51200_000 h_S_)

def refV (X : FVec F S16384x3072 .bf16) : FVec F S2x16x8704x64 .f32 := (pad S2x16x8704x64 ![0, 0, 512, 0] ![0, 0, 0, 0] ![0, 0, 0, 0] (transpose S2x16x8192x64 [0, 2, 1, 3] (shapeCast _ (extractStridedSlice S2x8192x1024 ![0, 0, 2048] (shapeCast _ (extf .f32 X bitsLt_bf16_f32) shapeCasts_S16384x3072_S2x8192x3072) slices_S2x8192x3072_S2x8192x1024_0_0_2048) shapeCasts_S2x8192x1024_S2x8192x16x64) transposes_S2x8192x16x64_S2x16x8192x64_0_2_1_3) (sitofp .f32 (constantI S_ 32 0#32)) pads_S2x16x8192x64_S2x16x8704x64_000_000_51200_000 h_S_)

def refQg (X : FVec F S16384x3072 .bf16) : FVec F S128x2x16x64x64 .f32 := (Host.gather gather_S2x16x8192x64_S128x4_S128x2x16x64x64_1234_n_n_n_0123_1_2166464 (refQ X) (idxQ))

def refKg (X : FVec F S16384x3072 .bf16) : FVec F S128x2x16x576x64 .f32 := (Host.gather gather_S2x16x8704x64_S128x4_S128x2x16x576x64_1234_n_n_n_0123_1_21657664 (refK X) (idxK))

def refVg (X : FVec F S16384x3072 .bf16) : FVec F S128x2x16x576x64 .f32 := (Host.gather gather_S2x16x8704x64_S128x4_S128x2x16x576x64_1234_n_n_n_0123_1_21657664 (refV X) (idxK))

def refBg (B : FVec F S16x257 .f32) : FVec F S16x64x576 .f32 := (Host.gather gather_S16x257_S64x576x1_S16x64x576_0_1_n_n_1_2_161 B idxB)

/-- Which positions of a band lie in the sequence. -/
def refM : IVec S128x2x16x64x576 1 := (broadcastInDim S128x2x16x64x576 ![0, 3, 4] bcast_S128x1x576_S128x2x16x64x576_0_3_4 (cmpi .sge (broadcastInDim S128x1x576 ![0, 1, 2] bcast_S1x1x576_S128x1x576_0_1_2 (broadcastInDim S1x1x576 ![1, 2] bcast_S1x576_S1x1x576_1_2 (broadcastInDim S1x576 ![1] bcast_S576_S1x576_1 (iotaInDim S576 32 0)))) (broadcastInDim S128x1x576 ![0, 1, 2] bcast_S128x1x1_S128x1x576_0_1_2 (broadcastInDim S128x1x1 ![0] bcast_S128_S128x1x1_0 (subi (broadcastInDim S128 ![] bcast_S_S128 (constantI S_ 32 512#32)) (muli (iotaInDim S128 32 0) (broadcastInDim S128 ![] bcast_S_S128 (constantI S_ 32 64#32))))))))

/-- The scores of every chunk against its band. -/
def refS (X : FVec F S16384x3072 .bf16) (B : FVec F S16x257 .f32) : FVec F S128x2x16x64x576 .f32 := (select refM (addf (Host.dotGeneral dot_S128x2x16x64x64_S128x2x16x576x64_S128x2x16x64x576_4_4_3_3_012_012 none (refQg X) (refKg X)) (broadcastInDim S128x2x16x64x576 ![0, 1, 2, 3, 4] bcast_S1x1x16x64x576_S128x2x16x64x576_0_1_2_3_4 (broadcastInDim S1x1x16x64x576 ![1, 2, 3, 4] bcast_S1x16x64x576_S1x1x16x64x576_1_2_3_4 (broadcastInDim S1x16x64x576 ![1, 2, 3] bcast_S16x64x576_S1x16x64x576_1_2_3 (refBg B))))) (broadcastInDim S128x2x16x64x576 ![1, 2, 3, 4] bcast_S2x16x64x576_S128x2x16x64x576_1_2_3_4 (broadcastInDim S2x16x64x576 ![] bcast_S_S2x16x64x576 (id (constant S_ .f32 0xFF800000#32)))))

def refE (X : FVec F S16384x3072 .bf16) (B : FVec F S16x257 .f32) : FVec F S128x2x16x64x576 .f32 := (Host.exp (subf (refS X B) (broadcastInDim S128x2x16x64x576 ![0, 1, 2, 3, 4] bcast_S128x2x16x64x1_S128x2x16x64x576_0_1_2_3_4 (broadcastInDim S128x2x16x64x1 ![0, 1, 2, 3] bcast_S128x2x16x64_S128x2x16x64x1_0_1_2_3 (maximumf (broadcastInDim S128x2x16x64 ![] bcast_S_S128x2x16x64 (constant S_ .f32 0xFF800000#32)) (Host.reduce FloatOps.maximumf (refS X B) (constant S_ .f32 0xFF800000#32) reducesTo_S128x2x16x64x576_S128x2x16x64_d4 h_S_))))))

/-- The reference's result as one term of its arguments. -/
def REF (X : FVec F S16384x3072 .bf16) (B : FVec F S16x257 .f32) : FVec F S16384x1024 .bf16 := truncf .bf16 (shapeCast _ (transpose S2x128x64x16x64 [1, 0, 3, 2, 4] (Host.dotGeneral dot_S128x2x16x64x576_S128x2x16x576x64_S128x2x16x64x64_4_3_3_4_012_012 none (Host.divf (refE X B) (broadcastInDim S128x2x16x64x576 ![0, 1, 2, 3, 4] bcast_S128x2x16x64x1_S128x2x16x64x576_0_1_2_3_4 (broadcastInDim S128x2x16x64x1 ![0, 1, 2, 3] bcast_S128x2x16x64_S128x2x16x64x1_0_1_2_3 (Host.reduceAdd (refE X B) (constant S_ .f32 0x00000000#32) reducesTo_S128x2x16x64x576_S128x2x16x64_d4 h_S_)))) (refVg X)) transposes_S128x2x16x64x64_S2x128x64x16x64_1_0_3_2_4) shapeCasts_S2x128x64x16x64_S16384x1024) bitsLt_bf16_f32

theorem res_eq (m : (ℓ : Loc nD τ sig) → Buf (Elt F) ℓ) (c : Dev nD) :
    Value.res_main_v97 m c = REF (m ((c.tc : Thread nD τ).loc main_arg0)) (m ((c.tc : Thread nD τ).loc main_arg1)) := rfl

end Cert.ReferenceIdeal.Read

end
-- ==== Proof.RefIdx.lean ====
module

public import proofs.«01_k».proof.Proof.RefTerm

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

theorem start_toNat : ∀ c : Fin 128, (BitVec.ofNat 32 (64 * c.val)).toInt.toNat = 64 * c.val := by decide +kernel

/-- The start row of a chunk. -/
theorem idxQ_at (c : Fin 128) (a : Fin 4) : idxQ (ix2 c a) = if a = 2 then BitVec.ofNat 32 (64 * c.val) else 0#32 := by
  fin_cases a <;> pointwise [idxQ]
  all_goals try rfl
  revert c; decide +kernel

theorem idxK_at (c : Fin 128) (a : Fin 4) : idxK (ix2 c a) = if a = 2 then BitVec.ofNat 32 (64 * c.val) else 0#32 := by
  fin_cases a <;> pointwise [idxK]
  all_goals try rfl
  revert c; decide +kernel

theorem rel_at (q : Fin 64) (k : Fin 576) : relIdx (ix2 q k) = BitVec.ofNat 32 (min 256 (q.val + 640 - k.val)) := by
  pointwise [relIdx]
  revert q k; decide +kernel

theorem gatherQ_at (x : FVec Ideal S2x16x8192x64 .f32) (c : Fin 128) (b : Fin 2) (h : Fin 16) (r d : Fin 64) :
    Host.gather gather_S2x16x8192x64_S128x4_S128x2x16x64x64_1234_n_n_n_0123_1_2166464 x idxQ (ix5 c b h r d)
      = x (ix4 b h (⟨64 * c.val + r.val, by omega⟩ : Fin 8192) d) := by
  unfold Host.gather
  congr 1
  funext a
  refine Fin.ext ?_
  show GatherDims.start _ _ idxQ a + GatherDims.batchCoord _ _ a + GatherDims.offCoord _ _ a = _
  rw [GatherDims.batchCoord_eq_zero _ _ _ List.not_mem_nil]
  unfold GatherDims.start
  have hm : ∀ a : Fin 4, a ∈ gather_S2x16x8192x64_S128x4_S128x2x16x64x64_1234_n_n_n_0123_1_2166464.startIndexMap := by decide
  rw [dif_pos (hm a)]
  have hsi : ∀ (a : Fin 4), gather_S2x16x8192x64_S128x4_S128x2x16x64x64_1234_n_n_n_0123_1_2166464.siIdx (ix5 c b h r d) ⟨List.idxOf a gather_S2x16x8192x64_S128x4_S128x2x16x64x64_1234_n_n_n_0123_1_2166464.startIndexMap,
      List.idxOf_lt_length_iff.2 (hm a)⟩ = ix2 c a := by
    intro a
    funext e; refine Fin.ext ?_
    fin_cases a <;> fin_cases e <;> rfl
  rw [hsi a, idxQ_at]
  have hc := start_toNat c
  match a with
  | ⟨0, _⟩ => show 0 + 0 + b.val = b.val; omega
  | ⟨1, _⟩ => show 0 + 0 + h.val = h.val; omega
  | ⟨2, _⟩ =>
    show min (BitVec.ofNat 32 (64 * c.val)).toInt.toNat (8192 - 64) + 0 + r.val = 64 * c.val + r.val
    rw [hc]; omega
  | ⟨3, _⟩ => show 0 + 0 + d.val = d.val; omega

theorem gatherK_at (x : FVec Ideal S2x16x8704x64 .f32) (c : Fin 128) (b : Fin 2) (h : Fin 16) (r : Fin 576) (d : Fin 64) :
    Host.gather gather_S2x16x8704x64_S128x4_S128x2x16x576x64_1234_n_n_n_0123_1_21657664 x idxK (ix5 c b h r d)
      = x (ix4 b h (⟨64 * c.val + r.val, by omega⟩ : Fin 8704) d) := by
  unfold Host.gather
  congr 1
  funext a
  refine Fin.ext ?_
  show GatherDims.start _ _ idxK a + GatherDims.batchCoord _ _ a + GatherDims.offCoord _ _ a = _
  rw [GatherDims.batchCoord_eq_zero _ _ _ List.not_mem_nil]
  unfold GatherDims.start
  have hm : ∀ a : Fin 4, a ∈ gather_S2x16x8704x64_S128x4_S128x2x16x576x64_1234_n_n_n_0123_1_21657664.startIndexMap := by decide
  rw [dif_pos (hm a)]
  have hsi : ∀ (a : Fin 4), gather_S2x16x8704x64_S128x4_S128x2x16x576x64_1234_n_n_n_0123_1_21657664.siIdx (ix5 c b h r d) ⟨List.idxOf a gather_S2x16x8704x64_S128x4_S128x2x16x576x64_1234_n_n_n_0123_1_21657664.startIndexMap,
      List.idxOf_lt_length_iff.2 (hm a)⟩ = ix2 c a := by
    intro a
    funext e; refine Fin.ext ?_
    fin_cases a <;> fin_cases e <;> rfl
  rw [hsi a, idxK_at]
  have hc := start_toNat c
  match a with
  | ⟨0, _⟩ => show 0 + 0 + b.val = b.val; omega
  | ⟨1, _⟩ => show 0 + 0 + h.val = h.val; omega
  | ⟨2, _⟩ =>
    show min (BitVec.ofNat 32 (64 * c.val)).toInt.toNat (8704 - 576) + 0 + r.val = 64 * c.val + r.val
    rw [hc]; omega
  | ⟨3, _⟩ => show 0 + 0 + d.val = d.val; omega

theorem idxB_at (q : Fin 64) (k : Fin 576) : idxB (ix3 q k 0) = BitVec.ofNat 32 (min 256 (q.val + 640 - k.val)) := by
  pointwise [idxB]
  simp only [rel_at]
  have h : ∀ n : Fin 257, Scalar.select (IntOp.cmpi .slt (BitVec.ofNat 32 n.val) 0#32) (IntOp.addi (BitVec.ofNat 32 n.val) 257#32) (BitVec.ofNat 32 n.val) = BitVec.ofNat 32 n.val := by decide +kernel
  exact h ⟨min 256 (q.val + 640 - k.val), by omega⟩

theorem refBg_at (B : FVec Ideal S16x257 .f32) (h : Fin 16) (q : Fin 64) (k : Fin 576) :
    refBg B (ix3 h q k) = B (ix2 h (⟨min 256 (q.val + 640 - k.val), by omega⟩ : Fin 257)) := by
  unfold refBg Host.gather
  congr 1
  funext a
  refine Fin.ext ?_
  show GatherDims.start _ _ idxB a + GatherDims.batchCoord _ _ a + GatherDims.offCoord _ _ a = _
  rw [GatherDims.batchCoord_eq_zero _ _ _ List.not_mem_nil]
  match a with
  | ⟨0, _⟩ => show 0 + 0 + h.val = h.val; omega
  | ⟨1, _⟩ =>
    unfold GatherDims.start
    have hm : (1 : Fin 2) ∈ gather_S16x257_S64x576x1_S16x64x576_0_1_n_n_1_2_161.startIndexMap := by decide
    rw [dif_pos (show (⟨1, by decide⟩ : Fin 2) ∈ gather_S16x257_S64x576x1_S16x64x576_0_1_n_n_1_2_161.startIndexMap from hm)]
    have hsi : gather_S16x257_S64x576x1_S16x64x576_0_1_n_n_1_2_161.siIdx (ix3 h q k) ⟨List.idxOf (1 : Fin 2) gather_S16x257_S64x576x1_S16x64x576_0_1_n_n_1_2_161.startIndexMap,
        List.idxOf_lt_length_iff.2 hm⟩ = ix3 q k 0 := by
      funext e; refine Fin.ext ?_
      fin_cases e <;> rfl
    have e1 := idxB_at q k
    rw [← hsi] at e1
    show min (idxB (gather_S16x257_S64x576x1_S16x64x576_0_1_n_n_1_2_161.siIdx (ix3 h q k) _)).toInt.toNat (257 - 1) + 0 + 0 = min 256 (q.val + 640 - k.val)
    have h2 : ∀ n : Fin 257, (BitVec.ofNat 32 n.val).toInt.toNat = n.val := by decide +kernel
    have h3 := h2 ⟨min 256 (q.val + 640 - k.val), by omega⟩
    erw [e1]
    simp only [] at h3
    rw [h3]; omega

end Cert.ReferenceIdeal.Read

end
-- ==== Proof.RefRead.lean ====
module

public import proofs.«01_k».proof.Proof.RefIdx

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

theorem refQ_at (X : FVec Ideal S16384x3072 .bf16) (b : Fin 2) (h : Fin 16) (t : Fin 8192) (d : Fin 64) :
    refQ X (ix4 b h t d) = X (ix2 (⟨b.val * 8192 + t.val, by omega⟩ : Fin 16384) (⟨h.val * 64 + d.val, by omega⟩ : Fin 3072)) * Ideal.ofBits .f32 0x3E000000#32 := by
  pointwise [refQ]

theorem sitofp_zero : (FloatOps.sitofp FTy.f32 0#32 : Ideal .f32) = (0 : EReal) := by
  simp [FloatOps.sitofp]

theorem refK_at (X : FVec Ideal S16384x3072 .bf16) (b : Fin 2) (h : Fin 16) (t : Fin 8704) (d : Fin 64) :
    refK X (ix4 b h t d) = if ht : 512 ≤ t.val then X (ix2 (⟨b.val * 8192 + (t.val - 512), by omega⟩ : Fin 16384) (⟨1024 + (h.val * 64 + d.val), by omega⟩ : Fin 3072)) else (0 : EReal) := by
  pointwise [refK]
  by_cases ht : 512 ≤ t.val
  · rw [dif_pos ht, dif_pos ⟨ht, by omega⟩]
  · rw [dif_neg ht, dif_neg (by tauto)]; exact sitofp_zero

theorem refV_at (X : FVec Ideal S16384x3072 .bf16) (b : Fin 2) (h : Fin 16) (t : Fin 8704) (d : Fin 64) :
    refV X (ix4 b h t d) = if ht : 512 ≤ t.val then X (ix2 (⟨b.val * 8192 + (t.val - 512), by omega⟩ : Fin 16384) (⟨2048 + (h.val * 64 + d.val), by omega⟩ : Fin 3072)) else (0 : EReal) := by
  pointwise [refV]
  by_cases ht : 512 ≤ t.val
  · rw [dif_pos ht, dif_pos ⟨ht, by omega⟩]
  · rw [dif_neg ht, dif_neg (by tauto)]; exact sitofp_zero

theorem refM_at (c : Fin 128) (b : Fin 2) (h : Fin 16) (q : Fin 64) (k : Fin 576) :
    refM (ix5 c b h q k) = if 512 ≤ 64 * c.val + k.val then 1#1 else 0#1 := by
  pointwise [refM]
  revert c k; decide +kernel

theorem ofBits_neg_inf : Ideal.ofBits .f32 0xFF800000#32 = (⊥ : EReal) := by
  simp [Ideal.ofBits, Ideal.ieee]

/-- The score of query `q` of chunk `c` of head `h` against position `k` of its band. -/
def bandScore (X : FVec Ideal S16384x3072 .bf16) (B : FVec Ideal S16x257 .f32) (c : Fin 128) (b : Fin 2) (h : Fin 16) (q : Fin 64) (k : Fin 576) : EReal :=
  if hk : 512 ≤ 64 * c.val + k.val then
    (∑ d : Fin 64, X (ix2 (⟨b.val * 8192 + (64 * c.val + q.val), by omega⟩ : Fin 16384) (⟨h.val * 64 + d.val, by omega⟩ : Fin 3072)) * Ideal.ofBits .f32 0x3E000000#32
      * X (ix2 (⟨b.val * 8192 + (64 * c.val + k.val - 512), by omega⟩ : Fin 16384) (⟨1024 + (h.val * 64 + d.val), by omega⟩ : Fin 3072)))
      + B (ix2 h (⟨min 256 (q.val + 640 - k.val), by omega⟩ : Fin 257))
  else ⊥

/-- The value at position `k` of the band of chunk `c`. -/
def bandValue (X : FVec Ideal S16384x3072 .bf16) (c : Fin 128) (b : Fin 2) (h : Fin 16) (d : Fin 64) (k : Fin 576) : EReal :=
  if hk : 512 ≤ 64 * c.val + k.val then X (ix2 (⟨b.val * 8192 + (64 * c.val + k.val - 512), by omega⟩ : Fin 16384) (⟨2048 + (h.val * 64 + d.val), by omega⟩ : Fin 3072)) else 0

theorem refS_at (X : FVec Ideal S16384x3072 .bf16) (B : FVec Ideal S16x257 .f32) (c : Fin 128) (b : Fin 2) (h : Fin 16) (q : Fin 64) (k : Fin 576) :
    refS X B (ix5 c b h q k) = bandScore X B c b h q k := by
  unfold bandScore
  pointwise [refS, refQg, refKg]
  rw [refM_at, refBg_at]
  simp only [gatherQ_at, gatherK_at, refQ_at, refK_at]
  by_cases hk : 512 ≤ 64 * c.val + k.val
  · rw [if_pos hk, dif_pos hk]
    simp only [dif_pos hk]
    rfl
  · rw [if_neg hk, dif_neg hk]; exact ofBits_neg_inf

/-- One row of the reference's attention: scores `S`, values `V`. -/
def bandRow (S V : Fin 576 → EReal) : EReal :=
  ∑ k, Ideal.div (Ideal.exp (S k - max ⊥ (Finset.univ.fold max ⊥ S))) (∑ k, Ideal.exp (S k - max ⊥ (Finset.univ.fold max ⊥ S))) * V k

theorem max_at (S : FVec Ideal S128x2x16x64x576 .f32) (c : Fin 128) (b : Fin 2) (h : Fin 16) (q : Fin 64) :
    Host.reduce FloatOps.maximumf S (constant S_ .f32 0xFF800000#32) reducesTo_S128x2x16x64x576_S128x2x16x64_d4 h_S_ (ix4 c b h q)
      = Finset.univ.fold max (Ideal.ofBits .f32 0xFF800000#32) (fun k => S (ix5 c b h q k)) := by
  pointwise []

theorem row_at (M : FVec Ideal S128x2x16x64 .f32) (c : Fin 128) (b : Fin 2) (h : Fin 16) (q : Fin 64) (k : Fin 576) :
    broadcastInDim S128x2x16x64x576 ![0, 1, 2, 3, 4] bcast_S128x2x16x64x1_S128x2x16x64x576_0_1_2_3_4 (broadcastInDim S128x2x16x64x1 ![0, 1, 2, 3] bcast_S128x2x16x64_S128x2x16x64x1_0_1_2_3 M) (ix5 c b h q k)
      = M (ix4 c b h q) := by
  pointwise []

theorem maxrow_at (M : FVec Ideal S128x2x16x64 .f32) (c : Fin 128) (b : Fin 2) (h : Fin 16) (q : Fin 64) :
    maximumf (broadcastInDim S128x2x16x64 ![] bcast_S_S128x2x16x64 (constant S_ .f32 0xFF800000#32)) M (ix4 c b h q)
      = max (Ideal.ofBits .f32 0xFF800000#32) (M (ix4 c b h q)) := by
  pointwise []

theorem expsub_at (S N : FVec Ideal S128x2x16x64x576 .f32) (i : S128x2x16x64x576.Idx) :
    Host.exp (subf S N) i = Ideal.exp (S i - N i) := by
  pointwise []

theorem softmax_at (S : FVec Ideal S128x2x16x64x576 .f32) (c : Fin 128) (b : Fin 2) (h : Fin 16) (q : Fin 64) (k : Fin 576) :
    Host.exp (subf S (broadcastInDim S128x2x16x64x576 ![0, 1, 2, 3, 4] bcast_S128x2x16x64x1_S128x2x16x64x576_0_1_2_3_4 (broadcastInDim S128x2x16x64x1 ![0, 1, 2, 3] bcast_S128x2x16x64_S128x2x16x64x1_0_1_2_3 (maximumf (broadcastInDim S128x2x16x64 ![] bcast_S_S128x2x16x64 (constant S_ .f32 0xFF800000#32)) (Host.reduce FloatOps.maximumf S (constant S_ .f32 0xFF800000#32) reducesTo_S128x2x16x64x576_S128x2x16x64_d4 h_S_))))) (ix5 c b h q k)
      = Ideal.exp (S (ix5 c b h q k) - max (Ideal.ofBits .f32 0xFF800000#32) (Finset.univ.fold max (Ideal.ofBits .f32 0xFF800000#32) fun k => S (ix5 c b h q k))) := by
  rw [expsub_at, row_at, maxrow_at, max_at]

theorem refE_at (X : FVec Ideal S16384x3072 .bf16) (B : FVec Ideal S16x257 .f32) (c : Fin 128) (b : Fin 2) (h : Fin 16) (q : Fin 64) (k : Fin 576) :
    refE X B (ix5 c b h q k) = Ideal.exp (bandScore X B c b h q k - max ⊥ (Finset.univ.fold max ⊥ (bandScore X B c b h q))) := by
  have e := softmax_at (refS X B) c b h q k
  simp only [refS_at, ofBits_neg_inf] at e
  exact e

theorem out_at (E : FVec Ideal S128x2x16x64x576 .f32) (V : FVec Ideal S128x2x16x576x64 .f32) (r : Fin 16384) (l : Fin 1024)
    (c : Fin 128) (b : Fin 2) (h : Fin 16) (q d : Fin 64) (hc : c.val = r.val / 64 % 128) (hb : b.val = r.val / 8192)
    (hq : q.val = r.val % 64) (hh : h.val = l.val / 64) (hd : d.val = l.val % 64) :
    truncf .bf16 (shapeCast S16384x1024 (transpose S2x128x64x16x64 [1, 0, 3, 2, 4] (Host.dotGeneral dot_S128x2x16x64x576_S128x2x16x576x64_S128x2x16x64x64_4_3_3_4_012_012 none (Host.divf E (broadcastInDim S128x2x16x64x576 ![0, 1, 2, 3, 4] bcast_S128x2x16x64x1_S128x2x16x64x576_0_1_2_3_4 (broadcastInDim S128x2x16x64x1 ![0, 1, 2, 3] bcast_S128x2x16x64_S128x2x16x64x1_0_1_2_3 (Host.reduceAdd E (constant S_ .f32 0x00000000#32) reducesTo_S128x2x16x64x576_S128x2x16x64_d4 h_S_)))) V) transposes_S128x2x16x64x64_S2x128x64x16x64_1_0_3_2_4) shapeCasts_S2x128x64x16x64_S16384x1024) bitsLt_bf16_f32 (ix2 r l)
      = ∑ k : Fin 576, Ideal.div (E (ix5 c b h q k)) (∑ k : Fin 576, E (ix5 c b h q k)) * V (ix5 c b h k d) := by
  rw [show c = ⟨r.val / 64 % 128, by omega⟩ from Fin.ext hc]
  rw [show b = ⟨r.val / 8192, by omega⟩ from Fin.ext hb]
  rw [show q = ⟨r.val % 64, by omega⟩ from Fin.ext hq]
  rw [show h = ⟨l.val / 64, by omega⟩ from Fin.ext hh]
  rw [show d = ⟨l.val % 64, by omega⟩ from Fin.ext hd]
  pointwise []

theorem REF_at (X : FVec Ideal S16384x3072 .bf16) (B : FVec Ideal S16x257 .f32) (r : Fin 16384) (l : Fin 1024)
    (c : Fin 128) (b : Fin 2) (h : Fin 16) (q d : Fin 64) (hc : c.val = r.val / 64 % 128) (hb : b.val = r.val / 8192)
    (hq : q.val = r.val % 64) (hh : h.val = l.val / 64) (hd : d.val = l.val % 64) :
    REF X B (ix2 r l) = bandRow (bandScore X B c b h q) (bandValue X c b h d) := by
  refine (out_at (refE X B) (refVg X) r l c b h q d hc hb hq hh hd).trans ?_
  unfold bandRow
  simp only [refE_at]
  refine Finset.sum_congr rfl fun k _ => ?_
  rw [show refVg X (ix5 c b h k d) = bandValue X c b h d k from (gatherK_at (refV X) c b h k d).trans (refV_at X b h _ d)]

end Cert.ReferenceIdeal.Read

end
-- ==== Proof.Softmax.lean ====
module

public import Idealize.ShloMosaic.Lib.Pointwise

@[expose] public section

noncomputable section

namespace Cert.Softmax

open Idealize.ShloMosaic

/-- The running maximum from minus infinity is the supremum. -/
theorem fold_eq_sup {ι : Type*} [Fintype ι] (f : ι → EReal) : Finset.univ.fold max ⊥ f = Finset.univ.sup f := rfl

/-- A sum over the wide row whose terms vanish outside a window is the sum over the window. -/
theorem sum_window (o : ℕ) (ho : o + 576 ≤ 1024) (f : Fin 1024 → EReal)
    (hout : ∀ n : Fin 1024, (n.val < o ∨ o + 576 ≤ n.val) → f n = 0) :
    ∑ n, f n = ∑ k : Fin 576, f ⟨o + k.val, by omega⟩ := by
  have hinj : Function.Injective (fun k : Fin 576 => (⟨o + k.val, by omega⟩ : Fin 1024)) := by
    intro a b h
    have := congrArg Fin.val h
    exact Fin.ext (by simp only [] at this; omega)
  rw [← Finset.sum_image (s := Finset.univ) (f := f) (g := fun k : Fin 576 => (⟨o + k.val, by omega⟩ : Fin 1024))
    (fun a _ b _ h => hinj h)]
  symm
  refine Finset.sum_subset (Finset.subset_univ _) fun n _ hn => hout n ?_
  by_contra hc
  refine hn (Finset.mem_image.2 ⟨⟨n.val - o, by omega⟩, Finset.mem_univ _, Fin.ext ?_⟩)
  simp only []; omega

theorem sup_window (o : ℕ) (ho : o + 576 ≤ 1024) (f : Fin 1024 → EReal)
    (hout : ∀ n : Fin 1024, (n.val < o ∨ o + 576 ≤ n.val) → f n = ⊥) :
    Finset.univ.sup f = Finset.univ.sup (fun k : Fin 576 => f ⟨o + k.val, by omega⟩) := by
  refine le_antisymm (Finset.sup_le fun n _ => ?_) (Finset.sup_le fun k _ => Finset.le_sup (f := f) (Finset.mem_univ _))
  by_cases hc : n.val < o ∨ o + 576 ≤ n.val
  · rw [hout n hc]; exact bot_le
  · have e : n = ⟨o + (n.val - o), by omega⟩ := Fin.ext (by simp only []; omega)
    rw [e]
    exact Finset.le_sup (f := fun k : Fin 576 => f ⟨o + k.val, by omega⟩) (Finset.mem_univ (⟨n.val - o, by omega⟩ : Fin 576))

/-- A finite non-negative factor distributes over any sum of extended reals. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The exponential of a score below a finite maximum. -/
def ex (x : EReal) (μ : ℝ) : ℝ := match x with
  | ⊥ => 0
  | ⊤ => 0
  | (r : ℝ) => Real.exp (r - μ)

theorem ex_bot (μ : ℝ) : ex ⊥ μ = 0 := rfl

theorem exp_sub_eq (x : EReal) (μ : ℝ) (hx : x ≠ ⊤) : Ideal.exp (x - (μ : EReal)) = (ex x μ : EReal) := by
  induction x with
  | bot => rw [ex_bot]; simp
  | top => exact absurd rfl hx
  | coe r => rw [← EReal.coe_sub]; rfl

theorem ex_nonneg (x : EReal) (μ : ℝ) : 0 ≤ ex x μ := by
  induction x with
  | bot => exact le_refl _
  | top => exact le_refl _
  | coe r => exact (Real.exp_pos _).le

theorem div_coe (x : EReal) (D : ℝ) (hD : 0 < D) : Ideal.div x (D : EReal) = x * ((D⁻¹ : ℝ) : EReal) := by
  unfold Ideal.div
  rw [if_neg (by exact_mod_cast hD.ne'), EReal.coe_inv]

/-- Attention over a wide row whose scores are minus infinity outside a window is attention over the window,
    whether the weights are normalised before the values are summed or after. -/
theorem window (o : ℕ) (ho : o + 576 ≤ 1024) (S V : Fin 1024 → EReal) (R W : Fin 576 → EReal)
    (hS : ∀ k : Fin 576, S ⟨o + k.val, by omega⟩ = R k)
    (hout : ∀ n : Fin 1024, (n.val < o ∨ o + 576 ≤ n.val) → S n = ⊥)
    (hV : ∀ k : Fin 576, R k ≠ ⊥ → V ⟨o + k.val, by omega⟩ = W k)
    (htop : ∀ k, R k ≠ ⊤) (k0 : Fin 576) (hreal : R k0 ≠ ⊥) :
    Ideal.div (∑ n, Ideal.exp (S n - Finset.univ.fold max ⊥ S) * V n) (∑ n, Ideal.exp (S n - Finset.univ.fold max ⊥ S))
      = ∑ k, Ideal.div (Ideal.exp (R k - max ⊥ (Finset.univ.fold max ⊥ R))) (∑ k, Ideal.exp (R k - max ⊥ (Finset.univ.fold max ⊥ R))) * W k := by
  have hM : Finset.univ.fold max ⊥ S = Finset.univ.fold max ⊥ R := by
    rw [fold_eq_sup, fold_eq_sup, sup_window o ho S hout]
    exact congrArg _ (funext hS)
  rw [hM, max_eq_right bot_le]
  have h1 : Finset.univ.fold max ⊥ R ≠ ⊤ := by
    rw [fold_eq_sup]
    exact ((Finset.sup_lt_iff (by exact bot_lt_top)).2 fun k _ => lt_top_iff_ne_top.2 (htop k)).ne
  have h2 : Finset.univ.fold max ⊥ R ≠ ⊥ := by
    rw [fold_eq_sup]
    intro h
    exact hreal (le_bot_iff.1 (h ▸ Finset.le_sup (f := R) (Finset.mem_univ k0)))
  obtain ⟨μ, hμ⟩ : ∃ μ : ℝ, Finset.univ.fold max ⊥ R = (μ : EReal) := ⟨_, (EReal.coe_toReal h1 h2).symm⟩
  rw [hμ]
  have hz : ∀ n : Fin 1024, (n.val < o ∨ o + 576 ≤ n.val) → Ideal.exp (S n - (μ : EReal)) = 0 := by
    intro n hn; rw [hout n hn]; simp
  rw [sum_window o ho _ (fun n hn => by rw [hz n hn, zero_mul]), sum_window o ho _ hz]
  simp only [hS, exp_sub_eq _ μ (htop _)]
  have hD : (∑ k : Fin 576, (ex (R k) μ : EReal)) = ((∑ k : Fin 576, ex (R k) μ : ℝ) : EReal) := by
    exact (map_sum (⟨⟨fun x : ℝ => (x : EReal), rfl⟩, fun a b => rfl⟩ : ℝ →+ EReal) _ _).symm
  have hpos : 0 < ∑ k : Fin 576, ex (R k) μ := by
    refine Finset.sum_pos' (fun k _ => ex_nonneg _ _) ⟨k0, Finset.mem_univ _, ?_⟩
    obtain ⟨r, hr⟩ : ∃ r : ℝ, R k0 = (r : EReal) := ⟨_, (EReal.coe_toReal (htop k0) hreal).symm⟩
    rw [hr]; exact Real.exp_pos _
  rw [hD]
  simp only [div_coe _ _ hpos]
  rw [sum_mul_coe _ _ _ (inv_nonneg.2 hpos.le)]
  refine Finset.sum_congr rfl fun k _ => ?_
  by_cases hk : R k = ⊥
  · rw [hk, ex_bot]; simp
  · rw [hV k hk]; ac_rfl

end Cert.Softmax

end
-- ==== Proof.Bridge.lean ====
module

public import proofs.«01_k».proof.Proof.Bias
public import proofs.«01_k».proof.Proof.RefRead
public import proofs.«01_k».proof.Proof.Softmax
public import Idealize.ShloMosaic.Lib.Pointwise
public import Idealize.ShloMosaic.Lib.Claim

@[expose] public section

set_option maxRecDepth 16384

noncomputable section

namespace Cert.Bridge

open Idealize.ShloMosaic Idealize.ShloMosaic.TcCoe Idealize.SL.Sem
open Cert.KernelIdeal Cert.KernelIdeal.Block Cert.ReferenceIdeal.Read

/-- The scale of the queries is one eighth in both formats. -/
theorem scale_bf16 : Ideal.ofBits .bf16 0x3E00#16 = ((1 / 8 : ℝ) : EReal) := by
  simp [Ideal.ofBits, Ideal.ieee]
  rw [← EReal.coe_mul]
  norm_num

theorem scale_f32 : Ideal.ofBits .f32 0x3E000000#32 = ((1 / 8 : ℝ) : EReal) := by
  simp [Ideal.ofBits, Ideal.ieee]
  rw [← EReal.coe_mul]
  norm_num

/-- A finite sum of reals is a real. -/
theorem sum_real {n : ℕ} (f : Fin n → EReal) (hf : ∀ d, ∃ x : ℝ, f d = (x : EReal)) : ∃ x : ℝ, ∑ d, f d = (x : EReal) := by
  choose g hg using hf
  refine ⟨∑ d, g d, ?_⟩
  simp only [hg]
  exact (map_sum (⟨⟨fun x : ℝ => (x : EReal), rfl⟩, fun a b => rfl⟩ : ℝ →+ EReal) _ _).symm

variable (X : FVec Ideal S16384x3072 .bf16) (B : FVec Ideal S16x257 .f32)

/-- The queries, the keys and the biases are real numbers. -/
structure Finite : Prop where
  x : ∀ (r : Fin 16384) (l : Fin 3072), l.val < 2048 → ∃ a : ℝ, X (ix2 r l) = (a : EReal)
  b : ∀ (h : Fin 16) (n : Fin 257), ∃ a : ℝ, B (ix2 h n) = (a : EReal)

variable {X B}

theorem score_real (H : Finite X B) (c : Fin 128) (b : Fin 2) (h : Fin 16) (q : Fin 64) (k : Fin 576) (hk : 512 ≤ 64 * c.val + k.val) :
    ∃ a : ℝ, bandScore X B c b h q k = (a : EReal) := by
  unfold bandScore
  rw [dif_pos hk, scale_f32]
  obtain ⟨s, hs⟩ := sum_real (fun d : Fin 64 => X (ix2 (⟨b.val * 8192 + (64 * c.val + q.val), by omega⟩ : Fin 16384) (⟨h.val * 64 + d.val, by omega⟩ : Fin 3072)) * ((1 / 8 : ℝ) : EReal)
      * X (ix2 (⟨b.val * 8192 + (64 * c.val + k.val - 512), by omega⟩ : Fin 16384) (⟨1024 + (h.val * 64 + d.val), by omega⟩ : Fin 3072))) (by
    intro d
    obtain ⟨x, hx⟩ := H.x (⟨b.val * 8192 + (64 * c.val + q.val), by omega⟩ : Fin 16384) (⟨h.val * 64 + d.val, by omega⟩ : Fin 3072) (by simp only []; omega)
    obtain ⟨y, hy⟩ := H.x (⟨b.val * 8192 + (64 * c.val + k.val - 512), by omega⟩ : Fin 16384) (⟨1024 + (h.val * 64 + d.val), by omega⟩ : Fin 3072) (by simp only []; omega)
    exact ⟨x * (1 / 8) * y, by rw [hx, hy, ← EReal.coe_mul, ← EReal.coe_mul]⟩)
  obtain ⟨e, he⟩ := H.b h ⟨min 256 (q.val + 640 - k.val), by omega⟩
  exact ⟨s + e, by rw [hs, he, EReal.coe_add]⟩

theorem score_ne_top (H : Finite X B) (c : Fin 128) (b : Fin 2) (h : Fin 16) (q : Fin 64) (k : Fin 576) :
    bandScore X B c b h q k ≠ ⊤ := by
  by_cases hk : 512 ≤ 64 * c.val + k.val
  · obtain ⟨a, ha⟩ := score_real H c b h q k hk
    rw [ha]; exact EReal.coe_ne_top a
  · unfold bandScore; rw [dif_neg hk]; exact bot_ne_top

/-- The row a block computes is the row of the reference. -/
theorem block_eq (H : Finite X B) (b : Fin 2) (hp : Fin 8) (j : Fin 16)
    (q kp kc vp vc : FVec Ideal S512x128 .bf16) (bb : FVec Ideal S2x512x1024 .f32)
    (hq : ∀ (r : Fin 512) (l : Fin 128), q (ix2 r l) = X (ix2 (⟨8192 * b.val + 512 * j.val + r.val, by omega⟩ : Fin 16384) (⟨128 * hp.val + l.val, by omega⟩ : Fin 3072)))
    (hkp : ∀ (r : Fin 512) (l : Fin 128), kp (ix2 r l) = X (ix2 (⟨8192 * b.val + 512 * (j.val - 1) + r.val, by omega⟩ : Fin 16384) (⟨1024 + 128 * hp.val + l.val, by omega⟩ : Fin 3072)))
    (hkc : ∀ (r : Fin 512) (l : Fin 128), kc (ix2 r l) = X (ix2 (⟨8192 * b.val + 512 * j.val + r.val, by omega⟩ : Fin 16384) (⟨1024 + 128 * hp.val + l.val, by omega⟩ : Fin 3072)))
    (hvp : ∀ (r : Fin 512) (l : Fin 128), vp (ix2 r l) = X (ix2 (⟨8192 * b.val + 512 * (j.val - 1) + r.val, by omega⟩ : Fin 16384) (⟨2048 + 128 * hp.val + l.val, by omega⟩ : Fin 3072)))
    (hvc : ∀ (r : Fin 512) (l : Fin 128), vc (ix2 r l) = X (ix2 (⟨8192 * b.val + 512 * j.val + r.val, by omega⟩ : Fin 16384) (⟨2048 + 128 * hp.val + l.val, by omega⟩ : Fin 3072)))
    (hb : ∀ (h : Fin 2) (r : Fin 512) (n : Fin 1024), bb (ix3 h r n) = biasTab B (ix3 (⟨2 * hp.val + h.val, by omega⟩ : Fin 16) r n))
    (r : Fin 512) (l : Fin 128) (h : Fin 2) (hh : h.val = l.val / 64) :
    outAt j.val h q kp kc vp vc bb r l = REF X B (ix2 (⟨8192 * b.val + 512 * j.val + r.val, by omega⟩ : Fin 16384) (⟨128 * hp.val + l.val, by omega⟩ : Fin 1024)) := by
  rw [REF_at X B _ _ ⟨8 * j.val + r.val / 64, by omega⟩ b ⟨2 * hp.val + h.val, by omega⟩ ⟨r.val % 64, by omega⟩ ⟨l.val % 64, by omega⟩
    (by simp only []; omega) (by simp only []; omega) (by simp only []; omega) (by simp only []; omega) (by simp only []; omega)]
  unfold outAt rowAt bandRow
  refine Softmax.window (64 * (r.val / 64)) (by omega) _ _ _ _ ?_ ?_ ?_ (fun k => score_ne_top H _ _ _ _ k) ⟨512, by omega⟩ ?_
  · intro k
    unfold bandScore
    simp only []
    by_cases hc : 512 ≤ 64 * (r.val / 64) + k.val ∨ 0 < j.val
    · rw [if_pos hc, dif_pos (by omega), scale_bf16, scale_f32, hb,
        pad_in B _ r _ ⟨r.val % 64, by omega⟩ k rfl rfl]
      refine congrArg₂ (· + ·) (Finset.sum_congr rfl fun d _ => ?_) rfl
      refine congrArg₂ (· * ·) (congrArg (· * _) ?_) ?_
      · rw [hq]
        exact congrArg X (congrArg₂ ix2 (Fin.ext (by simp only []; omega)) (Fin.ext (by simp only []; omega)))
      · unfold cat
        by_cases hn : 64 * (r.val / 64) + k.val < 512
        · rw [dif_pos hn, hkp]
          exact congrArg X (congrArg₂ ix2 (Fin.ext (by simp only []; omega)) (Fin.ext (by simp only []; omega)))
        · rw [dif_neg hn, hkc]
          exact congrArg X (congrArg₂ ix2 (Fin.ext (by simp only []; omega)) (Fin.ext (by simp only []; omega)))
    · rw [if_neg hc, dif_neg (by omega)]
  · intro n hn
    rw [hb, pad_out B _ r n hn, EReal.add_bot]
    split_ifs <;> rfl
  · intro k hk
    have hk' : 512 ≤ 64 * (8 * j.val + r.val / 64) + k.val := by
      by_contra hc
      refine hk ?_
      unfold bandScore
      rw [dif_neg hc]
    unfold bandValue cat
    rw [dif_pos hk']
    by_cases hn : 64 * (r.val / 64) + k.val < 512
    · rw [dif_pos hn, hvp]
      exact congrArg X (congrArg₂ ix2 (Fin.ext (by simp only []; omega)) (Fin.ext (by simp only []; omega)))
    · rw [dif_neg hn, hvc]
      exact congrArg X (congrArg₂ ix2 (Fin.ext (by simp only []; omega)) (Fin.ext (by simp only []; omega)))
  · obtain ⟨a, ha⟩ := score_real H ⟨8 * j.val + r.val / 64, by omega⟩ b ⟨2 * hp.val + h.val, by omega⟩ ⟨r.val % 64, by omega⟩ ⟨512, by omega⟩ (by simp only []; omega)
    rw [ha]; exact EReal.coe_ne_bot a

end Cert.Bridge

end
-- ==== Proof.Final.lean ====
module

public import proofs.«01_k».proof.Proof.Blocks
public import proofs.«01_k».proof.Proof.Bridge
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Block Cert.KernelIdeal.Blocks

variable (m : (ℓ : Loc nD τ sig) → Buf (Elt Ideal) ℓ)

/-- The block written at a grid point, at a row and a lane. -/
theorem point_at (c : Dev nD) (H : Bridge.Finite (m ((c.tc : Thread nD τ).loc main_arg0)) (m ((c.tc : Thread nD τ).loc main_arg1)))
    (t : Fin cfg0.N) (ht : t.val < 256) (r : Fin 512) (l : Fin 128) :
    out0_6 (F := Ideal) (grid0.coords t) (iblk m c 0 t) (iblk m c 1 t) (iblk m c 2 t) (iblk m c 3 t) (iblk m c 4 t) (iblk m c 5 t) (ix2 r l)
      = ReferenceIdeal.Read.REF (F := Ideal) (m ((c.tc : Thread nD τ).loc main_arg0)) (m ((c.tc : Thread nD τ).loc main_arg1))
          (ix2 (⟨8192 * (t.val / 128) + 512 * (t.val % 16) + r.val, by omega⟩ : Fin 16384) (⟨128 * (t.val / 16 % 8) + l.val, by omega⟩ : Fin 1024)) := by
  obtain ⟨h0, h1, h2, h3, h4, h5, h6, h7⟩ := idx t
  rw [out_at _ _ _ _ _ _ _ r l ⟨l.val / 64, by omega⟩ rfl, h7]
  exact Bridge.block_eq H ⟨t.val / 128, by omega⟩ ⟨t.val / 16 % 8, by omega⟩ ⟨t.val % 16, by omega⟩ _ _ _ _ _ _
    (q_at m c t ht) (kp_at m c t ht) (kc_at m c t ht) (vp_at m c t ht) (vc_at m c t ht) (b_at m c t ht) r l ⟨l.val / 64, by omega⟩ rfl

/-- The same at an index of the array. -/
theorem point (c : Dev nD) (H : Bridge.Finite (m ((c.tc : Thread nD τ).loc main_arg0)) (m ((c.tc : Thread nD τ).loc main_arg1)))
    (t : Fin cfg0.N) (y : S512x128.Idx) (Y : FVec Ideal S16384x1024 .bf16) (hY : Y = ReferenceIdeal.Read.REF (F := Ideal) (m ((c.tc : Thread nD τ).loc main_arg0)) (m ((c.tc : Thread nD τ).loc main_arg1))) :
    out0_6 (F := Ideal) (grid0.coords t) (iblk m c 0 t) (iblk m c 1 t) (iblk m c 2 t) (iblk m c 3 t) (iblk m c 4 t) (iblk m c 5 t) y
      = Y (((cfg0.win 6).blk t).view.emb y) := by
  have ht : t.val < 256 := lt_of_lt_of_eq t.isLt (by decide +kernel)
  obtain ⟨r, l, rfl⟩ : ∃ (r : Fin 512) (l : Fin 128), y = ix2 r l := ⟨y 0, y 1, by funext a; fin_cases a <;> rfl⟩
  rw [point_at m c H t ht r l, ← hY]
  blk_point [idx t]

theorem final (c : Dev nD) (H : Bridge.Finite (m ((c.tc : Thread nD τ).loc main_arg0)) (m ((c.tc : Thread nD τ).loc main_arg1))) :
    (dats m 0 c).arrAt 6 (cfgs 0).N = ReferenceIdeal.Read.REF (F := Ideal) (m ((c.tc : Thread nD τ).loc main_arg0)) (m ((c.tc : Thread nD τ).loc main_arg1)) := by
  refine (dats m 0 c).arrAt_eq_of_covers 6 _ (by decide +kernel) fun t _ y => ?_
  blk_simp
  rw [after0_6]
  exact point m c H t y _ rfl

end Cert.KernelIdeal.Final

end
-- ==== Proof.Finite.lean ====
module

public import proofs.«01_k».proof.Proof.Bridge
public import proofs.«01_k».proof.Pre_finite_inputs
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

namespace Cert.Pre_finite_inputs

open Idealize.ShloMosaic Idealize.ShloMosaic.TcCoe Idealize.SL.Sem

instance facts : Facts where
  bitsLt_bf16_f32 := by decide
  slices_S16384x3072_S16384x2048_0_0 := by decide
  bcast_S_S16384x2048 := by decide
  reducesTo_S16384x2048_S_d0_1 := by decide
  h_S_ := by decide
  bcast_S_S16x257 := by decide
  reducesTo_S16x257_S_d0_1 := by decide

theorem top_at : Ideal.ofBits .f32 0x7F800000#32 = (⊤ : EReal) := by
  simp [Ideal.ofBits, Ideal.ieee]

theorem real_of_abs (x : EReal) (h : max x (-x) < ⊤) : ∃ a : ℝ, x = (a : EReal) := by
  refine ⟨x.toReal, (EReal.coe_toReal ?_ ?_).symm⟩
  · rintro rfl; simp at h
  · rintro rfl; simp at h

theorem lt_top_of {x : EReal} (h : BitVec.ofBool (decide (x < Ideal.ofBits .f32 0x7F800000#32)) = 1#1) : x < ⊤ := by
  rw [top_at] at h
  by_contra hc
  rw [decide_eq_false hc] at h
  exact absurd h (by decide)

/-- What the precondition says of the arrays. -/
theorem finite_of_pre (X : FVec Ideal S16384x3072 .bf16) (B : FVec Ideal S16x257 .f32) (h : fn (F := Ideal) X B = fun _ => 1#1) : Bridge.Finite X B := by
  have e := congrFun h (Shape.Idx.first Facts.h_S_)
  unfold fn at e
  obtain ⟨ex, eb⟩ := IntOp.andi_eq_one.1 e
  constructor
  · intro r l hl
    have hx := Host.reduce_andi_all _ _ _ _ _ ex (ix2 r (⟨l.val, hl⟩ : Fin 2048))
    pointwise [] at hx
    exact real_of_abs _ (lt_top_of hx)
  · intro a n
    have hx := Host.reduce_andi_all _ _ _ _ _ eb (ix2 a n)
    pointwise [] at hx
    exact real_of_abs _ (lt_top_of hx)

end Cert.Pre_finite_inputs

end
-- ==== Proof.WkvMath.lean ====
module

public import Idealize.ShloMosaic.Lib.Pointwise

@[expose] public section

noncomputable section

namespace Cert.Wkv

/-- The head a column or a tiled row belongs to, and the place within it. -/
def hd (x : Fin 256) : ℕ := x.val / 64
def tm (x : Fin 256) : ℕ := x.val % 64

/-- The sum over earlier times. -/
def cumT (lw : ℕ → Fin 256 → ℝ) (t : ℕ) (i : Fin 256) : ℝ := ∑ s ∈ Finset.range t, lw s i

theorem cumT_succ (lw : ℕ → Fin 256 → ℝ) (t : ℕ) (i : Fin 256) : cumT lw (t + 1) i = cumT lw t i + lw t i :=
  Finset.sum_range_succ _ _

/-- The state of four heads, keys by values, after `t` steps from `S0`. -/
def st (lw a b k v : ℕ → Fin 256 → ℝ) (S0 : Fin 256 → Fin 256 → ℝ) : ℕ → Fin 256 → Fin 256 → ℝ
  | 0 => S0
  | t + 1 => fun i j => Real.exp (lw t i) * st lw a b k v S0 t i j
      + if hd i = hd j then b t i * (∑ x, a t x * st lw a b k v S0 t x j) + k t i * v t j else 0

/-- What the step reads of the state. -/
def ut (lw a b k v : ℕ → Fin 256 → ℝ) (S0 : Fin 256 → Fin 256 → ℝ) (t : ℕ) (j : Fin 256) : ℝ :=
  ∑ x, a t x * st lw a b k v S0 t x j

/-- The output of a step. -/
def yt (lw a b k v r : ℕ → Fin 256 → ℝ) (S0 : Fin 256 → Fin 256 → ℝ) (t : ℕ) (j : Fin 256) : ℝ :=
  ∑ x, r t x * st lw a b k v S0 (t + 1) x j

variable (lw a b k v r : ℕ → Fin 256 → ℝ) (S0 : Fin 256 → Fin 256 → ℝ)

theorem st_diag (h0 : ∀ i j, hd i ≠ hd j → S0 i j = 0) (t : ℕ) (i j : Fin 256) (h : hd i ≠ hd j) :
    st lw a b k v S0 t i j = 0 := by
  induction t with
  | zero => exact h0 i j h
  | succ t ih => simp [st, ih, h]

theorem st_add (n t : ℕ) : st lw a b k v S0 (n + t) = st (fun s => lw (n + s)) (fun s => a (n + s)) (fun s => b (n + s)) (fun s => k (n + s)) (fun s => v (n + s)) (st lw a b k v S0 n) t := by
  induction t with
  | zero => rfl
  | succ t ih =>
    rw [← Nat.add_assoc]
    simp only [st]
    rw [ih]

/-- The state after `t` steps, its decay taken out. -/
theorem st_closed (t : ℕ) (i j : Fin 256) :
    st lw a b k v S0 t i j = Real.exp (cumT lw t i) * (S0 i j
      + if hd i = hd j then ∑ s ∈ Finset.range t, Real.exp (-cumT lw (s + 1) i) * (b s i * ut lw a b k v S0 s j + k s i * v s j) else 0) := by
  induction t with
  | zero => simp [st, cumT]
  | succ t ih =>
    have hst : st lw a b k v S0 (t + 1) i j = Real.exp (lw t i) * st lw a b k v S0 t i j
        + if hd i = hd j then b t i * ut lw a b k v S0 t j + k t i * v t j else 0 := rfl
    rw [hst, ih]
    have he : Real.exp (cumT lw (t + 1) i) = Real.exp (lw t i) * Real.exp (cumT lw t i) := by
      rw [cumT_succ, add_comm, Real.exp_add]
    split_ifs with h
    · rw [Finset.sum_range_succ]
      have h1 : Real.exp (cumT lw (t + 1) i) * Real.exp (-cumT lw (t + 1) i) = 1 := by
        rw [← Real.exp_add]; simp
      have : Real.exp (cumT lw (t + 1) i) * (S0 i j + (∑ x ∈ Finset.range t, Real.exp (-cumT lw (x + 1) i) * (b x i * ut lw a b k v S0 x j + k x i * v x j) + Real.exp (-cumT lw (t + 1) i) * (b t i * ut lw a b k v S0 t j + k t i * v t j)))
          = Real.exp (cumT lw (t + 1) i) * (S0 i j + ∑ x ∈ Finset.range t, Real.exp (-cumT lw (x + 1) i) * (b x i * ut lw a b k v S0 x j + k x i * v x j))
            + (Real.exp (cumT lw (t + 1) i) * Real.exp (-cumT lw (t + 1) i)) * (b t i * ut lw a b k v S0 t j + k t i * v t j) := by ring
      rw [this, h1, he]; ring
    · rw [he]; ring

/-- A sum over the tiled rows of one head at times before `t` is the sum over those times. -/
theorem sum_rows (h : ℕ) (hh : h < 4) (t : ℕ) (ht : t ≤ 64) (f : Fin 256 → ℝ) (g : ℕ → ℝ)
    (hfg : ∀ x : Fin 256, hd x = h → tm x < t → f x = g (tm x)) :
    (∑ x, if hd x = h ∧ tm x < t then f x else 0) = ∑ s ∈ Finset.range t, g s := by
  rw [← Finset.sum_filter]
  refine Finset.sum_bij (fun x _ => tm x) ?_ ?_ ?_ ?_
  · intro x hx
    exact Finset.mem_range.2 (Finset.mem_filter.1 hx).2.2
  · intro x hx y hy hxy
    have h1 := (Finset.mem_filter.1 hx).2.1
    have h2 := (Finset.mem_filter.1 hy).2.1
    simp only [hd, tm] at h1 h2 hxy
    exact Fin.ext (by omega)
  · intro s hs
    have hs' := Finset.mem_range.1 hs
    refine ⟨⟨64 * h + s, by omega⟩, Finset.mem_filter.2 ⟨Finset.mem_univ _, ?_, ?_⟩, ?_⟩
    · simp only [hd]; omega
    · simp only [tm]; omega
    · simp only [tm]; omega
  · intro x hx
    exact hfg x (Finset.mem_filter.1 hx).2.1 (Finset.mem_filter.1 hx).2.2

/-! The chunk's matrices. -/

abbrev Mat := Matrix (Fin 256) (Fin 256) ℝ

/-- A state as a matrix. -/
abbrev toMat (S : Fin 256 → Fin 256 → ℝ) : Mat := S

def same (x y : Fin 256) : ℝ := if hd x = hd y then 1 else 0
def strict (x y : Fin 256) : ℝ := if hd x = hd y ∧ tm y < tm x then 1 else 0
def incl (x y : Fin 256) : ℝ := if hd x = hd y ∧ tm y ≤ tm x then 1 else 0

def mA : Mat := fun x i => (a (tm x) i * Real.exp (cumT lw (tm x + 1) i - lw (tm x) i)) * same x i
def mR : Mat := fun x i => (r (tm x) i * Real.exp (cumT lw (tm x + 1) i)) * same x i
def mV : Mat := fun x j => v (tm x) j * same x j
def mBe : Mat := fun x i => (b (tm x) i * Real.exp (cumT lw 64 i - cumT lw (tm x + 1) i)) * same x i
def mKe : Mat := fun x i => (k (tm x) i * Real.exp (cumT lw 64 i - cumT lw (tm x + 1) i)) * same x i
def mBi : Mat := fun x i => b (tm x) i * Real.exp (0 - cumT lw (tm x + 1) i)
def mKi : Mat := fun x i => k (tm x) i * Real.exp (0 - cumT lw (tm x + 1) i)

def mL : Mat := fun x y => (∑ i, mA lw a x i * mBi lw b y i) * strict x y
def mLk : Mat := fun x y => (∑ i, mA lw a x i * mKi lw k y i) * strict x y
def mRb : Mat := fun x y => (∑ i, mR lw r x i * mBi lw b y i) * incl x y
def mRk : Mat := fun x y => (∑ i, mR lw r x i * mKi lw k y i) * incl x y
def mU : Mat := fun x j => ut lw a b k v S0 (tm x) j * same x j

theorem tm_lt (x : Fin 256) : tm x < 64 := Nat.mod_lt _ (by decide)
theorem hd_lt (x : Fin 256) : hd x < 4 := by have := x.isLt; simp only [hd]; omega

theorem same_comm (x y : Fin 256) : same x y = same y x := by simp only [same, eq_comm]

/-- What the state read at a time adds up to. -/
theorem read_eq (q : Fin 256 → ℝ) (h0 : ∀ i j, hd i ≠ hd j → S0 i j = 0) (t : ℕ) (ht : t ≤ 64) (x j : Fin 256) :
    (∑ i, q i * Real.exp (cumT lw t i) * same x i * S0 i j)
      + ((∑ y, ((∑ i, (q i * Real.exp (cumT lw t i) * same x i) * mBi lw b y i) * (if hd x = hd y ∧ tm y < t then 1 else 0)) * mU lw a b k v S0 y j)
      + ∑ y, ((∑ i, (q i * Real.exp (cumT lw t i) * same x i) * mKi lw k y i) * (if hd x = hd y ∧ tm y < t then 1 else 0)) * mV v y j)
      = (∑ i, q i * st lw a b k v S0 t i j) * same x j := by
  by_cases hxj : hd x = hd j
  · have hs : same x j = 1 := if_pos hxj
    rw [hs, mul_one]
    have e1 : (∑ y, ((∑ i, (q i * Real.exp (cumT lw t i) * same x i) * mBi lw b y i) * (if hd x = hd y ∧ tm y < t then 1 else 0)) * mU lw a b k v S0 y j)
        = ∑ s ∈ Finset.range t, (∑ i, (q i * Real.exp (cumT lw t i) * same x i) * (b s i * Real.exp (-cumT lw (s + 1) i))) * ut lw a b k v S0 s j := by
      rw [← sum_rows (hd x) (hd_lt x) t ht (fun y => (∑ i, (q i * Real.exp (cumT lw t i) * same x i) * mBi lw b y i) * mU lw a b k v S0 y j)]
      · refine Finset.sum_congr rfl fun y _ => ?_
        by_cases h : hd x = hd y ∧ tm y < t
        · rw [if_pos h, if_pos ⟨h.1.symm, h.2⟩, mul_one]
        · rw [if_neg h, if_neg (fun h' => h ⟨h'.1.symm, h'.2⟩)]; ring
      · intro y hy _
        have : same y j = 1 := if_pos (hy.trans hxj)
        simp only [mBi, mU, this, zero_sub, mul_one]
    have e2 : (∑ y, ((∑ i, (q i * Real.exp (cumT lw t i) * same x i) * mKi lw k y i) * (if hd x = hd y ∧ tm y < t then 1 else 0)) * mV v y j)
        = ∑ s ∈ Finset.range t, (∑ i, (q i * Real.exp (cumT lw t i) * same x i) * (k s i * Real.exp (-cumT lw (s + 1) i))) * v s j := by
      rw [← sum_rows (hd x) (hd_lt x) t ht (fun y => (∑ i, (q i * Real.exp (cumT lw t i) * same x i) * mKi lw k y i) * mV v y j)]
      · refine Finset.sum_congr rfl fun y _ => ?_
        by_cases h : hd x = hd y ∧ tm y < t
        · rw [if_pos h, if_pos ⟨h.1.symm, h.2⟩, mul_one]
        · rw [if_neg h, if_neg (fun h' => h ⟨h'.1.symm, h'.2⟩)]; ring
      · intro y hy _
        have : same y j = 1 := if_pos (hy.trans hxj)
        simp only [mKi, mV, this, zero_sub, mul_one]
    rw [e1, e2, ← Finset.sum_add_distrib]
    simp only [Finset.sum_mul]
    simp only [← Finset.sum_add_distrib]
    rw [Finset.sum_comm, ← Finset.sum_add_distrib]
    refine Finset.sum_congr rfl fun i _ => ?_
    rw [st_closed]
    by_cases hi : hd i = hd j
    · have : same x i = 1 := if_pos (hxj.trans hi.symm)
      rw [if_pos hi, this, mul_add, mul_add, Finset.mul_sum, Finset.mul_sum]
      congr 1
      · ring
      · refine Finset.sum_congr rfl fun s _ => ?_
        ring
    · have : same x i = 0 := if_neg (fun h => hi (h.symm.trans hxj))
      rw [if_neg hi, this, h0 i j hi]
      simp
  · have hs : same x j = 0 := if_neg hxj
    rw [hs, mul_zero]
    have e0 : (∑ i, q i * Real.exp (cumT lw t i) * same x i * S0 i j) = 0 := by
      refine Finset.sum_eq_zero fun i _ => ?_
      by_cases hi : hd x = hd i
      · rw [h0 i j (fun h => hxj (hi.trans h)), mul_zero]
      · have : same x i = 0 := if_neg hi
        rw [this]; ring
    have e1 : ∀ (A B : Fin 256 → ℝ), (∑ y, (A y * (if hd x = hd y ∧ tm y < t then 1 else 0)) * (B y * same y j)) = 0 := by
      intro A B
      refine Finset.sum_eq_zero fun y _ => ?_
      by_cases hy : hd x = hd y ∧ tm y < t
      · have : same y j = 0 := if_neg (fun h => hxj (hy.1.trans h))
        rw [this]; ring
      · rw [if_neg hy]; ring
    have e2 := e1 (fun y => ∑ i, (q i * Real.exp (cumT lw t i) * same x i) * mBi lw b y i) (fun y => ut lw a b k v S0 (tm y) j)
    have e3 := e1 (fun y => ∑ i, (q i * Real.exp (cumT lw t i) * same x i) * mKi lw k y i) (fun y => v (tm y) j)
    simp only [mU, mV]
    rw [e0, e2, e3]; ring

theorem solve (h0 : ∀ i j, hd i ≠ hd j → S0 i j = 0) :
    mA lw a * toMat S0 + mLk lw a k * mV v = (1 - mL lw a b) * mU lw a b k v S0 := by
  rw [sub_mul, one_mul, eq_sub_iff_add_eq]
  ext x j
  have h := read_eq lw a b k v S0 (a (tm x)) h0 (tm x) (tm_lt x).le x j
  simp only [Matrix.add_apply, Matrix.mul_apply]
  have hu : mU lw a b k v S0 x j = (∑ i, a (tm x) i * st lw a b k v S0 (tm x) i j) * same x j := rfl
  rw [hu, ← h]
  have hA : ∀ i, mA lw a x i = a (tm x) i * Real.exp (cumT lw (tm x) i) * same x i := by
    intro i; simp only [mA]; rw [cumT_succ, add_sub_cancel_right]
  simp only [mL, mLk, hA, strict]
  ring

theorem mL_pow (n : ℕ) (x y : Fin 256) (h : tm x < tm y + n) : (mL lw a b ^ n) x y = 0 := by
  induction n generalizing x y with
  | zero =>
    rw [pow_zero, Matrix.one_apply_ne]
    rintro rfl; omega
  | succ n ih =>
    rw [pow_succ, Matrix.mul_apply]
    refine Finset.sum_eq_zero fun z _ => ?_
    by_cases hz : tm x < tm z + n
    · rw [ih x z hz, zero_mul]
    · have : strict z y = 0 := if_neg (fun h' => by have := h'.2; omega)
      simp only [mL, this]; ring

theorem mL_64 : mL lw a b ^ 64 = 0 := by
  ext x y
  exact mL_pow lw a b 64 x y (by have := tm_lt x; omega)

/-- The doubling that inverts one less the chunk's matrix. -/
def dbl (L : Mat) : ℕ → Mat × Mat
  | 0 => (L, 1 + L)
  | n + 1 => let p := dbl L n; (p.1 * p.1, p.2 + p.2 * (p.1 * p.1))

theorem dbl_fst (L : Mat) (n : ℕ) : (dbl L n).1 = L ^ (2 ^ n) := by
  induction n with
  | zero => simp [dbl]
  | succ n ih => simp only [dbl]; rw [ih, ← pow_add]; congr 1; rw [pow_succ]; ring

theorem dbl_snd (L : Mat) (n : ℕ) : (dbl L n).2 * (1 - L) = 1 - L ^ (2 ^ (n + 1)) := by
  induction n with
  | zero => simp only [dbl]; rw [zero_add, pow_one, pow_two]; noncomm_ring
  | succ n ih =>
    have hp := dbl_fst L (n + 1)
    simp only [dbl] at hp ⊢
    rw [hp, add_mul, mul_assoc]
    have hc : L ^ 2 ^ (n + 1) * (1 - L) = (1 - L) * L ^ 2 ^ (n + 1) := by
      rw [mul_sub, sub_mul, mul_one, one_mul, ← pow_succ, ← pow_succ']
    rw [hc, ← mul_assoc, ih, pow_succ 2 (n + 1), pow_mul, pow_two]
    noncomm_ring

theorem inv_mul (B : Mat) : (dbl (mL lw a b) 5).2 * ((1 - mL lw a b) * B) = B := by
  rw [← mul_assoc, dbl_snd]
  have : (2 : ℕ) ^ (5 + 1) = 64 := by norm_num
  rw [this, mL_64, sub_zero, one_mul]

/-- The chunk's transition applied to a state. -/
theorem chunk_state (h0 : ∀ i j, hd i ≠ hd j → S0 i j = 0) :
    (Matrix.diagonal (fun i => Real.exp (cumT lw 64 i)) + (mBe lw b).transpose * ((dbl (mL lw a b) 5).2 * mA lw a)) * toMat S0
      + ((mBe lw b).transpose * ((dbl (mL lw a b) 5).2 * (mLk lw a k * mV v)) + (mKe lw k).transpose * mV v)
      = toMat (st lw a b k v S0 64) := by
  have h1 : (Matrix.diagonal (fun i => Real.exp (cumT lw 64 i)) + (mBe lw b).transpose * ((dbl (mL lw a b) 5).2 * mA lw a)) * toMat S0
      + ((mBe lw b).transpose * ((dbl (mL lw a b) 5).2 * (mLk lw a k * mV v)) + (mKe lw k).transpose * mV v)
      = Matrix.diagonal (fun i => Real.exp (cumT lw 64 i)) * toMat S0 + ((mBe lw b).transpose * ((dbl (mL lw a b) 5).2 * (mA lw a * toMat S0 + mLk lw a k * mV v)) + (mKe lw k).transpose * mV v) := by
    noncomm_ring
  rw [h1, solve lw a b k v S0 h0, inv_mul]
  refine Matrix.ext fun i j => ?_
  rw [show toMat (st lw a b k v S0 64) i j = st lw a b k v S0 64 i j from rfl]
  rw [st_closed]
  simp only [Matrix.add_apply]
  rw [Matrix.diagonal_mul]
  simp only [Matrix.mul_apply, Matrix.transpose_apply]
  rw [mul_add]
  congr 1
  rw [← Finset.sum_add_distrib]
  by_cases hij : hd i = hd j
  · rw [if_pos hij, Finset.mul_sum]
    rw [← sum_rows (hd i) (hd_lt i) 64 le_rfl (fun y => mBe lw b y i * mU lw a b k v S0 y j + mKe lw k y i * mV v y j)]
    · refine Finset.sum_congr rfl fun y _ => ?_
      by_cases hy : hd y = hd i
      · rw [if_pos ⟨hy, tm_lt y⟩]
      · have : same y i = 0 := if_neg hy
        rw [if_neg (fun h => hy h.1)]
        simp only [mBe, mKe, this]; ring
    · intro y hy _
      have e1 : same y i = 1 := if_pos hy
      have e2 : same y j = 1 := if_pos (hy.trans hij)
      simp only [mBe, mKe, mU, mV, e1, e2]
      rw [sub_eq_add_neg, Real.exp_add]; ring
  · rw [if_neg hij, mul_zero]
    refine Finset.sum_eq_zero fun y _ => ?_
    by_cases hy : hd y = hd i
    · have : same y j = 0 := if_neg (fun h => hij (hy.symm.trans h))
      simp only [mU, mV, this]; ring
    · have : same y i = 0 := if_neg hy
      simp only [mBe, mKe, this]; ring

/-- The chunk's output, a head's rows at a time. -/
theorem chunk_out (h0 : ∀ i j, hd i ≠ hd j → S0 i j = 0) (x j : Fin 256) :
    ((mR lw r + mRb lw b r * ((dbl (mL lw a b) 5).2 * mA lw a)) * toMat S0
      + (mRb lw b r * ((dbl (mL lw a b) 5).2 * (mLk lw a k * mV v)) + mRk lw k r * mV v)) x j
      = yt lw a b k v r S0 (tm x) j * same x j := by
  have h1 : (mR lw r + mRb lw b r * ((dbl (mL lw a b) 5).2 * mA lw a)) * toMat S0
      + (mRb lw b r * ((dbl (mL lw a b) 5).2 * (mLk lw a k * mV v)) + mRk lw k r * mV v)
      = mR lw r * toMat S0 + (mRb lw b r * ((dbl (mL lw a b) 5).2 * (mA lw a * toMat S0 + mLk lw a k * mV v)) + mRk lw k r * mV v) := by
    noncomm_ring
  rw [h1, solve lw a b k v S0 h0, inv_mul]
  have h := read_eq lw a b k v S0 (r (tm x)) h0 (tm x + 1) (tm_lt x) x j
  have hy : yt lw a b k v r S0 (tm x) j = ∑ i, r (tm x) i * st lw a b k v S0 (tm x + 1) i j := rfl
  rw [hy, ← h]
  simp only [Matrix.add_apply, Matrix.mul_apply, mRb, mRk, mR, incl, Nat.lt_succ_iff]

/-- The four heads' rows of one time add up to the time's output. -/
theorem sum_heads (g : Fin 256 → ℝ) (t : ℕ) (ht : t < 64) (j : Fin 256) (y : ℝ) (f : Fin 256 → ℝ)
    (hf : ∀ x, tm x = t → f x = y * same x j) :
    f ⟨t, by omega⟩ + f ⟨64 + t, by omega⟩ + f ⟨128 + t, by omega⟩ + f ⟨192 + t, by omega⟩ = y := by
  have e : ∀ n (hn : n < 4) (hl : 64 * n + t < 256), f ⟨64 * n + t, hl⟩ = if hd j = n then y else 0 := by
    intro n hn hl
    rw [hf _ (by simp only [tm]; omega)]
    have : hd (⟨64 * n + t, hl⟩ : Fin 256) = n := by simp only [hd]; omega
    simp only [same, this]
    by_cases h : hd j = n
    · rw [if_pos h.symm, if_pos h, mul_one]
    · rw [if_neg (fun h' => h h'.symm), if_neg h, mul_zero]
  have e0 := e 0 (by omega) (by omega)
  have e1 := e 1 (by omega) (by omega)
  have e2 := e 2 (by omega) (by omega)
  have e3 := e 3 (by omega) (by omega)
  simp only [Nat.mul_zero, Nat.zero_add, Nat.mul_one] at e0 e1
  rw [e0, e1, e2, e3]
  have := hd_lt j
  interval_cases hd j <;> simp

end Cert.Wkv

end
-- ==== Proof.WkvChunk.lean ====
module

public import proofs.«01_k».proof.Proof.Gen.Kernel7Ideal.Skeleton
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

abbrev V64 := FVec Ideal S64x256 .f32
abbrev M16 := FVec Ideal S256x256 .bf16
abbrev M32 := FVec Ideal S256x256 .f32
abbrev W32 := FVec Ideal S256x512 .f32
abbrev W16 := FVec Ideal S256x512 .bf16

/-! ### The constant masks -/

def iR : IVec S256x256 32 := iota .tc S256x256 32 [0] iota_S256x256_d0_w32
def iC : IVec S256x256 32 := iota .tc S256x256 32 [1] iota_S256x256_d1_w32
def kSame : IVec S256x256 1 := k0_pay23 iC k0_pay20 k0_pay21 k0_pay22
def kOnes : M16 := k0_pay24 (F := Ideal) iC k0_pay20 k0_pay21 k0_pay22
def kEq0 : BitVec 1 := Scalar.cmpi .eq 64#32 0#32
def kStrict16 : M16 := k0_pay36 (F := Ideal) iC kSame (k0_pay32 iR) 64#32 kEq0
def kIncl16 : M16 := k0_pay37 (F := Ideal) iC kSame (k0_pay32 iR) 64#32 kEq0
def kStrict32 : M32 := k0_pay38 (F := Ideal) iC kSame (k0_pay32 iR) 64#32 kEq0
def kEye : M32 := k0_pay39 (F := Ideal) iR iC
def kTri : FVec Ideal S64x64 .bf16 := k0_pay35 (F := Ideal)

def headW (n : BitVec 32) : BitVec 32 := Scalar.select
        (IntOp.andi
          (IntOp.cmpi CmpIPredicate.ne
            (IntOp.subi (BitVec.setWidth 32 (IntOp.cmpi CmpIPredicate.sgt n 0#32))
              (BitVec.setWidth 32 (IntOp.cmpi CmpIPredicate.slt n 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector n 64#32) 0#32))
        (IntOp.subi (IntOp.divsi ArithUnit.vector n 64#32) 1#32)
        (IntOp.divsi ArithUnit.vector n 64#32)

def placeW (n : BitVec 32) : BitVec 32 := Scalar.select
      (IntOp.andi
        (IntOp.xori
          (IntOp.cmpi CmpIPredicate.slt
            (IntOp.remsi ArithUnit.vector n
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector n
            (Scalar.select (Scalar.cmpi CmpIPredicate.eq 64#32 0#32) 1#32 64#32))
          0#32))
      (IntOp.addi
        (IntOp.remsi ArithUnit.vector n
          (Scalar.select (Scalar.cmpi CmpIPredicate.eq 64#32 0#32) 1#32 64#32))
        (Scalar.select (Scalar.cmpi CmpIPredicate.eq 64#32 0#32) 1#32 64#32))
      (IntOp.remsi ArithUnit.vector n
        (Scalar.select (Scalar.cmpi CmpIPredicate.eq 64#32 0#32) 1#32 64#32))

theorem headW_eq (x : Fin 256) : headW (BitVec.ofNat 32 x.val) = BitVec.ofNat 32 (hd x) := by
  revert x; decide +kernel

theorem placeW_eq (x : Fin 256) : placeW (BitVec.ofNat 32 x.val) = BitVec.ofNat 32 (tm x) := by
  revert x; decide +kernel

theorem head_cmp (x y : Fin 4) : IntOp.cmpi CmpIPredicate.eq (BitVec.ofNat 32 x.val) (BitVec.ofNat 32 y.val) = if x.val = y.val then 1#1 else 0#1 := by
  revert x y; decide +kernel
theorem place_gt (x y : Fin 64) : IntOp.cmpi CmpIPredicate.sgt (BitVec.ofNat 32 x.val) (BitVec.ofNat 32 y.val) = if y.val < x.val then 1#1 else 0#1 := by
  revert x y; decide +kernel
theorem place_ge (x y : Fin 64) : IntOp.cmpi CmpIPredicate.sge (BitVec.ofNat 32 x.val) (BitVec.ofNat 32 y.val) = if y.val ≤ x.val then 1#1 else 0#1 := by
  revert x y; decide +kernel
theorem row_cmp (x y : Fin 256) : IntOp.cmpi CmpIPredicate.eq (BitVec.ofNat 32 x.val) (BitVec.ofNat 32 y.val) = if x = y then 1#1 else 0#1 := by
  have h : IntOp.cmpi CmpIPredicate.eq (BitVec.ofNat 32 x.val) (BitVec.ofNat 32 y.val) = BitVec.ofBool (BitVec.ofNat 32 x.val == BitVec.ofNat 32 y.val) := rfl
  have hx := x.isLt
  have hy := y.isLt
  rw [h]
  by_cases e : x = y
  · subst e; simp
  · have : BitVec.ofNat 32 x.val ≠ BitVec.ofNat 32 y.val := fun c => e (Fin.ext (by
      have := congrArg BitVec.toNat c
      simp only [BitVec.toNat_ofNat] at this
      omega))
    rw [if_neg e, beq_eq_false_iff_ne.mpr this]; rfl

theorem same_at (x y : Fin 256) : kSame (ix2 x y) = if hd x = hd y then 1#1 else 0#1 := by
  have h : kSame (ix2 x y) = IntOp.cmpi CmpIPredicate.eq (headW (BitVec.ofNat 32 x.val)) (headW (BitVec.ofNat 32 y.val)) := by
    pointwise [kSame, k0_pay23, k0_pay20, k0_pay21, k0_pay22, iC, iR]
    rfl
  rw [h, headW_eq, headW_eq]
  exact head_cmp ⟨hd x, hd_lt x⟩ ⟨hd y, hd_lt y⟩

theorem place_at (x y : Fin 256) : k0_pay32 iR (ix2 x y) = BitVec.ofNat 32 (tm x) := by
  rw [← placeW_eq]
  pointwise [k0_pay32, iR]
  rfl

theorem place2_at (x y : Fin 256) : k0_pay33 iC 64#32 kEq0 (ix2 x y) = BitVec.ofNat 32 (tm y) := by
  rw [← placeW_eq]
  pointwise [k0_pay33, iC, kEq0]
  rfl

theorem ones_at (x y : Fin 256) : kOnes (ix2 x y) = ((same x y : ℝ) : EReal) := by
  have h : kOnes (ix2 x y) = Scalar.select (kSame (ix2 x y)) (1 : EReal) 0 := by
    pointwise [kOnes, k0_pay24, kSame]
  rw [h, same_at, same]
  split_ifs <;> simp [Scalar.select]

theorem mask_at (x y : Fin 256) : k0_pay34 iC kSame (k0_pay32 iR) 64#32 kEq0 (ix2 x y) = if hd x = hd y ∧ tm y < tm x then 1#1 else 0#1 := by
  have h : k0_pay34 iC kSame (k0_pay32 iR) 64#32 kEq0 (ix2 x y) = IntOp.andi (kSame (ix2 x y)) (IntOp.cmpi CmpIPredicate.sgt (k0_pay32 iR (ix2 x y)) (k0_pay33 iC 64#32 kEq0 (ix2 x y))) := by
    unfold k0_pay34
    rfl
  rw [h, same_at, place_at, place2_at, place_gt ⟨tm x, tm_lt x⟩ ⟨tm y, tm_lt y⟩]
  by_cases h1 : hd x = hd y <;> by_cases h2 : tm y < tm x <;> simp [h1, h2] <;> rfl

theorem strict16_at (x y : Fin 256) : kStrict16 (ix2 x y) = ((strict x y : ℝ) : EReal) := by
  have h : kStrict16 (ix2 x y) = Scalar.select (k0_pay34 iC kSame (k0_pay32 iR) 64#32 kEq0 (ix2 x y)) (1 : EReal) 0 := by
    pointwise [kStrict16, k0_pay36]
  rw [h, mask_at, strict]
  split_ifs <;> simp [Scalar.select]

theorem strict32_at (x y : Fin 256) : kStrict32 (ix2 x y) = ((strict x y : ℝ) : EReal) := by
  have h : kStrict32 (ix2 x y) = Scalar.select (k0_pay34 iC kSame (k0_pay32 iR) 64#32 kEq0 (ix2 x y)) (1 : EReal) 0 := by
    pointwise [kStrict32, k0_pay38]
  rw [h, mask_at, strict]
  split_ifs <;> simp [Scalar.select]

theorem incl16_at (x y : Fin 256) : kIncl16 (ix2 x y) = ((incl x y : ℝ) : EReal) := by
  have h : kIncl16 (ix2 x y) = Scalar.select (IntOp.andi (kSame (ix2 x y)) (IntOp.cmpi CmpIPredicate.sge (k0_pay32 iR (ix2 x y)) (k0_pay33 iC 64#32 kEq0 (ix2 x y)))) (1 : EReal) 0 := by
    pointwise [kIncl16, k0_pay37]
  rw [h, same_at, place_at, place2_at, place_ge ⟨tm x, tm_lt x⟩ ⟨tm y, tm_lt y⟩, incl]
  by_cases h1 : hd x = hd y <;> by_cases h2 : tm y ≤ tm x <;> simp [h1, h2] <;> rfl

theorem eye_at (x y : Fin 256) : kEye (ix2 x y) = (((1 : Mat) x y : ℝ) : EReal) := by
  have h : kEye (ix2 x y) = Scalar.select (IntOp.cmpi CmpIPredicate.eq (BitVec.ofNat 32 x.val) (BitVec.ofNat 32 y.val)) (1 : EReal) 0 := by
    pointwise [kEye, k0_pay39, iR, iC]
  rw [h, row_cmp, Matrix.one_apply]
  split_ifs <;> simp [Scalar.select]

theorem tri_at (x y : Fin 64) : kTri (ix2 x y) = ((if y.val ≤ x.val then 1 else 0 : ℝ) : EReal) := by
  have h : kTri (ix2 x y) = Scalar.select (IntOp.cmpi CmpIPredicate.sge (BitVec.ofNat 32 x.val) (BitVec.ofNat 32 y.val)) (1 : EReal) 0 := by
    pointwise [kTri, k0_pay35]
  rw [h, place_ge]
  split_ifs <;> simp [Scalar.select]

/-! ### The steps of a chunk -/

def tile (x : V64) : M16 :=
  concatenate S256x256 0 [⟨S64x256, truncf .bf16 x bitsLt_bf16_f32⟩, ⟨S64x256, truncf .bf16 x bitsLt_bf16_f32⟩, ⟨S64x256, truncf .bf16 x bitsLt_bf16_f32⟩, ⟨S64x256, truncf .bf16 x bitsLt_bf16_f32⟩] concatenates_S64x256_S64x256_S64x256_S64x256_S256x256_d0
def tile32 (x : V64) : M32 :=
  concatenate S256x256 0 [⟨S64x256, x⟩, ⟨S64x256, x⟩, ⟨S64x256, x⟩, ⟨S64x256, x⟩] concatenates_S64x256_S64x256_S64x256_S64x256_S256x256_d0
def bd (x : V64) : M16 := mulf (tile x) kOnes
def t16 (x : M32) : M16 := truncf .bf16 x bitsLt_bf16_f32
def mm (A B : M16) : M32 := matmul dot_S256x256_S256x256_S256x256_1_0_0_1_n_n none A B (constant (F := Ideal) S256x256 .f32 0x00000000#32)
def mmT (A B : M16) : M32 := matmul dot_S256x256_S256x256_S256x256_0_0_1_1_n_n none A B (constant (F := Ideal) S256x256 .f32 0x00000000#32)
def mw (A : M16) (B : W16) : W32 := matmul dot_S256x256_S256x512_S256x512_1_0_0_1_n_n none A B (constant (F := Ideal) S256x512 .f32 0x00000000#32)
def mwT (A : M16) (B : W16) : W32 := matmul dot_S256x256_S256x512_S256x512_0_0_1_1_n_n none A B (constant (F := Ideal) S256x512 .f32 0x00000000#32)
def mt (B : FVec Ideal S64x256 .bf16) : V64 := matmul dot_S64x64_S64x256_S64x256_1_0_0_1_n_n none kTri B (constant (F := Ideal) S64x256 .f32 0x00000000#32)
def c16 (x : V64) : FVec Ideal S64x256 .bf16 := truncf .bf16 x bitsLt_bf16_f32
def lo (x : V64) : V64 := subf x (extf .f32 (c16 x) bitsLt_bf16_f32)
def kCum (lw : V64) : V64 := addf (addf (mt (c16 lw)) (mt (c16 (lo lw)))) (mt (c16 (lo (lo lw))))
def kP (cum : V64) : V64 := exp cum
def kI (cum : V64) : V64 := exp (subf (broadcast S64x256 (Scalar.ofBits (F := Ideal) .f32 0x00000000#32)) cum)
def kE (cum : V64) : V64 := exp (subf (broadcastTo S64x256 (extractStridedSlice S1x256 ![63, 0] cum slices_S64x256_o63_0_S1x256) broadcasts_S1x256_S64x256) cum)
def kRh (r cum : V64) : V64 := mulf r (kP cum)
def kA (a lw cum : V64) : M16 := bd (mulf a (exp (subf cum lw)))
def kR (r cum : V64) : M16 := bd (kRh r cum)
def kBe (b cum : V64) : M16 := bd (mulf b (kE cum))
def kBi (b cum : V64) : M16 := tile (mulf b (kI cum))
def kM (A R Bi Ki : M16) : FVec Ideal S512x512 .f32 :=
  matmul dot_S512x256_S512x256_S512x512_1_1_0_0_n_n none
    (concatenate S512x256 0 [⟨S256x256, A⟩, ⟨S256x256, R⟩] concatenates_S256x256_S256x256_S512x256_d0)
    (concatenate S512x256 0 [⟨S256x256, Bi⟩, ⟨S256x256, Ki⟩] concatenates_S256x256_S256x256_S512x256_d0)
    (constant (F := Ideal) S512x512 .f32 0x00000000#32)
def kL (m : FVec Ideal S512x512 .f32) : M32 := mulf (extractStridedSlice S256x256 ![0, 0] m slices_S512x512_o0_0_S256x256) kStrict32
def kLk (m : FVec Ideal S512x512 .f32) : M16 := mulf (t16 (extractStridedSlice S256x256 ![0, 256] m slices_S512x512_o0_256_S256x256)) kStrict16
def kRb (m : FVec Ideal S512x512 .f32) : M16 := mulf (t16 (extractStridedSlice S256x256 ![256, 0] m slices_S512x512_o256_0_S256x256)) kIncl16
def kRk (m : FVec Ideal S512x512 .f32) : M16 := mulf (t16 (extractStridedSlice S256x256 ![256, 256] m slices_S512x512_o256_256_S256x256)) kIncl16
def sq (p : M32) : M32 := mm (t16 p) (t16 p)
def up (t p : M32) : M32 := addf t (mm (t16 t) (t16 p))
def kT (l : M32) : M32 :=
  up (up (up (up (up (addf kEye l) (sq l)) (sq (sq l))) (sq (sq (sq l)))) (sq (sq (sq (sq l))))) (sq (sq (sq (sq (sq l)))))
def kTW (t : M32) (A Lk V : M16) : W16 :=
  truncf .bf16 (mw (t16 t) (concatenate S256x512 1 [⟨S256x256, A⟩, ⟨S256x256, t16 (mm Lk V)⟩] concatenates_S256x256_S256x256_S256x512_d1)) bitsLt_bf16_f32
def lft (w : W32) : M32 := extractStridedSlice S256x256 ![0, 0] w slices_S256x512_o0_0_S256x256
def rgt (w : W32) : M32 := extractStridedSlice S256x256 ![0, 256] w slices_S256x512_o0_256_S256x256
def kAc (cum : V64) (Be : M16) (tw : W16) : M16 :=
  t16 (addf (mulf kEye (broadcastTo S256x256 (extractStridedSlice S1x256 ![63, 0] (kP cum) slices_S64x256_o63_0_S1x256) broadcasts_S1x256_S256x256)) (lft (mwT Be tw)))
def kCc (Be Ke V : M16) (tw : W16) : M32 := addf (rgt (mwT Be tw)) (mmT Ke V)
def kQc (rh : V64) (Rb : M16) (tw : W16) : M16 :=
  t16 (addf (select kSame (tile32 rh) (broadcast S256x256 (Scalar.ofBits (F := Ideal) .f32 0x00000000#32))) (lft (mw Rb tw)))
def kYl (Rb Rk V : M16) (tw : W16) : M32 := addf (rgt (mw Rb tw)) (mm Rk V)
def kNext (ac : M16) (cc : M32) (s : M32) : M32 := addf (mm ac (t16 s)) cc
def kFold (y : M32) : V64 :=
  addf (addf (addf (extractStridedSlice S64x256 ![0, 0] y slices_S256x256_o0_0_S64x256) (extractStridedSlice S64x256 ![64, 0] y slices_S256x256_o64_0_S64x256)) (extractStridedSlice S64x256 ![128, 0] y slices_S256x256_o128_0_S64x256)) (extractStridedSlice S64x256 ![192, 0] y slices_S256x256_o192_0_S64x256)

/-! ### Their entries -/

theorem tile_at (x : V64) (r c : Fin 256) : tile x (ix2 r c) = x (ix2 (⟨tm r, tm_lt r⟩ : Fin 64) c) := by
  pointwise [tile]
  have := r.isLt
  split_ifs <;> congr 2 <;> apply Fin.ext <;> simp only [tm] <;> omega
theorem tile32_at (x : V64) (r c : Fin 256) : tile32 x (ix2 r c) = x (ix2 (⟨tm r, tm_lt r⟩ : Fin 64) c) := by
  pointwise [tile32]
  have := r.isLt
  split_ifs <;> congr 2 <;> apply Fin.ext <;> simp only [tm] <;> omega
theorem bd_at (x : V64) (r c : Fin 256) : bd x (ix2 r c) = x (ix2 (⟨tm r, tm_lt r⟩ : Fin 64) c) * ((same r c : ℝ) : EReal) := by
  rw [← tile_at x, ← ones_at]; rfl
theorem mm_at (A B : M16) (i j : Fin 256) : mm A B (ix2 i j) = ∑ k : Fin 256, A (ix2 i k) * B (ix2 k j) := by
  pointwise [mm]
theorem mmT_at (A B : M16) (i j : Fin 256) : mmT A B (ix2 i j) = ∑ k : Fin 256, A (ix2 k i) * B (ix2 k j) := by
  pointwise [mmT]
theorem mw_at (A : M16) (B : W16) (i : Fin 256) (j : Fin 512) : mw A B (ix2 i j) = ∑ k : Fin 256, A (ix2 i k) * B (ix2 k j) := by
  pointwise [mw]
theorem mwT_at (A : M16) (B : W16) (i : Fin 256) (j : Fin 512) : mwT A B (ix2 i j) = ∑ k : Fin 256, A (ix2 k i) * B (ix2 k j) := by
  pointwise [mwT]
theorem mt_at (B : FVec Ideal S64x256 .bf16) (i : Fin 64) (j : Fin 256) : mt B (ix2 i j) = ∑ k : Fin 64, kTri (ix2 i k) * B (ix2 k j) := by
  pointwise [mt]
theorem lft_at (w : W32) (i j : Fin 256) : lft w (ix2 i j) = w (ix2 i (⟨j.val, by omega⟩ : Fin 512)) := by
  pointwise [lft]
theorem rgt_at (w : W32) (i j : Fin 256) : rgt w (ix2 i j) = w (ix2 i (⟨256 + j.val, by omega⟩ : Fin 512)) := by
  pointwise [rgt]
theorem kL_at (A R Bi Ki : M16) (i j : Fin 256) : kL (kM A R Bi Ki) (ix2 i j) = (∑ k : Fin 256, A (ix2 i k) * Bi (ix2 j k)) * ((strict i j : ℝ) : EReal) := by
  rw [← strict32_at]
  pointwise [kL, kM]
theorem kLk_at (A R Bi Ki : M16) (i j : Fin 256) : kLk (kM A R Bi Ki) (ix2 i j) = (∑ k : Fin 256, A (ix2 i k) * Ki (ix2 j k)) * ((strict i j : ℝ) : EReal) := by
  rw [← strict16_at]
  pointwise [kLk, kM, t16]
theorem kRb_at (A R Bi Ki : M16) (i j : Fin 256) : kRb (kM A R Bi Ki) (ix2 i j) = (∑ k : Fin 256, R (ix2 i k) * Bi (ix2 j k)) * ((incl i j : ℝ) : EReal) := by
  rw [← incl16_at]
  pointwise [kRb, kM, t16]
theorem kRk_at (A R Bi Ki : M16) (i j : Fin 256) : kRk (kM A R Bi Ki) (ix2 i j) = (∑ k : Fin 256, R (ix2 i k) * Ki (ix2 j k)) * ((incl i j : ℝ) : EReal) := by
  rw [← incl16_at]
  pointwise [kRk, kM, t16]
theorem twL_at (t : M32) (A Lk V : M16) (i j : Fin 256) : kTW t A Lk V (ix2 i (⟨j.val, by omega⟩ : Fin 512)) = ∑ k : Fin 256, t (ix2 i k) * A (ix2 k j) := by
  pointwise [kTW, mw, t16]
theorem twR_at (t : M32) (A Lk V : M16) (i j : Fin 256) : kTW t A Lk V (ix2 i (⟨256 + j.val, by omega⟩ : Fin 512)) = ∑ k : Fin 256, t (ix2 i k) * mm Lk V (ix2 k j) := by
  pointwise [kTW, mw, t16]
theorem kFold_at (y : M32) (i : Fin 64) (j : Fin 256) : kFold y (ix2 i j) = y (ix2 (⟨i.val, by omega⟩ : Fin 256) j) + y (ix2 (⟨64 + i.val, by omega⟩ : Fin 256) j) + y (ix2 (⟨128 + i.val, by omega⟩ : Fin 256) j) + y (ix2 (⟨192 + i.val, by omega⟩ : Fin 256) j) := by
  pointwise [kFold]
theorem kE_at (cum : V64) (i : Fin 64) (j : Fin 256) : kE cum (ix2 i j) = Ideal.exp (cum (ix2 (63 : Fin 64) j) - cum (ix2 i j)) := by
  pointwise [kE]
theorem kI_at (cum : V64) (i : Fin 64) (j : Fin 256) : kI cum (ix2 i j) = Ideal.exp (0 - cum (ix2 i j)) := by
  pointwise [kI]
theorem kAc_at (cum : V64) (Be : M16) (tw : W16) (i j : Fin 256) : kAc cum Be tw (ix2 i j) = (((1 : Mat) i j : ℝ) : EReal) * Ideal.exp (cum (ix2 (63 : Fin 64) j)) + mwT Be tw (ix2 i (⟨j.val, by omega⟩ : Fin 512)) := by
  rw [← eye_at, ← lft_at (mwT Be tw)]
  pointwise [kAc, t16, kP]
theorem kQc_at (rh : V64) (Rb : M16) (tw : W16) (i j : Fin 256) : kQc rh Rb tw (ix2 i j) = Scalar.select (kSame (ix2 i j)) (rh (ix2 (⟨tm i, tm_lt i⟩ : Fin 64) j)) (0 : EReal) + mw Rb tw (ix2 i (⟨j.val, by omega⟩ : Fin 512)) := by
  rw [← tile32_at rh, ← lft_at (mw Rb tw)]
  pointwise [kQc, t16]

/-! ### A chunk of 64 times, from its six arrays -/

def cM (lw r a b k : V64) : FVec Ideal S512x512 .f32 :=
  kM (kA a lw (kCum lw)) (kR r (kCum lw)) (kBi b (kCum lw)) (kBi k (kCum lw))
def cTW (lw r a b k v : V64) : W16 :=
  kTW (kT (kL (cM lw r a b k))) (kA a lw (kCum lw)) (kLk (cM lw r a b k)) (bd v)
def cAc (lw r a b k v : V64) : M16 := kAc (kCum lw) (kBe b (kCum lw)) (cTW lw r a b k v)
def cCc (lw r a b k v : V64) : M32 := kCc (kBe b (kCum lw)) (kBe k (kCum lw)) (bd v) (cTW lw r a b k v)
def cQc (lw r a b k v : V64) : M16 := kQc (kRh r (kCum lw)) (kRb (cM lw r a b k)) (cTW lw r a b k v)
def cYl (lw r a b k v : V64) : M32 := kYl (kRb (cM lw r a b k)) (kRk (cM lw r a b k)) (bd v) (cTW lw r a b k v)
/-- The state after the chunk, and its outputs. -/
def cNext (lw r a b k v : V64) (s : M32) : M32 := kNext (cAc lw r a b k v) (cCc lw r a b k v) s
def cOut (lw r a b k v : V64) (s : M32) : V64 := kFold (kNext (cQc lw r a b k v) (cYl lw r a b k v) s)

end Cert.Kernel7Ideal.Chunk

end
-- ==== Proof.WkvFold.lean ====
module

public import proofs.«01_k».proof.Proof.Gen.Kernel7Ideal.Skeleton
public import proofs.«01_k».proof.Proof.WkvChunk
public import Idealize.ShloMosaic.Lib.Pipeline.ValueKit
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

abbrev Z := FVec Ideal S512x256 .f32
abbrev R1 := FVec Ideal S1x256 .f32
abbrev D64 := FVec Ideal S64x256 .bf16
abbrev D128 := FVec Ideal S128x256 .bf16

/-! ### A block of 512 times -/

def iV : IVec S512x256 32 := iota .tc S512x256 32 [0] iota_S512x256_d0_w32
def bR (z : Z) (l m : R1) : Z := k0_pay5 z l m
def bK (z : Z) (l m : R1) : Z := k0_pay8 z (k0_pay6 z l) m
def bV (z : Z) (l m : R1) : Z := k0_pay10 iV z l m
def bX (z : Z) (l : R1) : Z := k0_pay12 iV z l
def bLw (z : Z) (l m w0 : R1) (dec : D64) : Z := k0_pay15 z (bX z l) m w0 dec
def bA (z : Z) (l m a0 : R1) (icl : D64) : Z := k0_pay18 (k0_pay16 a0) (k0_pay17 z (bX z l) m icl)
def bG (z : Z) (l m : R1) (gt : D128) : Z := k0_pay19 (k0_pay14 z (bX z l) m) gt
def bKr (K : Z) (kk : R1) : Z := k0_pay25 K kk
def bN (K : Z) (kk : R1) : Z := k0_pay26 K iC k0_pay20 k0_pay21 k0_pay22 kk
def bK2 (K A : Z) (ka : R1) : Z := k0_pay28 K A ka
def bBon (R K V A : Z) (ka rk : R1) : Z := k0_pay29 R K V A kOnes ka rk
def bAv (K : Z) (kk : R1) : Z := k0_pay30 (bKr K kk) (bN K kk)
def bBv (A K : Z) (kk : R1) : Z := k0_pay31 A (bKr K kk) (bN K kk)
def s0 (x : Z) : V64 := extractStridedSlice S64x256 ![0, 0] x slices_S512x256_o0_0_S64x256
def s1 (x : Z) : V64 := extractStridedSlice S64x256 ![64, 0] x slices_S512x256_o64_0_S64x256
def s2 (x : Z) : V64 := extractStridedSlice S64x256 ![128, 0] x slices_S512x256_o128_0_S64x256
def s3 (x : Z) : V64 := extractStridedSlice S64x256 ![192, 0] x slices_S512x256_o192_0_S64x256
def s4 (x : Z) : V64 := extractStridedSlice S64x256 ![256, 0] x slices_S512x256_o256_0_S64x256
def s5 (x : Z) : V64 := extractStridedSlice S64x256 ![320, 0] x slices_S512x256_o320_0_S64x256
def s6 (x : Z) : V64 := extractStridedSlice S64x256 ![384, 0] x slices_S512x256_o384_0_S64x256
def s7 (x : Z) : V64 := extractStridedSlice S64x256 ![448, 0] x slices_S512x256_o448_0_S64x256
def T_0 (LW R A B K V : Z) (s : M32) : M32 := s
def T_1 (LW R A B K V : Z) (s : M32) : M32 := cNext (s0 LW) (s0 R) (s0 A) (s0 B) (s0 K) (s0 V) (T_0 LW R A B K V s)
def T_2 (LW R A B K V : Z) (s : M32) : M32 := cNext (s1 LW) (s1 R) (s1 A) (s1 B) (s1 K) (s1 V) (T_1 LW R A B K V s)
def T_3 (LW R A B K V : Z) (s : M32) : M32 := cNext (s2 LW) (s2 R) (s2 A) (s2 B) (s2 K) (s2 V) (T_2 LW R A B K V s)
def T_4 (LW R A B K V : Z) (s : M32) : M32 := cNext (s3 LW) (s3 R) (s3 A) (s3 B) (s3 K) (s3 V) (T_3 LW R A B K V s)
def T_5 (LW R A B K V : Z) (s : M32) : M32 := cNext (s4 LW) (s4 R) (s4 A) (s4 B) (s4 K) (s4 V) (T_4 LW R A B K V s)
def T_6 (LW R A B K V : Z) (s : M32) : M32 := cNext (s5 LW) (s5 R) (s5 A) (s5 B) (s5 K) (s5 V) (T_5 LW R A B K V s)
def T_7 (LW R A B K V : Z) (s : M32) : M32 := cNext (s6 LW) (s6 R) (s6 A) (s6 B) (s6 K) (s6 V) (T_6 LW R A B K V s)
def T_8 (LW R A B K V : Z) (s : M32) : M32 := cNext (s7 LW) (s7 R) (s7 A) (s7 B) (s7 K) (s7 V) (T_7 LW R A B K V s)
def bState (LW R A B K V : Z) (s : M32) : M32 := shapeCast S256x256 (T_8 LW R A B K V s) shapeCasts_S256x256_S256x256
def bY (LW R A B K V : Z) (s : M32) : Z :=
  concatenate S512x256 0 [⟨S64x256, cOut (s0 LW) (s0 R) (s0 A) (s0 B) (s0 K) (s0 V) (T_0 LW R A B K V s)⟩, ⟨S64x256, cOut (s1 LW) (s1 R) (s1 A) (s1 B) (s1 K) (s1 V) (T_1 LW R A B K V s)⟩, ⟨S64x256, cOut (s2 LW) (s2 R) (s2 A) (s2 B) (s2 K) (s2 V) (T_2 LW R A B K V s)⟩, ⟨S64x256, cOut (s3 LW) (s3 R) (s3 A) (s3 B) (s3 K) (s3 V) (T_3 LW R A B K V s)⟩, ⟨S64x256, cOut (s4 LW) (s4 R) (s4 A) (s4 B) (s4 K) (s4 V) (T_4 LW R A B K V s)⟩, ⟨S64x256, cOut (s5 LW) (s5 R) (s5 A) (s5 B) (s5 K) (s5 V) (T_5 LW R A B K V s)⟩, ⟨S64x256, cOut (s6 LW) (s6 R) (s6 A) (s6 B) (s6 K) (s6 V) (T_6 LW R A B K V s)⟩, ⟨S64x256, cOut (s7 LW) (s7 R) (s7 A) (s7 B) (s7 K) (s7 V) (T_7 LW R A B K V s)⟩] concatenates_S64x256_S64x256_S64x256_S64x256_S64x256_S64x256_S64x256_S64x256_S512x256_d0
def sum512 (y : Z) : Z :=
  addf (matmul dot_S512x256_S256x256_S512x256_1_0_0_1_n_n none (truncf .bf16 y bitsLt_bf16_f32) kOnes (constant (F := Ideal) S512x256 .f32 0x00000000#32))
    (matmul dot_S512x256_S256x256_S512x256_1_0_0_1_n_n none (truncf .bf16 (subf y (extf .f32 (truncf .bf16 y bitsLt_bf16_f32) bitsLt_bf16_f32)) bitsLt_bf16_f32) kOnes (constant (F := Ideal) S512x256 .f32 0x00000000#32))
def bOut (G Bon Y : Z) (lg lb : R1) : FVec Ideal S512x256 .bf16 :=
  k0_pay1 G Bon (k0_pay380 kOnes Y (sum512 Y) (k0_pay379 (F := Ideal)) lg) (k0_pay381 lb)

/-- The recurrence's state after the block, and its outputs, of the block's arguments. -/
def blkState (z0 z1 z2 z3 : Z) (l0 l1 l2 l3 m0 m1 m2 m3 w0 a0 kk ka : R1) (dec icl : D64) (s : M32) : M32 :=
  bState (bLw z3 l3 m3 w0 dec) (bR z0 l0 m0) (bAv (bK z1 l1 m1) kk) (bBv (bA z3 l3 m3 a0 icl) (bK z1 l1 m1) kk)
    (bK2 (bK z1 l1 m1) (bA z3 l3 m3 a0 icl) ka) (bV z2 l2 m2) s
def blkY (z0 z1 z2 z3 : Z) (l0 l1 l2 l3 m0 m1 m2 m3 w0 a0 kk ka : R1) (dec icl : D64) (s : M32) : Z :=
  bY (bLw z3 l3 m3 w0 dec) (bR z0 l0 m0) (bAv (bK z1 l1 m1) kk) (bBv (bA z3 l3 m3 a0 icl) (bK z1 l1 m1) kk)
    (bK2 (bK z1 l1 m1) (bA z3 l3 m3 a0 icl) ka) (bV z2 l2 m2) s
def blkOut (z0 z1 z2 z3 : Z) (l0 l1 l2 l3 m0 m1 m2 m3 w0 a0 kk ka rk lg lb : R1) (dec icl : D64) (gt : D128) (s : M32) : FVec Ideal S512x256 .bf16 :=
  bOut (bG z3 l3 m3 gt) (bBon (bR z0 l0 m0) (bK z1 l1 m1) (bV z2 l2 m2) (bA z3 l3 m3 a0 icl) ka rk)
    (blkY z0 z1 z2 z3 l0 l1 l2 l3 m0 m1 m2 m3 w0 a0 kk ka dec icl s) lg lb

def row0 (x : FVec Ideal S8x256 .f32) : R1 := View.ld (Val := Elt Ideal) (e' := .f32) x (Rect.unit (s := S8x256) ![0, 0] S1x256.size inb_S8x256_S1x256_0_0)
def row1 (x : FVec Ideal S8x256 .f32) : R1 := View.ld (Val := Elt Ideal) (e' := .f32) x (Rect.unit (s := S8x256) ![1, 0] S1x256.size inb_S8x256_S1x256_1_0)
def row2 (x : FVec Ideal S8x256 .f32) : R1 := View.ld (Val := Elt Ideal) (e' := .f32) x (Rect.unit (s := S8x256) ![2, 0] S1x256.size inb_S8x256_S1x256_2_0)
def row3 (x : FVec Ideal S8x256 .f32) : R1 := View.ld (Val := Elt Ideal) (e' := .f32) x (Rect.unit (s := S8x256) ![3, 0] S1x256.size inb_S8x256_S1x256_3_0)

def kBK (Bi Ki : M16) : FVec Ideal S512x256 .bf16 := concatenate S512x256 0 [⟨S256x256, Bi⟩, ⟨S256x256, Ki⟩] concatenates_S256x256_S256x256_S512x256_d0
def kRow (x : V64) : R1 := extractStridedSlice S1x256 ![63, 0] x slices_S64x256_o63_0_S1x256
def kSel (rh : V64) : M32 := select kSame (tile32 rh) (broadcast S256x256 (Scalar.ofBits (F := Ideal) .f32 0x00000000#32))
def kF2 (y : M32) : V64 := addf (extractStridedSlice S64x256 ![0, 0] y slices_S256x256_o0_0_S64x256) (extractStridedSlice S64x256 ![64, 0] y slices_S256x256_o64_0_S64x256)
def kF3 (y : M32) : V64 := addf (kF2 y) (extractStridedSlice S64x256 ![128, 0] y slices_S256x256_o128_0_S64x256)

theorem f23 : k0_pay23 (iota .tc S256x256 32 [1] iota_S256x256_d1_w32) k0_pay20 k0_pay21 k0_pay22 = kSame := by sl_kernel_rfl
theorem f24 : k0_pay24 (F := Ideal) (iota .tc S256x256 32 [1] iota_S256x256_d1_w32) k0_pay20 k0_pay21 k0_pay22 = kOnes := by sl_kernel_rfl
theorem f35 : k0_pay35 (F := Ideal) = kTri := by sl_kernel_rfl
theorem f36 : k0_pay36 (F := Ideal) (iota .tc S256x256 32 [1] iota_S256x256_d1_w32) kSame (k0_pay32 (iota .tc S256x256 32 [0] iota_S256x256_d0_w32)) 64#32 (Scalar.cmpi .eq 64#32 0#32) = kStrict16 := by sl_kernel_rfl
theorem f37 : k0_pay37 (F := Ideal) (iota .tc S256x256 32 [1] iota_S256x256_d1_w32) kSame (k0_pay32 (iota .tc S256x256 32 [0] iota_S256x256_d0_w32)) 64#32 (Scalar.cmpi .eq 64#32 0#32) = kIncl16 := by sl_kernel_rfl
theorem f38 : k0_pay38 (F := Ideal) (iota .tc S256x256 32 [1] iota_S256x256_d1_w32) kSame (k0_pay32 (iota .tc S256x256 32 [0] iota_S256x256_d0_w32)) 64#32 (Scalar.cmpi .eq 64#32 0#32) = kStrict32 := by sl_kernel_rfl
theorem f39 : k0_pay39 (F := Ideal) (iota .tc S256x256 32 [0] iota_S256x256_d0_w32) (iota .tc S256x256 32 [1] iota_S256x256_d1_w32) = kEye := by sl_kernel_rfl

variable (LW R A B K V : Z) (s : M32)

theorem q40 : k0_pay40 (F := Ideal) LW = s0 LW := by sl_kernel_rfl
theorem q41 : k0_pay41 (F := Ideal) LW = c16 (s0 LW) := by sl_kernel_rfl
theorem q42 : k0_pay42 (F := Ideal) LW = lo (s0 LW) := by sl_kernel_rfl
theorem q43 : k0_pay43 (F := Ideal) LW = c16 (lo (s0 LW)) := by sl_kernel_rfl
theorem q44 : k0_pay44 (F := Ideal) kTri (c16 (s0 LW)) (lo (s0 LW)) (c16 (lo (s0 LW))) = kCum (s0 LW) := by sl_kernel_rfl
theorem q45 : k0_pay45 (F := Ideal) LW kTri = kCum (s1 LW) := by sl_kernel_rfl
theorem q46 : k0_pay46 (F := Ideal) LW kTri = kCum (s2 LW) := by sl_kernel_rfl
theorem q47 : k0_pay47 (F := Ideal) LW kTri = kCum (s3 LW) := by sl_kernel_rfl
theorem q48 : k0_pay48 (F := Ideal) LW = s4 LW := by sl_kernel_rfl
theorem q49 : k0_pay49 (F := Ideal) kTri (s4 LW) = kCum (s4 LW) := by sl_kernel_rfl
theorem q50 : k0_pay50 (F := Ideal) LW kTri = kCum (s5 LW) := by sl_kernel_rfl
theorem q51 : k0_pay51 (F := Ideal) LW kTri = kCum (s6 LW) := by sl_kernel_rfl
theorem q52 : k0_pay52 (F := Ideal) LW = s7 LW := by sl_kernel_rfl
theorem q53 : k0_pay53 (F := Ideal) LW = c16 (s7 LW) := by sl_kernel_rfl
theorem q54 : k0_pay54 (F := Ideal) LW = lo (s7 LW) := by sl_kernel_rfl
theorem q55 : k0_pay55 (F := Ideal) LW = c16 (lo (s7 LW)) := by sl_kernel_rfl
theorem q56 : k0_pay56 (F := Ideal) LW = c16 (lo (lo (s7 LW))) := by sl_kernel_rfl
theorem q57 : k0_pay57 (F := Ideal) LW kTri = addf (mt (c16 (s7 LW))) (mt (c16 (lo (s7 LW)))) := by sl_kernel_rfl
theorem q58 : k0_pay58 (F := Ideal) kTri (c16 (lo (lo (s7 LW)))) (addf (mt (c16 (s7 LW))) (mt (c16 (lo (s7 LW))))) = kCum (s7 LW) := by sl_kernel_rfl
theorem q59 : k0_pay59 (F := Ideal) (kCum (s0 LW)) = kP (kCum (s0 LW)) := by sl_kernel_rfl
theorem q60 : k0_pay60 (F := Ideal) (kCum (s0 LW)) = kE (kCum (s0 LW)) := by sl_kernel_rfl
theorem q61 : k0_pay61 (F := Ideal) R (kCum (s0 LW)) = kRh (s0 R) (kCum (s0 LW)) := by sl_kernel_rfl
theorem q62 : k0_pay62 (F := Ideal) LW kOnes A (kCum (s0 LW)) = kA (s0 A) (s0 LW) (kCum (s0 LW)) := by sl_kernel_rfl
theorem q63 : k0_pay63 (F := Ideal) R kOnes (kCum (s0 LW)) = kR (s0 R) (kCum (s0 LW)) := by sl_kernel_rfl
theorem q64 : k0_pay64 (F := Ideal) V kOnes = bd (s0 V) := by sl_kernel_rfl
theorem q65 : k0_pay65 (F := Ideal) kOnes B (kCum (s0 LW)) = kBe (s0 B) (kCum (s0 LW)) := by sl_kernel_rfl
theorem q66 : k0_pay66 (F := Ideal) kOnes K (kCum (s0 LW)) = kBe (s0 K) (kCum (s0 LW)) := by sl_kernel_rfl
theorem q67 : k0_pay67 (F := Ideal) K B (kCum (s0 LW)) = kBK (kBi (s0 B) (kCum (s0 LW))) (kBi (s0 K) (kCum (s0 LW))) := by sl_kernel_rfl
theorem q68 : k0_pay68 (F := Ideal) (kCum (s0 LW)) = kRow (kP (kCum (s0 LW))) := by sl_kernel_rfl
theorem q69 : k0_pay69 (F := Ideal) LW = s1 LW := by sl_kernel_rfl
theorem q70 : k0_pay70 (F := Ideal) (kCum (s1 LW)) = kP (kCum (s1 LW)) := by sl_kernel_rfl
theorem q71 : k0_pay71 (F := Ideal) (kCum (s1 LW)) = kI (kCum (s1 LW)) := by sl_kernel_rfl
theorem q72 : k0_pay72 (F := Ideal) (kCum (s1 LW)) = kE (kCum (s1 LW)) := by sl_kernel_rfl
theorem q73 : k0_pay73 (F := Ideal) R = s1 R := by sl_kernel_rfl
theorem q74 : k0_pay74 (F := Ideal) (kP (kCum (s1 LW))) (s1 R) = kRh (s1 R) (kCum (s1 LW)) := by sl_kernel_rfl
theorem q75 : k0_pay75 (F := Ideal) kOnes A (kCum (s1 LW)) (s1 LW) = kA (s1 A) (s1 LW) (kCum (s1 LW)) := by sl_kernel_rfl
theorem q76 : k0_pay76 (F := Ideal) kOnes (kP (kCum (s1 LW))) (s1 R) = kR (s1 R) (kCum (s1 LW)) := by sl_kernel_rfl
theorem q77 : k0_pay77 (F := Ideal) V kOnes = bd (s1 V) := by sl_kernel_rfl
theorem q78 : k0_pay78 (F := Ideal) kOnes B (kE (kCum (s1 LW))) = kBe (s1 B) (kCum (s1 LW)) := by sl_kernel_rfl
theorem q79 : k0_pay79 (F := Ideal) kOnes K (kE (kCum (s1 LW))) = kBe (s1 K) (kCum (s1 LW)) := by sl_kernel_rfl
theorem q80 : k0_pay80 (F := Ideal) K B (kI (kCum (s1 LW))) = kBK (kBi (s1 B) (kCum (s1 LW))) (kBi (s1 K) (kCum (s1 LW))) := by sl_kernel_rfl
theorem q81 : k0_pay81 (F := Ideal) (kP (kCum (s1 LW))) = kRow (kP (kCum (s1 LW))) := by sl_kernel_rfl
theorem q82 : k0_pay82 (F := Ideal) (kCum (s2 LW)) = kP (kCum (s2 LW)) := by sl_kernel_rfl
theorem q83 : k0_pay83 (F := Ideal) (kCum (s2 LW)) = kI (kCum (s2 LW)) := by sl_kernel_rfl
theorem q84 : k0_pay84 (F := Ideal) (kCum (s2 LW)) = kE (kCum (s2 LW)) := by sl_kernel_rfl
theorem q85 : k0_pay85 (F := Ideal) R (kCum (s2 LW)) = kRh (s2 R) (kCum (s2 LW)) := by sl_kernel_rfl
theorem q86 : k0_pay86 (F := Ideal) LW kOnes A (kCum (s2 LW)) = kA (s2 A) (s2 LW) (kCum (s2 LW)) := by sl_kernel_rfl
theorem q87 : k0_pay87 (F := Ideal) R kOnes (kCum (s2 LW)) = kR (s2 R) (kCum (s2 LW)) := by sl_kernel_rfl
theorem q88 : k0_pay88 (F := Ideal) V = tile (s2 V) := by sl_kernel_rfl
theorem q89 : k0_pay89 (F := Ideal) kOnes (tile (s2 V)) = bd (s2 V) := by sl_kernel_rfl
theorem q90 : k0_pay90 (F := Ideal) kOnes B (kE (kCum (s2 LW))) = kBe (s2 B) (kCum (s2 LW)) := by sl_kernel_rfl
theorem q91 : k0_pay91 (F := Ideal) kOnes K (kE (kCum (s2 LW))) = kBe (s2 K) (kCum (s2 LW)) := by sl_kernel_rfl
theorem q92 : k0_pay92 (F := Ideal) K B (kI (kCum (s2 LW))) = kBK (kBi (s2 B) (kCum (s2 LW))) (kBi (s2 K) (kCum (s2 LW))) := by sl_kernel_rfl
theorem q93 : k0_pay93 (F := Ideal) (kP (kCum (s2 LW))) = kRow (kP (kCum (s2 LW))) := by sl_kernel_rfl
theorem q94 : k0_pay94 (F := Ideal) (kCum (s3 LW)) = kP (kCum (s3 LW)) := by sl_kernel_rfl
theorem q95 : k0_pay95 (F := Ideal) (kCum (s3 LW)) = kI (kCum (s3 LW)) := by sl_kernel_rfl
theorem q96 : k0_pay96 (F := Ideal) (kCum (s3 LW)) = kE (kCum (s3 LW)) := by sl_kernel_rfl
theorem q97 : k0_pay97 (F := Ideal) R (kCum (s3 LW)) = kRh (s3 R) (kCum (s3 LW)) := by sl_kernel_rfl
theorem q98 : k0_pay98 (F := Ideal) LW kOnes A (kCum (s3 LW)) = kA (s3 A) (s3 LW) (kCum (s3 LW)) := by sl_kernel_rfl
theorem q99 : k0_pay99 (F := Ideal) R kOnes (kCum (s3 LW)) = kR (s3 R) (kCum (s3 LW)) := by sl_kernel_rfl
theorem q100 : k0_pay100 (F := Ideal) V kOnes = bd (s3 V) := by sl_kernel_rfl
theorem q101 : k0_pay101 (F := Ideal) kOnes B (kCum (s3 LW)) = kBe (s3 B) (kCum (s3 LW)) := by sl_kernel_rfl
theorem q102 : k0_pay102 (F := Ideal) kOnes K (kCum (s3 LW)) = kBe (s3 K) (kCum (s3 LW)) := by sl_kernel_rfl
theorem q103 : k0_pay103 (F := Ideal) B (kCum (s3 LW)) = c16 (mulf (s3 B) (kI (kCum (s3 LW)))) := by sl_kernel_rfl
theorem q104 : k0_pay104 (F := Ideal) K (kI (kCum (s3 LW))) (c16 (mulf (s3 B) (kI (kCum (s3 LW))))) = kBK (kBi (s3 B) (kCum (s3 LW))) (kBi (s3 K) (kCum (s3 LW))) := by sl_kernel_rfl
theorem q105 : k0_pay105 (F := Ideal) (kP (kCum (s3 LW))) = kRow (kP (kCum (s3 LW))) := by sl_kernel_rfl
theorem q106 : k0_pay106 (F := Ideal) (kCum (s4 LW)) = kP (kCum (s4 LW)) := by sl_kernel_rfl
theorem q107 : k0_pay107 (F := Ideal) (kCum (s4 LW)) = kE (kCum (s4 LW)) := by sl_kernel_rfl
theorem q108 : k0_pay108 (F := Ideal) R (kCum (s4 LW)) = kRh (s4 R) (kCum (s4 LW)) := by sl_kernel_rfl
theorem q109 : k0_pay109 (F := Ideal) LW kOnes A (kCum (s4 LW)) = kA (s4 A) (s4 LW) (kCum (s4 LW)) := by sl_kernel_rfl
theorem q110 : k0_pay110 (F := Ideal) R kOnes (kCum (s4 LW)) = kR (s4 R) (kCum (s4 LW)) := by sl_kernel_rfl
theorem q111 : k0_pay111 (F := Ideal) V kOnes = bd (s4 V) := by sl_kernel_rfl
theorem q112 : k0_pay112 (F := Ideal) kOnes B (kCum (s4 LW)) = kBe (s4 B) (kCum (s4 LW)) := by sl_kernel_rfl
theorem q113 : k0_pay113 (F := Ideal) kOnes K (kCum (s4 LW)) = kBe (s4 K) (kCum (s4 LW)) := by sl_kernel_rfl
theorem q114 : k0_pay114 (F := Ideal) K B (kCum (s4 LW)) = kBK (kBi (s4 B) (kCum (s4 LW))) (kBi (s4 K) (kCum (s4 LW))) := by sl_kernel_rfl
theorem q115 : k0_pay115 (F := Ideal) (kCum (s4 LW)) = kRow (kP (kCum (s4 LW))) := by sl_kernel_rfl
theorem q116 : k0_pay116 (F := Ideal) LW = s5 LW := by sl_kernel_rfl
theorem q117 : k0_pay117 (F := Ideal) (kCum (s5 LW)) = kP (kCum (s5 LW)) := by sl_kernel_rfl
theorem q118 : k0_pay118 (F := Ideal) (kCum (s5 LW)) = kI (kCum (s5 LW)) := by sl_kernel_rfl
theorem q119 : k0_pay119 (F := Ideal) (kCum (s5 LW)) = kRow (kCum (s5 LW)) := by sl_kernel_rfl
theorem q120 : k0_pay120 (F := Ideal) (kCum (s5 LW)) (kRow (kCum (s5 LW))) = kE (kCum (s5 LW)) := by sl_kernel_rfl
theorem q121 : k0_pay121 (F := Ideal) R (kP (kCum (s5 LW))) = kRh (s5 R) (kCum (s5 LW)) := by sl_kernel_rfl
theorem q122 : k0_pay122 (F := Ideal) kOnes A (kCum (s5 LW)) (s5 LW) = kA (s5 A) (s5 LW) (kCum (s5 LW)) := by sl_kernel_rfl
theorem q123 : k0_pay123 (F := Ideal) R kOnes (kP (kCum (s5 LW))) = kR (s5 R) (kCum (s5 LW)) := by sl_kernel_rfl
theorem q124 : k0_pay124 (F := Ideal) V kOnes = bd (s5 V) := by sl_kernel_rfl
theorem q125 : k0_pay125 (F := Ideal) kOnes B (kCum (s5 LW)) (kRow (kCum (s5 LW))) = kBe (s5 B) (kCum (s5 LW)) := by sl_kernel_rfl
theorem q126 : k0_pay126 (F := Ideal) kOnes K (kCum (s5 LW)) (kRow (kCum (s5 LW))) = kBe (s5 K) (kCum (s5 LW)) := by sl_kernel_rfl
theorem q127 : k0_pay127 (F := Ideal) K B (kI (kCum (s5 LW))) = kBK (kBi (s5 B) (kCum (s5 LW))) (kBi (s5 K) (kCum (s5 LW))) := by sl_kernel_rfl
theorem q128 : k0_pay128 (F := Ideal) (kP (kCum (s5 LW))) = kRow (kP (kCum (s5 LW))) := by sl_kernel_rfl
theorem q129 : k0_pay129 (F := Ideal) (kCum (s6 LW)) = kP (kCum (s6 LW)) := by sl_kernel_rfl
theorem q130 : k0_pay130 (F := Ideal) (kCum (s6 LW)) = kI (kCum (s6 LW)) := by sl_kernel_rfl
theorem q131 : k0_pay131 (F := Ideal) (kCum (s6 LW)) = kE (kCum (s6 LW)) := by sl_kernel_rfl
theorem q132 : k0_pay132 (F := Ideal) R (kCum (s6 LW)) = kRh (s6 R) (kCum (s6 LW)) := by sl_kernel_rfl
theorem q133 : k0_pay133 (F := Ideal) LW kOnes A (kCum (s6 LW)) = kA (s6 A) (s6 LW) (kCum (s6 LW)) := by sl_kernel_rfl
theorem q134 : k0_pay134 (F := Ideal) R (kCum (s6 LW)) = tile (kRh (s6 R) (kCum (s6 LW))) := by sl_kernel_rfl
theorem q135 : k0_pay135 (F := Ideal) kOnes (tile (kRh (s6 R) (kCum (s6 LW)))) = kR (s6 R) (kCum (s6 LW)) := by sl_kernel_rfl
theorem q136 : k0_pay136 (F := Ideal) V kOnes = bd (s6 V) := by sl_kernel_rfl
theorem q137 : k0_pay137 (F := Ideal) kOnes B (kE (kCum (s6 LW))) = kBe (s6 B) (kCum (s6 LW)) := by sl_kernel_rfl
theorem q138 : k0_pay138 (F := Ideal) kOnes K (kE (kCum (s6 LW))) = kBe (s6 K) (kCum (s6 LW)) := by sl_kernel_rfl
theorem q139 : k0_pay139 (F := Ideal) K B (kI (kCum (s6 LW))) = kBK (kBi (s6 B) (kCum (s6 LW))) (kBi (s6 K) (kCum (s6 LW))) := by sl_kernel_rfl
theorem q140 : k0_pay140 (F := Ideal) (kP (kCum (s6 LW))) = kRow (kP (kCum (s6 LW))) := by sl_kernel_rfl
theorem q141 : k0_pay141 (F := Ideal) (kCum (s7 LW)) = kP (kCum (s7 LW)) := by sl_kernel_rfl
theorem q142 : k0_pay142 (F := Ideal) (kCum (s7 LW)) = kI (kCum (s7 LW)) := by sl_kernel_rfl
theorem q143 : k0_pay143 (F := Ideal) (kCum (s7 LW)) = kE (kCum (s7 LW)) := by sl_kernel_rfl
theorem q144 : k0_pay144 (F := Ideal) R (kCum (s7 LW)) = kRh (s7 R) (kCum (s7 LW)) := by sl_kernel_rfl
theorem q145 : k0_pay145 (F := Ideal) LW kOnes A (kCum (s7 LW)) = kA (s7 A) (s7 LW) (kCum (s7 LW)) := by sl_kernel_rfl
theorem q146 : k0_pay146 (F := Ideal) R kOnes (kCum (s7 LW)) = kR (s7 R) (kCum (s7 LW)) := by sl_kernel_rfl
theorem q147 : k0_pay147 (F := Ideal) V kOnes = bd (s7 V) := by sl_kernel_rfl
theorem q148 : k0_pay148 (F := Ideal) kOnes B (kCum (s7 LW)) = kBe (s7 B) (kCum (s7 LW)) := by sl_kernel_rfl
theorem q149 : k0_pay149 (F := Ideal) K (kCum (s7 LW)) = tile (mulf (s7 K) (kE (kCum (s7 LW)))) := by sl_kernel_rfl
theorem q150 : k0_pay150 (F := Ideal) kOnes (tile (mulf (s7 K) (kE (kCum (s7 LW))))) = kBe (s7 K) (kCum (s7 LW)) := by sl_kernel_rfl
theorem q151 : k0_pay151 (F := Ideal) (kP (kCum (s7 LW))) = kRow (kP (kCum (s7 LW))) := by sl_kernel_rfl
theorem q152 : k0_pay152 (F := Ideal) (kA (s0 A) (s0 LW) (kCum (s0 LW))) (kR (s0 R) (kCum (s0 LW))) (kBK (kBi (s0 B) (kCum (s0 LW))) (kBi (s0 K) (kCum (s0 LW)))) = cM (s0 LW) (s0 R) (s0 A) (s0 B) (s0 K) := by sl_kernel_rfl
theorem q153 : k0_pay153 (F := Ideal) (kA (s1 A) (s1 LW) (kCum (s1 LW))) (kR (s1 R) (kCum (s1 LW))) (kBK (kBi (s1 B) (kCum (s1 LW))) (kBi (s1 K) (kCum (s1 LW)))) = cM (s1 LW) (s1 R) (s1 A) (s1 B) (s1 K) := by sl_kernel_rfl
theorem q154 : k0_pay154 (F := Ideal) (kA (s2 A) (s2 LW) (kCum (s2 LW))) (kR (s2 R) (kCum (s2 LW))) (kBK (kBi (s2 B) (kCum (s2 LW))) (kBi (s2 K) (kCum (s2 LW)))) = cM (s2 LW) (s2 R) (s2 A) (s2 B) (s2 K) := by sl_kernel_rfl
theorem q155 : k0_pay155 (F := Ideal) (kA (s3 A) (s3 LW) (kCum (s3 LW))) (kR (s3 R) (kCum (s3 LW))) (kBK (kBi (s3 B) (kCum (s3 LW))) (kBi (s3 K) (kCum (s3 LW)))) = cM (s3 LW) (s3 R) (s3 A) (s3 B) (s3 K) := by sl_kernel_rfl
theorem q156 : k0_pay156 (F := Ideal) (kA (s4 A) (s4 LW) (kCum (s4 LW))) (kR (s4 R) (kCum (s4 LW))) (kBK (kBi (s4 B) (kCum (s4 LW))) (kBi (s4 K) (kCum (s4 LW)))) = cM (s4 LW) (s4 R) (s4 A) (s4 B) (s4 K) := by sl_kernel_rfl
theorem q157 : k0_pay157 (F := Ideal) (kA (s5 A) (s5 LW) (kCum (s5 LW))) (kR (s5 R) (kCum (s5 LW))) (kBK (kBi (s5 B) (kCum (s5 LW))) (kBi (s5 K) (kCum (s5 LW)))) = cM (s5 LW) (s5 R) (s5 A) (s5 B) (s5 K) := by sl_kernel_rfl
theorem q158 : k0_pay158 (F := Ideal) (kA (s6 A) (s6 LW) (kCum (s6 LW))) (kR (s6 R) (kCum (s6 LW))) (kBK (kBi (s6 B) (kCum (s6 LW))) (kBi (s6 K) (kCum (s6 LW)))) = cM (s6 LW) (s6 R) (s6 A) (s6 B) (s6 K) := by sl_kernel_rfl
theorem q159 : k0_pay159 (F := Ideal) K B (kI (kCum (s7 LW))) (kA (s7 A) (s7 LW) (kCum (s7 LW))) (kR (s7 R) (kCum (s7 LW))) = cM (s7 LW) (s7 R) (s7 A) (s7 B) (s7 K) := by sl_kernel_rfl
theorem q160 : k0_pay160 (F := Ideal) kStrict32 (kA (s0 A) (s0 LW) (kCum (s0 LW))) (kR (s0 R) (kCum (s0 LW))) (kBK (kBi (s0 B) (kCum (s0 LW))) (kBi (s0 K) (kCum (s0 LW)))) = kL (cM (s0 LW) (s0 R) (s0 A) (s0 B) (s0 K)) := by sl_kernel_rfl
theorem q161 : k0_pay161 (F := Ideal) kStrict32 (kA (s1 A) (s1 LW) (kCum (s1 LW))) (kR (s1 R) (kCum (s1 LW))) (kBK (kBi (s1 B) (kCum (s1 LW))) (kBi (s1 K) (kCum (s1 LW)))) = kL (cM (s1 LW) (s1 R) (s1 A) (s1 B) (s1 K)) := by sl_kernel_rfl
theorem q162 : k0_pay162 (F := Ideal) kStrict32 (kA (s2 A) (s2 LW) (kCum (s2 LW))) (kR (s2 R) (kCum (s2 LW))) (kBK (kBi (s2 B) (kCum (s2 LW))) (kBi (s2 K) (kCum (s2 LW)))) = kL (cM (s2 LW) (s2 R) (s2 A) (s2 B) (s2 K)) := by sl_kernel_rfl
theorem q163 : k0_pay163 (F := Ideal) kStrict32 (kA (s3 A) (s3 LW) (kCum (s3 LW))) (kR (s3 R) (kCum (s3 LW))) (kBK (kBi (s3 B) (kCum (s3 LW))) (kBi (s3 K) (kCum (s3 LW)))) = kL (cM (s3 LW) (s3 R) (s3 A) (s3 B) (s3 K)) := by sl_kernel_rfl
theorem q164 : k0_pay164 (F := Ideal) kStrict32 (kA (s4 A) (s4 LW) (kCum (s4 LW))) (kR (s4 R) (kCum (s4 LW))) (kBK (kBi (s4 B) (kCum (s4 LW))) (kBi (s4 K) (kCum (s4 LW)))) = kL (cM (s4 LW) (s4 R) (s4 A) (s4 B) (s4 K)) := by sl_kernel_rfl
theorem q165 : k0_pay165 (F := Ideal) kStrict32 (kA (s5 A) (s5 LW) (kCum (s5 LW))) (kR (s5 R) (kCum (s5 LW))) (kBK (kBi (s5 B) (kCum (s5 LW))) (kBi (s5 K) (kCum (s5 LW)))) = kL (cM (s5 LW) (s5 R) (s5 A) (s5 B) (s5 K)) := by sl_kernel_rfl
theorem q166 : k0_pay166 (F := Ideal) kStrict32 (kA (s6 A) (s6 LW) (kCum (s6 LW))) (kR (s6 R) (kCum (s6 LW))) (kBK (kBi (s6 B) (kCum (s6 LW))) (kBi (s6 K) (kCum (s6 LW)))) = kL (cM (s6 LW) (s6 R) (s6 A) (s6 B) (s6 K)) := by sl_kernel_rfl
theorem q167 : k0_pay167 (F := Ideal) K B kStrict32 (kI (kCum (s7 LW))) (kA (s7 A) (s7 LW) (kCum (s7 LW))) (kR (s7 R) (kCum (s7 LW))) = kL (cM (s7 LW) (s7 R) (s7 A) (s7 B) (s7 K)) := by sl_kernel_rfl
theorem q168 : k0_pay168 (F := Ideal) kStrict16 (kA (s0 A) (s0 LW) (kCum (s0 LW))) (kR (s0 R) (kCum (s0 LW))) (kBK (kBi (s0 B) (kCum (s0 LW))) (kBi (s0 K) (kCum (s0 LW)))) = kLk (cM (s0 LW) (s0 R) (s0 A) (s0 B) (s0 K)) := by sl_kernel_rfl
theorem q169 : k0_pay169 (F := Ideal) kStrict16 (kA (s1 A) (s1 LW) (kCum (s1 LW))) (kR (s1 R) (kCum (s1 LW))) (kBK (kBi (s1 B) (kCum (s1 LW))) (kBi (s1 K) (kCum (s1 LW)))) = kLk (cM (s1 LW) (s1 R) (s1 A) (s1 B) (s1 K)) := by sl_kernel_rfl
theorem q170 : k0_pay170 (F := Ideal) kStrict16 (kA (s2 A) (s2 LW) (kCum (s2 LW))) (kR (s2 R) (kCum (s2 LW))) (kBK (kBi (s2 B) (kCum (s2 LW))) (kBi (s2 K) (kCum (s2 LW)))) = kLk (cM (s2 LW) (s2 R) (s2 A) (s2 B) (s2 K)) := by sl_kernel_rfl
theorem q171 : k0_pay171 (F := Ideal) kStrict16 (cM (s3 LW) (s3 R) (s3 A) (s3 B) (s3 K)) = kLk (cM (s3 LW) (s3 R) (s3 A) (s3 B) (s3 K)) := by sl_kernel_rfl
theorem q172 : k0_pay172 (F := Ideal) kStrict16 (cM (s4 LW) (s4 R) (s4 A) (s4 B) (s4 K)) = kLk (cM (s4 LW) (s4 R) (s4 A) (s4 B) (s4 K)) := by sl_kernel_rfl
theorem q173 : k0_pay173 (F := Ideal) kStrict16 (cM (s5 LW) (s5 R) (s5 A) (s5 B) (s5 K)) = kLk (cM (s5 LW) (s5 R) (s5 A) (s5 B) (s5 K)) := by sl_kernel_rfl
theorem q174 : k0_pay174 (F := Ideal) kStrict16 (cM (s6 LW) (s6 R) (s6 A) (s6 B) (s6 K)) = kLk (cM (s6 LW) (s6 R) (s6 A) (s6 B) (s6 K)) := by sl_kernel_rfl
theorem q175 : k0_pay175 (F := Ideal) kStrict16 (cM (s7 LW) (s7 R) (s7 A) (s7 B) (s7 K)) = kLk (cM (s7 LW) (s7 R) (s7 A) (s7 B) (s7 K)) := by sl_kernel_rfl
theorem q176 : k0_pay176 (F := Ideal) kIncl16 (cM (s0 LW) (s0 R) (s0 A) (s0 B) (s0 K)) = kRb (cM (s0 LW) (s0 R) (s0 A) (s0 B) (s0 K)) := by sl_kernel_rfl
theorem q177 : k0_pay177 (F := Ideal) kIncl16 (cM (s1 LW) (s1 R) (s1 A) (s1 B) (s1 K)) = kRb (cM (s1 LW) (s1 R) (s1 A) (s1 B) (s1 K)) := by sl_kernel_rfl
theorem q178 : k0_pay178 (F := Ideal) kIncl16 (cM (s2 LW) (s2 R) (s2 A) (s2 B) (s2 K)) = kRb (cM (s2 LW) (s2 R) (s2 A) (s2 B) (s2 K)) := by sl_kernel_rfl
theorem q179 : k0_pay179 (F := Ideal) kIncl16 (cM (s3 LW) (s3 R) (s3 A) (s3 B) (s3 K)) = kRb (cM (s3 LW) (s3 R) (s3 A) (s3 B) (s3 K)) := by sl_kernel_rfl
theorem q180 : k0_pay180 (F := Ideal) kIncl16 (cM (s4 LW) (s4 R) (s4 A) (s4 B) (s4 K)) = kRb (cM (s4 LW) (s4 R) (s4 A) (s4 B) (s4 K)) := by sl_kernel_rfl
theorem q181 : k0_pay181 (F := Ideal) kIncl16 (cM (s5 LW) (s5 R) (s5 A) (s5 B) (s5 K)) = kRb (cM (s5 LW) (s5 R) (s5 A) (s5 B) (s5 K)) := by sl_kernel_rfl
theorem q182 : k0_pay182 (F := Ideal) kIncl16 (cM (s6 LW) (s6 R) (s6 A) (s6 B) (s6 K)) = kRb (cM (s6 LW) (s6 R) (s6 A) (s6 B) (s6 K)) := by sl_kernel_rfl
theorem q183 : k0_pay183 (F := Ideal) kIncl16 (cM (s7 LW) (s7 R) (s7 A) (s7 B) (s7 K)) = kRb (cM (s7 LW) (s7 R) (s7 A) (s7 B) (s7 K)) := by sl_kernel_rfl
theorem q184 : k0_pay184 (F := Ideal) kIncl16 (cM (s0 LW) (s0 R) (s0 A) (s0 B) (s0 K)) = kRk (cM (s0 LW) (s0 R) (s0 A) (s0 B) (s0 K)) := by sl_kernel_rfl
theorem q185 : k0_pay185 (F := Ideal) kIncl16 (cM (s1 LW) (s1 R) (s1 A) (s1 B) (s1 K)) = kRk (cM (s1 LW) (s1 R) (s1 A) (s1 B) (s1 K)) := by sl_kernel_rfl
theorem q186 : k0_pay186 (F := Ideal) kIncl16 (cM (s2 LW) (s2 R) (s2 A) (s2 B) (s2 K)) = kRk (cM (s2 LW) (s2 R) (s2 A) (s2 B) (s2 K)) := by sl_kernel_rfl
theorem q187 : k0_pay187 (F := Ideal) kIncl16 (cM (s3 LW) (s3 R) (s3 A) (s3 B) (s3 K)) = kRk (cM (s3 LW) (s3 R) (s3 A) (s3 B) (s3 K)) := by sl_kernel_rfl
theorem q188 : k0_pay188 (F := Ideal) kIncl16 (cM (s4 LW) (s4 R) (s4 A) (s4 B) (s4 K)) = kRk (cM (s4 LW) (s4 R) (s4 A) (s4 B) (s4 K)) := by sl_kernel_rfl
theorem q189 : k0_pay189 (F := Ideal) kIncl16 (cM (s5 LW) (s5 R) (s5 A) (s5 B) (s5 K)) = kRk (cM (s5 LW) (s5 R) (s5 A) (s5 B) (s5 K)) := by sl_kernel_rfl
theorem q190 : k0_pay190 (F := Ideal) kIncl16 (cM (s6 LW) (s6 R) (s6 A) (s6 B) (s6 K)) = kRk (cM (s6 LW) (s6 R) (s6 A) (s6 B) (s6 K)) := by sl_kernel_rfl
theorem q191 : k0_pay191 (F := Ideal) kIncl16 (cM (s7 LW) (s7 R) (s7 A) (s7 B) (s7 K)) = kRk (cM (s7 LW) (s7 R) (s7 A) (s7 B) (s7 K)) := by sl_kernel_rfl
theorem q192 : k0_pay192 (F := Ideal) kEye (kL (cM (s5 LW) (s5 R) (s5 A) (s5 B) (s5 K))) = addf kEye (kL (cM (s5 LW) (s5 R) (s5 A) (s5 B) (s5 K))) := by sl_kernel_rfl
theorem q193 : k0_pay193 (F := Ideal) kEye (kL (cM (s6 LW) (s6 R) (s6 A) (s6 B) (s6 K))) = addf kEye (kL (cM (s6 LW) (s6 R) (s6 A) (s6 B) (s6 K))) := by sl_kernel_rfl
theorem q194 : k0_pay194 (F := Ideal) kEye (kL (cM (s7 LW) (s7 R) (s7 A) (s7 B) (s7 K))) = addf kEye (kL (cM (s7 LW) (s7 R) (s7 A) (s7 B) (s7 K))) := by sl_kernel_rfl
theorem q195 : k0_pay195 (F := Ideal) (kL (cM (s0 LW) (s0 R) (s0 A) (s0 B) (s0 K))) = sq (kL (cM (s0 LW) (s0 R) (s0 A) (s0 B) (s0 K))) := by sl_kernel_rfl
theorem q196 : k0_pay196 (F := Ideal) (kL (cM (s1 LW) (s1 R) (s1 A) (s1 B) (s1 K))) = sq (kL (cM (s1 LW) (s1 R) (s1 A) (s1 B) (s1 K))) := by sl_kernel_rfl
theorem q197 : k0_pay197 (F := Ideal) (kL (cM (s2 LW) (s2 R) (s2 A) (s2 B) (s2 K))) = sq (kL (cM (s2 LW) (s2 R) (s2 A) (s2 B) (s2 K))) := by sl_kernel_rfl
theorem q198 : k0_pay198 (F := Ideal) (kL (cM (s3 LW) (s3 R) (s3 A) (s3 B) (s3 K))) = sq (kL (cM (s3 LW) (s3 R) (s3 A) (s3 B) (s3 K))) := by sl_kernel_rfl
theorem q199 : k0_pay199 (F := Ideal) (kL (cM (s4 LW) (s4 R) (s4 A) (s4 B) (s4 K))) = sq (kL (cM (s4 LW) (s4 R) (s4 A) (s4 B) (s4 K))) := by sl_kernel_rfl
theorem q200 : k0_pay200 (F := Ideal) (kL (cM (s5 LW) (s5 R) (s5 A) (s5 B) (s5 K))) = sq (kL (cM (s5 LW) (s5 R) (s5 A) (s5 B) (s5 K))) := by sl_kernel_rfl
theorem q201 : k0_pay201 (F := Ideal) (kL (cM (s6 LW) (s6 R) (s6 A) (s6 B) (s6 K))) = sq (kL (cM (s6 LW) (s6 R) (s6 A) (s6 B) (s6 K))) := by sl_kernel_rfl
theorem q202 : k0_pay202 (F := Ideal) (kL (cM (s7 LW) (s7 R) (s7 A) (s7 B) (s7 K))) = sq (kL (cM (s7 LW) (s7 R) (s7 A) (s7 B) (s7 K))) := by sl_kernel_rfl
theorem q203 : k0_pay203 (F := Ideal) kEye (kL (cM (s0 LW) (s0 R) (s0 A) (s0 B) (s0 K))) = up (addf kEye (kL (cM (s0 LW) (s0 R) (s0 A) (s0 B) (s0 K)))) (sq (kL (cM (s0 LW) (s0 R) (s0 A) (s0 B) (s0 K)))) := by sl_kernel_rfl
theorem q204 : k0_pay204 (F := Ideal) kEye (kL (cM (s1 LW) (s1 R) (s1 A) (s1 B) (s1 K))) = up (addf kEye (kL (cM (s1 LW) (s1 R) (s1 A) (s1 B) (s1 K)))) (sq (kL (cM (s1 LW) (s1 R) (s1 A) (s1 B) (s1 K)))) := by sl_kernel_rfl
theorem q205 : k0_pay205 (F := Ideal) kEye (kL (cM (s2 LW) (s2 R) (s2 A) (s2 B) (s2 K))) = up (addf kEye (kL (cM (s2 LW) (s2 R) (s2 A) (s2 B) (s2 K)))) (sq (kL (cM (s2 LW) (s2 R) (s2 A) (s2 B) (s2 K)))) := by sl_kernel_rfl
theorem q206 : k0_pay206 (F := Ideal) kEye (kL (cM (s3 LW) (s3 R) (s3 A) (s3 B) (s3 K))) = up (addf kEye (kL (cM (s3 LW) (s3 R) (s3 A) (s3 B) (s3 K)))) (sq (kL (cM (s3 LW) (s3 R) (s3 A) (s3 B) (s3 K)))) := by sl_kernel_rfl
theorem q207 : k0_pay207 (F := Ideal) kEye (kL (cM (s4 LW) (s4 R) (s4 A) (s4 B) (s4 K))) = up (addf kEye (kL (cM (s4 LW) (s4 R) (s4 A) (s4 B) (s4 K)))) (sq (kL (cM (s4 LW) (s4 R) (s4 A) (s4 B) (s4 K)))) := by sl_kernel_rfl
theorem q208 : k0_pay208 (F := Ideal) (addf kEye (kL (cM (s5 LW) (s5 R) (s5 A) (s5 B) (s5 K)))) (sq (kL (cM (s5 LW) (s5 R) (s5 A) (s5 B) (s5 K)))) = up (addf kEye (kL (cM (s5 LW) (s5 R) (s5 A) (s5 B) (s5 K)))) (sq (kL (cM (s5 LW) (s5 R) (s5 A) (s5 B) (s5 K)))) := by sl_kernel_rfl
theorem q209 : k0_pay209 (F := Ideal) (addf kEye (kL (cM (s6 LW) (s6 R) (s6 A) (s6 B) (s6 K)))) (sq (kL (cM (s6 LW) (s6 R) (s6 A) (s6 B) (s6 K)))) = up (addf kEye (kL (cM (s6 LW) (s6 R) (s6 A) (s6 B) (s6 K)))) (sq (kL (cM (s6 LW) (s6 R) (s6 A) (s6 B) (s6 K)))) := by sl_kernel_rfl
theorem q210 : k0_pay210 (F := Ideal) (addf kEye (kL (cM (s7 LW) (s7 R) (s7 A) (s7 B) (s7 K)))) (sq (kL (cM (s7 LW) (s7 R) (s7 A) (s7 B) (s7 K)))) = up (addf kEye (kL (cM (s7 LW) (s7 R) (s7 A) (s7 B) (s7 K)))) (sq (kL (cM (s7 LW) (s7 R) (s7 A) (s7 B) (s7 K)))) := by sl_kernel_rfl
theorem q211 : k0_pay211 (F := Ideal) (sq (kL (cM (s0 LW) (s0 R) (s0 A) (s0 B) (s0 K)))) = sq (sq (kL (cM (s0 LW) (s0 R) (s0 A) (s0 B) (s0 K)))) := by sl_kernel_rfl
theorem q212 : k0_pay212 (F := Ideal) (sq (kL (cM (s1 LW) (s1 R) (s1 A) (s1 B) (s1 K)))) = sq (sq (kL (cM (s1 LW) (s1 R) (s1 A) (s1 B) (s1 K)))) := by sl_kernel_rfl
theorem q213 : k0_pay213 (F := Ideal) (sq (kL (cM (s2 LW) (s2 R) (s2 A) (s2 B) (s2 K)))) = sq (sq (kL (cM (s2 LW) (s2 R) (s2 A) (s2 B) (s2 K)))) := by sl_kernel_rfl
theorem q214 : k0_pay214 (F := Ideal) (sq (kL (cM (s3 LW) (s3 R) (s3 A) (s3 B) (s3 K)))) = sq (sq (kL (cM (s3 LW) (s3 R) (s3 A) (s3 B) (s3 K)))) := by sl_kernel_rfl
theorem q215 : k0_pay215 (F := Ideal) (sq (kL (cM (s4 LW) (s4 R) (s4 A) (s4 B) (s4 K)))) = sq (sq (kL (cM (s4 LW) (s4 R) (s4 A) (s4 B) (s4 K)))) := by sl_kernel_rfl
theorem q216 : k0_pay216 (F := Ideal) (sq (kL (cM (s5 LW) (s5 R) (s5 A) (s5 B) (s5 K)))) = sq (sq (kL (cM (s5 LW) (s5 R) (s5 A) (s5 B) (s5 K)))) := by sl_kernel_rfl
theorem q217 : k0_pay217 (F := Ideal) (sq (kL (cM (s6 LW) (s6 R) (s6 A) (s6 B) (s6 K)))) = sq (sq (kL (cM (s6 LW) (s6 R) (s6 A) (s6 B) (s6 K)))) := by sl_kernel_rfl
theorem q218 : k0_pay218 (F := Ideal) (sq (kL (cM (s7 LW) (s7 R) (s7 A) (s7 B) (s7 K)))) = sq (sq (kL (cM (s7 LW) (s7 R) (s7 A) (s7 B) (s7 K)))) := by sl_kernel_rfl
theorem q219 : k0_pay219 (F := Ideal) (sq (kL (cM (s0 LW) (s0 R) (s0 A) (s0 B) (s0 K)))) (up (addf kEye (kL (cM (s0 LW) (s0 R) (s0 A) (s0 B) (s0 K)))) (sq (kL (cM (s0 LW) (s0 R) (s0 A) (s0 B) (s0 K))))) = up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K))))) := by sl_kernel_rfl
theorem q220 : k0_pay220 (F := Ideal) (sq (kL (cM (s1 LW) (s1 R) (s1 A) (s1 B) (s1 K)))) (up (addf kEye (kL (cM (s1 LW) (s1 R) (s1 A) (s1 B) (s1 K)))) (sq (kL (cM (s1 LW) (s1 R) (s1 A) (s1 B) (s1 K))))) = up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K))))) := by sl_kernel_rfl
theorem q221 : k0_pay221 (F := Ideal) (sq (kL (cM (s2 LW) (s2 R) (s2 A) (s2 B) (s2 K)))) (up (addf kEye (kL (cM (s2 LW) (s2 R) (s2 A) (s2 B) (s2 K)))) (sq (kL (cM (s2 LW) (s2 R) (s2 A) (s2 B) (s2 K))))) = up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K))))) := by sl_kernel_rfl
theorem q222 : k0_pay222 (F := Ideal) (sq (kL (cM (s3 LW) (s3 R) (s3 A) (s3 B) (s3 K)))) (up (addf kEye (kL (cM (s3 LW) (s3 R) (s3 A) (s3 B) (s3 K)))) (sq (kL (cM (s3 LW) (s3 R) (s3 A) (s3 B) (s3 K))))) = up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K))))) := by sl_kernel_rfl
theorem q223 : k0_pay223 (F := Ideal) (up (addf kEye (kL (cM (s4 LW) (s4 R) (s4 A) (s4 B) (s4 K)))) (sq (kL (cM (s4 LW) (s4 R) (s4 A) (s4 B) (s4 K))))) = t16 (up (addf kEye (kL (cM (s4 LW) (s4 R) (s4 A) (s4 B) (s4 K)))) (sq (kL (cM (s4 LW) (s4 R) (s4 A) (s4 B) (s4 K))))) := by sl_kernel_rfl
theorem q224 : k0_pay224 (F := Ideal) (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K))))) (t16 (up (addf kEye (kL (cM (s4 LW) (s4 R) (s4 A) (s4 B) (s4 K)))) (sq (kL (cM (s4 LW) (s4 R) (s4 A) (s4 B) (s4 K)))))) = up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K))))) := by sl_kernel_rfl
theorem q225 : k0_pay225 (F := Ideal) (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K))))) = up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K))))) := by sl_kernel_rfl
theorem q226 : k0_pay226 (F := Ideal) (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K))))) = up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K))))) := by sl_kernel_rfl
theorem q227 : k0_pay227 (F := Ideal) (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K))))) = up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K))))) := by sl_kernel_rfl
theorem q228 : k0_pay228 (F := Ideal) (sq (sq (kL (cM (s0 LW) (s0 R) (s0 A) (s0 B) (s0 K))))) = sq (sq (sq (kL (cM (s0 LW) (s0 R) (s0 A) (s0 B) (s0 K))))) := by sl_kernel_rfl
theorem q229 : k0_pay229 (F := Ideal) (sq (sq (kL (cM (s1 LW) (s1 R) (s1 A) (s1 B) (s1 K))))) = sq (sq (sq (kL (cM (s1 LW) (s1 R) (s1 A) (s1 B) (s1 K))))) := by sl_kernel_rfl
theorem q230 : k0_pay230 (F := Ideal) (sq (sq (kL (cM (s2 LW) (s2 R) (s2 A) (s2 B) (s2 K))))) = sq (sq (sq (kL (cM (s2 LW) (s2 R) (s2 A) (s2 B) (s2 K))))) := by sl_kernel_rfl
theorem q231 : k0_pay231 (F := Ideal) (sq (sq (kL (cM (s3 LW) (s3 R) (s3 A) (s3 B) (s3 K))))) = sq (sq (sq (kL (cM (s3 LW) (s3 R) (s3 A) (s3 B) (s3 K))))) := by sl_kernel_rfl
theorem q232 : k0_pay232 (F := Ideal) (sq (sq (kL (cM (s4 LW) (s4 R) (s4 A) (s4 B) (s4 K))))) = sq (sq (sq (kL (cM (s4 LW) (s4 R) (s4 A) (s4 B) (s4 K))))) := by sl_kernel_rfl
theorem q233 : k0_pay233 (F := Ideal) (sq (sq (kL (cM (s5 LW) (s5 R) (s5 A) (s5 B) (s5 K))))) = sq (sq (sq (kL (cM (s5 LW) (s5 R) (s5 A) (s5 B) (s5 K))))) := by sl_kernel_rfl
theorem q234 : k0_pay234 (F := Ideal) (sq (sq (kL (cM (s6 LW) (s6 R) (s6 A) (s6 B) (s6 K))))) = sq (sq (sq (kL (cM (s6 LW) (s6 R) (s6 A) (s6 B) (s6 K))))) := by sl_kernel_rfl
theorem q235 : k0_pay235 (F := Ideal) (sq (sq (kL (cM (s7 LW) (s7 R) (s7 A) (s7 B) (s7 K))))) = sq (sq (sq (kL (cM (s7 LW) (s7 R) (s7 A) (s7 B) (s7 K))))) := by sl_kernel_rfl
theorem q236 : k0_pay236 (F := Ideal) (sq (sq (kL (cM (s0 LW) (s0 R) (s0 A) (s0 B) (s0 K))))) (up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K)))))) = up (up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K)))))) (sq (sq (sq (kL (cM (s0 LW) (s0 R) (s0 A) (s0 B) (s0 K)))))) := by sl_kernel_rfl
theorem q237 : k0_pay237 (F := Ideal) (sq (sq (kL (cM (s1 LW) (s1 R) (s1 A) (s1 B) (s1 K))))) (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) = up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K)))))) := by sl_kernel_rfl
theorem q238 : k0_pay238 (F := Ideal) (sq (sq (kL (cM (s2 LW) (s2 R) (s2 A) (s2 B) (s2 K))))) (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) = up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K)))))) := by sl_kernel_rfl
theorem q239 : k0_pay239 (F := Ideal) (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) = t16 (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) := by sl_kernel_rfl
theorem q240 : k0_pay240 (F := Ideal) (sq (sq (kL (cM (s3 LW) (s3 R) (s3 A) (s3 B) (s3 K))))) = t16 (sq (sq (sq (kL (cM (s3 LW) (s3 R) (s3 A) (s3 B) (s3 K)))))) := by sl_kernel_rfl
theorem q241 : k0_pay241 (F := Ideal) (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) (t16 (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K))))))) (t16 (sq (sq (sq (kL (cM (s3 LW) (s3 R) (s3 A) (s3 B) (s3 K))))))) = up (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) (sq (sq (sq (kL (cM (s3 LW) (s3 R) (s3 A) (s3 B) (s3 K)))))) := by sl_kernel_rfl
theorem q242 : k0_pay242 (F := Ideal) (up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K)))))) (sq (sq (sq (kL (cM (s4 LW) (s4 R) (s4 A) (s4 B) (s4 K)))))) = up (up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K)))))) (sq (sq (sq (kL (cM (s4 LW) (s4 R) (s4 A) (s4 B) (s4 K)))))) := by sl_kernel_rfl
theorem q243 : k0_pay243 (F := Ideal) (up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K)))))) (sq (sq (sq (kL (cM (s5 LW) (s5 R) (s5 A) (s5 B) (s5 K)))))) = up (up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K)))))) (sq (sq (sq (kL (cM (s5 LW) (s5 R) (s5 A) (s5 B) (s5 K)))))) := by sl_kernel_rfl
theorem q244 : k0_pay244 (F := Ideal) (up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K)))))) (sq (sq (sq (kL (cM (s6 LW) (s6 R) (s6 A) (s6 B) (s6 K)))))) = up (up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K)))))) (sq (sq (sq (kL (cM (s6 LW) (s6 R) (s6 A) (s6 B) (s6 K)))))) := by sl_kernel_rfl
theorem q245 : k0_pay245 (F := Ideal) (up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K)))))) (sq (sq (sq (kL (cM (s7 LW) (s7 R) (s7 A) (s7 B) (s7 K)))))) = up (up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K)))))) (sq (sq (sq (kL (cM (s7 LW) (s7 R) (s7 A) (s7 B) (s7 K)))))) := by sl_kernel_rfl
theorem q246 : k0_pay246 (F := Ideal) (sq (sq (sq (kL (cM (s0 LW) (s0 R) (s0 A) (s0 B) (s0 K)))))) = sq (sq (sq (sq (kL (cM (s0 LW) (s0 R) (s0 A) (s0 B) (s0 K)))))) := by sl_kernel_rfl
theorem q247 : k0_pay247 (F := Ideal) (sq (sq (sq (kL (cM (s1 LW) (s1 R) (s1 A) (s1 B) (s1 K)))))) = sq (sq (sq (sq (kL (cM (s1 LW) (s1 R) (s1 A) (s1 B) (s1 K)))))) := by sl_kernel_rfl
theorem q248 : k0_pay248 (F := Ideal) (sq (sq (sq (kL (cM (s2 LW) (s2 R) (s2 A) (s2 B) (s2 K)))))) = sq (sq (sq (sq (kL (cM (s2 LW) (s2 R) (s2 A) (s2 B) (s2 K)))))) := by sl_kernel_rfl
theorem q249 : k0_pay249 (F := Ideal) (sq (sq (sq (kL (cM (s3 LW) (s3 R) (s3 A) (s3 B) (s3 K)))))) = sq (sq (sq (sq (kL (cM (s3 LW) (s3 R) (s3 A) (s3 B) (s3 K)))))) := by sl_kernel_rfl
theorem q250 : k0_pay250 (F := Ideal) (sq (sq (sq (kL (cM (s4 LW) (s4 R) (s4 A) (s4 B) (s4 K)))))) = sq (sq (sq (sq (kL (cM (s4 LW) (s4 R) (s4 A) (s4 B) (s4 K)))))) := by sl_kernel_rfl
theorem q251 : k0_pay251 (F := Ideal) (sq (sq (sq (kL (cM (s5 LW) (s5 R) (s5 A) (s5 B) (s5 K)))))) = sq (sq (sq (sq (kL (cM (s5 LW) (s5 R) (s5 A) (s5 B) (s5 K)))))) := by sl_kernel_rfl
theorem q252 : k0_pay252 (F := Ideal) (sq (sq (sq (kL (cM (s6 LW) (s6 R) (s6 A) (s6 B) (s6 K)))))) = sq (sq (sq (sq (kL (cM (s6 LW) (s6 R) (s6 A) (s6 B) (s6 K)))))) := by sl_kernel_rfl
theorem q253 : k0_pay253 (F := Ideal) (sq (sq (sq (kL (cM (s7 LW) (s7 R) (s7 A) (s7 B) (s7 K)))))) = sq (sq (sq (sq (kL (cM (s7 LW) (s7 R) (s7 A) (s7 B) (s7 K)))))) := by sl_kernel_rfl
theorem q254 : k0_pay254 (F := Ideal) (sq (sq (sq (kL (cM (s0 LW) (s0 R) (s0 A) (s0 B) (s0 K)))))) (up (up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K)))))) (sq (sq (sq (kL (cM (s0 LW) (s0 R) (s0 A) (s0 B) (s0 K))))))) = up (up (up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K)))))) (sq (sq (sq (kL (cM (s0 LW) (s0 R) (s0 A) (s0 B) (s0 K))))))) (sq (sq (sq (sq (kL (cM (s0 LW) (s0 R) (s0 A) (s0 B) (s0 K))))))) := by sl_kernel_rfl
theorem q255 : k0_pay255 (F := Ideal) (sq (sq (sq (kL (cM (s1 LW) (s1 R) (s1 A) (s1 B) (s1 K)))))) (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) = up (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) (sq (sq (sq (sq (kL (cM (s1 LW) (s1 R) (s1 A) (s1 B) (s1 K))))))) := by sl_kernel_rfl
theorem q256 : k0_pay256 (F := Ideal) (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K))))))) = t16 (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K))))))) := by sl_kernel_rfl
theorem q257 : k0_pay257 (F := Ideal) (sq (sq (sq (kL (cM (s2 LW) (s2 R) (s2 A) (s2 B) (s2 K)))))) = t16 (sq (sq (sq (sq (kL (cM (s2 LW) (s2 R) (s2 A) (s2 B) (s2 K))))))) := by sl_kernel_rfl
theorem q258 : k0_pay258 (F := Ideal) (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K))))))) (t16 (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K)))))))) (t16 (sq (sq (sq (sq (kL (cM (s2 LW) (s2 R) (s2 A) (s2 B) (s2 K)))))))) (constant (F := Ideal) S256x256 .f32 0x00000000#32) = up (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K))))))) (sq (sq (sq (sq (kL (cM (s2 LW) (s2 R) (s2 A) (s2 B) (s2 K))))))) := by sl_kernel_rfl
theorem q259 : k0_pay259 (F := Ideal) (up (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) (sq (sq (sq (kL (cM (s3 LW) (s3 R) (s3 A) (s3 B) (s3 K))))))) (sq (sq (sq (sq (kL (cM (s3 LW) (s3 R) (s3 A) (s3 B) (s3 K))))))) = up (up (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) (sq (sq (sq (kL (cM (s3 LW) (s3 R) (s3 A) (s3 B) (s3 K))))))) (sq (sq (sq (sq (kL (cM (s3 LW) (s3 R) (s3 A) (s3 B) (s3 K))))))) := by sl_kernel_rfl
theorem q260 : k0_pay260 (F := Ideal) (up (up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K)))))) (sq (sq (sq (kL (cM (s4 LW) (s4 R) (s4 A) (s4 B) (s4 K))))))) (sq (sq (sq (sq (kL (cM (s4 LW) (s4 R) (s4 A) (s4 B) (s4 K))))))) = up (up (up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K)))))) (sq (sq (sq (kL (cM (s4 LW) (s4 R) (s4 A) (s4 B) (s4 K))))))) (sq (sq (sq (sq (kL (cM (s4 LW) (s4 R) (s4 A) (s4 B) (s4 K))))))) := by sl_kernel_rfl
theorem q261 : k0_pay261 (F := Ideal) (up (up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K)))))) (sq (sq (sq (kL (cM (s5 LW) (s5 R) (s5 A) (s5 B) (s5 K))))))) (sq (sq (sq (sq (kL (cM (s5 LW) (s5 R) (s5 A) (s5 B) (s5 K))))))) = up (up (up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K)))))) (sq (sq (sq (kL (cM (s5 LW) (s5 R) (s5 A) (s5 B) (s5 K))))))) (sq (sq (sq (sq (kL (cM (s5 LW) (s5 R) (s5 A) (s5 B) (s5 K))))))) := by sl_kernel_rfl
theorem q262 : k0_pay262 (F := Ideal) (up (up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K)))))) (sq (sq (sq (kL (cM (s6 LW) (s6 R) (s6 A) (s6 B) (s6 K))))))) (sq (sq (sq (sq (kL (cM (s6 LW) (s6 R) (s6 A) (s6 B) (s6 K))))))) = up (up (up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K)))))) (sq (sq (sq (kL (cM (s6 LW) (s6 R) (s6 A) (s6 B) (s6 K))))))) (sq (sq (sq (sq (kL (cM (s6 LW) (s6 R) (s6 A) (s6 B) (s6 K))))))) := by sl_kernel_rfl
theorem q263 : k0_pay263 (F := Ideal) (up (up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K)))))) (sq (sq (sq (kL (cM (s7 LW) (s7 R) (s7 A) (s7 B) (s7 K))))))) (sq (sq (sq (sq (kL (cM (s7 LW) (s7 R) (s7 A) (s7 B) (s7 K))))))) = up (up (up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K)))))) (sq (sq (sq (kL (cM (s7 LW) (s7 R) (s7 A) (s7 B) (s7 K))))))) (sq (sq (sq (sq (kL (cM (s7 LW) (s7 R) (s7 A) (s7 B) (s7 K))))))) := by sl_kernel_rfl
theorem q264 : k0_pay264 (F := Ideal) (sq (sq (sq (sq (kL (cM (s2 LW) (s2 R) (s2 A) (s2 B) (s2 K))))))) = sq (sq (sq (sq (sq (kL (cM (s2 LW) (s2 R) (s2 A) (s2 B) (s2 K))))))) := by sl_kernel_rfl
theorem q265 : k0_pay265 (F := Ideal) (sq (sq (sq (sq (kL (cM (s3 LW) (s3 R) (s3 A) (s3 B) (s3 K))))))) = sq (sq (sq (sq (sq (kL (cM (s3 LW) (s3 R) (s3 A) (s3 B) (s3 K))))))) := by sl_kernel_rfl
theorem q266 : k0_pay266 (F := Ideal) (sq (sq (sq (sq (kL (cM (s4 LW) (s4 R) (s4 A) (s4 B) (s4 K))))))) = sq (sq (sq (sq (sq (kL (cM (s4 LW) (s4 R) (s4 A) (s4 B) (s4 K))))))) := by sl_kernel_rfl
theorem q267 : k0_pay267 (F := Ideal) (sq (sq (sq (sq (kL (cM (s5 LW) (s5 R) (s5 A) (s5 B) (s5 K))))))) = sq (sq (sq (sq (sq (kL (cM (s5 LW) (s5 R) (s5 A) (s5 B) (s5 K))))))) := by sl_kernel_rfl
theorem q268 : k0_pay268 (F := Ideal) (sq (sq (sq (sq (kL (cM (s6 LW) (s6 R) (s6 A) (s6 B) (s6 K))))))) = sq (sq (sq (sq (sq (kL (cM (s6 LW) (s6 R) (s6 A) (s6 B) (s6 K))))))) := by sl_kernel_rfl
theorem q269 : k0_pay269 (F := Ideal) (sq (sq (sq (sq (kL (cM (s7 LW) (s7 R) (s7 A) (s7 B) (s7 K))))))) = sq (sq (sq (sq (sq (kL (cM (s7 LW) (s7 R) (s7 A) (s7 B) (s7 K))))))) := by sl_kernel_rfl
theorem q270 : k0_pay270 (F := Ideal) (sq (sq (sq (sq (kL (cM (s0 LW) (s0 R) (s0 A) (s0 B) (s0 K))))))) (up (up (up (up (addf kEye (kL (cM (s0 LW) (s0 R) (s0 A) (s0 B) (s0 K)))) (sq (kL (cM (s0 LW) (s0 R) (s0 A) (s0 B) (s0 K))))) (sq (sq (kL (cM (s0 LW) (s0 R) (s0 A) (s0 B) (s0 K)))))) (sq (sq (sq (kL (cM (s0 LW) (s0 R) (s0 A) (s0 B) (s0 K))))))) (sq (sq (sq (sq (kL (cM (s0 LW) (s0 R) (s0 A) (s0 B) (s0 K)))))))) = kT (kL (cM (s0 LW) (s0 R) (s0 A) (s0 B) (s0 K))) := by sl_kernel_rfl
theorem q271 : k0_pay271 (F := Ideal) (sq (sq (sq (sq (kL (cM (s1 LW) (s1 R) (s1 A) (s1 B) (s1 K))))))) (up (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) (sq (sq (sq (sq (kL (cM (s1 LW) (s1 R) (s1 A) (s1 B) (s1 K)))))))) = mm (t16 (up (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) (sq (sq (sq (sq (kL (cM (s1 LW) (s1 R) (s1 A) (s1 B) (s1 K))))))))) (t16 (sq (sq (sq (sq (sq (kL (cM (s1 LW) (s1 R) (s1 A) (s1 B) (s1 K))))))))) := by sl_kernel_rfl
theorem q272 : k0_pay272 (F := Ideal) (up (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) (sq (sq (sq (sq (kL (cM (s1 LW) (s1 R) (s1 A) (s1 B) (s1 K)))))))) (mm (t16 (up (up (up (up (addf kEye (kL (cM (s1 LW) (s1 R) (s1 A) (s1 B) (s1 K)))) (sq (kL (cM (s1 LW) (s1 R) (s1 A) (s1 B) (s1 K))))) (sq (sq (kL (cM (s1 LW) (s1 R) (s1 A) (s1 B) (s1 K)))))) (sq (sq (sq (kL (cM (s1 LW) (s1 R) (s1 A) (s1 B) (s1 K))))))) (sq (sq (sq (sq (kL (cM (s1 LW) (s1 R) (s1 A) (s1 B) (s1 K))))))))) (t16 (sq (sq (sq (sq (sq (kL (cM (s1 LW) (s1 R) (s1 A) (s1 B) (s1 K)))))))))) = kT (kL (cM (s1 LW) (s1 R) (s1 A) (s1 B) (s1 K))) := by sl_kernel_rfl
theorem q273 : k0_pay273 (F := Ideal) (up (up (up (up (addf kEye (kL (cM (s2 LW) (s2 R) (s2 A) (s2 B) (s2 K)))) (sq (kL (cM (s2 LW) (s2 R) (s2 A) (s2 B) (s2 K))))) (sq (sq (kL (cM (s2 LW) (s2 R) (s2 A) (s2 B) (s2 K)))))) (sq (sq (sq (kL (cM (s2 LW) (s2 R) (s2 A) (s2 B) (s2 K))))))) (sq (sq (sq (sq (kL (cM (s2 LW) (s2 R) (s2 A) (s2 B) (s2 K)))))))) (sq (sq (sq (sq (sq (kL (cM (s2 LW) (s2 R) (s2 A) (s2 B) (s2 K)))))))) = kT (kL (cM (s2 LW) (s2 R) (s2 A) (s2 B) (s2 K))) := by sl_kernel_rfl
theorem q274 : k0_pay274 (F := Ideal) (up (up (up (up (addf kEye (kL (cM (s3 LW) (s3 R) (s3 A) (s3 B) (s3 K)))) (sq (kL (cM (s3 LW) (s3 R) (s3 A) (s3 B) (s3 K))))) (sq (sq (kL (cM (s3 LW) (s3 R) (s3 A) (s3 B) (s3 K)))))) (sq (sq (sq (kL (cM (s3 LW) (s3 R) (s3 A) (s3 B) (s3 K))))))) (sq (sq (sq (sq (kL (cM (s3 LW) (s3 R) (s3 A) (s3 B) (s3 K)))))))) (sq (sq (sq (sq (sq (kL (cM (s3 LW) (s3 R) (s3 A) (s3 B) (s3 K)))))))) = kT (kL (cM (s3 LW) (s3 R) (s3 A) (s3 B) (s3 K))) := by sl_kernel_rfl
theorem q275 : k0_pay275 (F := Ideal) (up (up (up (up (addf kEye (kL (cM (s4 LW) (s4 R) (s4 A) (s4 B) (s4 K)))) (sq (kL (cM (s4 LW) (s4 R) (s4 A) (s4 B) (s4 K))))) (sq (sq (kL (cM (s4 LW) (s4 R) (s4 A) (s4 B) (s4 K)))))) (sq (sq (sq (kL (cM (s4 LW) (s4 R) (s4 A) (s4 B) (s4 K))))))) (sq (sq (sq (sq (kL (cM (s4 LW) (s4 R) (s4 A) (s4 B) (s4 K)))))))) (sq (sq (sq (sq (sq (kL (cM (s4 LW) (s4 R) (s4 A) (s4 B) (s4 K)))))))) = kT (kL (cM (s4 LW) (s4 R) (s4 A) (s4 B) (s4 K))) := by sl_kernel_rfl
theorem q276 : k0_pay276 (F := Ideal) (up (up (up (up (addf kEye (kL (cM (s5 LW) (s5 R) (s5 A) (s5 B) (s5 K)))) (sq (kL (cM (s5 LW) (s5 R) (s5 A) (s5 B) (s5 K))))) (sq (sq (kL (cM (s5 LW) (s5 R) (s5 A) (s5 B) (s5 K)))))) (sq (sq (sq (kL (cM (s5 LW) (s5 R) (s5 A) (s5 B) (s5 K))))))) (sq (sq (sq (sq (kL (cM (s5 LW) (s5 R) (s5 A) (s5 B) (s5 K)))))))) (sq (sq (sq (sq (sq (kL (cM (s5 LW) (s5 R) (s5 A) (s5 B) (s5 K)))))))) = kT (kL (cM (s5 LW) (s5 R) (s5 A) (s5 B) (s5 K))) := by sl_kernel_rfl
theorem q277 : k0_pay277 (F := Ideal) (up (up (up (up (addf kEye (kL (cM (s6 LW) (s6 R) (s6 A) (s6 B) (s6 K)))) (sq (kL (cM (s6 LW) (s6 R) (s6 A) (s6 B) (s6 K))))) (sq (sq (kL (cM (s6 LW) (s6 R) (s6 A) (s6 B) (s6 K)))))) (sq (sq (sq (kL (cM (s6 LW) (s6 R) (s6 A) (s6 B) (s6 K))))))) (sq (sq (sq (sq (kL (cM (s6 LW) (s6 R) (s6 A) (s6 B) (s6 K)))))))) (sq (sq (sq (sq (sq (kL (cM (s6 LW) (s6 R) (s6 A) (s6 B) (s6 K)))))))) = kT (kL (cM (s6 LW) (s6 R) (s6 A) (s6 B) (s6 K))) := by sl_kernel_rfl
theorem q278 : k0_pay278 (F := Ideal) (up (up (up (up (addf kEye (kL (cM (s7 LW) (s7 R) (s7 A) (s7 B) (s7 K)))) (sq (kL (cM (s7 LW) (s7 R) (s7 A) (s7 B) (s7 K))))) (sq (sq (kL (cM (s7 LW) (s7 R) (s7 A) (s7 B) (s7 K)))))) (sq (sq (sq (kL (cM (s7 LW) (s7 R) (s7 A) (s7 B) (s7 K))))))) (sq (sq (sq (sq (kL (cM (s7 LW) (s7 R) (s7 A) (s7 B) (s7 K)))))))) (sq (sq (sq (sq (sq (kL (cM (s7 LW) (s7 R) (s7 A) (s7 B) (s7 K)))))))) = kT (kL (cM (s7 LW) (s7 R) (s7 A) (s7 B) (s7 K))) := by sl_kernel_rfl
theorem q279 : k0_pay279 (F := Ideal) (bd (s1 V)) (kLk (cM (s1 LW) (s1 R) (s1 A) (s1 B) (s1 K))) = t16 (mm (kLk (cM (s1 LW) (s1 R) (s1 A) (s1 B) (s1 K))) (bd (s1 V))) := by sl_kernel_rfl
theorem q280 : k0_pay280 (F := Ideal) (bd (s2 V)) (kLk (cM (s2 LW) (s2 R) (s2 A) (s2 B) (s2 K))) = t16 (mm (kLk (cM (s2 LW) (s2 R) (s2 A) (s2 B) (s2 K))) (bd (s2 V))) := by sl_kernel_rfl
theorem q281 : k0_pay281 (F := Ideal) (bd (s3 V)) (kLk (cM (s3 LW) (s3 R) (s3 A) (s3 B) (s3 K))) = t16 (mm (kLk (cM (s3 LW) (s3 R) (s3 A) (s3 B) (s3 K))) (bd (s3 V))) := by sl_kernel_rfl
theorem q282 : k0_pay282 (F := Ideal) (bd (s4 V)) (kLk (cM (s4 LW) (s4 R) (s4 A) (s4 B) (s4 K))) = t16 (mm (kLk (cM (s4 LW) (s4 R) (s4 A) (s4 B) (s4 K))) (bd (s4 V))) := by sl_kernel_rfl
theorem q283 : k0_pay283 (F := Ideal) (bd (s5 V)) (kLk (cM (s5 LW) (s5 R) (s5 A) (s5 B) (s5 K))) = t16 (mm (kLk (cM (s5 LW) (s5 R) (s5 A) (s5 B) (s5 K))) (bd (s5 V))) := by sl_kernel_rfl
theorem q284 : k0_pay284 (F := Ideal) (bd (s6 V)) (kLk (cM (s6 LW) (s6 R) (s6 A) (s6 B) (s6 K))) = t16 (mm (kLk (cM (s6 LW) (s6 R) (s6 A) (s6 B) (s6 K))) (bd (s6 V))) := by sl_kernel_rfl
theorem q285 : k0_pay285 (F := Ideal) (bd (s7 V)) (kLk (cM (s7 LW) (s7 R) (s7 A) (s7 B) (s7 K))) = t16 (mm (kLk (cM (s7 LW) (s7 R) (s7 A) (s7 B) (s7 K))) (bd (s7 V))) := by sl_kernel_rfl
theorem q286 : k0_pay286 (F := Ideal) (kA (s0 A) (s0 LW) (kCum (s0 LW))) (bd (s0 V)) (kLk (cM (s0 LW) (s0 R) (s0 A) (s0 B) (s0 K))) (kT (kL (cM (s0 LW) (s0 R) (s0 A) (s0 B) (s0 K)))) = cTW (s0 LW) (s0 R) (s0 A) (s0 B) (s0 K) (s0 V) := by sl_kernel_rfl
theorem q287 : k0_pay287 (F := Ideal) (kA (s1 A) (s1 LW) (kCum (s1 LW))) (kT (kL (cM (s1 LW) (s1 R) (s1 A) (s1 B) (s1 K)))) (t16 (mm (kLk (cM (s1 LW) (s1 R) (s1 A) (s1 B) (s1 K))) (bd (s1 V)))) = cTW (s1 LW) (s1 R) (s1 A) (s1 B) (s1 K) (s1 V) := by sl_kernel_rfl
theorem q288 : k0_pay288 (F := Ideal) (kA (s2 A) (s2 LW) (kCum (s2 LW))) (kT (kL (cM (s2 LW) (s2 R) (s2 A) (s2 B) (s2 K)))) (t16 (mm (kLk (cM (s2 LW) (s2 R) (s2 A) (s2 B) (s2 K))) (bd (s2 V)))) = cTW (s2 LW) (s2 R) (s2 A) (s2 B) (s2 K) (s2 V) := by sl_kernel_rfl
theorem q289 : k0_pay289 (F := Ideal) (kA (s3 A) (s3 LW) (kCum (s3 LW))) (kT (kL (cM (s3 LW) (s3 R) (s3 A) (s3 B) (s3 K)))) (t16 (mm (kLk (cM (s3 LW) (s3 R) (s3 A) (s3 B) (s3 K))) (bd (s3 V)))) = cTW (s3 LW) (s3 R) (s3 A) (s3 B) (s3 K) (s3 V) := by sl_kernel_rfl
theorem q290 : k0_pay290 (F := Ideal) (kA (s4 A) (s4 LW) (kCum (s4 LW))) (kT (kL (cM (s4 LW) (s4 R) (s4 A) (s4 B) (s4 K)))) (t16 (mm (kLk (cM (s4 LW) (s4 R) (s4 A) (s4 B) (s4 K))) (bd (s4 V)))) = cTW (s4 LW) (s4 R) (s4 A) (s4 B) (s4 K) (s4 V) := by sl_kernel_rfl
theorem q291 : k0_pay291 (F := Ideal) (kA (s5 A) (s5 LW) (kCum (s5 LW))) (kT (kL (cM (s5 LW) (s5 R) (s5 A) (s5 B) (s5 K)))) (t16 (mm (kLk (cM (s5 LW) (s5 R) (s5 A) (s5 B) (s5 K))) (bd (s5 V)))) = cTW (s5 LW) (s5 R) (s5 A) (s5 B) (s5 K) (s5 V) := by sl_kernel_rfl
theorem q292 : k0_pay292 (F := Ideal) (kA (s6 A) (s6 LW) (kCum (s6 LW))) (kT (kL (cM (s6 LW) (s6 R) (s6 A) (s6 B) (s6 K)))) (t16 (mm (kLk (cM (s6 LW) (s6 R) (s6 A) (s6 B) (s6 K))) (bd (s6 V)))) = cTW (s6 LW) (s6 R) (s6 A) (s6 B) (s6 K) (s6 V) := by sl_kernel_rfl
theorem q293 : k0_pay293 (F := Ideal) (kA (s7 A) (s7 LW) (kCum (s7 LW))) (kT (kL (cM (s7 LW) (s7 R) (s7 A) (s7 B) (s7 K)))) (t16 (mm (kLk (cM (s7 LW) (s7 R) (s7 A) (s7 B) (s7 K))) (bd (s7 V)))) = cTW (s7 LW) (s7 R) (s7 A) (s7 B) (s7 K) (s7 V) := by sl_kernel_rfl
theorem q294 : k0_pay294 (F := Ideal) (kBe (s0 B) (kCum (s0 LW))) (cTW (s0 LW) (s0 R) (s0 A) (s0 B) (s0 K) (s0 V)) = mwT (kBe (s0 B) (kCum (s0 LW))) (cTW (s0 LW) (s0 R) (s0 A) (s0 B) (s0 K) (s0 V)) := by sl_kernel_rfl
theorem q295 : k0_pay295 (F := Ideal) (kA (s1 A) (s1 LW) (kCum (s1 LW))) (kBe (s1 B) (kCum (s1 LW))) (kT (kL (cM (s1 LW) (s1 R) (s1 A) (s1 B) (s1 K)))) (t16 (mm (kLk (cM (s1 LW) (s1 R) (s1 A) (s1 B) (s1 K))) (bd (s1 V)))) = mwT (kBe (s1 B) (kCum (s1 LW))) (cTW (s1 LW) (s1 R) (s1 A) (s1 B) (s1 K) (s1 V)) := by sl_kernel_rfl
theorem q296 : k0_pay296 (F := Ideal) (kA (s2 A) (s2 LW) (kCum (s2 LW))) (kBe (s2 B) (kCum (s2 LW))) (kT (kL (cM (s2 LW) (s2 R) (s2 A) (s2 B) (s2 K)))) (t16 (mm (kLk (cM (s2 LW) (s2 R) (s2 A) (s2 B) (s2 K))) (bd (s2 V)))) = mwT (kBe (s2 B) (kCum (s2 LW))) (cTW (s2 LW) (s2 R) (s2 A) (s2 B) (s2 K) (s2 V)) := by sl_kernel_rfl
theorem q297 : k0_pay297 (F := Ideal) (kA (s3 A) (s3 LW) (kCum (s3 LW))) (kBe (s3 B) (kCum (s3 LW))) (kT (kL (cM (s3 LW) (s3 R) (s3 A) (s3 B) (s3 K)))) (t16 (mm (kLk (cM (s3 LW) (s3 R) (s3 A) (s3 B) (s3 K))) (bd (s3 V)))) = mwT (kBe (s3 B) (kCum (s3 LW))) (cTW (s3 LW) (s3 R) (s3 A) (s3 B) (s3 K) (s3 V)) := by sl_kernel_rfl
theorem q298 : k0_pay298 (F := Ideal) (kA (s4 A) (s4 LW) (kCum (s4 LW))) (kBe (s4 B) (kCum (s4 LW))) (kT (kL (cM (s4 LW) (s4 R) (s4 A) (s4 B) (s4 K)))) (t16 (mm (kLk (cM (s4 LW) (s4 R) (s4 A) (s4 B) (s4 K))) (bd (s4 V)))) = mwT (kBe (s4 B) (kCum (s4 LW))) (cTW (s4 LW) (s4 R) (s4 A) (s4 B) (s4 K) (s4 V)) := by sl_kernel_rfl
theorem q299 : k0_pay299 (F := Ideal) (kA (s5 A) (s5 LW) (kCum (s5 LW))) (kBe (s5 B) (kCum (s5 LW))) (kT (kL (cM (s5 LW) (s5 R) (s5 A) (s5 B) (s5 K)))) (t16 (mm (kLk (cM (s5 LW) (s5 R) (s5 A) (s5 B) (s5 K))) (bd (s5 V)))) = mwT (kBe (s5 B) (kCum (s5 LW))) (cTW (s5 LW) (s5 R) (s5 A) (s5 B) (s5 K) (s5 V)) := by sl_kernel_rfl
theorem q300 : k0_pay300 (F := Ideal) (kA (s6 A) (s6 LW) (kCum (s6 LW))) (kBe (s6 B) (kCum (s6 LW))) (kT (kL (cM (s6 LW) (s6 R) (s6 A) (s6 B) (s6 K)))) (t16 (mm (kLk (cM (s6 LW) (s6 R) (s6 A) (s6 B) (s6 K))) (bd (s6 V)))) = mwT (kBe (s6 B) (kCum (s6 LW))) (cTW (s6 LW) (s6 R) (s6 A) (s6 B) (s6 K) (s6 V)) := by sl_kernel_rfl
theorem q301 : k0_pay301 (F := Ideal) (kA (s7 A) (s7 LW) (kCum (s7 LW))) (kBe (s7 B) (kCum (s7 LW))) (kT (kL (cM (s7 LW) (s7 R) (s7 A) (s7 B) (s7 K)))) (t16 (mm (kLk (cM (s7 LW) (s7 R) (s7 A) (s7 B) (s7 K))) (bd (s7 V)))) = mwT (kBe (s7 B) (kCum (s7 LW))) (cTW (s7 LW) (s7 R) (s7 A) (s7 B) (s7 K) (s7 V)) := by sl_kernel_rfl
theorem q302 : k0_pay302 (F := Ideal) (bd (s0 V)) (kBe (s0 K) (kCum (s0 LW))) = mmT (kBe (s0 K) (kCum (s0 LW))) (bd (s0 V)) := by sl_kernel_rfl
theorem q303 : k0_pay303 (F := Ideal) (bd (s1 V)) (kBe (s1 K) (kCum (s1 LW))) = mmT (kBe (s1 K) (kCum (s1 LW))) (bd (s1 V)) := by sl_kernel_rfl
theorem q304 : k0_pay304 (F := Ideal) (bd (s2 V)) (kBe (s2 K) (kCum (s2 LW))) = mmT (kBe (s2 K) (kCum (s2 LW))) (bd (s2 V)) := by sl_kernel_rfl
theorem q305 : k0_pay305 (F := Ideal) (bd (s3 V)) (kBe (s3 K) (kCum (s3 LW))) = mmT (kBe (s3 K) (kCum (s3 LW))) (bd (s3 V)) := by sl_kernel_rfl
theorem q306 : k0_pay306 (F := Ideal) (bd (s4 V)) (kBe (s4 K) (kCum (s4 LW))) (constant (F := Ideal) S256x256 .f32 0x00000000#32) = mmT (kBe (s4 K) (kCum (s4 LW))) (bd (s4 V)) := by sl_kernel_rfl
theorem q307 : k0_pay307 (F := Ideal) (bd (s5 V)) (kBe (s5 K) (kCum (s5 LW))) = mmT (kBe (s5 K) (kCum (s5 LW))) (bd (s5 V)) := by sl_kernel_rfl
theorem q308 : k0_pay308 (F := Ideal) (bd (s6 V)) (kBe (s6 K) (kCum (s6 LW))) = mmT (kBe (s6 K) (kCum (s6 LW))) (bd (s6 V)) := by sl_kernel_rfl
theorem q309 : k0_pay309 (F := Ideal) (bd (s7 V)) (kBe (s7 K) (kCum (s7 LW))) = mmT (kBe (s7 K) (kCum (s7 LW))) (bd (s7 V)) := by sl_kernel_rfl
theorem q310 : k0_pay310 (F := Ideal) (kRb (cM (s0 LW) (s0 R) (s0 A) (s0 B) (s0 K))) (cTW (s0 LW) (s0 R) (s0 A) (s0 B) (s0 K) (s0 V)) = mw (kRb (cM (s0 LW) (s0 R) (s0 A) (s0 B) (s0 K))) (cTW (s0 LW) (s0 R) (s0 A) (s0 B) (s0 K) (s0 V)) := by sl_kernel_rfl
theorem q311 : k0_pay311 (F := Ideal) (kRb (cM (s1 LW) (s1 R) (s1 A) (s1 B) (s1 K))) (cTW (s1 LW) (s1 R) (s1 A) (s1 B) (s1 K) (s1 V)) = mw (kRb (cM (s1 LW) (s1 R) (s1 A) (s1 B) (s1 K))) (cTW (s1 LW) (s1 R) (s1 A) (s1 B) (s1 K) (s1 V)) := by sl_kernel_rfl
theorem q312 : k0_pay312 (F := Ideal) (kRb (cM (s2 LW) (s2 R) (s2 A) (s2 B) (s2 K))) (cTW (s2 LW) (s2 R) (s2 A) (s2 B) (s2 K) (s2 V)) = mw (kRb (cM (s2 LW) (s2 R) (s2 A) (s2 B) (s2 K))) (cTW (s2 LW) (s2 R) (s2 A) (s2 B) (s2 K) (s2 V)) := by sl_kernel_rfl
theorem q313 : k0_pay313 (F := Ideal) (kRb (cM (s3 LW) (s3 R) (s3 A) (s3 B) (s3 K))) (cTW (s3 LW) (s3 R) (s3 A) (s3 B) (s3 K) (s3 V)) = mw (kRb (cM (s3 LW) (s3 R) (s3 A) (s3 B) (s3 K))) (cTW (s3 LW) (s3 R) (s3 A) (s3 B) (s3 K) (s3 V)) := by sl_kernel_rfl
theorem q314 : k0_pay314 (F := Ideal) (kRb (cM (s4 LW) (s4 R) (s4 A) (s4 B) (s4 K))) (cTW (s4 LW) (s4 R) (s4 A) (s4 B) (s4 K) (s4 V)) = mw (kRb (cM (s4 LW) (s4 R) (s4 A) (s4 B) (s4 K))) (cTW (s4 LW) (s4 R) (s4 A) (s4 B) (s4 K) (s4 V)) := by sl_kernel_rfl
theorem q315 : k0_pay315 (F := Ideal) (kRb (cM (s5 LW) (s5 R) (s5 A) (s5 B) (s5 K))) (cTW (s5 LW) (s5 R) (s5 A) (s5 B) (s5 K) (s5 V)) = mw (kRb (cM (s5 LW) (s5 R) (s5 A) (s5 B) (s5 K))) (cTW (s5 LW) (s5 R) (s5 A) (s5 B) (s5 K) (s5 V)) := by sl_kernel_rfl
theorem q316 : k0_pay316 (F := Ideal) (kRb (cM (s6 LW) (s6 R) (s6 A) (s6 B) (s6 K))) (cTW (s6 LW) (s6 R) (s6 A) (s6 B) (s6 K) (s6 V)) = mw (kRb (cM (s6 LW) (s6 R) (s6 A) (s6 B) (s6 K))) (cTW (s6 LW) (s6 R) (s6 A) (s6 B) (s6 K) (s6 V)) := by sl_kernel_rfl
theorem q317 : k0_pay317 (F := Ideal) (kRb (cM (s7 LW) (s7 R) (s7 A) (s7 B) (s7 K))) (cTW (s7 LW) (s7 R) (s7 A) (s7 B) (s7 K) (s7 V)) = mw (kRb (cM (s7 LW) (s7 R) (s7 A) (s7 B) (s7 K))) (cTW (s7 LW) (s7 R) (s7 A) (s7 B) (s7 K) (s7 V)) := by sl_kernel_rfl
theorem q318 : k0_pay318 (F := Ideal) (bd (s0 V)) (kRk (cM (s0 LW) (s0 R) (s0 A) (s0 B) (s0 K))) = mm (kRk (cM (s0 LW) (s0 R) (s0 A) (s0 B) (s0 K))) (bd (s0 V)) := by sl_kernel_rfl
theorem q319 : k0_pay319 (F := Ideal) (bd (s1 V)) (kRk (cM (s1 LW) (s1 R) (s1 A) (s1 B) (s1 K))) = mm (kRk (cM (s1 LW) (s1 R) (s1 A) (s1 B) (s1 K))) (bd (s1 V)) := by sl_kernel_rfl
theorem q320 : k0_pay320 (F := Ideal) (bd (s2 V)) (kRk (cM (s2 LW) (s2 R) (s2 A) (s2 B) (s2 K))) = mm (kRk (cM (s2 LW) (s2 R) (s2 A) (s2 B) (s2 K))) (bd (s2 V)) := by sl_kernel_rfl
theorem q321 : k0_pay321 (F := Ideal) (bd (s3 V)) (kRk (cM (s3 LW) (s3 R) (s3 A) (s3 B) (s3 K))) = mm (kRk (cM (s3 LW) (s3 R) (s3 A) (s3 B) (s3 K))) (bd (s3 V)) := by sl_kernel_rfl
theorem q322 : k0_pay322 (F := Ideal) (bd (s4 V)) (kRk (cM (s4 LW) (s4 R) (s4 A) (s4 B) (s4 K))) = mm (kRk (cM (s4 LW) (s4 R) (s4 A) (s4 B) (s4 K))) (bd (s4 V)) := by sl_kernel_rfl
theorem q323 : k0_pay323 (F := Ideal) (bd (s5 V)) (kRk (cM (s5 LW) (s5 R) (s5 A) (s5 B) (s5 K))) = mm (kRk (cM (s5 LW) (s5 R) (s5 A) (s5 B) (s5 K))) (bd (s5 V)) := by sl_kernel_rfl
theorem q324 : k0_pay324 (F := Ideal) (bd (s6 V)) (kRk (cM (s6 LW) (s6 R) (s6 A) (s6 B) (s6 K))) = mm (kRk (cM (s6 LW) (s6 R) (s6 A) (s6 B) (s6 K))) (bd (s6 V)) := by sl_kernel_rfl
theorem q325 : k0_pay325 (F := Ideal) (bd (s7 V)) (kRk (cM (s7 LW) (s7 R) (s7 A) (s7 B) (s7 K))) = mm (kRk (cM (s7 LW) (s7 R) (s7 A) (s7 B) (s7 K))) (bd (s7 V)) := by sl_kernel_rfl
theorem q326 : k0_pay326 (F := Ideal) kEye (kRow (kP (kCum (s0 LW)))) (mwT (kBe (s0 B) (kCum (s0 LW))) (cTW (s0 LW) (s0 R) (s0 A) (s0 B) (s0 K) (s0 V))) = cAc (s0 LW) (s0 R) (s0 A) (s0 B) (s0 K) (s0 V) := by sl_kernel_rfl
theorem q327 : k0_pay327 (F := Ideal) kEye (kRow (kP (kCum (s1 LW)))) (mwT (kBe (s1 B) (kCum (s1 LW))) (cTW (s1 LW) (s1 R) (s1 A) (s1 B) (s1 K) (s1 V))) = cAc (s1 LW) (s1 R) (s1 A) (s1 B) (s1 K) (s1 V) := by sl_kernel_rfl
theorem q328 : k0_pay328 (F := Ideal) kEye (kRow (kP (kCum (s2 LW)))) (mwT (kBe (s2 B) (kCum (s2 LW))) (cTW (s2 LW) (s2 R) (s2 A) (s2 B) (s2 K) (s2 V))) = cAc (s2 LW) (s2 R) (s2 A) (s2 B) (s2 K) (s2 V) := by sl_kernel_rfl
theorem q329 : k0_pay329 (F := Ideal) kEye (kRow (kP (kCum (s3 LW)))) (mwT (kBe (s3 B) (kCum (s3 LW))) (cTW (s3 LW) (s3 R) (s3 A) (s3 B) (s3 K) (s3 V))) = cAc (s3 LW) (s3 R) (s3 A) (s3 B) (s3 K) (s3 V) := by sl_kernel_rfl
theorem q330 : k0_pay330 (F := Ideal) (kRow (kP (kCum (s4 LW)))) = broadcastTo S256x256 (kRow (kP (kCum (s4 LW)))) broadcasts_S1x256_S256x256 := by sl_kernel_rfl
theorem q331 : k0_pay331 (F := Ideal) kEye (mwT (kBe (s4 B) (kCum (s4 LW))) (cTW (s4 LW) (s4 R) (s4 A) (s4 B) (s4 K) (s4 V))) (broadcastTo S256x256 (kRow (kP (kCum (s4 LW)))) broadcasts_S1x256_S256x256) = cAc (s4 LW) (s4 R) (s4 A) (s4 B) (s4 K) (s4 V) := by sl_kernel_rfl
theorem q332 : k0_pay332 (F := Ideal) kEye (kRow (kP (kCum (s5 LW)))) (mwT (kBe (s5 B) (kCum (s5 LW))) (cTW (s5 LW) (s5 R) (s5 A) (s5 B) (s5 K) (s5 V))) = cAc (s5 LW) (s5 R) (s5 A) (s5 B) (s5 K) (s5 V) := by sl_kernel_rfl
theorem q333 : k0_pay333 (F := Ideal) kEye (kRow (kP (kCum (s6 LW)))) (mwT (kBe (s6 B) (kCum (s6 LW))) (cTW (s6 LW) (s6 R) (s6 A) (s6 B) (s6 K) (s6 V))) = cAc (s6 LW) (s6 R) (s6 A) (s6 B) (s6 K) (s6 V) := by sl_kernel_rfl
theorem q334 : k0_pay334 (F := Ideal) kEye (kRow (kP (kCum (s7 LW)))) (mwT (kBe (s7 B) (kCum (s7 LW))) (cTW (s7 LW) (s7 R) (s7 A) (s7 B) (s7 K) (s7 V))) = cAc (s7 LW) (s7 R) (s7 A) (s7 B) (s7 K) (s7 V) := by sl_kernel_rfl
theorem q335 : k0_pay335 (F := Ideal) (mwT (kBe (s0 B) (kCum (s0 LW))) (cTW (s0 LW) (s0 R) (s0 A) (s0 B) (s0 K) (s0 V))) (mmT (kBe (s0 K) (kCum (s0 LW))) (bd (s0 V))) = cCc (s0 LW) (s0 R) (s0 A) (s0 B) (s0 K) (s0 V) := by sl_kernel_rfl
theorem q336 : k0_pay336 (F := Ideal) (mwT (kBe (s1 B) (kCum (s1 LW))) (cTW (s1 LW) (s1 R) (s1 A) (s1 B) (s1 K) (s1 V))) (mmT (kBe (s1 K) (kCum (s1 LW))) (bd (s1 V))) = cCc (s1 LW) (s1 R) (s1 A) (s1 B) (s1 K) (s1 V) := by sl_kernel_rfl
theorem q337 : k0_pay337 (F := Ideal) (mwT (kBe (s2 B) (kCum (s2 LW))) (cTW (s2 LW) (s2 R) (s2 A) (s2 B) (s2 K) (s2 V))) (mmT (kBe (s2 K) (kCum (s2 LW))) (bd (s2 V))) = cCc (s2 LW) (s2 R) (s2 A) (s2 B) (s2 K) (s2 V) := by sl_kernel_rfl
theorem q338 : k0_pay338 (F := Ideal) (mwT (kBe (s3 B) (kCum (s3 LW))) (cTW (s3 LW) (s3 R) (s3 A) (s3 B) (s3 K) (s3 V))) (mmT (kBe (s3 K) (kCum (s3 LW))) (bd (s3 V))) = cCc (s3 LW) (s3 R) (s3 A) (s3 B) (s3 K) (s3 V) := by sl_kernel_rfl
theorem q339 : k0_pay339 (F := Ideal) (mwT (kBe (s4 B) (kCum (s4 LW))) (cTW (s4 LW) (s4 R) (s4 A) (s4 B) (s4 K) (s4 V))) (mmT (kBe (s4 K) (kCum (s4 LW))) (bd (s4 V))) = cCc (s4 LW) (s4 R) (s4 A) (s4 B) (s4 K) (s4 V) := by sl_kernel_rfl
theorem q340 : k0_pay340 (F := Ideal) (mwT (kBe (s5 B) (kCum (s5 LW))) (cTW (s5 LW) (s5 R) (s5 A) (s5 B) (s5 K) (s5 V))) (mmT (kBe (s5 K) (kCum (s5 LW))) (bd (s5 V))) = cCc (s5 LW) (s5 R) (s5 A) (s5 B) (s5 K) (s5 V) := by sl_kernel_rfl
theorem q341 : k0_pay341 (F := Ideal) (mwT (kBe (s6 B) (kCum (s6 LW))) (cTW (s6 LW) (s6 R) (s6 A) (s6 B) (s6 K) (s6 V))) (mmT (kBe (s6 K) (kCum (s6 LW))) (bd (s6 V))) = cCc (s6 LW) (s6 R) (s6 A) (s6 B) (s6 K) (s6 V) := by sl_kernel_rfl
theorem q342 : k0_pay342 (F := Ideal) (mwT (kBe (s7 B) (kCum (s7 LW))) (cTW (s7 LW) (s7 R) (s7 A) (s7 B) (s7 K) (s7 V))) (mmT (kBe (s7 K) (kCum (s7 LW))) (bd (s7 V))) = cCc (s7 LW) (s7 R) (s7 A) (s7 B) (s7 K) (s7 V) := by sl_kernel_rfl
theorem q343 : k0_pay343 (F := Ideal) kSame (kRh (s0 R) (kCum (s0 LW))) (mw (kRb (cM (s0 LW) (s0 R) (s0 A) (s0 B) (s0 K))) (cTW (s0 LW) (s0 R) (s0 A) (s0 B) (s0 K) (s0 V))) = cQc (s0 LW) (s0 R) (s0 A) (s0 B) (s0 K) (s0 V) := by sl_kernel_rfl
theorem q344 : k0_pay344 (F := Ideal) kSame (kRh (s1 R) (kCum (s1 LW))) (mw (kRb (cM (s1 LW) (s1 R) (s1 A) (s1 B) (s1 K))) (cTW (s1 LW) (s1 R) (s1 A) (s1 B) (s1 K) (s1 V))) = cQc (s1 LW) (s1 R) (s1 A) (s1 B) (s1 K) (s1 V) := by sl_kernel_rfl
theorem q345 : k0_pay345 (F := Ideal) kSame (kRh (s2 R) (kCum (s2 LW))) (mw (kRb (cM (s2 LW) (s2 R) (s2 A) (s2 B) (s2 K))) (cTW (s2 LW) (s2 R) (s2 A) (s2 B) (s2 K) (s2 V))) = cQc (s2 LW) (s2 R) (s2 A) (s2 B) (s2 K) (s2 V) := by sl_kernel_rfl
theorem q346 : k0_pay346 (F := Ideal) kSame (kRh (s3 R) (kCum (s3 LW))) = kSel (kRh (s3 R) (kCum (s3 LW))) := by sl_kernel_rfl
theorem q347 : k0_pay347 (F := Ideal) (mw (kRb (cM (s3 LW) (s3 R) (s3 A) (s3 B) (s3 K))) (cTW (s3 LW) (s3 R) (s3 A) (s3 B) (s3 K) (s3 V))) (kSel (kRh (s3 R) (kCum (s3 LW)))) = cQc (s3 LW) (s3 R) (s3 A) (s3 B) (s3 K) (s3 V) := by sl_kernel_rfl
theorem q348 : k0_pay348 (F := Ideal) kSame (kRh (s4 R) (kCum (s4 LW))) (mw (kRb (cM (s4 LW) (s4 R) (s4 A) (s4 B) (s4 K))) (cTW (s4 LW) (s4 R) (s4 A) (s4 B) (s4 K) (s4 V))) = cQc (s4 LW) (s4 R) (s4 A) (s4 B) (s4 K) (s4 V) := by sl_kernel_rfl
theorem q349 : k0_pay349 (F := Ideal) kSame (kRh (s5 R) (kCum (s5 LW))) (mw (kRb (cM (s5 LW) (s5 R) (s5 A) (s5 B) (s5 K))) (cTW (s5 LW) (s5 R) (s5 A) (s5 B) (s5 K) (s5 V))) = cQc (s5 LW) (s5 R) (s5 A) (s5 B) (s5 K) (s5 V) := by sl_kernel_rfl
theorem q350 : k0_pay350 (F := Ideal) kSame (kRh (s6 R) (kCum (s6 LW))) (mw (kRb (cM (s6 LW) (s6 R) (s6 A) (s6 B) (s6 K))) (cTW (s6 LW) (s6 R) (s6 A) (s6 B) (s6 K) (s6 V))) = cQc (s6 LW) (s6 R) (s6 A) (s6 B) (s6 K) (s6 V) := by sl_kernel_rfl
theorem q351 : k0_pay351 (F := Ideal) kSame (kRh (s7 R) (kCum (s7 LW))) (mw (kRb (cM (s7 LW) (s7 R) (s7 A) (s7 B) (s7 K))) (cTW (s7 LW) (s7 R) (s7 A) (s7 B) (s7 K) (s7 V))) = cQc (s7 LW) (s7 R) (s7 A) (s7 B) (s7 K) (s7 V) := by sl_kernel_rfl
theorem q352 : k0_pay352 (F := Ideal) (mw (kRb (cM (s1 LW) (s1 R) (s1 A) (s1 B) (s1 K))) (cTW (s1 LW) (s1 R) (s1 A) (s1 B) (s1 K) (s1 V))) (mm (kRk (cM (s1 LW) (s1 R) (s1 A) (s1 B) (s1 K))) (bd (s1 V))) = cYl (s1 LW) (s1 R) (s1 A) (s1 B) (s1 K) (s1 V) := by sl_kernel_rfl
theorem q353 : k0_pay353 (F := Ideal) (mw (kRb (cM (s2 LW) (s2 R) (s2 A) (s2 B) (s2 K))) (cTW (s2 LW) (s2 R) (s2 A) (s2 B) (s2 K) (s2 V))) (mm (kRk (cM (s2 LW) (s2 R) (s2 A) (s2 B) (s2 K))) (bd (s2 V))) = cYl (s2 LW) (s2 R) (s2 A) (s2 B) (s2 K) (s2 V) := by sl_kernel_rfl
theorem q354 : k0_pay354 (F := Ideal) (mw (kRb (cM (s3 LW) (s3 R) (s3 A) (s3 B) (s3 K))) (cTW (s3 LW) (s3 R) (s3 A) (s3 B) (s3 K) (s3 V))) (mm (kRk (cM (s3 LW) (s3 R) (s3 A) (s3 B) (s3 K))) (bd (s3 V))) = cYl (s3 LW) (s3 R) (s3 A) (s3 B) (s3 K) (s3 V) := by sl_kernel_rfl
theorem q355 : k0_pay355 (F := Ideal) (mw (kRb (cM (s4 LW) (s4 R) (s4 A) (s4 B) (s4 K))) (cTW (s4 LW) (s4 R) (s4 A) (s4 B) (s4 K) (s4 V))) (mm (kRk (cM (s4 LW) (s4 R) (s4 A) (s4 B) (s4 K))) (bd (s4 V))) = cYl (s4 LW) (s4 R) (s4 A) (s4 B) (s4 K) (s4 V) := by sl_kernel_rfl
theorem q356 : k0_pay356 (F := Ideal) (mw (kRb (cM (s5 LW) (s5 R) (s5 A) (s5 B) (s5 K))) (cTW (s5 LW) (s5 R) (s5 A) (s5 B) (s5 K) (s5 V))) (mm (kRk (cM (s5 LW) (s5 R) (s5 A) (s5 B) (s5 K))) (bd (s5 V))) = cYl (s5 LW) (s5 R) (s5 A) (s5 B) (s5 K) (s5 V) := by sl_kernel_rfl
theorem q357 : k0_pay357 (F := Ideal) (mw (kRb (cM (s6 LW) (s6 R) (s6 A) (s6 B) (s6 K))) (cTW (s6 LW) (s6 R) (s6 A) (s6 B) (s6 K) (s6 V))) (mm (kRk (cM (s6 LW) (s6 R) (s6 A) (s6 B) (s6 K))) (bd (s6 V))) = cYl (s6 LW) (s6 R) (s6 A) (s6 B) (s6 K) (s6 V) := by sl_kernel_rfl
theorem q358 : k0_pay358 (F := Ideal) (mw (kRb (cM (s7 LW) (s7 R) (s7 A) (s7 B) (s7 K))) (cTW (s7 LW) (s7 R) (s7 A) (s7 B) (s7 K) (s7 V))) (mm (kRk (cM (s7 LW) (s7 R) (s7 A) (s7 B) (s7 K))) (bd (s7 V))) = cYl (s7 LW) (s7 R) (s7 A) (s7 B) (s7 K) (s7 V) := by sl_kernel_rfl
theorem q359 : k0_pay359 (F := Ideal) s = t16 (T_0 LW R A B K V s) := by sl_kernel_rfl
theorem q360 : k0_pay360 (F := Ideal) (mw (kRb (cM (s0 LW) (s0 R) (s0 A) (s0 B) (s0 K))) (cTW (s0 LW) (s0 R) (s0 A) (s0 B) (s0 K) (s0 V))) (mm (kRk (cM (s0 LW) (s0 R) (s0 A) (s0 B) (s0 K))) (bd (s0 V))) (cQc (s0 LW) (s0 R) (s0 A) (s0 B) (s0 K) (s0 V)) s = kNext (cQc (s0 LW) (s0 R) (s0 A) (s0 B) (s0 K) (s0 V)) (cYl (s0 LW) (s0 R) (s0 A) (s0 B) (s0 K) (s0 V)) (T_0 LW R A B K V s) := by sl_kernel_rfl
theorem q361 : k0_pay361 (F := Ideal) (cAc (s0 LW) (s0 R) (s0 A) (s0 B) (s0 K) (s0 V)) (cCc (s0 LW) (s0 R) (s0 A) (s0 B) (s0 K) (s0 V)) s = T_1 LW R A B K V s := by sl_kernel_rfl
theorem q362 : k0_pay362 (F := Ideal) (mw (kRb (cM (s0 LW) (s0 R) (s0 A) (s0 B) (s0 K))) (cTW (s0 LW) (s0 R) (s0 A) (s0 B) (s0 K) (s0 V))) (mm (kRk (cM (s0 LW) (s0 R) (s0 A) (s0 B) (s0 K))) (bd (s0 V))) (cQc (s0 LW) (s0 R) (s0 A) (s0 B) (s0 K) (s0 V)) s = kF2 (kNext (cQc (s0 LW) (s0 R) (s0 A) (s0 B) (s0 K) (s0 V)) (cYl (s0 LW) (s0 R) (s0 A) (s0 B) (s0 K) (s0 V)) (T_0 LW R A B K V s)) := by sl_kernel_rfl
theorem q363 : k0_pay363 (F := Ideal) (kNext (cQc (s0 LW) (s0 R) (s0 A) (s0 B) (s0 K) (s0 V)) (cYl (s0 LW) (s0 R) (s0 A) (s0 B) (s0 K) (s0 V)) (T_0 LW R A B K V s)) (kF2 (kNext (cQc (s0 LW) (s0 R) (s0 A) (s0 B) (s0 K) (s0 V)) (cYl (s0 LW) (s0 R) (s0 A) (s0 B) (s0 K) (s0 V)) (T_0 LW R A B K V s))) = cOut (s0 LW) (s0 R) (s0 A) (s0 B) (s0 K) (s0 V) (T_0 LW R A B K V s) := by sl_kernel_rfl
theorem q364 : k0_pay364 (F := Ideal) (T_1 LW R A B K V s) = t16 (T_1 LW R A B K V s) := by sl_kernel_rfl
theorem q365 : k0_pay365 (F := Ideal) (cQc (s1 LW) (s1 R) (s1 A) (s1 B) (s1 K) (s1 V)) (cYl (s1 LW) (s1 R) (s1 A) (s1 B) (s1 K) (s1 V)) (T_1 LW R A B K V s) = cOut (s1 LW) (s1 R) (s1 A) (s1 B) (s1 K) (s1 V) (T_1 LW R A B K V s) := by sl_kernel_rfl
theorem q366 : k0_pay366 (F := Ideal) (cAc (s1 LW) (s1 R) (s1 A) (s1 B) (s1 K) (s1 V)) (cCc (s1 LW) (s1 R) (s1 A) (s1 B) (s1 K) (s1 V)) (T_1 LW R A B K V s) = t16 (T_2 LW R A B K V s) := by sl_kernel_rfl
theorem q367 : k0_pay367 (F := Ideal) (cAc (s1 LW) (s1 R) (s1 A) (s1 B) (s1 K) (s1 V)) (cCc (s1 LW) (s1 R) (s1 A) (s1 B) (s1 K) (s1 V)) (cQc (s2 LW) (s2 R) (s2 A) (s2 B) (s2 K) (s2 V)) (cYl (s2 LW) (s2 R) (s2 A) (s2 B) (s2 K) (s2 V)) (T_1 LW R A B K V s) = cOut (s2 LW) (s2 R) (s2 A) (s2 B) (s2 K) (s2 V) (T_2 LW R A B K V s) := by sl_kernel_rfl
theorem q368 : k0_pay368 (F := Ideal) (cAc (s1 LW) (s1 R) (s1 A) (s1 B) (s1 K) (s1 V)) (cAc (s2 LW) (s2 R) (s2 A) (s2 B) (s2 K) (s2 V)) (cCc (s1 LW) (s1 R) (s1 A) (s1 B) (s1 K) (s1 V)) (cCc (s2 LW) (s2 R) (s2 A) (s2 B) (s2 K) (s2 V)) (T_1 LW R A B K V s) = t16 (T_3 LW R A B K V s) := by sl_kernel_rfl
theorem q369 : k0_pay369 (F := Ideal) (cAc (s1 LW) (s1 R) (s1 A) (s1 B) (s1 K) (s1 V)) (cAc (s2 LW) (s2 R) (s2 A) (s2 B) (s2 K) (s2 V)) (cCc (s1 LW) (s1 R) (s1 A) (s1 B) (s1 K) (s1 V)) (cCc (s2 LW) (s2 R) (s2 A) (s2 B) (s2 K) (s2 V)) (cQc (s3 LW) (s3 R) (s3 A) (s3 B) (s3 K) (s3 V)) (cYl (s3 LW) (s3 R) (s3 A) (s3 B) (s3 K) (s3 V)) (T_1 LW R A B K V s) = cOut (s3 LW) (s3 R) (s3 A) (s3 B) (s3 K) (s3 V) (T_3 LW R A B K V s) := by sl_kernel_rfl
theorem q370 : k0_pay370 (F := Ideal) (cAc (s1 LW) (s1 R) (s1 A) (s1 B) (s1 K) (s1 V)) (cAc (s2 LW) (s2 R) (s2 A) (s2 B) (s2 K) (s2 V)) (cAc (s3 LW) (s3 R) (s3 A) (s3 B) (s3 K) (s3 V)) (cCc (s1 LW) (s1 R) (s1 A) (s1 B) (s1 K) (s1 V)) (cCc (s2 LW) (s2 R) (s2 A) (s2 B) (s2 K) (s2 V)) (cCc (s3 LW) (s3 R) (s3 A) (s3 B) (s3 K) (s3 V)) (T_1 LW R A B K V s) = t16 (T_4 LW R A B K V s) := by sl_kernel_rfl
theorem q371 : k0_pay371 (F := Ideal) (cAc (s1 LW) (s1 R) (s1 A) (s1 B) (s1 K) (s1 V)) (cAc (s2 LW) (s2 R) (s2 A) (s2 B) (s2 K) (s2 V)) (cAc (s3 LW) (s3 R) (s3 A) (s3 B) (s3 K) (s3 V)) (cAc (s4 LW) (s4 R) (s4 A) (s4 B) (s4 K) (s4 V)) (cCc (s1 LW) (s1 R) (s1 A) (s1 B) (s1 K) (s1 V)) (cCc (s2 LW) (s2 R) (s2 A) (s2 B) (s2 K) (s2 V)) (cCc (s3 LW) (s3 R) (s3 A) (s3 B) (s3 K) (s3 V)) (cCc (s4 LW) (s4 R) (s4 A) (s4 B) (s4 K) (s4 V)) (T_1 LW R A B K V s) = T_5 LW R A B K V s := by sl_kernel_rfl
theorem q372 : k0_pay372 (F := Ideal) (cAc (s1 LW) (s1 R) (s1 A) (s1 B) (s1 K) (s1 V)) (cAc (s2 LW) (s2 R) (s2 A) (s2 B) (s2 K) (s2 V)) (cAc (s3 LW) (s3 R) (s3 A) (s3 B) (s3 K) (s3 V)) (cCc (s1 LW) (s1 R) (s1 A) (s1 B) (s1 K) (s1 V)) (cCc (s2 LW) (s2 R) (s2 A) (s2 B) (s2 K) (s2 V)) (cCc (s3 LW) (s3 R) (s3 A) (s3 B) (s3 K) (s3 V)) (cQc (s4 LW) (s4 R) (s4 A) (s4 B) (s4 K) (s4 V)) (cYl (s4 LW) (s4 R) (s4 A) (s4 B) (s4 K) (s4 V)) (T_1 LW R A B K V s) = cOut (s4 LW) (s4 R) (s4 A) (s4 B) (s4 K) (s4 V) (T_4 LW R A B K V s) := by sl_kernel_rfl
theorem q373 : k0_pay373 (F := Ideal) (T_5 LW R A B K V s) = t16 (T_5 LW R A B K V s) := by sl_kernel_rfl
theorem q374 : k0_pay374 (F := Ideal) (cAc (s5 LW) (s5 R) (s5 A) (s5 B) (s5 K) (s5 V)) (cCc (s5 LW) (s5 R) (s5 A) (s5 B) (s5 K) (s5 V)) (T_5 LW R A B K V s) = t16 (T_6 LW R A B K V s) := by sl_kernel_rfl
theorem q375 : k0_pay375 (F := Ideal) (cAc (s5 LW) (s5 R) (s5 A) (s5 B) (s5 K) (s5 V)) (cAc (s6 LW) (s6 R) (s6 A) (s6 B) (s6 K) (s6 V)) (cCc (s5 LW) (s5 R) (s5 A) (s5 B) (s5 K) (s5 V)) (cCc (s6 LW) (s6 R) (s6 A) (s6 B) (s6 K) (s6 V)) (T_5 LW R A B K V s) = t16 (T_7 LW R A B K V s) := by sl_kernel_rfl
theorem q376 : k0_pay376 (F := Ideal) (cAc (s5 LW) (s5 R) (s5 A) (s5 B) (s5 K) (s5 V)) (cAc (s6 LW) (s6 R) (s6 A) (s6 B) (s6 K) (s6 V)) (cAc (s7 LW) (s7 R) (s7 A) (s7 B) (s7 K) (s7 V)) (cCc (s5 LW) (s5 R) (s5 A) (s5 B) (s5 K) (s5 V)) (cCc (s6 LW) (s6 R) (s6 A) (s6 B) (s6 K) (s6 V)) (cCc (s7 LW) (s7 R) (s7 A) (s7 B) (s7 K) (s7 V)) (T_5 LW R A B K V s) = bState LW R A B K V s := by sl_kernel_rfl
theorem q377 : k0_pay377 (F := Ideal) (cAc (s5 LW) (s5 R) (s5 A) (s5 B) (s5 K) (s5 V)) (cAc (s6 LW) (s6 R) (s6 A) (s6 B) (s6 K) (s6 V)) (cCc (s5 LW) (s5 R) (s5 A) (s5 B) (s5 K) (s5 V)) (cCc (s6 LW) (s6 R) (s6 A) (s6 B) (s6 K) (s6 V)) (cQc (s5 LW) (s5 R) (s5 A) (s5 B) (s5 K) (s5 V)) (cQc (s6 LW) (s6 R) (s6 A) (s6 B) (s6 K) (s6 V)) (cQc (s7 LW) (s7 R) (s7 A) (s7 B) (s7 K) (s7 V)) (cYl (s5 LW) (s5 R) (s5 A) (s5 B) (s5 K) (s5 V)) (cYl (s6 LW) (s6 R) (s6 A) (s6 B) (s6 K) (s6 V)) (cYl (s7 LW) (s7 R) (s7 A) (s7 B) (s7 K) (s7 V)) (cOut (s0 LW) (s0 R) (s0 A) (s0 B) (s0 K) (s0 V) (T_0 LW R A B K V s)) (cOut (s1 LW) (s1 R) (s1 A) (s1 B) (s1 K) (s1 V) (T_1 LW R A B K V s)) (cOut (s2 LW) (s2 R) (s2 A) (s2 B) (s2 K) (s2 V) (T_2 LW R A B K V s)) (cOut (s3 LW) (s3 R) (s3 A) (s3 B) (s3 K) (s3 V) (T_3 LW R A B K V s)) (T_5 LW R A B K V s) (cOut (s4 LW) (s4 R) (s4 A) (s4 B) (s4 K) (s4 V) (T_4 LW R A B K V s)) = bY LW R A B K V s := by sl_kernel_rfl
theorem q378 : k0_pay378 (F := Ideal) kOnes (cAc (s5 LW) (s5 R) (s5 A) (s5 B) (s5 K) (s5 V)) (cAc (s6 LW) (s6 R) (s6 A) (s6 B) (s6 K) (s6 V)) (cCc (s5 LW) (s5 R) (s5 A) (s5 B) (s5 K) (s5 V)) (cCc (s6 LW) (s6 R) (s6 A) (s6 B) (s6 K) (s6 V)) (cQc (s5 LW) (s5 R) (s5 A) (s5 B) (s5 K) (s5 V)) (cQc (s6 LW) (s6 R) (s6 A) (s6 B) (s6 K) (s6 V)) (cQc (s7 LW) (s7 R) (s7 A) (s7 B) (s7 K) (s7 V)) (cYl (s5 LW) (s5 R) (s5 A) (s5 B) (s5 K) (s5 V)) (cYl (s6 LW) (s6 R) (s6 A) (s6 B) (s6 K) (s6 V)) (cYl (s7 LW) (s7 R) (s7 A) (s7 B) (s7 K) (s7 V)) (cOut (s0 LW) (s0 R) (s0 A) (s0 B) (s0 K) (s0 V) (T_0 LW R A B K V s)) (cOut (s1 LW) (s1 R) (s1 A) (s1 B) (s1 K) (s1 V) (T_1 LW R A B K V s)) (cOut (s2 LW) (s2 R) (s2 A) (s2 B) (s2 K) (s2 V) (T_2 LW R A B K V s)) (cOut (s3 LW) (s3 R) (s3 A) (s3 B) (s3 K) (s3 V) (T_3 LW R A B K V s)) (T_5 LW R A B K V s) (cOut (s4 LW) (s4 R) (s4 A) (s4 B) (s4 K) (s4 V) (T_4 LW R A B K V s)) = sum512 (bY LW R A B K V s) := by sl_kernel_rfl

end Cert.Kernel7Ideal.Chunk

end
-- ==== Proof.WkvRows.lean ====
module

public import proofs.«01_k».proof.Proof.WkvFold
public import Idealize.ShloMosaic.Lib.WritesUnit
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

section
variable {κ : Kind} {sp : Space} (v : View sig κ sp S8x256 .f32) (f : v.ty.Contents (Elt Ideal)) (w0 w1 w2 w3 : FVec Ideal S1x256 .f32) (L : List (View.Piece (Elt Ideal) S8x256 .f32))

/-- The last rows after the four row stores. -/
abbrev rowsOf : FVec Ideal S8x256 .f32 :=
  v.read (Elt Ideal) (v.writes (Elt Ideal) f
    (⟨Rect.unit ![3, 0] ![1, 256] inb_S8x256_S1x256_3_0, w3⟩ :: ⟨Rect.unit ![2, 0] ![1, 256] inb_S8x256_S1x256_2_0, w2⟩ ::
     ⟨Rect.unit ![1, 0] ![1, 256] inb_S8x256_S1x256_1_0, w1⟩ :: ⟨Rect.unit ![0, 0] ![1, 256] inb_S8x256_S1x256_0_0, w0⟩ :: L))

theorem rowsOf_at (r : Fin 4) (j : Fin 256) : rowsOf v f w0 w1 w2 w3 L (ix2 ⟨r.val, by omega⟩ j) = (![w0, w1, w2, w3] r) (ix2 0 j) := by
  have m (k : Fin 4) (w : FVec Ideal S1x256 .f32) (inb) (T : List (View.Piece (Elt Ideal) S8x256 .f32)) :
      v.read (Elt Ideal) (v.writes (Elt Ideal) f (⟨Rect.unit (s := S8x256) ![k.val, 0] ![1, 256] inb, w⟩ :: T)) (ix2 ⟨k.val, by omega⟩ j) = w (ix2 0 j) :=
    View.read_writes_cons_rows_of_mem (o := k.val) v f inb w T _ (ix2 0 j) rfl (by simp only [ix2]; rfl) rfl
  have n (k : Fin 4) (hk : r.val < k.val) (w : FVec Ideal S1x256 .f32) (inb) (T : List (View.Piece (Elt Ideal) S8x256 .f32)) :
      v.read (Elt Ideal) (v.writes (Elt Ideal) f (⟨Rect.unit (s := S8x256) ![k.val, 0] ![1, 256] inb, w⟩ :: T)) (ix2 ⟨r.val, by omega⟩ j) = v.read (Elt Ideal) (v.writes (Elt Ideal) f T) (ix2 ⟨r.val, by omega⟩ j) :=
    View.read_writes_cons_rows_of_not_mem (o := k.val) (W := 1) v f inb w T _ rfl rfl (Or.inl hk)
  fin_cases r
  · exact (n 3 (by decide) w3 _ _).trans ((n 2 (by decide) w2 _ _).trans ((n 1 (by decide) w1 _ _).trans (m 0 w0 _ _)))
  · exact (n 3 (by decide) w3 _ _).trans ((n 2 (by decide) w2 _ _).trans (m 1 w1 _ _))
  · exact (n 3 (by decide) w3 _ _).trans (m 2 w2 _ _)
  · exact m 3 w3 _ _
end

end Cert.Kernel7Ideal.Chunk

end
-- ==== Proof.WkvBlock.lean ====
module

public import proofs.«01_k».proof.Proof.Gen.Kernel7Ideal.Value
public import proofs.«01_k».proof.Proof.WkvFold
public import proofs.«01_k».proof.Proof.WkvRows
public import Idealize.ShloMosaic.Lib.Pipeline.ValueKit
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

variable (m : (ℓ : Loc nD τ sig) → Buf (Elt Ideal) ℓ) (c : Dev nD)

/-- The block's state and output of the contents of its blocks. -/
def atState (t : Fin cfg0.N) (s : M32) (x : FVec Ideal S8x256 .f32) : M32 :=
  blkState (iblk m c 0 t) (iblk m c 1 t) (iblk m c 2 t) (iblk m c 3 t) (row0 x) (row1 x) (row2 x) (row3 x)
    (iblk m c 4 t) (iblk m c 5 t) (iblk m c 6 t) (iblk m c 7 t) (iblk m c 9 t) (iblk m c 11 t) (iblk m c 13 t) (iblk m c 14 t) (iblk m c 8 t) (iblk m c 10 t) s
def atOut (t : Fin cfg0.N) (s : M32) (x : FVec Ideal S8x256 .f32) : FVec Ideal S512x256 .bf16 :=
  blkOut (iblk m c 0 t) (iblk m c 1 t) (iblk m c 2 t) (iblk m c 3 t) (row0 x) (row1 x) (row2 x) (row3 x)
    (iblk m c 4 t) (iblk m c 5 t) (iblk m c 6 t) (iblk m c 7 t) (iblk m c 9 t) (iblk m c 11 t) (iblk m c 13 t) (iblk m c 14 t) (iblk m c 15 t) (iblk m c 16 t) (iblk m c 17 t)
    (iblk m c 8 t) (iblk m c 10 t) (iblk m c 12 t) s

abbrev preS (t : Fin cfg0.N) : M32 := (outsAt0 m c (t.val - 1) (Nat.lt_of_le_of_lt (Nat.sub_le _ _) t.isLt)).2.1
abbrev preL (t : Fin cfg0.N) : FVec Ideal S8x256 .f32 := (outsAt0 m c (t.val - 1) (Nat.lt_of_le_of_lt (Nat.sub_le _ _) t.isLt)).2.2

theorem st_B (t : Fin cfg0.N) (h : ¬ t.val % 16 = 0) :
    (outsAt0 m c t.val t.isLt).2.1 = atState m c t (preS m c t) (preL m c t) := by
  rw [outsAt0_B m c t h]
  frame_out
  simp only [(Memref.isWhole_whole cc0_scratch0).read_unread, (Memref.isWhole_whole cc0_scratch1).read_unread]
  simp only [f23, f24, f35, f36, f37, f38, f39]
  simp only [q40, q41, q42, q43, q44, q45, q46, q47, q48, q49, q50, q51, q52, q53, q54, q55, q56, q57, q58, q59, q60, q61, q62, q63, q64, q65, q66, q67, q68, q69, q70, q71, q72, q73, q74, q75, q76, q77, q78, q79, q80, q81, q82, q83, q84, q85, q86, q87, q88, q89, q90, q91, q92, q93, q94, q95, q96, q97, q98, q99, q100, q101, q102, q103, q104, q105, q106, q107, q108, q109, q110, q111, q112, q113, q114, q115, q116, q117, q118, q119, q120, q121, q122, q123, q124, q125, q126, q127, q128, q129, q130, q131, q132, q133, q134, q135, q136, q137, q138, q139, q140, q141, q142, q143, q144, q145, q146, q147, q148, q149, q150, q151, q152, q153, q154, q155, q156, q157, q158, q159, q160, q161, q162, q163, q164, q165, q166, q167, q168, q169, q170, q171, q172, q173, q174, q175, q176, q177, q178, q179, q180, q181, q182, q183, q184, q185, q186, q187, q188, q189, q190, q191, q192, q193, q194, q195, q196, q197, q198, q199, q200, q201, q202, q203, q204, q205, q206, q207, q208, q209, q210, q211, q212, q213, q214, q215, q216, q217, q218, q219, q220, q221, q222, q223, q224, q225, q226, q227, q228, q229, q230, q231, q232, q233, q234, q235, q236, q237, q238, q239, q240, q241, q242, q243, q244, q245, q246, q247, q248, q249, q250, q251, q252, q253, q254, q255, q256, q257, q258, q259, q260, q261, q262, q263, q264, q265, q266, q267, q268, q269, q270, q271, q272, q273, q274, q275, q276, q277, q278, q279, q280, q281, q282, q283, q284, q285, q286, q287, q288, q289, q290, q291, q292, q293, q294, q295, q296, q297, q298, q299, q300, q301, q302, q303, q304, q305, q306, q307, q308, q309, q310, q311, q312, q313, q314, q315, q316, q317, q318, q319, q320, q321, q322, q323, q324, q325, q326, q327, q328, q329, q330, q331, q332, q333, q334, q335, q336, q337, q338, q339, q340, q341, q342, q343, q344, q345, q346, q347, q348, q349, q350, q351, q352, q353, q354, q355, q356, q357, q358, q359, q360, q361, q362, q363, q364, q365, q366, q367, q368, q369, q370, q371, q372, q373, q374, q375, q376, q377, q378]
  sl_kernel_rfl

theorem out_B (t : Fin cfg0.N) (h : ¬ t.val % 16 = 0) :
    (outsAt0 m c t.val t.isLt).1 = atOut m c t (preS m c t) (preL m c t) := by
  rw [outsAt0_B m c t h]
  frame_out
  simp only [(Memref.isWhole_whole cc0_scratch0).read_unread, (Memref.isWhole_whole cc0_scratch1).read_unread]
  simp only [f23, f24, f35, f36, f37, f38, f39]
  simp only [q40, q41, q42, q43, q44, q45, q46, q47, q48, q49, q50, q51, q52, q53, q54, q55, q56, q57, q58, q59, q60, q61, q62, q63, q64, q65, q66, q67, q68, q69, q70, q71, q72, q73, q74, q75, q76, q77, q78, q79, q80, q81, q82, q83, q84, q85, q86, q87, q88, q89, q90, q91, q92, q93, q94, q95, q96, q97, q98, q99, q100, q101, q102, q103, q104, q105, q106, q107, q108, q109, q110, q111, q112, q113, q114, q115, q116, q117, q118, q119, q120, q121, q122, q123, q124, q125, q126, q127, q128, q129, q130, q131, q132, q133, q134, q135, q136, q137, q138, q139, q140, q141, q142, q143, q144, q145, q146, q147, q148, q149, q150, q151, q152, q153, q154, q155, q156, q157, q158, q159, q160, q161, q162, q163, q164, q165, q166, q167, q168, q169, q170, q171, q172, q173, q174, q175, q176, q177, q178, q179, q180, q181, q182, q183, q184, q185, q186, q187, q188, q189, q190, q191, q192, q193, q194, q195, q196, q197, q198, q199, q200, q201, q202, q203, q204, q205, q206, q207, q208, q209, q210, q211, q212, q213, q214, q215, q216, q217, q218, q219, q220, q221, q222, q223, q224, q225, q226, q227, q228, q229, q230, q231, q232, q233, q234, q235, q236, q237, q238, q239, q240, q241, q242, q243, q244, q245, q246, q247, q248, q249, q250, q251, q252, q253, q254, q255, q256, q257, q258, q259, q260, q261, q262, q263, q264, q265, q266, q267, q268, q269, q270, q271, q272, q273, q274, q275, q276, q277, q278, q279, q280, q281, q282, q283, q284, q285, q286, q287, q288, q289, q290, q291, q292, q293, q294, q295, q296, q297, q298, q299, q300, q301, q302, q303, q304, q305, q306, q307, q308, q309, q310, q311, q312, q313, q314, q315, q316, q317, q318, q319, q320, q321, q322, q323, q324, q325, q326, q327, q328, q329, q330, q331, q332, q333, q334, q335, q336, q337, q338, q339, q340, q341, q342, q343, q344, q345, q346, q347, q348, q349, q350, q351, q352, q353, q354, q355, q356, q357, q358, q359, q360, q361, q362, q363, q364, q365, q366, q367, q368, q369, q370, q371, q372, q373, q374, q375, q376, q377, q378]
  sl_kernel_rfl

theorem la0_B (t : Fin cfg0.N) (h : ¬ t.val % 16 = 0) (j : Fin 256) :
    (outsAt0 m c t.val t.isLt).2.2 (ix2 ⟨(0 : Fin 4).val, by omega⟩ j) = k0_pay4 (iblk m c 0 t) (ix2 0 j) := by
  rw [outsAt0_B m c t h]
  frame_out
  exact rowsOf_at _ _ _ _ _ _ _ 0 j

theorem la1_B (t : Fin cfg0.N) (h : ¬ t.val % 16 = 0) (j : Fin 256) :
    (outsAt0 m c t.val t.isLt).2.2 (ix2 ⟨(1 : Fin 4).val, by omega⟩ j) = k0_pay7 (iblk m c 1 t) (ix2 0 j) := by
  rw [outsAt0_B m c t h]
  frame_out
  exact rowsOf_at _ _ _ _ _ _ _ 1 j

theorem la2_B (t : Fin cfg0.N) (h : ¬ t.val % 16 = 0) (j : Fin 256) :
    (outsAt0 m c t.val t.isLt).2.2 (ix2 ⟨(2 : Fin 4).val, by omega⟩ j) = k0_pay9 (iblk m c 2 t) (ix2 0 j) := by
  rw [outsAt0_B m c t h]
  frame_out
  exact rowsOf_at _ _ _ _ _ _ _ 2 j

theorem la3_B (t : Fin cfg0.N) (h : ¬ t.val % 16 = 0) (j : Fin 256) :
    (outsAt0 m c t.val t.isLt).2.2 (ix2 ⟨(3 : Fin 4).val, by omega⟩ j) = k0_pay11 (iblk m c 3 t) (ix2 0 j) := by
  rw [outsAt0_B m c t h]
  frame_out
  exact rowsOf_at _ _ _ _ _ _ _ 3 j

end Cert.Kernel7Ideal.Chunk

end
-- ==== Proof.WkvBlockA.lean ====
module

public import proofs.«01_k».proof.Proof.Gen.Kernel7Ideal.Value
public import proofs.«01_k».proof.Proof.WkvBlock
public import proofs.«01_k».proof.Proof.WkvRows
public import Idealize.ShloMosaic.Lib.Pipeline.ValueKit
public import Idealize.ShloMosaic.Lib.Pipeline.ReadBack
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

variable (m : (ℓ : Loc nD τ sig) → Buf (Elt Ideal) ℓ) (c : Dev nD)

theorem st_A (t : Fin cfg0.N) (h : t.val % 16 = 0) :
    (outsAt0 m c t.val t.isLt).2.1 = atState m c t k0_pay2 k0_pay3 := by
  rw [outsAt0_A m c t h]
  frame_out
  simp (discharger := first | rfl | decide) only [↓View.readCov_skip, View.readCov_fill, View.readCov_cons_toLoadRect]
  simp only [f23, f24, f35, f36, f37, f38, f39]
  simp only [q40, q41, q42, q43, q44, q45, q46, q47, q48, q49, q50, q51, q52, q53, q54, q55, q56, q57, q58, q59, q60, q61, q62, q63, q64, q65, q66, q67, q68, q69, q70, q71, q72, q73, q74, q75, q76, q77, q78, q79, q80, q81, q82, q83, q84, q85, q86, q87, q88, q89, q90, q91, q92, q93, q94, q95, q96, q97, q98, q99, q100, q101, q102, q103, q104, q105, q106, q107, q108, q109, q110, q111, q112, q113, q114, q115, q116, q117, q118, q119, q120, q121, q122, q123, q124, q125, q126, q127, q128, q129, q130, q131, q132, q133, q134, q135, q136, q137, q138, q139, q140, q141, q142, q143, q144, q145, q146, q147, q148, q149, q150, q151, q152, q153, q154, q155, q156, q157, q158, q159, q160, q161, q162, q163, q164, q165, q166, q167, q168, q169, q170, q171, q172, q173, q174, q175, q176, q177, q178, q179, q180, q181, q182, q183, q184, q185, q186, q187, q188, q189, q190, q191, q192, q193, q194, q195, q196, q197, q198, q199, q200, q201, q202, q203, q204, q205, q206, q207, q208, q209, q210, q211, q212, q213, q214, q215, q216, q217, q218, q219, q220, q221, q222, q223, q224, q225, q226, q227, q228, q229, q230, q231, q232, q233, q234, q235, q236, q237, q238, q239, q240, q241, q242, q243, q244, q245, q246, q247, q248, q249, q250, q251, q252, q253, q254, q255, q256, q257, q258, q259, q260, q261, q262, q263, q264, q265, q266, q267, q268, q269, q270, q271, q272, q273, q274, q275, q276, q277, q278, q279, q280, q281, q282, q283, q284, q285, q286, q287, q288, q289, q290, q291, q292, q293, q294, q295, q296, q297, q298, q299, q300, q301, q302, q303, q304, q305, q306, q307, q308, q309, q310, q311, q312, q313, q314, q315, q316, q317, q318, q319, q320, q321, q322, q323, q324, q325, q326, q327, q328, q329, q330, q331, q332, q333, q334, q335, q336, q337, q338, q339, q340, q341, q342, q343, q344, q345, q346, q347, q348, q349, q350, q351, q352, q353, q354, q355, q356, q357, q358, q359, q360, q361, q362, q363, q364, q365, q366, q367, q368, q369, q370, q371, q372, q373, q374, q375, q376, q377, q378]
  sl_kernel_rfl

theorem out_A (t : Fin cfg0.N) (h : t.val % 16 = 0) :
    (outsAt0 m c t.val t.isLt).1 = atOut m c t k0_pay2 k0_pay3 := by
  rw [outsAt0_A m c t h]
  frame_out
  simp (discharger := first | rfl | decide) only [↓View.readCov_skip, View.readCov_fill, View.readCov_cons_toLoadRect]
  simp only [f23, f24, f35, f36, f37, f38, f39]
  simp only [q40, q41, q42, q43, q44, q45, q46, q47, q48, q49, q50, q51, q52, q53, q54, q55, q56, q57, q58, q59, q60, q61, q62, q63, q64, q65, q66, q67, q68, q69, q70, q71, q72, q73, q74, q75, q76, q77, q78, q79, q80, q81, q82, q83, q84, q85, q86, q87, q88, q89, q90, q91, q92, q93, q94, q95, q96, q97, q98, q99, q100, q101, q102, q103, q104, q105, q106, q107, q108, q109, q110, q111, q112, q113, q114, q115, q116, q117, q118, q119, q120, q121, q122, q123, q124, q125, q126, q127, q128, q129, q130, q131, q132, q133, q134, q135, q136, q137, q138, q139, q140, q141, q142, q143, q144, q145, q146, q147, q148, q149, q150, q151, q152, q153, q154, q155, q156, q157, q158, q159, q160, q161, q162, q163, q164, q165, q166, q167, q168, q169, q170, q171, q172, q173, q174, q175, q176, q177, q178, q179, q180, q181, q182, q183, q184, q185, q186, q187, q188, q189, q190, q191, q192, q193, q194, q195, q196, q197, q198, q199, q200, q201, q202, q203, q204, q205, q206, q207, q208, q209, q210, q211, q212, q213, q214, q215, q216, q217, q218, q219, q220, q221, q222, q223, q224, q225, q226, q227, q228, q229, q230, q231, q232, q233, q234, q235, q236, q237, q238, q239, q240, q241, q242, q243, q244, q245, q246, q247, q248, q249, q250, q251, q252, q253, q254, q255, q256, q257, q258, q259, q260, q261, q262, q263, q264, q265, q266, q267, q268, q269, q270, q271, q272, q273, q274, q275, q276, q277, q278, q279, q280, q281, q282, q283, q284, q285, q286, q287, q288, q289, q290, q291, q292, q293, q294, q295, q296, q297, q298, q299, q300, q301, q302, q303, q304, q305, q306, q307, q308, q309, q310, q311, q312, q313, q314, q315, q316, q317, q318, q319, q320, q321, q322, q323, q324, q325, q326, q327, q328, q329, q330, q331, q332, q333, q334, q335, q336, q337, q338, q339, q340, q341, q342, q343, q344, q345, q346, q347, q348, q349, q350, q351, q352, q353, q354, q355, q356, q357, q358, q359, q360, q361, q362, q363, q364, q365, q366, q367, q368, q369, q370, q371, q372, q373, q374, q375, q376, q377, q378]
  sl_kernel_rfl

theorem la0_A (t : Fin cfg0.N) (h : t.val % 16 = 0) (j : Fin 256) :
    (outsAt0 m c t.val t.isLt).2.2 (ix2 ⟨(0 : Fin 4).val, by omega⟩ j) = k0_pay4 (iblk m c 0 t) (ix2 0 j) := by
  rw [outsAt0_A m c t h]
  frame_out
  rw [← View.read_writes_junk_eq_canon (View.whole cc0_scratch1)]
  exact rowsOf_at _ _ _ _ _ _ _ 0 j

theorem la1_A (t : Fin cfg0.N) (h : t.val % 16 = 0) (j : Fin 256) :
    (outsAt0 m c t.val t.isLt).2.2 (ix2 ⟨(1 : Fin 4).val, by omega⟩ j) = k0_pay7 (iblk m c 1 t) (ix2 0 j) := by
  rw [outsAt0_A m c t h]
  frame_out
  rw [← View.read_writes_junk_eq_canon (View.whole cc0_scratch1)]
  exact rowsOf_at _ _ _ _ _ _ _ 1 j

theorem la2_A (t : Fin cfg0.N) (h : t.val % 16 = 0) (j : Fin 256) :
    (outsAt0 m c t.val t.isLt).2.2 (ix2 ⟨(2 : Fin 4).val, by omega⟩ j) = k0_pay9 (iblk m c 2 t) (ix2 0 j) := by
  rw [outsAt0_A m c t h]
  frame_out
  rw [← View.read_writes_junk_eq_canon (View.whole cc0_scratch1)]
  exact rowsOf_at _ _ _ _ _ _ _ 2 j

theorem la3_A (t : Fin cfg0.N) (h : t.val % 16 = 0) (j : Fin 256) :
    (outsAt0 m c t.val t.isLt).2.2 (ix2 ⟨(3 : Fin 4).val, by omega⟩ j) = k0_pay11 (iblk m c 3 t) (ix2 0 j) := by
  rw [outsAt0_A m c t h]
  frame_out
  rw [← View.read_writes_junk_eq_canon (View.whole cc0_scratch1)]
  exact rowsOf_at _ _ _ _ _ _ _ 3 j

end Cert.Kernel7Ideal.Chunk

end
-- ==== Proof.WkvReal.lean ====
module

public import proofs.«01_k».proof.Proof.WkvChunk
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Sixty-four rows that hold the reals of `M`; a square that does. -/
def H64 (X : V64) (M : ℕ → Fin 256 → ℝ) : Prop := ∀ (i : Fin 64) (j : Fin 256), X (ix2 i j) = ((M i.val j : ℝ) : EReal)
def H16 (X : M16) (M : Mat) : Prop := ∀ i j : Fin 256, X (ix2 i j) = ((M i j : ℝ) : EReal)
def H32 (X : M32) (M : Mat) : Prop := ∀ i j : Fin 256, X (ix2 i j) = ((M i j : ℝ) : EReal)

theorem has_t16 {X : M32} {M : Mat} (h : H32 X M) : H16 (t16 X) M := h
theorem has_bd {x : V64} {f : ℕ → Fin 256 → ℝ} (h : H64 x f) : H16 (bd x) (fun i j => f (tm i) j * same i j) := fun i j => by
  rw [bd_at, h, ← EReal.coe_mul]
theorem has_tile {x : V64} {f : ℕ → Fin 256 → ℝ} (h : H64 x f) : H16 (tile x) (fun i j => f (tm i) j) := fun i j => by
  rw [tile_at, h]
theorem has_mm {A B : M16} {M N : Mat} (ha : H16 A M) (hb : H16 B N) : H32 (mm A B) (M * N) := fun i j => by
  rw [mm_at, Matrix.mul_apply, ← sum_coe]
  exact Finset.sum_congr rfl fun k _ => by rw [ha, hb, EReal.coe_mul]
theorem has_mmT {A B : M16} {M N : Mat} (ha : H16 A M) (hb : H16 B N) : H32 (mmT A B) (M.transpose * N) := fun i j => by
  rw [mmT_at, Matrix.mul_apply, ← sum_coe]
  exact Finset.sum_congr rfl fun k _ => by rw [ha, hb, EReal.coe_mul]; rfl
theorem has_add {A B : M32} {M N : Mat} (ha : H32 A M) (hb : H32 B N) : H32 (addf A B) (M + N) := fun i j => by
  show A (ix2 i j) + B (ix2 i j) = _
  rw [ha, hb, ← EReal.coe_add]; rfl
theorem has_eye : H32 kEye (1 : Mat) := fun i j => eye_at i j

theorem lo_at (x : V64) (i : Fin 64) (j : Fin 256) : lo x (ix2 i j) = x (ix2 i j) - x (ix2 i j) := by
  pointwise [lo, c16]

theorem has_lo {x : V64} {f : ℕ → Fin 256 → ℝ} (h : H64 x f) : H64 (lo x) (fun _ _ => 0) := fun i j => by
  rw [lo_at, h, ← EReal.coe_sub, sub_self]

theorem has_mt {x : V64} {f : ℕ → Fin 256 → ℝ} (h : H64 x f) : H64 (mt (c16 x)) (fun t i => cumT f (t + 1) i) := fun i j => by
  rw [mt_at]
  have h1 : ∀ k : Fin 64, kTri (ix2 i k) * c16 x (ix2 k j) = ((if k.val ≤ i.val then f k.val j else 0 : ℝ) : EReal) := fun k => by
    have : c16 x (ix2 k j) = ((f k.val j : ℝ) : EReal) := h k j
    rw [tri_at, this, ← EReal.coe_mul]
    congr 1
    split_ifs <;> simp
  rw [Finset.sum_congr rfl fun k _ => h1 k, sum_coe]
  congr 1
  rw [Fin.sum_univ_eq_sum_range (fun n => if n ≤ i.val then f n j else 0) 64, ← Finset.sum_filter]
  show _ = ∑ q ∈ Finset.range (i.val + 1), f q j
  refine Finset.sum_congr (Finset.ext fun n => ?_) fun _ _ => rfl
  have := i.isLt
  simp only [Finset.mem_filter, Finset.mem_range]
  omega

theorem has_cum {lw : V64} {f : ℕ → Fin 256 → ℝ} (h : H64 lw f) : H64 (kCum lw) (fun t i => cumT f (t + 1) i) := fun i j => by
  show (mt (c16 lw) (ix2 i j) + mt (c16 (lo lw)) (ix2 i j)) + mt (c16 (lo (lo lw))) (ix2 i j) = _
  rw [has_mt h, has_mt (has_lo h), has_mt (has_lo (has_lo h)), ← EReal.coe_add, ← EReal.coe_add]
  simp [cumT]

section
variable {lw r a b k v : V64} {flw fr fa fb fk fv : ℕ → Fin 256 → ℝ}
  (hlw : H64 lw flw) (hr : H64 r fr) (ha : H64 a fa) (hb : H64 b fb) (hk : H64 k fk) (hv : H64 v fv)

include hlw

include ha in
theorem has_A : H16 (kA a lw (kCum lw)) (mA flw fa) := has_bd (f := fun t i => fa t i * Real.exp (cumT flw (t + 1) i - flw t i)) fun i j => by
  show a (ix2 i j) * Ideal.exp (kCum lw (ix2 i j) - lw (ix2 i j)) = _
  rw [ha, has_cum hlw, hlw, ← EReal.coe_sub, Ideal.exp_coe, ← EReal.coe_mul]

include hr in
theorem has_Rh : H64 (kRh r (kCum lw)) (fun t i => fr t i * Real.exp (cumT flw (t + 1) i)) := fun i j => by
  show r (ix2 i j) * Ideal.exp (kCum lw (ix2 i j)) = _
  rw [hr, has_cum hlw, Ideal.exp_coe, ← EReal.coe_mul]

include hr in
theorem has_R : H16 (kR r (kCum lw)) (mR flw fr) := has_bd (has_Rh hlw hr)

include hb in
theorem has_Be : H16 (kBe b (kCum lw)) (mBe flw fb) := has_bd (f := fun t i => fb t i * Real.exp (cumT flw 64 i - cumT flw (t + 1) i)) fun i j => by
  show b (ix2 i j) * kE (kCum lw) (ix2 i j) = _
  rw [kE_at, hb, has_cum hlw, has_cum hlw, ← EReal.coe_sub, Ideal.exp_coe, ← EReal.coe_mul]
  rfl

include hb in
theorem has_Bi : H16 (kBi b (kCum lw)) (mBi flw fb) := has_tile (f := fun t i => fb t i * Real.exp (0 - cumT flw (t + 1) i)) fun i j => by
  show b (ix2 i j) * kI (kCum lw) (ix2 i j) = _
  rw [kI_at, hb, has_cum hlw, ← EReal.coe_zero, ← EReal.coe_sub, Ideal.exp_coe, ← EReal.coe_mul]

include hr ha hb hk
theorem has_L : H32 (kL (cM lw r a b k)) (mL flw fa fb) := fun i j => by
  unfold cM
  rw [kL_at, mL, EReal.coe_mul, ← sum_coe]
  congr 1
  exact Finset.sum_congr rfl fun q _ => by rw [has_A hlw ha, has_Bi hlw hb, EReal.coe_mul]
theorem has_Lk : H16 (kLk (cM lw r a b k)) (mLk flw fa fk) := fun i j => by
  unfold cM
  rw [kLk_at, mLk, EReal.coe_mul, ← sum_coe]
  congr 1
  exact Finset.sum_congr rfl fun q _ => by rw [has_A hlw ha, has_Bi hlw hk, EReal.coe_mul]; rfl
theorem has_Rb : H16 (kRb (cM lw r a b k)) (mRb flw fb fr) := fun i j => by
  unfold cM
  rw [kRb_at, mRb, EReal.coe_mul, ← sum_coe]
  congr 1
  exact Finset.sum_congr rfl fun q _ => by rw [has_R hlw hr, has_Bi hlw hb, EReal.coe_mul]
theorem has_Rk : H16 (kRk (cM lw r a b k)) (mRk flw fk fr) := fun i j => by
  unfold cM
  rw [kRk_at, mRk, EReal.coe_mul, ← sum_coe]
  congr 1
  exact Finset.sum_congr rfl fun q _ => by rw [has_R hlw hr, has_Bi hlw hk, EReal.coe_mul]; rfl
omit hlw hr ha hb hk

theorem has_sq {p : M32} {P : Mat} (h : H32 p P) : H32 (sq p) (P * P) := has_mm (has_t16 h) (has_t16 h)
theorem has_up {t p : M32} {T P : Mat} (ht : H32 t T) (h : H32 p P) : H32 (up t p) (T + T * P) := has_add ht (has_mm (has_t16 ht) (has_t16 h))
theorem has_T {l : M32} {L : Mat} (h : H32 l L) : H32 (kT l) (dbl L 5).2 :=
  has_up (has_up (has_up (has_up (has_up (has_add has_eye h) (has_sq h)) (has_sq (has_sq h))) (has_sq (has_sq (has_sq h)))) (has_sq (has_sq (has_sq (has_sq h))))) (has_sq (has_sq (has_sq (has_sq (has_sq h)))))

/-- A wide array that holds two squares side by side. -/
def HW (X : W16) (M N : Mat) : Prop :=
  (∀ i j : Fin 256, X (ix2 i (⟨j.val, by omega⟩ : Fin 512)) = ((M i j : ℝ) : EReal)) ∧
  ∀ i j : Fin 256, X (ix2 i (⟨256 + j.val, by omega⟩ : Fin 512)) = ((N i j : ℝ) : EReal)

theorem has_TW {t : M32} {A Lk V : M16} {T MA MLk MV : Mat} (ht : H32 t T) (ha : H16 A MA) (hl : H16 Lk MLk) (hv : H16 V MV) :
    HW (kTW t A Lk V) (T * MA) (T * (MLk * MV)) := by
  refine ⟨fun i j => ?_, fun i j => ?_⟩
  · rw [twL_at, Matrix.mul_apply, ← sum_coe]
    exact Finset.sum_congr rfl fun q _ => by rw [ht, ha, EReal.coe_mul]
  · rw [twR_at, Matrix.mul_apply, ← sum_coe]
    exact Finset.sum_congr rfl fun q _ => by rw [ht, has_mm hl hv, EReal.coe_mul]

theorem has_lft {A : M16} {B : W16} {M P Q : Mat} (ha : H16 A M) (hb : HW B P Q) : H32 (lft (mw A B)) (M * P) := fun i j => by
  rw [lft_at, mw_at, Matrix.mul_apply, ← sum_coe]
  exact Finset.sum_congr rfl fun q _ => by rw [ha, hb.1, EReal.coe_mul]
theorem has_rgt {A : M16} {B : W16} {M P Q : Mat} (ha : H16 A M) (hb : HW B P Q) : H32 (rgt (mw A B)) (M * Q) := fun i j => by
  rw [rgt_at, mw_at, Matrix.mul_apply, ← sum_coe]
  exact Finset.sum_congr rfl fun q _ => by rw [ha, hb.2, EReal.coe_mul]
theorem has_lftT {A : M16} {B : W16} {M P Q : Mat} (ha : H16 A M) (hb : HW B P Q) : H32 (lft (mwT A B)) (M.transpose * P) := fun i j => by
  rw [lft_at, mwT_at, Matrix.mul_apply, ← sum_coe]
  exact Finset.sum_congr rfl fun q _ => by rw [ha, hb.1, EReal.coe_mul]; rfl
theorem has_rgtT {A : M16} {B : W16} {M P Q : Mat} (ha : H16 A M) (hb : HW B P Q) : H32 (rgt (mwT A B)) (M.transpose * Q) := fun i j => by
  rw [rgt_at, mwT_at, Matrix.mul_apply, ← sum_coe]
  exact Finset.sum_congr rfl fun q _ => by rw [ha, hb.2, EReal.coe_mul]; rfl

theorem has_next {ac : M16} {cc s : M32} {MA MC MS : Mat} (ha : H16 ac MA) (hc : H32 cc MC) (hs : H32 s MS) : H32 (kNext ac cc s) (MA * MS + MC) :=
  has_add (has_mm ha (has_t16 hs)) hc

include hlw hr ha hb hk hv
theorem has_cTW : HW (cTW lw r a b k v) ((dbl (mL flw fa fb) 5).2 * mA flw fa) ((dbl (mL flw fa fb) 5).2 * (mLk flw fa fk * mV fv)) :=
  has_TW (has_T (has_L hlw hr ha hb hk)) (has_A hlw ha) (has_Lk hlw hr ha hb hk) (has_bd hv)

theorem has_cAc : H16 (cAc lw r a b k v) (Matrix.diagonal (fun i => Real.exp (cumT flw 64 i)) + (mBe flw fb).transpose * ((dbl (mL flw fa fb) 5).2 * mA flw fa)) := fun i j => by
  unfold cAc
  rw [kAc_at, ← lft_at (mwT _ _), has_lftT (has_Be hlw hb) (has_cTW hlw hr ha hb hk hv), has_cum hlw, Ideal.exp_coe, ← EReal.coe_mul, ← EReal.coe_add, Matrix.add_apply]
  congr 2
  rw [Matrix.diagonal_apply, Matrix.one_apply]
  split_ifs with h
  · subst h; simp
  · simp

theorem has_cCc : H32 (cCc lw r a b k v) ((mBe flw fb).transpose * ((dbl (mL flw fa fb) 5).2 * (mLk flw fa fk * mV fv)) + (mKe flw fk).transpose * mV fv) :=
  has_add (has_rgtT (has_Be hlw hb) (has_cTW hlw hr ha hb hk hv)) (has_mmT (has_Be hlw hk) (has_bd hv))

theorem has_cQc : H16 (cQc lw r a b k v) (mR flw fr + mRb flw fb fr * ((dbl (mL flw fa fb) 5).2 * mA flw fa)) := fun i j => by
  unfold cQc
  rw [kQc_at, ← lft_at (mw _ _), has_lft (has_Rb hlw hr ha hb hk) (has_cTW hlw hr ha hb hk hv), has_Rh hlw hr, Matrix.add_apply, EReal.coe_add, same_at, mR, same]
  congr 1
  split_ifs with h <;> simp [Scalar.select]

theorem has_cYl : H32 (cYl lw r a b k v) (mRb flw fb fr * ((dbl (mL flw fa fb) 5).2 * (mLk flw fa fk * mV fv)) + mRk flw fk fr * mV fv) :=
  has_add (has_rgt (has_Rb hlw hr ha hb hk) (has_cTW hlw hr ha hb hk hv)) (has_mm (has_Rk hlw hr ha hb hk) (has_bd hv))

variable {s : M32} {S0 : Fin 256 → Fin 256 → ℝ} (hs : H32 s (toMat S0)) (h0 : ∀ i j, hd i ≠ hd j → S0 i j = 0)
include hs h0

/-- A chunk moves the state by its 64 steps. -/
theorem has_cNext : H32 (cNext lw r a b k v s) (toMat (st flw fa fb fk fv S0 64)) := by
  rw [← chunk_state flw fa fb fk fv S0 h0]
  exact has_next (has_cAc hlw hr ha hb hk hv) (has_cCc hlw hr ha hb hk hv) hs

/-- A chunk's outputs are those of its 64 steps. -/
theorem has_cOut : H64 (cOut lw r a b k v s) (yt flw fa fb fk fv fr S0) := fun i j => by
  have h := has_next (has_cQc hlw hr ha hb hk hv) (has_cYl hlw hr ha hb hk hv) hs
  unfold cOut
  rw [kFold_at, h, h, h, h, ← EReal.coe_add, ← EReal.coe_add, ← EReal.coe_add]
  congr 1
  simp only [chunk_out flw fa fb fk fv fr S0 h0]
  exact sum_heads (fun _ => 0) i.val i.isLt j _ (fun x => yt flw fa fb fk fv fr S0 (tm x) j * same x j) fun x hx => by rw [hx]
end

end Cert.Kernel7Ideal.Chunk

end
-- ==== Proof.WkvRun.lean ====
module

public import proofs.«01_k».proof.Proof.WkvFold
public import proofs.«01_k».proof.Proof.WkvReal
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

/-- The array's values are those of a real family. -/
def HZ (X : Z) (M : ℕ → Fin 256 → ℝ) : Prop := ∀ (i : Fin 512) (j : Fin 256), X (ix2 i j) = ((M i.val j : ℝ) : EReal)

/-- The family from a time on. -/
abbrev sh (n : ℕ) (f : ℕ → Fin 256 → ℝ) : ℕ → Fin 256 → ℝ := fun s => f (n + s)

theorem yt_add (lw a b k v r : ℕ → Fin 256 → ℝ) (S0 : Fin 256 → Fin 256 → ℝ) (n t : ℕ) (j : Fin 256) :
    yt lw a b k v r S0 (n + t) j = yt (sh n lw) (sh n a) (sh n b) (sh n k) (sh n v) (sh n r) (st lw a b k v S0 n) t j := by
  simp only [yt, sh]
  rw [Nat.add_assoc, st_add]

theorem has_s0 {X : Z} {M : ℕ → Fin 256 → ℝ} (h : HZ X M) : H64 (s0 X) (sh 0 M) := fun i j => by
  have e : s0 X (ix2 i j) = X (ix2 ⟨0 + i.val, by omega⟩ j) := by pointwise [s0]
  rw [e, h]

theorem has_s1 {X : Z} {M : ℕ → Fin 256 → ℝ} (h : HZ X M) : H64 (s1 X) (sh 64 M) := fun i j => by
  have e : s1 X (ix2 i j) = X (ix2 ⟨64 + i.val, by omega⟩ j) := by pointwise [s1]
  rw [e, h]

theorem has_s2 {X : Z} {M : ℕ → Fin 256 → ℝ} (h : HZ X M) : H64 (s2 X) (sh 128 M) := fun i j => by
  have e : s2 X (ix2 i j) = X (ix2 ⟨128 + i.val, by omega⟩ j) := by pointwise [s2]
  rw [e, h]

theorem has_s3 {X : Z} {M : ℕ → Fin 256 → ℝ} (h : HZ X M) : H64 (s3 X) (sh 192 M) := fun i j => by
  have e : s3 X (ix2 i j) = X (ix2 ⟨192 + i.val, by omega⟩ j) := by pointwise [s3]
  rw [e, h]

theorem has_s4 {X : Z} {M : ℕ → Fin 256 → ℝ} (h : HZ X M) : H64 (s4 X) (sh 256 M) := fun i j => by
  have e : s4 X (ix2 i j) = X (ix2 ⟨256 + i.val, by omega⟩ j) := by pointwise [s4]
  rw [e, h]

theorem has_s5 {X : Z} {M : ℕ → Fin 256 → ℝ} (h : HZ X M) : H64 (s5 X) (sh 320 M) := fun i j => by
  have e : s5 X (ix2 i j) = X (ix2 ⟨320 + i.val, by omega⟩ j) := by pointwise [s5]
  rw [e, h]

theorem has_s6 {X : Z} {M : ℕ → Fin 256 → ℝ} (h : HZ X M) : H64 (s6 X) (sh 384 M) := fun i j => by
  have e : s6 X (ix2 i j) = X (ix2 ⟨384 + i.val, by omega⟩ j) := by pointwise [s6]
  rw [e, h]

theorem has_s7 {X : Z} {M : ℕ → Fin 256 → ℝ} (h : HZ X M) : H64 (s7 X) (sh 448 M) := fun i j => by
  have e : s7 X (ix2 i j) = X (ix2 ⟨448 + i.val, by omega⟩ j) := by pointwise [s7]
  rw [e, h]

theorem at_row {X : V64} {f : ℕ → Fin 256 → ℝ} {n : ℕ} (h : H64 X fun t j => f (n + t) j) (i : Fin 64) (j : Fin 256) (k : ℕ) (e : n + i.val = k) :
    X (ix2 i j) = ((f k j : ℝ) : EReal) := by
  subst e; exact h i j

theorem has_cat (o0 o1 o2 o3 o4 o5 o6 o7 : V64) (f : ℕ → Fin 256 → ℝ) (h0 : H64 o0 fun t j => f (0 + t) j) (h1 : H64 o1 fun t j => f (64 + t) j) (h2 : H64 o2 fun t j => f (128 + t) j) (h3 : H64 o3 fun t j => f (192 + t) j) (h4 : H64 o4 fun t j => f (256 + t) j) (h5 : H64 o5 fun t j => f (320 + t) j) (h6 : H64 o6 fun t j => f (384 + t) j) (h7 : H64 o7 fun t j => f (448 + t) j) :
    HZ (concatenate S512x256 0 [⟨S64x256, o0⟩, ⟨S64x256, o1⟩, ⟨S64x256, o2⟩, ⟨S64x256, o3⟩, ⟨S64x256, o4⟩, ⟨S64x256, o5⟩, ⟨S64x256, o6⟩, ⟨S64x256, o7⟩] concatenates_S64x256_S64x256_S64x256_S64x256_S64x256_S64x256_S64x256_S64x256_S512x256_d0) f := fun i j => by
  pointwise
  split_ifs <;> first
    | exact at_row h0 _ j _ (by dsimp only; omega)
    | exact at_row h0 _ j _ (by omega)
    | exact at_row h1 _ j _ (by dsimp only; omega)
    | exact at_row h1 _ j _ (by omega)
    | exact at_row h2 _ j _ (by dsimp only; omega)
    | exact at_row h2 _ j _ (by omega)
    | exact at_row h3 _ j _ (by dsimp only; omega)
    | exact at_row h3 _ j _ (by omega)
    | exact at_row h4 _ j _ (by dsimp only; omega)
    | exact at_row h4 _ j _ (by omega)
    | exact at_row h5 _ j _ (by dsimp only; omega)
    | exact at_row h5 _ j _ (by omega)
    | exact at_row h6 _ j _ (by dsimp only; omega)
    | exact at_row h6 _ j _ (by omega)
    | exact at_row h7 _ j _ (by dsimp only; omega)
    | exact at_row h7 _ j _ (by omega)

section
variable {LW R A B K V : Z} {s : M32} {flw fr fa fb fk fv : ℕ → Fin 256 → ℝ} {S0 : Fin 256 → Fin 256 → ℝ}
variable (hlw : HZ LW flw) (hr : HZ R fr) (ha : HZ A fa) (hb : HZ B fb) (hk : HZ K fk) (hv : HZ V fv)
  (hs : H32 s (toMat S0)) (h0 : ∀ i j, hd i ≠ hd j → S0 i j = 0)
include hlw hr ha hb hk hv hs h0

theorem has_T_0 : H32 (T_0 LW R A B K V s) (toMat (st flw fa fb fk fv S0 0)) := hs

theorem has_T_1 : H32 (T_1 LW R A B K V s) (toMat (st flw fa fb fk fv S0 64)) := by
  have h := has_cNext (has_s0 hlw) (has_s0 hr) (has_s0 ha) (has_s0 hb) (has_s0 hk) (has_s0 hv) (has_T_0 hlw hr ha hb hk hv hs h0)
    (fun i j hij => st_diag flw fa fb fk fv S0 h0 0 i j hij)
  have e := st_add flw fa fb fk fv S0 0 64
  intro i j
  show T_1 LW R A B K V s (ix2 i j) = _
  unfold T_1
  rw [h i j]
  show ((st _ _ _ _ _ _ 64 i j : ℝ) : EReal) = _
  show _ = ((st flw fa fb fk fv S0 (0 + 64) i j : ℝ) : EReal)
  rw [e]

theorem has_O_0 : H64 (cOut (s0 LW) (s0 R) (s0 A) (s0 B) (s0 K) (s0 V) (T_0 LW R A B K V s)) (fun t j => yt flw fa fb fk fv fr S0 (0 + t) j) := by
  have h := has_cOut (has_s0 hlw) (has_s0 hr) (has_s0 ha) (has_s0 hb) (has_s0 hk) (has_s0 hv) (has_T_0 hlw hr ha hb hk hv hs h0)
    (fun i j hij => st_diag flw fa fb fk fv S0 h0 0 i j hij)
  intro i j
  rw [h i j]
  exact congrArg _ (yt_add flw fa fb fk fv fr S0 0 i.val j).symm

theorem has_T_2 : H32 (T_2 LW R A B K V s) (toMat (st flw fa fb fk fv S0 128)) := by
  have h := has_cNext (has_s1 hlw) (has_s1 hr) (has_s1 ha) (has_s1 hb) (has_s1 hk) (has_s1 hv) (has_T_1 hlw hr ha hb hk hv hs h0)
    (fun i j hij => st_diag flw fa fb fk fv S0 h0 64 i j hij)
  have e := st_add flw fa fb fk fv S0 64 64
  intro i j
  show T_2 LW R A B K V s (ix2 i j) = _
  unfold T_2
  rw [h i j]
  show ((st _ _ _ _ _ _ 64 i j : ℝ) : EReal) = _
  show _ = ((st flw fa fb fk fv S0 (64 + 64) i j : ℝ) : EReal)
  rw [e]

theorem has_O_1 : H64 (cOut (s1 LW) (s1 R) (s1 A) (s1 B) (s1 K) (s1 V) (T_1 LW R A B K V s)) (fun t j => yt flw fa fb fk fv fr S0 (64 + t) j) := by
  have h := has_cOut (has_s1 hlw) (has_s1 hr) (has_s1 ha) (has_s1 hb) (has_s1 hk) (has_s1 hv) (has_T_1 hlw hr ha hb hk hv hs h0)
    (fun i j hij => st_diag flw fa fb fk fv S0 h0 64 i j hij)
  intro i j
  rw [h i j]
  exact congrArg _ (yt_add flw fa fb fk fv fr S0 64 i.val j).symm

theorem has_T_3 : H32 (T_3 LW R A B K V s) (toMat (st flw fa fb fk fv S0 192)) := by
  have h := has_cNext (has_s2 hlw) (has_s2 hr) (has_s2 ha) (has_s2 hb) (has_s2 hk) (has_s2 hv) (has_T_2 hlw hr ha hb hk hv hs h0)
    (fun i j hij => st_diag flw fa fb fk fv S0 h0 128 i j hij)
  have e := st_add flw fa fb fk fv S0 128 64
  intro i j
  show T_3 LW R A B K V s (ix2 i j) = _
  unfold T_3
  rw [h i j]
  show ((st _ _ _ _ _ _ 64 i j : ℝ) : EReal) = _
  show _ = ((st flw fa fb fk fv S0 (128 + 64) i j : ℝ) : EReal)
  rw [e]

theorem has_O_2 : H64 (cOut (s2 LW) (s2 R) (s2 A) (s2 B) (s2 K) (s2 V) (T_2 LW R A B K V s)) (fun t j => yt flw fa fb fk fv fr S0 (128 + t) j) := by
  have h := has_cOut (has_s2 hlw) (has_s2 hr) (has_s2 ha) (has_s2 hb) (has_s2 hk) (has_s2 hv) (has_T_2 hlw hr ha hb hk hv hs h0)
    (fun i j hij => st_diag flw fa fb fk fv S0 h0 128 i j hij)
  intro i j
  rw [h i j]
  exact congrArg _ (yt_add flw fa fb fk fv fr S0 128 i.val j).symm

theorem has_T_4 : H32 (T_4 LW R A B K V s) (toMat (st flw fa fb fk fv S0 256)) := by
  have h := has_cNext (has_s3 hlw) (has_s3 hr) (has_s3 ha) (has_s3 hb) (has_s3 hk) (has_s3 hv) (has_T_3 hlw hr ha hb hk hv hs h0)
    (fun i j hij => st_diag flw fa fb fk fv S0 h0 192 i j hij)
  have e := st_add flw fa fb fk fv S0 192 64
  intro i j
  show T_4 LW R A B K V s (ix2 i j) = _
  unfold T_4
  rw [h i j]
  show ((st _ _ _ _ _ _ 64 i j : ℝ) : EReal) = _
  show _ = ((st flw fa fb fk fv S0 (192 + 64) i j : ℝ) : EReal)
  rw [e]

theorem has_O_3 : H64 (cOut (s3 LW) (s3 R) (s3 A) (s3 B) (s3 K) (s3 V) (T_3 LW R A B K V s)) (fun t j => yt flw fa fb fk fv fr S0 (192 + t) j) := by
  have h := has_cOut (has_s3 hlw) (has_s3 hr) (has_s3 ha) (has_s3 hb) (has_s3 hk) (has_s3 hv) (has_T_3 hlw hr ha hb hk hv hs h0)
    (fun i j hij => st_diag flw fa fb fk fv S0 h0 192 i j hij)
  intro i j
  rw [h i j]
  exact congrArg _ (yt_add flw fa fb fk fv fr S0 192 i.val j).symm

theorem has_T_5 : H32 (T_5 LW R A B K V s) (toMat (st flw fa fb fk fv S0 320)) := by
  have h := has_cNext (has_s4 hlw) (has_s4 hr) (has_s4 ha) (has_s4 hb) (has_s4 hk) (has_s4 hv) (has_T_4 hlw hr ha hb hk hv hs h0)
    (fun i j hij => st_diag flw fa fb fk fv S0 h0 256 i j hij)
  have e := st_add flw fa fb fk fv S0 256 64
  intro i j
  show T_5 LW R A B K V s (ix2 i j) = _
  unfold T_5
  rw [h i j]
  show ((st _ _ _ _ _ _ 64 i j : ℝ) : EReal) = _
  show _ = ((st flw fa fb fk fv S0 (256 + 64) i j : ℝ) : EReal)
  rw [e]

theorem has_O_4 : H64 (cOut (s4 LW) (s4 R) (s4 A) (s4 B) (s4 K) (s4 V) (T_4 LW R A B K V s)) (fun t j => yt flw fa fb fk fv fr S0 (256 + t) j) := by
  have h := has_cOut (has_s4 hlw) (has_s4 hr) (has_s4 ha) (has_s4 hb) (has_s4 hk) (has_s4 hv) (has_T_4 hlw hr ha hb hk hv hs h0)
    (fun i j hij => st_diag flw fa fb fk fv S0 h0 256 i j hij)
  intro i j
  rw [h i j]
  exact congrArg _ (yt_add flw fa fb fk fv fr S0 256 i.val j).symm

theorem has_T_6 : H32 (T_6 LW R A B K V s) (toMat (st flw fa fb fk fv S0 384)) := by
  have h := has_cNext (has_s5 hlw) (has_s5 hr) (has_s5 ha) (has_s5 hb) (has_s5 hk) (has_s5 hv) (has_T_5 hlw hr ha hb hk hv hs h0)
    (fun i j hij => st_diag flw fa fb fk fv S0 h0 320 i j hij)
  have e := st_add flw fa fb fk fv S0 320 64
  intro i j
  show T_6 LW R A B K V s (ix2 i j) = _
  unfold T_6
  rw [h i j]
  show ((st _ _ _ _ _ _ 64 i j : ℝ) : EReal) = _
  show _ = ((st flw fa fb fk fv S0 (320 + 64) i j : ℝ) : EReal)
  rw [e]

theorem has_O_5 : H64 (cOut (s5 LW) (s5 R) (s5 A) (s5 B) (s5 K) (s5 V) (T_5 LW R A B K V s)) (fun t j => yt flw fa fb fk fv fr S0 (320 + t) j) := by
  have h := has_cOut (has_s5 hlw) (has_s5 hr) (has_s5 ha) (has_s5 hb) (has_s5 hk) (has_s5 hv) (has_T_5 hlw hr ha hb hk hv hs h0)
    (fun i j hij => st_diag flw fa fb fk fv S0 h0 320 i j hij)
  intro i j
  rw [h i j]
  exact congrArg _ (yt_add flw fa fb fk fv fr S0 320 i.val j).symm

theorem has_T_7 : H32 (T_7 LW R A B K V s) (toMat (st flw fa fb fk fv S0 448)) := by
  have h := has_cNext (has_s6 hlw) (has_s6 hr) (has_s6 ha) (has_s6 hb) (has_s6 hk) (has_s6 hv) (has_T_6 hlw hr ha hb hk hv hs h0)
    (fun i j hij => st_diag flw fa fb fk fv S0 h0 384 i j hij)
  have e := st_add flw fa fb fk fv S0 384 64
  intro i j
  show T_7 LW R A B K V s (ix2 i j) = _
  unfold T_7
  rw [h i j]
  show ((st _ _ _ _ _ _ 64 i j : ℝ) : EReal) = _
  show _ = ((st flw fa fb fk fv S0 (384 + 64) i j : ℝ) : EReal)
  rw [e]

theorem has_O_6 : H64 (cOut (s6 LW) (s6 R) (s6 A) (s6 B) (s6 K) (s6 V) (T_6 LW R A B K V s)) (fun t j => yt flw fa fb fk fv fr S0 (384 + t) j) := by
  have h := has_cOut (has_s6 hlw) (has_s6 hr) (has_s6 ha) (has_s6 hb) (has_s6 hk) (has_s6 hv) (has_T_6 hlw hr ha hb hk hv hs h0)
    (fun i j hij => st_diag flw fa fb fk fv S0 h0 384 i j hij)
  intro i j
  rw [h i j]
  exact congrArg _ (yt_add flw fa fb fk fv fr S0 384 i.val j).symm

theorem has_T_8 : H32 (T_8 LW R A B K V s) (toMat (st flw fa fb fk fv S0 512)) := by
  have h := has_cNext (has_s7 hlw) (has_s7 hr) (has_s7 ha) (has_s7 hb) (has_s7 hk) (has_s7 hv) (has_T_7 hlw hr ha hb hk hv hs h0)
    (fun i j hij => st_diag flw fa fb fk fv S0 h0 448 i j hij)
  have e := st_add flw fa fb fk fv S0 448 64
  intro i j
  show T_8 LW R A B K V s (ix2 i j) = _
  unfold T_8
  rw [h i j]
  show ((st _ _ _ _ _ _ 64 i j : ℝ) : EReal) = _
  show _ = ((st flw fa fb fk fv S0 (448 + 64) i j : ℝ) : EReal)
  rw [e]

theorem has_O_7 : H64 (cOut (s7 LW) (s7 R) (s7 A) (s7 B) (s7 K) (s7 V) (T_7 LW R A B K V s)) (fun t j => yt flw fa fb fk fv fr S0 (448 + t) j) := by
  have h := has_cOut (has_s7 hlw) (has_s7 hr) (has_s7 ha) (has_s7 hb) (has_s7 hk) (has_s7 hv) (has_T_7 hlw hr ha hb hk hv hs h0)
    (fun i j hij => st_diag flw fa fb fk fv S0 h0 448 i j hij)
  intro i j
  rw [h i j]
  exact congrArg _ (yt_add flw fa fb fk fv fr S0 448 i.val j).symm

theorem has_bState : H32 (bState LW R A B K V s) (toMat (st flw fa fb fk fv S0 512)) := fun i j => by
  have e : bState LW R A B K V s (ix2 i j) = T_8 LW R A B K V s (ix2 i j) := by pointwise [bState]
  rw [e, has_T_8 hlw hr ha hb hk hv hs h0 i j]

theorem has_bY : HZ (bY LW R A B K V s) (fun t j => yt flw fa fb fk fv fr S0 t j) :=
  has_cat _ _ _ _ _ _ _ _ _ (has_O_0 hlw hr ha hb hk hv hs h0) (has_O_1 hlw hr ha hb hk hv hs h0) (has_O_2 hlw hr ha hb hk hv hs h0) (has_O_3 hlw hr ha hb hk hv hs h0) (has_O_4 hlw hr ha hb hk hv hs h0) (has_O_5 hlw hr ha hb hk hv hs h0) (has_O_6 hlw hr ha hb hk hv hs h0) (has_O_7 hlw hr ha hb hk hv hs h0)
end

end Cert.Kernel7Ideal.Chunk

end
-- ==== Proof.WkvPre.lean ====
module

public import proofs.«01_k».proof.Proof.WkvRun
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

theorem tiny_bits : ∃ e : ℝ, 0 < e ∧ Ideal.ofBits .f32 0x2B8CBCCC#32 = (e : EReal) :=
  ⟨9223372 * (2 ^ 63)⁻¹, by positivity, by simp [Ideal.ofBits, Ideal.ieee]⟩
theorem small_bits : ∃ e : ℝ, 0 < e ∧ Ideal.ofBits .f32 0x3A27C5AC#32 = (e : EReal) :=
  ⟨10995116 * (2 ^ 34)⁻¹, by positivity, by simp [Ideal.ofBits, Ideal.ieee]⟩
theorem half_bits : Ideal.ofBits .f32 0x3F000000#32 = ((1 / 2 : ℝ) : EReal) := by
  simp [Ideal.ofBits, Ideal.ieee]
  rw [← EReal.coe_mul]
  norm_num
theorem part_bits : Ideal.ofBits .f32 0x3C800000#32 = ((1 / 64 : ℝ) : EReal) := by
  simp [Ideal.ofBits, Ideal.ieee]
  rw [← EReal.coe_mul]
  norm_num

/-- The two small constants of the norms. -/
def tiny : ℝ := Classical.choose tiny_bits
def small : ℝ := Classical.choose small_bits
theorem tiny_pos : 0 < tiny := (Classical.choose_spec tiny_bits).1
theorem tiny_eq : Ideal.ofBits .f32 0x2B8CBCCC#32 = (tiny : EReal) := (Classical.choose_spec tiny_bits).2
theorem small_pos : 0 < small := (Classical.choose_spec small_bits).1
theorem small_eq : Ideal.ofBits .f32 0x3A27C5AC#32 = (small : EReal) := (Classical.choose_spec small_bits).2

theorem coe_max' (a b : ℝ) : max (a : EReal) (b : EReal) = ((max a b : ℝ) : EReal) := (EReal.coe_strictMono.monotone.map_max).symm

/-- Division by a nonzero real. -/
theorem div_coe' (a b : ℝ) (h : b ≠ 0) : Ideal.div (a : EReal) (b : EReal) = ((a / b : ℝ) : EReal) := by
  rw [Ideal.div_coe h, ← EReal.coe_mul]
  congr 1
  ring

/-- The logistic function, and the soft plus. -/
def sg (x : ℝ) : ℝ := 1 / (1 + Real.exp (0 - x))
def sp (u : ℝ) : ℝ := max u 0 + Real.log (1 + Real.exp (0 - max u (-u)))

theorem sg_at (x : ℝ) : Ideal.div 1 (1 + Ideal.exp (0 - (x : EReal))) = ((sg x : ℝ) : EReal) := by
  have h : (1 + Real.exp (0 - x)) ≠ 0 := by positivity
  rw [← EReal.coe_zero, ← EReal.coe_one, ← EReal.coe_sub, Ideal.exp_coe, ← EReal.coe_add, div_coe' _ _ h]
  rfl

theorem sp_at (u : ℝ) : max (u : EReal) 0 + Ideal.log (1 + Ideal.exp (0 - max (u : EReal) (-(u : EReal)))) = ((sp u : ℝ) : EReal) := by
  have h : ¬ (1 + Real.exp (0 - max u (-u)) ≤ 0) := by
    have := Real.exp_pos (0 - max u (-u))
    linarith
  rw [← EReal.coe_neg, coe_max', ← EReal.coe_zero, ← EReal.coe_one, ← EReal.coe_sub, Ideal.exp_coe, ← EReal.coe_add, Ideal.log_coe, if_neg h, coe_max', ← EReal.coe_add]
  rfl

def HR (l : R1) (f : Fin 256 → ℝ) : Prop := ∀ j : Fin 256, l (ix2 0 j) = ((f j : ℝ) : EReal)
def HD (d : D64) (f : ℕ → Fin 256 → ℝ) : Prop := ∀ (x : Fin 64) (j : Fin 256), d (ix2 x j) = ((f x.val j : ℝ) : EReal)
def HG (d : D128) (f : ℕ → Fin 256 → ℝ) : Prop := ∀ (x : Fin 128) (j : Fin 256), d (ix2 x j) = ((f x.val j : ℝ) : EReal)

/-- A row between itself and the row before it. -/
def fmix (fz : ℕ → Fin 256 → ℝ) (fl fm : Fin 256 → ℝ) (i : ℕ) (j : Fin 256) : ℝ :=
  fz i j + ((if i = 0 then fl j else fz (i - 1) j) - fz i j) * fm j

theorem first_at (i : Fin 512) (a b : EReal) : Scalar.select (IntOp.cmpi CmpIPredicate.eq (BitVec.ofNat 32 i.val) 0#32) a b = if i.val = 0 then a else b := by
  have h : (BitVec.ofNat 32 i.val = 0#32) ↔ i.val = 0 := by
    constructor
    · intro h
      have := congrArg BitVec.toNat h
      simp only [BitVec.toNat_ofNat] at this
      omega
    · intro h
      rw [h]
  unfold Scalar.select IntOp.cmpi
  by_cases g : i.val = 0
  · simp [g]
  · have g' : (BitVec.ofNat 32 i.val == 0#32) = false := beq_eq_false_iff_ne.mpr fun e => g (h.1 e)
    simp [g, g']

section
variable {z : Z} {l m : R1} {fz : ℕ → Fin 256 → ℝ} {fl fm : Fin 256 → ℝ} (hz : HZ z fz) (hl : HR l fl) (hm : HR m fm)
include hz hl hm

theorem mix_elem (i : Fin 512) (j : Fin 256) (h : (i.val + 512 - 1) % 512 < 512) :
    z (ix2 i j) + (Scalar.select (IntOp.cmpi CmpIPredicate.eq (BitVec.ofNat 32 i.val) 0#32) (l (ix2 0 j)) (z (ix2 ⟨(i.val + 512 - 1) % 512, h⟩ j)) - z (ix2 i j)) * m (ix2 0 j)
      = ((fmix fz fl fm i.val j : ℝ) : EReal) := by
  rw [first_at, hz, hl, hm, hz]
  unfold fmix
  split_ifs with g
  · rw [← EReal.coe_sub, ← EReal.coe_mul, ← EReal.coe_add]
  · have e : (⟨(i.val + 512 - 1) % 512, h⟩ : Fin 512).val = i.val - 1 := by dsimp only; omega
    rw [← EReal.coe_sub, ← EReal.coe_mul, ← EReal.coe_add, e]

theorem has_bR : HZ (bR z l m) (fmix fz fl fm) := fun i j => by
  have e := mix_elem hz hl hm i j (by omega)
  rw [← e]
  pointwise [bR, k0_pay5]
theorem has_bK : HZ (bK z l m) (fmix fz fl fm) := fun i j => by
  have e := mix_elem hz hl hm i j (by omega)
  rw [← e]
  pointwise [bK, k0_pay8, k0_pay6]
theorem has_bV : HZ (bV z l m) (fmix fz fl fm) := fun i j => by
  have e := mix_elem hz hl hm i j (by omega)
  rw [← e]
  pointwise [bV, iV, k0_pay10]

theorem has_bLw {w0 : R1} {dec : D64} {fw : Fin 256 → ℝ} {fd : ℕ → Fin 256 → ℝ} (hw : HR w0 fw) (hd : HD dec fd) :
    HZ (bLw z l m w0 dec) (fun i j => 0 - Real.exp (0 - sp (0 - (fw j + ∑ x : Fin 64, Real.tanh (fmix fz fl fm i ⟨x.val, by omega⟩) * fd x.val j)) - 1 / 2)) := fun i j => by
  have E := mix_elem hz hl hm
  have e : bLw z l m w0 dec (ix2 i j) = 0 - Ideal.exp (0 - (max (0 - (((fw j + ∑ x : Fin 64, Real.tanh (fmix fz fl fm i.val ⟨x.val, by omega⟩) * fd x.val j : ℝ)) : EReal)) 0
      + Ideal.log (1 + Ideal.exp (0 - max (0 - (((fw j + ∑ x : Fin 64, Real.tanh (fmix fz fl fm i.val ⟨x.val, by omega⟩) * fd x.val j : ℝ)) : EReal)) (-(0 - (((fw j + ∑ x : Fin 64, Real.tanh (fmix fz fl fm i.val ⟨x.val, by omega⟩) * fd x.val j : ℝ)) : EReal)))))) - Ideal.ofBits .f32 0x3F000000#32) := by
    rw [EReal.coe_add, ← sum_coe]
    simp only [EReal.coe_mul, ← Ideal.tanh_coe, ← E _ _ (Nat.mod_lt _ (by decide)), ← hd _ _, ← hw j]
    pointwise [bLw, bX, iV, k0_pay12, k0_pay13, k0_pay15]
    rfl
  rw [e, ← EReal.coe_zero, ← EReal.coe_sub, EReal.coe_zero, sp_at, half_bits, ← EReal.coe_zero, ← EReal.coe_sub, ← EReal.coe_sub, Ideal.exp_coe, ← EReal.coe_sub]

theorem has_bA {w0 : R1} {dec : D64} {fw : Fin 256 → ℝ} {fd : ℕ → Fin 256 → ℝ} (hw : HR w0 fw) (hd : HD dec fd) :
    HZ (bA z l m w0 dec) (fun i j => sg (fw j + ∑ x : Fin 64, fmix fz fl fm i ⟨64 + x.val, by omega⟩ * fd x.val j)) := fun i j => by
  have E := mix_elem hz hl hm
  rw [← sg_at, EReal.coe_add, ← sum_coe]
  simp only [EReal.coe_mul, ← E _ _ (Nat.mod_lt _ (by decide)), ← hd _ _, ← hw j]
  pointwise [bA, bX, iV, k0_pay12, k0_pay13, k0_pay16, k0_pay17, k0_pay18]

theorem has_bG {gt : D128} {fg : ℕ → Fin 256 → ℝ} (hg : HG gt fg) :
    HZ (bG z l m gt) (fun i j => ∑ x : Fin 128, sg (fmix fz fl fm i ⟨128 + x.val, by omega⟩) * fg x.val j) := fun i j => by
  have E := mix_elem hz hl hm
  rw [← sum_coe]
  simp only [EReal.coe_mul, ← sg_at, ← E _ _ (Nat.mod_lt _ (by decide)), ← hg _ _]
  pointwise [bG, bX, iV, k0_pay12, k0_pay13, k0_pay14, k0_pay19]
end

/-- The sum over the lanes of a lane's head. -/
def hsum (f : Fin 256 → ℝ) (j : Fin 256) : ℝ := ∑ x : Fin 256, f x * same x j

theorem hsum_nonneg {f : Fin 256 → ℝ} (h : ∀ x, 0 ≤ f x) (j : Fin 256) : 0 ≤ hsum f j :=
  Finset.sum_nonneg fun x _ => mul_nonneg (h x) (by unfold same; split_ifs <;> norm_num)

theorem two_sums (f : Fin 256 → ℝ) (j : Fin 256) :
    ∑ x : Fin 256, ((f x : ℝ) : EReal) * kOnes (ix2 x j) + ∑ x : Fin 256, (((f x : ℝ) : EReal) - ((f x : ℝ) : EReal)) * kOnes (ix2 x j) = ((hsum f j : ℝ) : EReal) := by
  simp only [ones_at, ← EReal.coe_sub, ← EReal.coe_mul, sum_coe, ← EReal.coe_add]
  congr 1
  simp [hsum]

section
variable {R K V A Y : Z} {fr fk fv fa fy : ℕ → Fin 256 → ℝ} {kk ka rk : R1} {fkk fka frk : Fin 256 → ℝ}
variable (hK : HZ K fk) (hkk : HR kk fkk)
include hK hkk

theorem has_bKr : HZ (bKr K kk) (fun i j => fk i j * fkk j) := fun i j => by
  rw [EReal.coe_mul, ← hK i j, ← hkk j]
  pointwise [bKr, k0_pay25]

def fN (fk : ℕ → Fin 256 → ℝ) (fkk : Fin 256 → ℝ) (i : ℕ) (j : Fin 256) : ℝ :=
  max (Real.sqrt (hsum (fun x => (fk i x * fkk x) * (fk i x * fkk x)) j)) tiny
omit hK hkk in
theorem fN_pos (i : ℕ) (j : Fin 256) : 0 < fN fk fkk i j := lt_of_lt_of_le tiny_pos (le_max_right _ _)

theorem has_bN : HZ (bN K kk) (fN fk fkk) := fun i j => by
  have hn : ¬ (hsum (fun x => (fk i.val x * fkk x) * (fk i.val x * fkk x)) j < 0) := not_lt.mpr (hsum_nonneg (fun x => mul_self_nonneg _) j)
  have e : ((fN fk fkk i.val j : ℝ) : EReal) = max (Ideal.sqrt ((hsum (fun x => (fk i.val x * fkk x) * (fk i.val x * fkk x)) j : ℝ) : EReal)) (Ideal.ofBits .f32 0x2B8CBCCC#32) := by
    rw [Ideal.sqrt_coe, if_neg hn, tiny_eq, coe_max']
    rfl
  rw [e, ← two_sums]
  simp only [EReal.coe_mul, ← hK _ _, ← hkk _]
  rw [show bN K kk = k0_pay26 K iC k0_pay20 k0_pay21 k0_pay22 kk from rfl]
  unfold k0_pay26
  rw [show k0_pay24 (F := Ideal) iC k0_pay20 k0_pay21 k0_pay22 = kOnes from rfl]
  pointwise [k0_pay25]

theorem has_bAv : HZ (bAv K kk) (fun i j => 0 - (fk i j * fkk j) / fN fk fkk i j) := fun i j => by
  rw [EReal.coe_sub, EReal.coe_zero, ← div_coe' _ _ (fN_pos i.val j).ne', ← has_bN hK hkk i j, ← has_bKr hK hkk i j]
  pointwise [bAv, k0_pay30, k0_pay27]

theorem has_bBv (hA : HZ A fa) : HZ (bBv A K kk) (fun i j => (fk i j * fkk j) / fN fk fkk i j * fa i j) := fun i j => by
  rw [EReal.coe_mul, ← div_coe' _ _ (fN_pos i.val j).ne', ← has_bN hK hkk i j, ← has_bKr hK hkk i j, ← hA i j]
  pointwise [bBv, k0_pay31, k0_pay27]
end

section
variable {R K V A Y G Bon : Z} {fr fk fv fa fy fg fb : ℕ → Fin 256 → ℝ} {ka rk lg lb : R1} {fka frk flg flb : Fin 256 → ℝ}

theorem has_bK2 (hK : HZ K fk) (hA : HZ A fa) (hka : HR ka fka) : HZ (bK2 K A ka) (fun i j => fk i j * (1 + (fa i j - 1) * fka j)) := fun i j => by
  rw [EReal.coe_mul, EReal.coe_add, EReal.coe_mul, EReal.coe_sub, EReal.coe_one, ← hK i j, ← hA i j, ← hka j]
  pointwise [bK2, k0_pay28]

theorem has_bBon (hR : HZ R fr) (hK : HZ K fk) (hV : HZ V fv) (hA : HZ A fa) (hka : HR ka fka) (hrk : HR rk frk) :
    HZ (bBon R K V A ka rk) (fun i j => hsum (fun x => fr i x * (fk i x * (1 + (fa i x - 1) * fka x)) * frk x) j * fv i j) := fun i j => by
  have hk2 := has_bK2 hK hA hka
  rw [EReal.coe_mul, ← two_sums, ← hV i j]
  simp only [EReal.coe_mul _ (frk _), EReal.coe_mul (fr _ _) _, ← hR _ _, ← hrk _, ← hk2 _ _]
  rw [show bBon R K V A ka rk = k0_pay29 R K V A kOnes ka rk from rfl]
  unfold k0_pay29
  rw [show k0_pay28 K A ka = bK2 K A ka from rfl]
  pointwise []

def fD (fy : ℕ → Fin 256 → ℝ) (i : ℕ) (j : Fin 256) : ℝ := fy i j - hsum (fy i) j * (1 / 64)
def fOut (fy fb fg : ℕ → Fin 256 → ℝ) (flg flb : Fin 256 → ℝ) (i : ℕ) (j : Fin 256) : ℝ :=
  (fD fy i j * (Real.sqrt (hsum (fun x => fD fy i x * fD fy i x) j * (1 / 64) + small))⁻¹ * flg j + flb j + fb i j) * fg i j

theorem has_bOut (hY : HZ Y fy) (hG : HZ G fg) (hB : HZ Bon fb) (hlg : HR lg flg) (hlb : HR lb flb) (i : Fin 512) (j : Fin 256) :
    bOut G Bon Y lg lb (ix2 i j) = ((fOut fy fb fg flg flb i.val j : ℝ) : EReal) := by
  have hd : ∀ x : Fin 256, ((fD fy i.val x : ℝ) : EReal) = Y (ix2 i x) - (∑ u : Fin 256, Y (ix2 i u) * kOnes (ix2 u x) + ∑ u : Fin 256, (Y (ix2 i u) - Y (ix2 i u)) * kOnes (ix2 u x)) * Ideal.ofBits .f32 0x3C800000#32 := fun x => by
    simp only [hY i _]
    rw [two_sums, part_bits, ← EReal.coe_mul, ← EReal.coe_sub]
    rfl
  have hp : 0 < hsum (fun x => fD fy i.val x * fD fy i.val x) j * (1 / 64) + small := by
    have := hsum_nonneg (f := fun x => fD fy i.val x * fD fy i.val x) (fun x => mul_self_nonneg _) j
    have := small_pos
    positivity
  have e : (((Real.sqrt (hsum (fun x => fD fy i.val x * fD fy i.val x) j * (1 / 64) + small))⁻¹ : ℝ) : EReal) =
      Ideal.rsqrt (((hsum (fun x => fD fy i.val x * fD fy i.val x) j : ℝ) : EReal) * Ideal.ofBits .f32 0x3C800000#32 + Ideal.ofBits .f32 0x3A27C5AC#32) := by
    rw [part_bits, small_eq, ← EReal.coe_mul, ← EReal.coe_add, Ideal.rsqrt_coe, if_neg (not_lt.mpr hp.le), if_neg hp.ne']
  unfold fOut
  rw [EReal.coe_mul, EReal.coe_add, EReal.coe_add, EReal.coe_mul, EReal.coe_mul, e, ← two_sums]
  simp only [EReal.coe_mul, hd, ← hlg j, ← hlb j, ← hB i j, ← hG i j]
  pointwise [bOut, sum512, k0_pay1, k0_pay380, k0_pay379, k0_pay381]
end

end Cert.Kernel7Ideal.Chunk

end
-- ==== Proof.WkvSpec.lean ====
module

public import proofs.«01_k».proof.Proof.WkvPre
public import proofs.«01_k».proof.Proof.WkvMath
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

/-- The real arrays of the call. -/
structure Inp where
  z : ℕ → ℕ → ℝ
  mu : ℕ → ℝ
  dec : ℕ → ℕ → ℝ
  w0 : ℕ → ℝ
  icl : ℕ → ℕ → ℝ
  a0 : ℕ → ℝ
  gt : ℕ → ℕ → ℝ
  kk : ℕ → ℝ
  ka : ℕ → ℝ
  rk : ℕ → ℝ
  lg : ℕ → ℝ
  lb : ℕ → ℝ

/-- The sum over the channels of a channel's head. -/
def hS (f : ℕ → ℝ) (ch : ℕ) : ℝ := ∑ n : Fin 64, f (64 * (ch / 64) + n.val)

theorem hsum_hS (f : ℕ → ℝ) (o : ℕ) (ho : o % 64 = 0) (j : Fin 256) : hsum (fun x => f (o + x.val)) j = hS f (o + j.val) := by
  unfold hsum hS
  have h : ∀ x : Fin 256, f (o + x.val) * same x j = if hd x = hd j then f (o + x.val) else 0 := fun x => by
    unfold same
    split_ifs <;> simp
  rw [Finset.sum_congr rfl fun x _ => h x, ← Finset.sum_filter]
  symm
  have hj := j.isLt
  refine Finset.sum_nbij (fun n => (⟨64 * (j.val / 64) + n.val, by have := n.isLt; omega⟩ : Fin 256)) ?_ ?_ ?_ ?_
  · intro n _
    have := n.isLt
    refine Finset.mem_filter.2 ⟨Finset.mem_univ _, ?_⟩
    show (64 * (j.val / 64) + n.val) / 64 = j.val / 64
    omega
  · intro n _ n' _ e
    have := congrArg Fin.val e
    dsimp only at this
    exact Fin.ext (by omega)
  · intro x hx
    have hx' : x.val / 64 = j.val / 64 := (Finset.mem_filter.1 (Finset.mem_coe.1 hx)).2
    refine ⟨⟨x.val % 64, by omega⟩, Finset.mem_coe.2 (Finset.mem_univ _), Fin.ext ?_⟩
    show 64 * (j.val / 64) + x.val % 64 = x.val
    omega
  · intro n _
    have := n.isLt
    dsimp only
    congr 1
    omega

section
variable (I : Inp)
def sMix (r c : ℕ) : ℝ := I.z r c + ((if r % 8192 = 0 then 0 else I.z (r - 1) c) - I.z r c) * I.mu c
def sLw (r ch : ℕ) : ℝ := 0 - Real.exp (0 - sp (0 - (I.w0 ch + ∑ x : Fin 64, Real.tanh (sMix I r (3072 + x.val)) * I.dec x.val ch)) - 1 / 2)
def sA (r ch : ℕ) : ℝ := sg (I.a0 ch + ∑ x : Fin 64, sMix I r (3136 + x.val) * I.icl x.val ch)
def sG (r ch : ℕ) : ℝ := ∑ x : Fin 128, sg (sMix I r (3200 + x.val)) * I.gt x.val ch
def sKr (r ch : ℕ) : ℝ := sMix I r (1024 + ch) * I.kk ch
def sN (r ch : ℕ) : ℝ := max (Real.sqrt (hS (fun c => sKr I r c * sKr I r c) ch)) tiny
def sKh (r ch : ℕ) : ℝ := sKr I r ch / sN I r ch
def sK2 (r ch : ℕ) : ℝ := sMix I r (1024 + ch) * (1 + (sA I r ch - 1) * I.ka ch)
def sBon (r ch : ℕ) : ℝ := hS (fun c => sMix I r c * sK2 I r c * I.rk c) ch * sMix I r (2048 + ch)

/-- The times of a batch over the lanes of four heads. -/
def sq' (f : ℕ → ℕ → ℝ) (b g : ℕ) : ℕ → Fin 256 → ℝ := fun s j => f (8192 * b + s) (256 * g + j.val)

def sS (b g n : ℕ) : Fin 256 → Fin 256 → ℝ :=
  st (sq' (sLw I) b g) (sq' (fun r c => 0 - sKh I r c) b g) (sq' (fun r c => sKh I r c * sA I r c) b g) (sq' (sK2 I) b g) (sq' (fun r c => sMix I r (2048 + c)) b g) (fun _ _ => 0) n
def sY (b g s : ℕ) (j : Fin 256) : ℝ :=
  yt (sq' (sLw I) b g) (sq' (fun r c => 0 - sKh I r c) b g) (sq' (fun r c => sKh I r c * sA I r c) b g) (sq' (sK2 I) b g) (sq' (fun r c => sMix I r (2048 + c)) b g) (sq' (sMix I) b g) (fun _ _ => 0) s j
def sOut (b g s : ℕ) (j : Fin 256) : ℝ := fOut (sY I b g) (sq' (sBon I) b g) (sq' (sG I) b g) (fun j => I.lg (256 * g + j.val)) (fun j => I.lb (256 * g + j.val)) s j

theorem sS_diag (b g n : ℕ) (i j : Fin 256) (h : hd i ≠ hd j) : sS I b g n i j = 0 := st_diag _ _ _ _ _ _ (fun _ _ _ => rfl) n i j h
end

theorem hz_of {X : Z} {f f' : ℕ → Fin 256 → ℝ} (h : HZ X f) (e : ∀ (i : ℕ) (j : Fin 256), i < 512 → f i j = f' i j) : HZ X f' := fun i j => by
  rw [h, e _ _ i.isLt]

/-- A block's rows, the row before it, and a vector's lanes. -/
def zB (I : Inp) (b jj o : ℕ) : ℕ → Fin 256 → ℝ := fun i j => I.z (8192 * b + (512 * jj + i)) (o + j.val)
def zL (I : Inp) (b jj o : ℕ) : Fin 256 → ℝ := fun j => if jj = 0 then 0 else I.z (8192 * b + 512 * jj - 1) (o + j.val)
def vB (v : ℕ → ℝ) (o : ℕ) : Fin 256 → ℝ := fun j => v (o + j.val)
def wB (w : ℕ → ℕ → ℝ) (o : ℕ) : ℕ → Fin 256 → ℝ := fun x j => w x (o + j.val)

theorem fmix_eq (I : Inp) (b jj o : ℕ) (hj : jj < 16) (i : ℕ) (hi : i < 512) (j : Fin 256) :
    fmix (zB I b jj o) (zL I b jj o) (vB I.mu o) i j = sMix I (8192 * b + (512 * jj + i)) (o + j.val) := by
  unfold fmix sMix zB zL vB
  by_cases h : i = 0
  · subst h
    rw [if_pos rfl]
    by_cases g : jj = 0
    · rw [if_pos g, if_pos (by omega)]
    · rw [if_neg g, if_neg (by omega)]
      rfl
  · rw [if_neg h, if_neg (by omega)]
    have e : 8192 * b + (512 * jj + i) - 1 = 8192 * b + (512 * jj + (i - 1)) := by omega
    rw [e]

section
variable {z0 z1 z2 z3 : Z} {l0 l1 l2 l3 m0 m1 m2 m3 w0 a0 kk ka rk lg lb : R1} {dec icl : D64} {gt : D128} {s : M32}
variable (I : Inp) (b g jj : ℕ) (hj : jj < 16)
variable (h0 : HZ z0 (zB I b jj (256 * g))) (h1 : HZ z1 (zB I b jj (1024 + 256 * g))) (h2 : HZ z2 (zB I b jj (2048 + 256 * g))) (h3 : HZ z3 (zB I b jj 3072))
  (q0 : HR l0 (zL I b jj (256 * g))) (q1 : HR l1 (zL I b jj (1024 + 256 * g))) (q2 : HR l2 (zL I b jj (2048 + 256 * g))) (q3 : HR l3 (zL I b jj 3072))
  (p0 : HR m0 (vB I.mu (256 * g))) (p1 : HR m1 (vB I.mu (1024 + 256 * g))) (p2 : HR m2 (vB I.mu (2048 + 256 * g))) (p3 : HR m3 (vB I.mu 3072))
  (hw0 : HR w0 (vB I.w0 (256 * g))) (ha0 : HR a0 (vB I.a0 (256 * g))) (hkk : HR kk (vB I.kk (256 * g))) (hka : HR ka (vB I.ka (256 * g)))
  (hrk : HR rk (vB I.rk (256 * g))) (hlg : HR lg (vB I.lg (256 * g))) (hlb : HR lb (vB I.lb (256 * g)))
  (hdec : HD dec (wB I.dec (256 * g))) (hicl : HD icl (wB I.icl (256 * g))) (hgt : HG gt (wB I.gt (256 * g)))
  (hs : H32 s (toMat (sS I b g (512 * jj))))

/-- The times of a block. -/
abbrev blkT (f : ℕ → ℕ → ℝ) : ℕ → Fin 256 → ℝ := sh (512 * jj) (sq' f b g)

include hj h0 q0 p0 in
theorem blk_R : HZ (bR z0 l0 m0) (blkT b g jj (sMix I)) := hz_of (has_bR h0 q0 p0) fun i j hi => by
  rw [fmix_eq I b jj _ hj i hi j]
  rfl
include hj h1 q1 p1 in
theorem blk_K : HZ (bK z1 l1 m1) (blkT b g jj (fun r c => sMix I r (1024 + c))) := hz_of (has_bK h1 q1 p1) fun i j hi => by
  rw [fmix_eq I b jj _ hj i hi j]
  show _ = sMix I (8192 * b + (512 * jj + i)) (1024 + (256 * g + j.val))
  rw [Nat.add_assoc 1024]
include hj h2 q2 p2 in
theorem blk_V : HZ (bV z2 l2 m2) (blkT b g jj (fun r c => sMix I r (2048 + c))) := hz_of (has_bV h2 q2 p2) fun i j hi => by
  rw [fmix_eq I b jj _ hj i hi j]
  show _ = sMix I (8192 * b + (512 * jj + i)) (2048 + (256 * g + j.val))
  rw [Nat.add_assoc 2048]
include hj h3 q3 p3 hw0 hdec in
theorem blk_Lw : HZ (bLw z3 l3 m3 w0 dec) (blkT b g jj (sLw I)) := hz_of (has_bLw h3 q3 p3 hw0 hdec) fun i j hi => by
  simp only [fmix_eq I b jj _ hj i hi]
  rfl
include hj h3 q3 p3 ha0 hicl in
theorem blk_A : HZ (bA z3 l3 m3 a0 icl) (blkT b g jj (sA I)) := hz_of (has_bA h3 q3 p3 ha0 hicl) fun i j hi => by
  have e : ∀ x : ℕ, 3072 + (64 + x) = 3136 + x := fun x => by omega
  simp only [fmix_eq I b jj _ hj i hi, e]
  rfl
include hj h3 q3 p3 hgt in
theorem blk_G : HZ (bG z3 l3 m3 gt) (blkT b g jj (sG I)) := hz_of (has_bG h3 q3 p3 hgt) fun i j hi => by
  have e : ∀ x : ℕ, 3072 + (128 + x) = 3200 + x := fun x => by omega
  simp only [fmix_eq I b jj _ hj i hi, e]
  rfl

theorem fN_eq (i : ℕ) (j : Fin 256) : fN (blkT b g jj (fun r c => sMix I r (1024 + c))) (vB I.kk (256 * g)) i j = sN I (8192 * b + (512 * jj + i)) (256 * g + j.val) := by
  unfold fN sN
  rw [← hsum_hS _ _ (by omega)]
  rfl

include hj h1 q1 p1 hkk in
theorem blk_Av : HZ (bAv (bK z1 l1 m1) kk) (blkT b g jj (fun r c => 0 - sKh I r c)) :=
  hz_of (has_bAv (blk_K I b g jj hj h1 q1 p1) hkk) fun i j hi => by
    rw [fN_eq]
    rfl
include hj h1 q1 p1 hkk h3 q3 p3 ha0 hicl in
theorem blk_Bv : HZ (bBv (bA z3 l3 m3 a0 icl) (bK z1 l1 m1) kk) (blkT b g jj (fun r c => sKh I r c * sA I r c)) :=
  hz_of (has_bBv (blk_K I b g jj hj h1 q1 p1) hkk (blk_A I b g jj hj h3 q3 p3 ha0 hicl)) fun i j hi => by
    rw [fN_eq]
    rfl
include hj h1 q1 p1 hka h3 q3 p3 ha0 hicl in
theorem blk_K2 : HZ (bK2 (bK z1 l1 m1) (bA z3 l3 m3 a0 icl) ka) (blkT b g jj (sK2 I)) :=
  hz_of (has_bK2 (blk_K I b g jj hj h1 q1 p1) (blk_A I b g jj hj h3 q3 p3 ha0 hicl) hka) fun i j hi => rfl
include hj h0 q0 p0 h1 q1 p1 h2 q2 p2 hka hrk h3 q3 p3 ha0 hicl in
theorem blk_Bon : HZ (bBon (bR z0 l0 m0) (bK z1 l1 m1) (bV z2 l2 m2) (bA z3 l3 m3 a0 icl) ka rk) (blkT b g jj (sBon I)) :=
  hz_of (has_bBon (blk_R I b g jj hj h0 q0 p0) (blk_K I b g jj hj h1 q1 p1) (blk_V I b g jj hj h2 q2 p2) (blk_A I b g jj hj h3 q3 p3 ha0 hicl) hka hrk) fun i j hi => by
    show _ = hS _ (256 * g + j.val) * _
    rw [← hsum_hS _ _ (by omega)]
    rfl

include hj h0 q0 p0 h1 q1 p1 h2 q2 p2 h3 q3 p3 hw0 ha0 hkk hka hdec hicl hs

theorem blk_state : H32 (blkState z0 z1 z2 z3 l0 l1 l2 l3 m0 m1 m2 m3 w0 a0 kk ka dec icl s) (toMat (sS I b g (512 * jj + 512))) := by
  have h := has_bState (blk_Lw I b g jj hj h3 q3 p3 hw0 hdec) (blk_R I b g jj hj h0 q0 p0) (blk_Av I b g jj hj h1 q1 p1 hkk)
    (blk_Bv I b g jj hj h1 h3 q1 q3 p1 p3 ha0 hkk hicl) (blk_K2 I b g jj hj h1 h3 q1 q3 p1 p3 ha0 hka hicl) (blk_V I b g jj hj h2 q2 p2) hs (sS_diag I b g (512 * jj))
  intro i j
  rw [blkState, h i j]
  unfold sS
  rw [st_add]

theorem blk_y : HZ (blkY z0 z1 z2 z3 l0 l1 l2 l3 m0 m1 m2 m3 w0 a0 kk ka dec icl s) (fun i j => sY I b g (512 * jj + i) j) := by
  have h := has_bY (blk_Lw I b g jj hj h3 q3 p3 hw0 hdec) (blk_R I b g jj hj h0 q0 p0) (blk_Av I b g jj hj h1 q1 p1 hkk)
    (blk_Bv I b g jj hj h1 h3 q1 q3 p1 p3 ha0 hkk hicl) (blk_K2 I b g jj hj h1 h3 q1 q3 p1 p3 ha0 hka hicl) (blk_V I b g jj hj h2 q2 p2) hs (sS_diag I b g (512 * jj))
  intro i j
  rw [blkY, h i j]
  unfold sY
  exact congrArg _ (yt_add _ _ _ _ _ _ _ (512 * jj) i.val j).symm

include hrk hlg hlb hgt
theorem blk_out (i : Fin 512) (j : Fin 256) :
    blkOut z0 z1 z2 z3 l0 l1 l2 l3 m0 m1 m2 m3 w0 a0 kk ka rk lg lb dec icl gt s (ix2 i j) = ((sOut I b g (512 * jj + i.val) j : ℝ) : EReal) := by
  rw [blkOut, has_bOut (blk_y I b g jj hj h0 h1 h2 h3 q0 q1 q2 q3 p0 p1 p2 p3 hw0 ha0 hkk hka hdec hicl hs) (blk_G I b g jj hj h3 q3 p3 hgt)
    (blk_Bon I b g jj hj h0 h1 h2 h3 q0 q1 q2 q3 p0 p1 p2 p3 ha0 hka hrk hicl) hlg hlb i j]
  rfl
end

end Cert.Kernel7Ideal.Chunk

end
-- ==== Proof.WkvJoin.lean ====
module

public import proofs.«01_k».proof.Proof.WkvBlock
public import proofs.«01_k».proof.Proof.WkvBlockA
public import proofs.«01_k».proof.Proof.WkvSpec
public import Idealize.ShloMosaic.Lib.Pipeline.ValueKit
public import Idealize.ShloMosaic.Lib.Pointwise

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

/-- The arrays of the call hold these reals. -/
structure Ok (I : Inp) (z : FVec Ideal S16384x3328 .f32) (mu : FVec Ideal S3328 .f32) (dec : FVec Ideal S64x1024 .f32) (w0 : FVec Ideal S1024 .f32)
    (icl : FVec Ideal S64x1024 .f32) (a0 : FVec Ideal S1024 .f32) (gt : FVec Ideal S128x1024 .f32) (kk ka : FVec Ideal S1024 .f32)
    (rk : FVec Ideal S16x64 .f32) (lg lb : FVec Ideal S1024 .f32) : Prop where
  z : ∀ i j, z (ix2 i j) = ((I.z i.val j.val : ℝ) : EReal)
  mu : ∀ j, mu (ix1 j) = ((I.mu j.val : ℝ) : EReal)
  dec : ∀ i j, dec (ix2 i j) = ((I.dec i.val j.val : ℝ) : EReal)
  w0 : ∀ j, w0 (ix1 j) = ((I.w0 j.val : ℝ) : EReal)
  icl : ∀ i j, icl (ix2 i j) = ((I.icl i.val j.val : ℝ) : EReal)
  a0 : ∀ j, a0 (ix1 j) = ((I.a0 j.val : ℝ) : EReal)
  gt : ∀ i j, gt (ix2 i j) = ((I.gt i.val j.val : ℝ) : EReal)
  kk : ∀ j, kk (ix1 j) = ((I.kk j.val : ℝ) : EReal)
  ka : ∀ j, ka (ix1 j) = ((I.ka j.val : ℝ) : EReal)
  rk : ∀ (h : Fin 16) (n : Fin 64), rk (ix2 h n) = ((I.rk (64 * h.val + n.val) : ℝ) : EReal)
  lg : ∀ j, lg (ix1 j) = ((I.lg j.val : ℝ) : EReal)
  lb : ∀ j, lb (ix1 j) = ((I.lb j.val : ℝ) : EReal)

variable (m : (ℓ : Loc nD τ sig) → Buf (Elt Ideal) ℓ) (c : Dev nD)

/-- The call's arrays in a memory hold these reals. -/
abbrev OkM (I : Inp) : Prop := Ok I (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10)) (m ((c.tc : Thread nD τ).loc main_arg11))

theorem idxA : ∀ t : Fin cfg0.N,
    win0_0.index t = ![t.val / 64 * 16 + t.val % 16, t.val / 16 % 4] ∧ win0_1.index t = ![t.val / 64 * 16 + t.val % 16, 4 + t.val / 16 % 4]
    ∧ win0_2.index t = ![t.val / 64 * 16 + t.val % 16, 8 + t.val / 16 % 4] ∧ win0_3.index t = ![t.val / 64 * 16 + t.val % 16, 12]
    ∧ win0_4.index t = ![0, t.val / 16 % 4] ∧ win0_5.index t = ![0, 4 + t.val / 16 % 4] ∧ win0_6.index t = ![0, 8 + t.val / 16 % 4] ∧ win0_7.index t = ![0, 12] :=
  (by decide +kernel : ∀ t : Fin grid0.N, _)
theorem idxB : ∀ t : Fin cfg0.N,
    win0_8.index t = ![0, t.val / 16 % 4] ∧ win0_9.index t = ![0, t.val / 16 % 4] ∧ win0_10.index t = ![0, t.val / 16 % 4] ∧ win0_11.index t = ![0, t.val / 16 % 4]
    ∧ win0_12.index t = ![0, t.val / 16 % 4] ∧ win0_13.index t = ![0, t.val / 16 % 4] ∧ win0_14.index t = ![0, t.val / 16 % 4] ∧ win0_15.index t = ![0, t.val / 16 % 4]
    ∧ win0_16.index t = ![0, t.val / 16 % 4] ∧ win0_17.index t = ![0, t.val / 16 % 4] ∧ win0_18.index t = ![t.val / 64 * 16 + t.val % 16, t.val / 16 % 4] :=
  (by decide +kernel : ∀ t : Fin grid0.N, _)

theorem V_v1 : (V m c main_v1 : FVec Ideal S1x3328 .f32) = shapeCast S1x3328 ((m ((c.tc : Thread nD τ).loc main_arg1)) : FVec Ideal S3328 .f32) shapeCasts_S3328_S1x3328 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v3 : (V m c main_v3 : FVec Ideal S1x1024 .f32) = shapeCast S1x1024 ((m ((c.tc : Thread nD τ).loc main_arg3)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v5 : (V m c main_v5 : FVec Ideal S1x1024 .f32) = shapeCast S1x1024 ((m ((c.tc : Thread nD τ).loc main_arg5)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v7 : (V m c main_v7 : FVec Ideal S1x1024 .f32) = shapeCast S1x1024 ((m ((c.tc : Thread nD τ).loc main_arg7)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v8 : (V m c main_v8 : FVec Ideal S1x1024 .f32) = shapeCast S1x1024 ((m ((c.tc : Thread nD τ).loc main_arg8)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v10 : (V m c main_v10 : FVec Ideal S1x1024 .f32) = shapeCast S1x1024 ((m ((c.tc : Thread nD τ).loc main_arg10)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v11 : (V m c main_v11 : FVec Ideal S1x1024 .f32) = shapeCast S1x1024 ((m ((c.tc : Thread nD τ).loc main_arg11)) : FVec Ideal S1024 .f32) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v2 : (V m c main_v2 : FVec Ideal S64x1024 .bf16) = truncf (F := Ideal) .bf16 ((m ((c.tc : Thread nD τ).loc main_arg2)) : FVec Ideal S64x1024 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v4 : (V m c main_v4 : FVec Ideal S64x1024 .bf16) = truncf (F := Ideal) .bf16 ((m ((c.tc : Thread nD τ).loc main_arg4)) : FVec Ideal S64x1024 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v6 : (V m c main_v6 : FVec Ideal S128x1024 .bf16) = truncf (F := Ideal) .bf16 ((m ((c.tc : Thread nD τ).loc main_arg6)) : FVec Ideal S128x1024 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v9 : (V m c main_v9 : FVec Ideal S1x1024 .f32) = shapeCast S1x1024 (shapeCast S1024 ((m ((c.tc : Thread nD τ).loc main_arg9)) : FVec Ideal S16x64 .f32) shapeCasts_S16x64_S1024) shapeCasts_S1024_S1x1024 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem t_lt (t : Fin cfg0.N) : t.val < 128 := lt_of_lt_of_eq t.isLt (by decide +kernel)

variable {I : Inp} (ok : OkM m c I)
include ok

theorem hz0 (t : Fin cfg0.N) : HZ (iblk m c 0 t) (zB I (t.val / 64) (t.val % 16) (256 * (t.val / 16 % 4))) := fun i j => by
  have ht := t_lt t
  trans ((m ((c.tc : Thread nD τ).loc main_arg0)) : FVec Ideal S16384x3328 .f32) (ix2 (⟨8192 * (t.val / 64) + (512 * (t.val % 16) + i.val), by omega⟩ : Fin 16384) (⟨256 * (t.val / 16 % 4) + j.val, by omega⟩ : Fin 3328))
  · blk_point [iblk, V_main_arg0, idxA t]
  · exact ok.z _ _

theorem hz1 (t : Fin cfg0.N) : HZ (iblk m c 1 t) (zB I (t.val / 64) (t.val % 16) (1024 + 256 * (t.val / 16 % 4))) := fun i j => by
  have ht := t_lt t
  trans ((m ((c.tc : Thread nD τ).loc main_arg0)) : FVec Ideal S16384x3328 .f32) (ix2 (⟨8192 * (t.val / 64) + (512 * (t.val % 16) + i.val), by omega⟩ : Fin 16384) (⟨1024 + 256 * (t.val / 16 % 4) + j.val, by omega⟩ : Fin 3328))
  · blk_point [iblk, V_main_arg0, idxA t]
  · exact ok.z _ _

theorem hz2 (t : Fin cfg0.N) : HZ (iblk m c 2 t) (zB I (t.val / 64) (t.val % 16) (2048 + 256 * (t.val / 16 % 4))) := fun i j => by
  have ht := t_lt t
  trans ((m ((c.tc : Thread nD τ).loc main_arg0)) : FVec Ideal S16384x3328 .f32) (ix2 (⟨8192 * (t.val / 64) + (512 * (t.val % 16) + i.val), by omega⟩ : Fin 16384) (⟨2048 + 256 * (t.val / 16 % 4) + j.val, by omega⟩ : Fin 3328))
  · blk_point [iblk, V_main_arg0, idxA t]
  · exact ok.z _ _

theorem hz3 (t : Fin cfg0.N) : HZ (iblk m c 3 t) (zB I (t.val / 64) (t.val % 16) (3072)) := fun i j => by
  have ht := t_lt t
  trans ((m ((c.tc : Thread nD τ).loc main_arg0)) : FVec Ideal S16384x3328 .f32) (ix2 (⟨8192 * (t.val / 64) + (512 * (t.val % 16) + i.val), by omega⟩ : Fin 16384) (⟨3072 + j.val, by omega⟩ : Fin 3328))
  · blk_point [iblk, V_main_arg0, idxA t]
  · exact ok.z _ _

theorem hp0 (t : Fin cfg0.N) : HR (iblk m c 4 t) (vB I.mu (256 * (t.val / 16 % 4))) := fun j => by
  have ht := t_lt t
  trans (V m c main_v1 : FVec Ideal S1x3328 .f32) (ix2 0 (⟨256 * (t.val / 16 % 4) + j.val, by omega⟩ : Fin 3328))
  · blk_point [iblk, idxA t]
  · rw [V_v1]
    trans ((m ((c.tc : Thread nD τ).loc main_arg1)) : FVec Ideal S3328 .f32) (ix1 (⟨256 * (t.val / 16 % 4) + j.val, by omega⟩ : Fin 3328))
    · pointwise
    · exact ok.mu _

theorem hp1 (t : Fin cfg0.N) : HR (iblk m c 5 t) (vB I.mu (1024 + 256 * (t.val / 16 % 4))) := fun j => by
  have ht := t_lt t
  trans (V m c main_v1 : FVec Ideal S1x3328 .f32) (ix2 0 (⟨1024 + 256 * (t.val / 16 % 4) + j.val, by omega⟩ : Fin 3328))
  · blk_point [iblk, idxA t]
  · rw [V_v1]
    trans ((m ((c.tc : Thread nD τ).loc main_arg1)) : FVec Ideal S3328 .f32) (ix1 (⟨1024 + 256 * (t.val / 16 % 4) + j.val, by omega⟩ : Fin 3328))
    · pointwise
    · exact ok.mu _

theorem hp2 (t : Fin cfg0.N) : HR (iblk m c 6 t) (vB I.mu (2048 + 256 * (t.val / 16 % 4))) := fun j => by
  have ht := t_lt t
  trans (V m c main_v1 : FVec Ideal S1x3328 .f32) (ix2 0 (⟨2048 + 256 * (t.val / 16 % 4) + j.val, by omega⟩ : Fin 3328))
  · blk_point [iblk, idxA t]
  · rw [V_v1]
    trans ((m ((c.tc : Thread nD τ).loc main_arg1)) : FVec Ideal S3328 .f32) (ix1 (⟨2048 + 256 * (t.val / 16 % 4) + j.val, by omega⟩ : Fin 3328))
    · pointwise
    · exact ok.mu _

theorem hp3 (t : Fin cfg0.N) : HR (iblk m c 7 t) (vB I.mu (3072)) := fun j => by
  have ht := t_lt t
  trans (V m c main_v1 : FVec Ideal S1x3328 .f32) (ix2 0 (⟨3072 + j.val, by omega⟩ : Fin 3328))
  · blk_point [iblk, idxA t]
  · rw [V_v1]
    trans ((m ((c.tc : Thread nD τ).loc main_arg1)) : FVec Ideal S3328 .f32) (ix1 (⟨3072 + j.val, by omega⟩ : Fin 3328))
    · pointwise
    · exact ok.mu _

theorem hw0 (t : Fin cfg0.N) : HR (iblk m c 9 t) (vB I.w0 (256 * (t.val / 16 % 4))) := fun j => by
  have ht := t_lt t
  trans (V m c main_v3 : FVec Ideal S1x1024 .f32) (ix2 0 (⟨256 * (t.val / 16 % 4) + j.val, by omega⟩ : Fin 1024))
  · blk_point [iblk, idxB t]
  · rw [V_v3]
    trans ((m ((c.tc : Thread nD τ).loc main_arg3)) : FVec Ideal S1024 .f32) (ix1 (⟨256 * (t.val / 16 % 4) + j.val, by omega⟩ : Fin 1024))
    · pointwise
    · exact ok.w0 _

theorem ha0 (t : Fin cfg0.N) : HR (iblk m c 11 t) (vB I.a0 (256 * (t.val / 16 % 4))) := fun j => by
  have ht := t_lt t
  trans (V m c main_v5 : FVec Ideal S1x1024 .f32) (ix2 0 (⟨256 * (t.val / 16 % 4) + j.val, by omega⟩ : Fin 1024))
  · blk_point [iblk, idxB t]
  · rw [V_v5]
    trans ((m ((c.tc : Thread nD τ).loc main_arg5)) : FVec Ideal S1024 .f32) (ix1 (⟨256 * (t.val / 16 % 4) + j.val, by omega⟩ : Fin 1024))
    · pointwise
    · exact ok.a0 _

theorem hkk (t : Fin cfg0.N) : HR (iblk m c 13 t) (vB I.kk (256 * (t.val / 16 % 4))) := fun j => by
  have ht := t_lt t
  trans (V m c main_v7 : FVec Ideal S1x1024 .f32) (ix2 0 (⟨256 * (t.val / 16 % 4) + j.val, by omega⟩ : Fin 1024))
  · blk_point [iblk, idxB t]
  · rw [V_v7]
    trans ((m ((c.tc : Thread nD τ).loc main_arg7)) : FVec Ideal S1024 .f32) (ix1 (⟨256 * (t.val / 16 % 4) + j.val, by omega⟩ : Fin 1024))
    · pointwise
    · exact ok.kk _

theorem hka (t : Fin cfg0.N) : HR (iblk m c 14 t) (vB I.ka (256 * (t.val / 16 % 4))) := fun j => by
  have ht := t_lt t
  trans (V m c main_v8 : FVec Ideal S1x1024 .f32) (ix2 0 (⟨256 * (t.val / 16 % 4) + j.val, by omega⟩ : Fin 1024))
  · blk_point [iblk, idxB t]
  · rw [V_v8]
    trans ((m ((c.tc : Thread nD τ).loc main_arg8)) : FVec Ideal S1024 .f32) (ix1 (⟨256 * (t.val / 16 % 4) + j.val, by omega⟩ : Fin 1024))
    · pointwise
    · exact ok.ka _

theorem hlg (t : Fin cfg0.N) : HR (iblk m c 16 t) (vB I.lg (256 * (t.val / 16 % 4))) := fun j => by
  have ht := t_lt t
  trans (V m c main_v10 : FVec Ideal S1x1024 .f32) (ix2 0 (⟨256 * (t.val / 16 % 4) + j.val, by omega⟩ : Fin 1024))
  · blk_point [iblk, idxB t]
  · rw [V_v10]
    trans ((m ((c.tc : Thread nD τ).loc main_arg10)) : FVec Ideal S1024 .f32) (ix1 (⟨256 * (t.val / 16 % 4) + j.val, by omega⟩ : Fin 1024))
    · pointwise
    · exact ok.lg _

theorem hlb (t : Fin cfg0.N) : HR (iblk m c 17 t) (vB I.lb (256 * (t.val / 16 % 4))) := fun j => by
  have ht := t_lt t
  trans (V m c main_v11 : FVec Ideal S1x1024 .f32) (ix2 0 (⟨256 * (t.val / 16 % 4) + j.val, by omega⟩ : Fin 1024))
  · blk_point [iblk, idxB t]
  · rw [V_v11]
    trans ((m ((c.tc : Thread nD τ).loc main_arg11)) : FVec Ideal S1024 .f32) (ix1 (⟨256 * (t.val / 16 % 4) + j.val, by omega⟩ : Fin 1024))
    · pointwise
    · exact ok.lb _

omit ok in
theorem cast_rk (x : FVec Ideal S16x64 .f32) (p : Fin 1024) : shapeCast S1024 x shapeCasts_S16x64_S1024 (ix1 p) = x (ix2 (⟨p.val / 64, by omega⟩ : Fin 16) (⟨p.val % 64, by omega⟩ : Fin 64)) := by
  pointwise
omit ok in
theorem cast_row (x : FVec Ideal S1024 .f32) (p : Fin 1024) : shapeCast S1x1024 x shapeCasts_S1024_S1x1024 (ix2 0 p) = x (ix1 p) := by
  pointwise

theorem hrk (t : Fin cfg0.N) : HR (iblk m c 15 t) (vB I.rk (256 * (t.val / 16 % 4))) := fun j => by
  have ht := t_lt t
  trans (V m c main_v9 : FVec Ideal S1x1024 .f32) (ix2 0 (⟨256 * (t.val / 16 % 4) + j.val, by omega⟩ : Fin 1024))
  · blk_point [iblk, idxB t]
  · rw [V_v9, cast_row, cast_rk, ok.rk]
    unfold vB
    have e : 64 * ((256 * (t.val / 16 % 4) + j.val) / 64) + (256 * (t.val / 16 % 4) + j.val) % 64 = 256 * (t.val / 16 % 4) + j.val := by omega
    exact congrArg (fun n => ((I.rk n : ℝ) : EReal)) e

theorem hdec (t : Fin cfg0.N) : HD (iblk m c 8 t) (wB I.dec (256 * (t.val / 16 % 4))) := fun x j => by
  have ht := t_lt t
  trans (V m c main_v2 : FVec Ideal S64x1024 .bf16) (ix2 x (⟨256 * (t.val / 16 % 4) + j.val, by omega⟩ : Fin 1024))
  · blk_point [iblk, idxB t]
  · rw [V_v2]
    trans ((m ((c.tc : Thread nD τ).loc main_arg2)) : FVec Ideal S64x1024 .f32) (ix2 x (⟨256 * (t.val / 16 % 4) + j.val, by omega⟩ : Fin 1024))
    · pointwise
    · exact ok.dec _ _

theorem hicl (t : Fin cfg0.N) : HD (iblk m c 10 t) (wB I.icl (256 * (t.val / 16 % 4))) := fun x j => by
  have ht := t_lt t
  trans (V m c main_v4 : FVec Ideal S64x1024 .bf16) (ix2 x (⟨256 * (t.val / 16 % 4) + j.val, by omega⟩ : Fin 1024))
  · blk_point [iblk, idxB t]
  · rw [V_v4]
    trans ((m ((c.tc : Thread nD τ).loc main_arg4)) : FVec Ideal S64x1024 .f32) (ix2 x (⟨256 * (t.val / 16 % 4) + j.val, by omega⟩ : Fin 1024))
    · pointwise
    · exact ok.icl _ _

theorem hgt (t : Fin cfg0.N) : HG (iblk m c 12 t) (wB I.gt (256 * (t.val / 16 % 4))) := fun x j => by
  have ht := t_lt t
  trans (V m c main_v6 : FVec Ideal S128x1024 .bf16) (ix2 x (⟨256 * (t.val / 16 % 4) + j.val, by omega⟩ : Fin 1024))
  · blk_point [iblk, idxB t]
  · rw [V_v6]
    trans ((m ((c.tc : Thread nD τ).loc main_arg6)) : FVec Ideal S128x1024 .f32) (ix2 x (⟨256 * (t.val / 16 % 4) + j.val, by omega⟩ : Fin 1024))
    · pointwise
    · exact ok.gt _ _

end Cert.Kernel7Ideal.Chunk

end
-- ==== Proof.WkvGrid.lean ====
module

public import proofs.«01_k».proof.Proof.WkvJoin

@[expose] public section

set_option maxRecDepth 16384

noncomputable section

namespace Cert.Kernel7Ideal.Chunk

open Idealize.ShloMosaic Idealize.ShloMosaic.TcCoe Idealize.SL.Sem
open Cert.Kernel7Ideal Cert.Kernel7Ideal.Gen Cert.Wkv

theorem row_at0 (x : FVec Ideal S8x256 .f32) (j : Fin 256) : row0 x (ix2 0 j) = x (ix2 ⟨(0 : Fin 4).val, by omega⟩ j) :=
  View.ld_unit_apply_of (Val := Elt Ideal) (e := .f32) x _ _ _ (ix2 0 j) (ix2 ⟨(0 : Fin 4).val, by omega⟩ j) (by intro a; fin_cases a <;> simp [ix2])
theorem row_at1 (x : FVec Ideal S8x256 .f32) (j : Fin 256) : row1 x (ix2 0 j) = x (ix2 ⟨(1 : Fin 4).val, by omega⟩ j) :=
  View.ld_unit_apply_of (Val := Elt Ideal) (e := .f32) x _ _ _ (ix2 0 j) (ix2 ⟨(1 : Fin 4).val, by omega⟩ j) (by intro a; fin_cases a <;> simp [ix2])
theorem row_at2 (x : FVec Ideal S8x256 .f32) (j : Fin 256) : row2 x (ix2 0 j) = x (ix2 ⟨(2 : Fin 4).val, by omega⟩ j) :=
  View.ld_unit_apply_of (Val := Elt Ideal) (e := .f32) x _ _ _ (ix2 0 j) (ix2 ⟨(2 : Fin 4).val, by omega⟩ j) (by intro a; fin_cases a <;> simp [ix2])
theorem row_at3 (x : FVec Ideal S8x256 .f32) (j : Fin 256) : row3 x (ix2 0 j) = x (ix2 ⟨(3 : Fin 4).val, by omega⟩ j) :=
  View.ld_unit_apply_of (Val := Elt Ideal) (e := .f32) x _ _ _ (ix2 0 j) (ix2 ⟨(3 : Fin 4).val, by omega⟩ j) (by intro a; fin_cases a <;> simp [ix2])

theorem zero_at2 (i j : Fin 256) : (k0_pay2 (F := Ideal)) (ix2 i j) = ((0 : ℝ) : EReal) := by
  pointwise [k0_pay2]
  simp
theorem zero_at3 (i : Fin 8) (j : Fin 256) : (k0_pay3 (F := Ideal)) (ix2 i j) = ((0 : ℝ) : EReal) := by
  pointwise [k0_pay3]
  simp
theorem last4 (z : Z) (j : Fin 256) : k0_pay4 (F := Ideal) z (ix2 0 j) = z (ix2 (511 : Fin 512) j) := by
  pointwise [k0_pay4]
theorem last7 (z : Z) (j : Fin 256) : k0_pay7 (F := Ideal) z (ix2 0 j) = z (ix2 (511 : Fin 512) j) := by
  pointwise [k0_pay7]
theorem last9 (z : Z) (j : Fin 256) : k0_pay9 (F := Ideal) z (ix2 0 j) = z (ix2 (511 : Fin 512) j) := by
  pointwise [k0_pay9]
theorem last11 (z : Z) (j : Fin 256) : k0_pay11 (F := Ideal) z (ix2 0 j) = z (ix2 (511 : Fin 512) j) := by
  pointwise [k0_pay11]

/-- The four rows kept from the block before hold the row before the block. -/
structure Rows (I : Inp) (t : Fin cfg0.N) (x : FVec Ideal S8x256 .f32) : Prop where
  r0 : HR (row0 x) (zL I (t.val / 64) (t.val % 16) (256 * (t.val / 16 % 4)))
  r1 : HR (row1 x) (zL I (t.val / 64) (t.val % 16) (1024 + 256 * (t.val / 16 % 4)))
  r2 : HR (row2 x) (zL I (t.val / 64) (t.val % 16) (2048 + 256 * (t.val / 16 % 4)))
  r3 : HR (row3 x) (zL I (t.val / 64) (t.val % 16) 3072)

variable (m : (ℓ : Loc nD τ sig) → Buf (Elt Ideal) ℓ) (c : Dev nD) {I : Inp}

theorem rows_A (t : Fin cfg0.N) (h : t.val % 16 = 0) : Rows I t k0_pay3 where
  r0 := fun j => by rw [row_at0, zero_at3, zL, if_pos h]
  r1 := fun j => by rw [row_at1, zero_at3, zL, if_pos h]
  r2 := fun j => by rw [row_at2, zero_at3, zL, if_pos h]
  r3 := fun j => by rw [row_at3, zero_at3, zL, if_pos h]

theorem zL_B (t : ℕ) (h : ¬ t % 16 = 0) (o : ℕ) (j : Fin 256) : zL I (t / 64) (t % 16) o j = zB I ((t - 1) / 64) ((t - 1) % 16) o 511 j := by
  unfold zL zB
  rw [if_neg h]
  have e : 8192 * (t / 64) + 512 * (t % 16) - 1 = 8192 * ((t - 1) / 64) + (512 * ((t - 1) % 16) + 511) := by omega
  rw [e]

theorem la0 (t : Fin cfg0.N) (j : Fin 256) : (outsAt0 m c t.val t.isLt).2.2 (ix2 ⟨(0 : Fin 4).val, by omega⟩ j) = (iblk m c 0 t : Z) (ix2 (511 : Fin 512) j) := by
  by_cases h : t.val % 16 = 0
  · rw [la0_A m c t h, last4]
  · rw [la0_B m c t h, last4]
theorem la1 (t : Fin cfg0.N) (j : Fin 256) : (outsAt0 m c t.val t.isLt).2.2 (ix2 ⟨(1 : Fin 4).val, by omega⟩ j) = (iblk m c 1 t : Z) (ix2 (511 : Fin 512) j) := by
  by_cases h : t.val % 16 = 0
  · rw [la1_A m c t h, last7]
  · rw [la1_B m c t h, last7]
theorem la2 (t : Fin cfg0.N) (j : Fin 256) : (outsAt0 m c t.val t.isLt).2.2 (ix2 ⟨(2 : Fin 4).val, by omega⟩ j) = (iblk m c 2 t : Z) (ix2 (511 : Fin 512) j) := by
  by_cases h : t.val % 16 = 0
  · rw [la2_A m c t h, last9]
  · rw [la2_B m c t h, last9]
theorem la3 (t : Fin cfg0.N) (j : Fin 256) : (outsAt0 m c t.val t.isLt).2.2 (ix2 ⟨(3 : Fin 4).val, by omega⟩ j) = (iblk m c 3 t : Z) (ix2 (511 : Fin 512) j) := by
  by_cases h : t.val % 16 = 0
  · rw [la3_A m c t h, last11]
  · rw [la3_B m c t h, last11]

variable (ok : OkM m c I)
include ok

theorem rows_B (t : Fin cfg0.N) (h : ¬ t.val % 16 = 0) : Rows I t (preL m c t) := by
  have eg : (t.val - 1) / 16 % 4 = t.val / 16 % 4 := by omega
  let u : Fin cfg0.N := ⟨t.val - 1, Nat.lt_of_le_of_lt (Nat.sub_le _ _) t.isLt⟩
  have eu : u.val / 16 % 4 = t.val / 16 % 4 := eg
  refine ⟨fun j => ?_, fun j => ?_, fun j => ?_, fun j => ?_⟩
  · rw [row_at0, zL_B _ h]
    refine (la0 m c u j).trans ((hz0 m c ok u 511 j).trans ?_)
    rw [eu]
    rfl
  · rw [row_at1, zL_B _ h]
    refine (la1 m c u j).trans ((hz1 m c ok u 511 j).trans ?_)
    rw [eu]
    rfl
  · rw [row_at2, zL_B _ h]
    refine (la2 m c u j).trans ((hz2 m c ok u 511 j).trans ?_)
    rw [eu]
    rfl
  · rw [row_at3, zL_B _ h]
    exact (la3 m c u j).trans (hz3 m c ok u 511 j)

theorem atState_has (t : Fin cfg0.N) (s : M32) (x : FVec Ideal S8x256 .f32) (hx : Rows I t x) (hs : H32 s (toMat (sS I (t.val / 64) (t.val / 16 % 4) (512 * (t.val % 16))))) :
    H32 (atState m c t s x) (toMat (sS I (t.val / 64) (t.val / 16 % 4) (512 * (t.val % 16) + 512))) :=
  blk_state I _ _ _ (by omega) (hz0 m c ok t) (hz1 m c ok t) (hz2 m c ok t) (hz3 m c ok t) hx.r0 hx.r1 hx.r2 hx.r3
    (hp0 m c ok t) (hp1 m c ok t) (hp2 m c ok t) (hp3 m c ok t) (hw0 m c ok t) (ha0 m c ok t) (hkk m c ok t) (hka m c ok t) (hdec m c ok t) (hicl m c ok t) hs

theorem atOut_has (t : Fin cfg0.N) (s : M32) (x : FVec Ideal S8x256 .f32) (hx : Rows I t x) (hs : H32 s (toMat (sS I (t.val / 64) (t.val / 16 % 4) (512 * (t.val % 16)))))
    (i : Fin 512) (j : Fin 256) : atOut m c t s x (ix2 i j) = ((sOut I (t.val / 64) (t.val / 16 % 4) (512 * (t.val % 16) + i.val) j : ℝ) : EReal) :=
  blk_out I _ _ _ (by omega) (hz0 m c ok t) (hz1 m c ok t) (hz2 m c ok t) (hz3 m c ok t) hx.r0 hx.r1 hx.r2 hx.r3
    (hp0 m c ok t) (hp1 m c ok t) (hp2 m c ok t) (hp3 m c ok t) (hw0 m c ok t) (ha0 m c ok t) (hkk m c ok t) (hka m c ok t)
    (hrk m c ok t) (hlg m c ok t) (hlb m c ok t) (hdec m c ok t) (hicl m c ok t) (hgt m c ok t) hs i j

omit ok in
theorem zero_state (b g : ℕ) : H32 k0_pay2 (toMat (sS I b g 0)) := fun i j => zero_at2 i j

/-- The state a grid point leaves. -/
theorem state_at : ∀ (n : ℕ) (hn : n < cfg0.N), H32 (outsAt0 m c n hn).2.1 (toMat (sS I (n / 64) (n / 16 % 4) (512 * (n % 16) + 512)))
  | 0, hn => by
    rw [st_A m c ⟨0, hn⟩ rfl]
    exact atState_has m c ok ⟨0, hn⟩ _ _ (rows_A ⟨0, hn⟩ rfl) (zero_state _ _)
  | n + 1, hn => by
    have ih := state_at n (Nat.lt_of_succ_lt hn)
    by_cases h : (n + 1) % 16 = 0
    · rw [st_A m c ⟨n + 1, hn⟩ h]
      refine atState_has m c ok ⟨n + 1, hn⟩ _ _ (rows_A ⟨n + 1, hn⟩ h) ?_
      show H32 _ (toMat (sS I _ _ (512 * ((n + 1) % 16))))
      rw [h]
      exact zero_state _ _
    · rw [st_B m c ⟨n + 1, hn⟩ h]
      refine atState_has m c ok ⟨n + 1, hn⟩ _ _ (rows_B m c ok ⟨n + 1, hn⟩ h) ?_
      have e0 : (n + 1) / 64 = n / 64 := by omega
      have e1 : (n + 1) / 16 % 4 = n / 16 % 4 := by omega
      have e2 : 512 * ((n + 1) % 16) = 512 * (n % 16) + 512 := by omega
      show H32 _ (toMat (sS I ((n + 1) / 64) ((n + 1) / 16 % 4) (512 * ((n + 1) % 16))))
      rw [e0, e1, e2]
      exact ih

/-- The block a grid point writes. -/
theorem out_at (t : Fin cfg0.N) (i : Fin 512) (j : Fin 256) :
    (outsAt0 m c t.val t.isLt).1 (ix2 i j) = ((sOut I (t.val / 64) (t.val / 16 % 4) (512 * (t.val % 16) + i.val) j : ℝ) : EReal) := by
  by_cases h : t.val % 16 = 0
  · rw [out_A m c t h]
    refine atOut_has m c ok t _ _ (rows_A t h) ?_ i j
    rw [h]
    exact zero_state _ _
  · rw [out_B m c t h]
    refine atOut_has m c ok t _ _ (rows_B m c ok t h) ?_ i j
    have e0 : t.val / 64 = (t.val - 1) / 64 := by omega
    have e1 : t.val / 16 % 4 = (t.val - 1) / 16 % 4 := by omega
    have e2 : 512 * (t.val % 16) = 512 * ((t.val - 1) % 16) + 512 := by omega
    rw [e0, e1, e2]
    exact state_at m c ok (t.val - 1) (Nat.lt_of_le_of_lt (Nat.sub_le _ _) t.isLt)

/-- The array after the whole grid. -/
theorem final (Y : FVec Ideal S16384x1024 .bf16)
    (hY : ∀ (r : Fin 16384) (q : Fin 1024), Y (ix2 r q) = ((sOut I (r.val / 8192) (q.val / 256) (r.val % 8192) ⟨q.val % 256, by omega⟩ : ℝ) : EReal)) :
    (dats m 0 c).arrAt 18 (cfgs 0).N = Y := by
  refine (dats m 0 c).arrAt_eq_of_covers 18 _ (by decide +kernel) fun t _ y => ?_
  blk_simp
  rw [after0_18]
  have ht : t.val < 128 := t_lt t
  obtain ⟨r, l, rfl⟩ : ∃ r l, y = ix2 r l := ⟨y 0, y 1, by funext a; fin_cases a <;> rfl⟩
  trans Y (ix2 (⟨512 * (t.val / 64 * 16 + t.val % 16) + r.val, by omega⟩ : Fin 16384) (⟨256 * (t.val / 16 % 4) + l.val, by omega⟩ : Fin 1024))
  · rw [hY]
    refine (out_at m c ok t r l).trans ?_
    have hr := r.isLt
    have hl := l.isLt
    have e0 : (512 * (t.val / 64 * 16 + t.val % 16) + r.val) / 8192 = t.val / 64 := by omega
    have e1 : (256 * (t.val / 16 % 4) + l.val) / 256 = t.val / 16 % 4 := by omega
    have e2 : (512 * (t.val / 64 * 16 + t.val % 16) + r.val) % 8192 = 512 * (t.val % 16) + r.val := by omega
    have e3 : (⟨(256 * (t.val / 16 % 4) + l.val) % 256, by omega⟩ : Fin 256) = l := Fin.ext (by show (256 * (t.val / 16 % 4) + l.val) % 256 = l.val; omega)
    dsimp only
    rw [e0, e1, e2, e3]
  · blk_point [idxB t]

end Cert.Kernel7Ideal.Chunk

end
-- ==== Proof.WkvFinite.lean ====
module

public import proofs.«01_k».proof.Proof.WkvJoin
public import proofs.«01_k».proof.Proof.Finite
public import proofs.«01_k».proof.Pre_finite_wkv

@[expose] public section

set_option maxRecDepth 16384

noncomputable section

namespace Cert.Pre_finite_wkv

open Idealize.ShloMosaic Idealize.ShloMosaic.TcCoe Idealize.SL.Sem
open Cert.Pre_finite_inputs (real_of_abs lt_top_of)
open Cert.Kernel7Ideal.Chunk (Inp Ok)

instance facts : Facts where
  bcast_S_S16384x3328 := by decide
  reducesTo_S16384x3328_S_d0_1 := by decide
  h_S_ := by decide
  bcast_S_S3328 := by decide
  reducesTo_S3328_S_d0 := by decide
  bcast_S_S64x1024 := by decide
  reducesTo_S64x1024_S_d0_1 := by decide
  bcast_S_S1024 := by decide
  reducesTo_S1024_S_d0 := by decide
  bcast_S_S128x1024 := by decide
  reducesTo_S128x1024_S_d0_1 := by decide
  bcast_S_S16x64 := by decide
  reducesTo_S16x64_S_d0_1 := by decide

/-- A vector's, an array's real at an index. -/
def r1 {n : ℕ} (x : (⟨1, ![n]⟩ : Shape).Idx → EReal) (j : ℕ) : ℝ := if h : j < n then (x (ix1 ⟨j, h⟩)).toReal else 0
def r2 {p n : ℕ} (x : (⟨2, ![p, n]⟩ : Shape).Idx → EReal) (i j : ℕ) : ℝ := if h : i < p ∧ j < n then (x (ix2 ⟨i, h.1⟩ ⟨j, h.2⟩)).toReal else 0

theorem r1_at {n : ℕ} (x : (⟨1, ![n]⟩ : Shape).Idx → EReal) (h : ∀ j : Fin n, ∃ a : ℝ, x (ix1 j) = (a : EReal)) (j : Fin n) : x (ix1 j) = ((r1 x j.val : ℝ) : EReal) := by
  obtain ⟨a, ha⟩ := h j
  unfold r1
  rw [dif_pos j.isLt]
  show x (ix1 j) = (((x (ix1 j)).toReal : ℝ) : EReal)
  rw [ha, EReal.toReal_coe]

theorem r2_at {p n : ℕ} (x : (⟨2, ![p, n]⟩ : Shape).Idx → EReal) (h : ∀ (i : Fin p) (j : Fin n), ∃ a : ℝ, x (ix2 i j) = (a : EReal)) (i : Fin p) (j : Fin n) :
    x (ix2 i j) = ((r2 x i.val j.val : ℝ) : EReal) := by
  obtain ⟨a, ha⟩ := h i j
  unfold r2
  rw [dif_pos ⟨i.isLt, j.isLt⟩]
  show x (ix2 i j) = (((x (ix2 i j)).toReal : ℝ) : EReal)
  rw [ha, EReal.toReal_coe]

/-- The reals of the call's arrays. -/
def inp (z : FVec Ideal S16384x3328 .f32) (mu : FVec Ideal S3328 .f32) (dec : FVec Ideal S64x1024 .f32) (w0 : FVec Ideal S1024 .f32)
    (icl : FVec Ideal S64x1024 .f32) (a0 : FVec Ideal S1024 .f32) (gt : FVec Ideal S128x1024 .f32) (kk ka : FVec Ideal S1024 .f32)
    (rk : FVec Ideal S16x64 .f32) (lg lb : FVec Ideal S1024 .f32) : Inp where
  z := r2 z
  mu := r1 mu
  dec := r2 dec
  w0 := r1 w0
  icl := r2 icl
  a0 := r1 a0
  gt := r2 gt
  kk := r1 kk
  ka := r1 ka
  rk := fun ch => r2 rk (ch / 64) (ch % 64)
  lg := r1 lg
  lb := r1 lb

variable {z : FVec Ideal S16384x3328 .f32} {mu : FVec Ideal S3328 .f32} {dec : FVec Ideal S64x1024 .f32} {w0 : FVec Ideal S1024 .f32}
    {icl : FVec Ideal S64x1024 .f32} {a0 : FVec Ideal S1024 .f32} {gt : FVec Ideal S128x1024 .f32} {kk ka : FVec Ideal S1024 .f32}
    {rk : FVec Ideal S16x64 .f32} {lg lb : FVec Ideal S1024 .f32}

theorem real1024 {x : FVec Ideal S1024 .f32} {i : S_.Idx} (e : Host.reduce IntOp.andi (cmpf .olt (Host.absf x) (broadcastInDim S1024 ![] Facts.bcast_S_S1024 (constant S_ .f32 0x7F800000#32))) (constantI S_ 1 1#1) Facts.reducesTo_S1024_S_d0 Facts.h_S_ i = 1#1)
    (j : Fin 1024) : ∃ a : ℝ, x (ix1 j) = (a : EReal) := by
  have hx := Host.reduce_andi_all _ _ _ _ _ e (ix1 j)
  pointwise [] at hx
  exact real_of_abs _ (lt_top_of hx)

theorem real3328 {x : FVec Ideal S3328 .f32} {i : S_.Idx} (e : Host.reduce IntOp.andi (cmpf .olt (Host.absf x) (broadcastInDim S3328 ![] Facts.bcast_S_S3328 (constant S_ .f32 0x7F800000#32))) (constantI S_ 1 1#1) Facts.reducesTo_S3328_S_d0 Facts.h_S_ i = 1#1)
    (j : Fin 3328) : ∃ a : ℝ, x (ix1 j) = (a : EReal) := by
  have hx := Host.reduce_andi_all _ _ _ _ _ e (ix1 j)
  pointwise [] at hx
  exact real_of_abs _ (lt_top_of hx)

theorem real64 {x : FVec Ideal S64x1024 .f32} {i : S_.Idx} (e : Host.reduce IntOp.andi (cmpf .olt (Host.absf x) (broadcastInDim S64x1024 ![] Facts.bcast_S_S64x1024 (constant S_ .f32 0x7F800000#32))) (constantI S_ 1 1#1) Facts.reducesTo_S64x1024_S_d0_1 Facts.h_S_ i = 1#1)
    (p : Fin 64) (j : Fin 1024) : ∃ a : ℝ, x (ix2 p j) = (a : EReal) := by
  have hx := Host.reduce_andi_all _ _ _ _ _ e (ix2 p j)
  pointwise [] at hx
  exact real_of_abs _ (lt_top_of hx)

theorem real128 {x : FVec Ideal S128x1024 .f32} {i : S_.Idx} (e : Host.reduce IntOp.andi (cmpf .olt (Host.absf x) (broadcastInDim S128x1024 ![] Facts.bcast_S_S128x1024 (constant S_ .f32 0x7F800000#32))) (constantI S_ 1 1#1) Facts.reducesTo_S128x1024_S_d0_1 Facts.h_S_ i = 1#1)
    (p : Fin 128) (j : Fin 1024) : ∃ a : ℝ, x (ix2 p j) = (a : EReal) := by
  have hx := Host.reduce_andi_all _ _ _ _ _ e (ix2 p j)
  pointwise [] at hx
  exact real_of_abs _ (lt_top_of hx)

theorem real16 {x : FVec Ideal S16x64 .f32} {i : S_.Idx} (e : Host.reduce IntOp.andi (cmpf .olt (Host.absf x) (broadcastInDim S16x64 ![] Facts.bcast_S_S16x64 (constant S_ .f32 0x7F800000#32))) (constantI S_ 1 1#1) Facts.reducesTo_S16x64_S_d0_1 Facts.h_S_ i = 1#1)
    (p : Fin 16) (j : Fin 64) : ∃ a : ℝ, x (ix2 p j) = (a : EReal) := by
  have hx := Host.reduce_andi_all _ _ _ _ _ e (ix2 p j)
  pointwise [] at hx
  exact real_of_abs _ (lt_top_of hx)

theorem realZ {x : FVec Ideal S16384x3328 .f32} {i : S_.Idx} (e : Host.reduce IntOp.andi (cmpf .olt (Host.absf x) (broadcastInDim S16384x3328 ![] Facts.bcast_S_S16384x3328 (constant S_ .f32 0x7F800000#32))) (constantI S_ 1 1#1) Facts.reducesTo_S16384x3328_S_d0_1 Facts.h_S_ i = 1#1)
    (p : Fin 16384) (j : Fin 3328) : ∃ a : ℝ, x (ix2 p j) = (a : EReal) := by
  have hx := Host.reduce_andi_all _ _ _ _ _ e (ix2 p j)
  pointwise [] at hx
  exact real_of_abs _ (lt_top_of hx)

/-- What the precondition says of the arrays. -/
theorem ok_of_pre (h : fn (F := Ideal) z mu dec w0 icl a0 gt kk ka rk lg lb = fun _ => 1#1) :
    Ok (inp z mu dec w0 icl a0 gt kk ka rk lg lb) z mu dec w0 icl a0 gt kk ka rk lg lb := by
  have e := congrFun h (Shape.Idx.first Facts.h_S_)
  unfold fn fn_part1 fn_part2 fn_part3 at e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact {
    z := r2_at z (realZ e0)
    mu := r1_at mu (real3328 e1)
    dec := r2_at dec (real64 e2)
    w0 := r1_at w0 (real1024 e3)
    icl := r2_at icl (real64 e4)
    a0 := r1_at a0 (real1024 e5)
    gt := r2_at gt (real128 e6)
    kk := r1_at kk (real1024 e7)
    ka := r1_at ka (real1024 e8)
    rk := fun h n => by
      rw [r2_at rk (real16 e9) h n]
      have h1 : (64 * h.val + n.val) / 64 = h.val := by omega
      have h2 : (64 * h.val + n.val) % 64 = n.val := by omega
      show _ = ((r2 rk ((64 * h.val + n.val) / 64) ((64 * h.val + n.val) % 64) : ℝ) : EReal)
      rw [h1, h2]
    lg := r1_at lg (real1024 e10)
    lb := r1_at lb (real1024 e11) }

end Cert.Pre_finite_wkv

end
-- ==== Proof.WkvRefA.lean ====
module

public import proofs.«01_k».proof.Proof.Gen.Reference7Ideal.Run
public import proofs.«01_k».proof.Proof.WkvSpec
public import Idealize.ShloMosaic.Lib.Pointwise

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value

def MIX (z : FVec Ideal S16384x3328 .f32) (mu : FVec Ideal S3328 .f32) : FVec Ideal S2x8192x3328 .f32 :=
  addf (shapeCast S2x8192x3328 z shapeCasts_S16384x3328_S2x8192x3328) (mulf (subf (pad S2x8192x3328 ![0, 1, 0] ![0, 0, 0] ![0, 0, 0] (extractStridedSlice S2x8191x3328 ![0, 0, 0] (shapeCast S2x8192x3328 z shapeCasts_S16384x3328_S2x8192x3328) slices_S2x8192x3328_S2x8191x3328_0_0_0) (sitofp .f32 (constantI S_ 32 0#32)) pads_S2x8191x3328_S2x8192x3328_000_100_000 h_S_) (shapeCast S2x8192x3328 z shapeCasts_S16384x3328_S2x8192x3328)) (broadcastInDim S2x8192x3328 ![0, 1, 2] bcast_S1x1x3328_S2x8192x3328_0_1_2 (broadcastInDim S1x1x3328 ![2] bcast_S3328_S1x1x3328_2 mu)))

def NU (x : FVec Ideal S2x8192x3328 .f32) (dec : FVec Ideal S64x1024 .f32) (w0 : FVec Ideal S1024 .f32) : FVec Ideal S2x8192x1024 .f32 :=
  Host.negf (addf (broadcastInDim S2x8192x1024 ![0, 1, 2] bcast_S1x1x1024_S2x8192x1024_0_1_2 (broadcastInDim S1x1x1024 ![2] bcast_S1024_S1x1x1024_2 w0)) (Host.dotGeneral dot_S2x8192x64_S64x1024_S2x8192x1024_2_0_01_1_n_n none (Host.tanh (extractStridedSlice S2x8192x64 ![0, 0, 3072] x slices_S2x8192x3328_S2x8192x64_0_0_3072)) dec))

def SPT (u : FVec Ideal S2x8192x1024 .f32) : FVec Ideal S2x8192x1024 .f32 :=
  select (cmpf .une (subf u (broadcastInDim S2x8192x1024 ![] bcast_S_S2x8192x1024 (constant S_ .f32 0x00000000#32))) (subf u (broadcastInDim S2x8192x1024 ![] bcast_S_S2x8192x1024 (constant S_ .f32 0x00000000#32)))) (addf u (broadcastInDim S2x8192x1024 ![] bcast_S_S2x8192x1024 (constant S_ .f32 0x00000000#32))) (addf (maximumf u (broadcastInDim S2x8192x1024 ![] bcast_S_S2x8192x1024 (constant S_ .f32 0x00000000#32))) (Host.log1p (Host.exp (Host.negf (Host.absf (subf u (broadcastInDim S2x8192x1024 ![] bcast_S_S2x8192x1024 (constant S_ .f32 0x00000000#32))))))))

def DW (u : FVec Ideal S2x8192x1024 .f32) : FVec Ideal S2x8192x1024 .f32 :=
  Host.exp (Host.negf (Host.exp (subf (Host.negf u) (broadcastInDim S2x8192x1024 ![] bcast_S_S2x8192x1024 (constant S_ .f32 0x3F000000#32)))))

def AT (x : FVec Ideal S2x8192x3328 .f32) (icl : FVec Ideal S64x1024 .f32) (a0 : FVec Ideal S1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (addf (broadcastInDim S2x8192x1024 ![0, 1, 2] bcast_S1x1x1024_S2x8192x1024_0_1_2 (broadcastInDim S1x1x1024 ![2] bcast_S1024_S1x1x1024_2 a0)) (Host.dotGeneral dot_S2x8192x64_S64x1024_S2x8192x1024_2_0_01_1_n_n none (extractStridedSlice S2x8192x64 ![0, 0, 3136] x slices_S2x8192x3328_S2x8192x64_0_0_3136) icl)))))

def GT (x : FVec Ideal S2x8192x3328 .f32) (gt : FVec Ideal S128x1024 .f32) : FVec Ideal S2x8192x1024 .f32 :=
  Host.dotGeneral dot_S2x8192x128_S128x1024_S2x8192x1024_2_0_01_1_n_n none (Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (extractStridedSlice S2x8192x128 ![0, 0, 3200] x slices_S2x8192x3328_S2x8192x128_0_0_3200))))) gt

def KR (x : FVec Ideal S2x8192x3328 .f32) (kk : FVec Ideal S1024 .f32) : FVec Ideal S2x8192x16x64 .f32 :=
  shapeCast S2x8192x16x64 (mulf (extractStridedSlice S2x8192x1024 ![0, 0, 1024] x slices_S2x8192x3328_S2x8192x1024_0_0_1024) (broadcastInDim S2x8192x1024 ![0, 1, 2] bcast_S1x1x1024_S2x8192x1024_0_1_2 (broadcastInDim S1x1x1024 ![2] bcast_S1024_S1x1x1024_2 kk))) shapeCasts_S2x8192x1024_S2x8192x16x64

def KN (x : FVec Ideal S2x8192x16x64 .f32) : FVec Ideal S2x8192x16x1 .f32 :=
  maximumf (Host.sqrt (broadcastInDim S2x8192x16x1 ![0, 1, 2] bcast_S2x8192x16_S2x8192x16x1_0_1_2 (Host.reduceAdd (mulf x x) (constant S_ .f32 0x00000000#32) reducesTo_S2x8192x16x64_S2x8192x16_d3 h_S_))) (broadcastInDim S2x8192x16x1 ![] bcast_S_S2x8192x16x1 (constant S_ .f32 0x2B8CBCCC#32))

def KH (x : FVec Ideal S2x8192x16x64 .f32) (n : FVec Ideal S2x8192x16x1 .f32) : FVec Ideal S2x8192x16x64 .f32 :=
  Host.divf x (broadcastInDim S2x8192x16x64 ![0, 1, 2, 3] bcast_S2x8192x16x1_S2x8192x16x64_0_1_2_3 n)

def K2 (x : FVec Ideal S2x8192x3328 .f32) (a : FVec Ideal S2x8192x1024 .f32) (ka : FVec Ideal S1024 .f32) : FVec Ideal S2x8192x1024 .f32 :=
  mulf (extractStridedSlice S2x8192x1024 ![0, 0, 1024] x slices_S2x8192x3328_S2x8192x1024_0_0_1024) (addf (broadcastInDim S2x8192x1024 ![] bcast_S_S2x8192x1024 (constant S_ .f32 0x3F800000#32)) (mulf (subf a (broadcastInDim S2x8192x1024 ![] bcast_S_S2x8192x1024 (constant S_ .f32 0x3F800000#32))) (broadcastInDim S2x8192x1024 ![0, 1, 2] bcast_S1x1x1024_S2x8192x1024_0_1_2 (broadcastInDim S1x1x1024 ![2] bcast_S1024_S1x1x1024_2 ka))))

def R4 (x : FVec Ideal S2x8192x3328 .f32) : FVec Ideal S2x8192x16x64 .f32 :=
  shapeCast S2x8192x16x64 (extractStridedSlice S2x8192x1024 ![0, 0, 0] x slices_S2x8192x3328_S2x8192x1024_0_0_0) shapeCasts_S2x8192x1024_S2x8192x16x64

def W4 (x : FVec Ideal S2x8192x1024 .f32) : FVec Ideal S2x8192x16x64 .f32 :=
  shapeCast S2x8192x16x64 x shapeCasts_S2x8192x1024_S2x8192x16x64

def K4 (x : FVec Ideal S2x8192x1024 .f32) : FVec Ideal S2x8192x16x64 .f32 :=
  shapeCast S2x8192x16x64 x shapeCasts_S2x8192x1024_S2x8192x16x64

def V4 (x : FVec Ideal S2x8192x3328 .f32) : FVec Ideal S2x8192x16x64 .f32 :=
  shapeCast S2x8192x16x64 (extractStridedSlice S2x8192x1024 ![0, 0, 2048] x slices_S2x8192x3328_S2x8192x1024_0_0_2048) shapeCasts_S2x8192x1024_S2x8192x16x64

def A4 (x : FVec Ideal S2x8192x1024 .f32) : FVec Ideal S2x8192x16x64 .f32 :=
  shapeCast S2x8192x16x64 x shapeCasts_S2x8192x1024_S2x8192x16x64

def TR (x : FVec Ideal S2x8192x16x64 .f32) : FVec Ideal S8192x2x16x64 .f32 :=
  transpose S8192x2x16x64 [1, 0, 2, 3] x transposes_S2x8192x16x64_S8192x2x16x64_1_0_2_3

def TW (x : FVec Ideal S2x8192x16x64 .f32) : FVec Ideal S8192x2x16x64 .f32 :=
  transpose S8192x2x16x64 [1, 0, 2, 3] x transposes_S2x8192x16x64_S8192x2x16x64_1_0_2_3

def TK (x : FVec Ideal S2x8192x16x64 .f32) : FVec Ideal S8192x2x16x64 .f32 :=
  transpose S8192x2x16x64 [1, 0, 2, 3] x transposes_S2x8192x16x64_S8192x2x16x64_1_0_2_3

def TV (x : FVec Ideal S2x8192x16x64 .f32) : FVec Ideal S8192x2x16x64 .f32 :=
  transpose S8192x2x16x64 [1, 0, 2, 3] x transposes_S2x8192x16x64_S8192x2x16x64_1_0_2_3

def TH (x : FVec Ideal S2x8192x16x64 .f32) : FVec Ideal S8192x2x16x64 .f32 :=
  transpose S8192x2x16x64 [1, 0, 2, 3] x transposes_S2x8192x16x64_S8192x2x16x64_1_0_2_3

def TA (x : FVec Ideal S2x8192x16x64 .f32) : FVec Ideal S8192x2x16x64 .f32 :=
  transpose S8192x2x16x64 [1, 0, 2, 3] x transposes_S2x8192x16x64_S8192x2x16x64_1_0_2_3

def Y4 (y : FVec Ideal S8192x2x16x64 .f32) : FVec Ideal S2x8192x16x64 .f32 :=
  transpose S2x8192x16x64 [1, 0, 2, 3] y transposes_S8192x2x16x64_S2x8192x16x64_1_0_2_3

def MEAN (y : FVec Ideal S2x8192x16x64 .f32) : FVec Ideal S2x8192x16x1 .f32 :=
  Host.divf (broadcastInDim S2x8192x16x1 ![0, 1, 2] bcast_S2x8192x16_S2x8192x16x1_0_1_2 (Host.reduceAdd y (constant S_ .f32 0x00000000#32) reducesTo_S2x8192x16x64_S2x8192x16_d3 h_S_)) (broadcastInDim S2x8192x16x1 ![] bcast_S_S2x8192x16x1 (constant S_ .f32 0x42800000#32))

def DEV (y : FVec Ideal S2x8192x16x64 .f32) (e : FVec Ideal S2x8192x16x1 .f32) : FVec Ideal S2x8192x16x64 .f32 :=
  subf y (broadcastInDim S2x8192x16x64 ![0, 1, 2, 3] bcast_S2x8192x16x1_S2x8192x16x64_0_1_2_3 e)

def NRM (y : FVec Ideal S2x8192x16x64 .f32) (e : FVec Ideal S2x8192x16x1 .f32) (d : FVec Ideal S2x8192x16x64 .f32) : FVec Ideal S2x8192x16x64 .f32 :=
  mulf (subf y (broadcastInDim S2x8192x16x64 ![0, 1, 2, 3] bcast_S2x8192x16x1_S2x8192x16x64_0_1_2_3 e)) (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2 (Host.reduceAdd (mulf d d) (constant S_ .f32 0x00000000#32) reducesTo_S2x8192x16x64_S2x8192x16_d3 h_S_)) (broadcastInDim S2x8192x16x1 ![] bcast_S_S2x8192x16x1 (constant S_ .f32 0x42800000#32))) (broadcastInDim S2x8192x16x1 ![] bcast_S_S2x8192x16x1 (constant S_ .f32 0x3A27C5AC#32)))))

def LNX (x : FVec Ideal S2x8192x16x64 .f32) (lg : FVec Ideal S1024 .f32) (lb : FVec Ideal S1024 .f32) : FVec Ideal S2x8192x1024 .f32 :=
  addf (mulf (shapeCast S2x8192x1024 x shapeCasts_S2x8192x16x64_S2x8192x1024) (broadcastInDim S2x8192x1024 ![0, 1, 2] bcast_S1x1x1024_S2x8192x1024_0_1_2 (broadcastInDim S1x1x1024 ![2] bcast_S1024_S1x1x1024_2 lg))) (broadcastInDim S2x8192x1024 ![0, 1, 2] bcast_S1x1x1024_S2x8192x1024_0_1_2 (broadcastInDim S1x1x1024 ![2] bcast_S1024_S1x1x1024_2 lb))

def BON (r : FVec Ideal S2x8192x16x64 .f32) (k : FVec Ideal S2x8192x16x64 .f32) (v : FVec Ideal S2x8192x16x64 .f32) (rk : FVec Ideal S16x64 .f32) : FVec Ideal S2x8192x1024 .f32 :=
  shapeCast S2x8192x1024 (mulf (broadcastInDim S2x8192x16x64 ![0, 1, 2, 3] bcast_S2x8192x16x1_S2x8192x16x64_0_1_2_3 (broadcastInDim S2x8192x16x1 ![0, 1, 2] bcast_S2x8192x16_S2x8192x16x1_0_1_2 (Host.reduceAdd (mulf (mulf r k) (broadcastInDim S2x8192x16x64 ![0, 1, 2, 3] bcast_S1x1x16x64_S2x8192x16x64_0_1_2_3 (broadcastInDim S1x1x16x64 ![2, 3] bcast_S16x64_S1x1x16x64_2_3 rk))) (constant S_ .f32 0x00000000#32) reducesTo_S2x8192x16x64_S2x8192x16_d3 h_S_))) v) shapeCasts_S2x8192x16x64_S2x8192x1024

def OUT (x : FVec Ideal S2x8192x1024 .f32) (b : FVec Ideal S2x8192x1024 .f32) (g : FVec Ideal S2x8192x1024 .f32) : FVec Ideal S16384x1024 .bf16 :=
  truncf .bf16 (shapeCast S16384x1024 (mulf (addf x b) g) shapeCasts_S2x8192x1024_S16384x1024) bitsLt_bf16_f32

variable (m : (ℓ : Loc nD τ sig) → Buf (Elt Ideal) ℓ) (c : Dev nD)

/-- The buffers at the loop's entry. -/
abbrev E : Valuation τ sig (Elt Ideal) := entryContents preI m c
abbrev rd (V : Valuation τ sig (Elt Ideal)) (b : Ref sig .tc) := V (Proc.devRef (τ := τ) .tc b)

theorem E_v7 : E m c (Proc.devRef .tc main_v7) = MIX (m ((c.tc : Thread nD τ).loc main_arg0)) (m ((c.tc : Thread nD τ).loc main_arg1)) := by
  simp only [E, entryContents, afterL_cons, afterL_nil]
  after_reads_simp
  rfl

theorem E_v19 : E m c (Proc.devRef .tc main_v19) = NU (E m c (Proc.devRef .tc main_v7)) (m ((c.tc : Thread nD τ).loc main_arg2)) (m ((c.tc : Thread nD τ).loc main_arg3)) := by
  simp only [E, entryContents, afterL_cons, afterL_nil]
  after_reads_simp
  rfl

theorem E_v20 : E m c (Proc.devRef .tc main_v20) = SPT (E m c (Proc.devRef .tc main_v19)) := by
  simp only [E, entryContents, afterL_cons, afterL_nil]
  after_reads_simp
  rfl

theorem E_v26 : E m c (Proc.devRef .tc main_v26) = DW (E m c (Proc.devRef .tc main_v20)) := by
  simp only [E, entryContents, afterL_cons, afterL_nil]
  after_reads_simp
  rfl

theorem E_v36 : E m c (Proc.devRef .tc main_v36) = AT (E m c (Proc.devRef .tc main_v7)) (m ((c.tc : Thread nD τ).loc main_arg4)) (m ((c.tc : Thread nD τ).loc main_arg5)) := by
  simp only [E, entryContents, afterL_cons, afterL_nil]
  after_reads_simp
  rfl

theorem E_v43 : E m c (Proc.devRef .tc main_v43) = GT (E m c (Proc.devRef .tc main_v7)) (m ((c.tc : Thread nD τ).loc main_arg6)) := by
  simp only [E, entryContents, afterL_cons, afterL_nil]
  after_reads_simp
  rfl

theorem E_v47 : E m c (Proc.devRef .tc main_v47) = KR (E m c (Proc.devRef .tc main_v7)) (m ((c.tc : Thread nD τ).loc main_arg7)) := by
  simp only [E, entryContents, afterL_cons, afterL_nil]
  after_reads_simp
  rfl

theorem E_v53 : E m c (Proc.devRef .tc main_v53) = KN (E m c (Proc.devRef .tc main_v47)) := by
  simp only [E, entryContents, afterL_cons, afterL_nil]
  after_reads_simp
  rfl

theorem E_v55 : E m c (Proc.devRef .tc main_v55) = KH (E m c (Proc.devRef .tc main_v47)) (E m c (Proc.devRef .tc main_v53)) := by
  simp only [E, entryContents, afterL_cons, afterL_nil]
  after_reads_simp
  rfl

theorem E_v63 : E m c (Proc.devRef .tc main_v63) = K2 (E m c (Proc.devRef .tc main_v7)) (E m c (Proc.devRef .tc main_v36)) (m ((c.tc : Thread nD τ).loc main_arg8)) := by
  simp only [E, entryContents, afterL_cons, afterL_nil]
  after_reads_simp
  rfl

theorem E_v64 : E m c (Proc.devRef .tc main_v64) = R4 (E m c (Proc.devRef .tc main_v7)) := by
  simp only [E, entryContents, afterL_cons, afterL_nil]
  after_reads_simp
  rfl

theorem E_v65 : E m c (Proc.devRef .tc main_v65) = W4 (E m c (Proc.devRef .tc main_v26)) := by
  simp only [E, entryContents, afterL_cons, afterL_nil]
  after_reads_simp
  rfl

theorem E_v66 : E m c (Proc.devRef .tc main_v66) = K4 (E m c (Proc.devRef .tc main_v63)) := by
  simp only [E, entryContents, afterL_cons, afterL_nil]
  after_reads_simp
  rfl

theorem E_v67 : E m c (Proc.devRef .tc main_v67) = V4 (E m c (Proc.devRef .tc main_v7)) := by
  simp only [E, entryContents, afterL_cons, afterL_nil]
  after_reads_simp
  rfl

theorem E_v68 : E m c (Proc.devRef .tc main_v68) = A4 (E m c (Proc.devRef .tc main_v36)) := by
  simp only [E, entryContents, afterL_cons, afterL_nil]
  after_reads_simp
  rfl

theorem E_v70 : E m c (Proc.devRef .tc main_v70) = TR (E m c (Proc.devRef .tc main_v64)) := by
  simp only [E, entryContents, afterL_cons, afterL_nil]
  after_reads_simp
  rfl

theorem E_v71 : E m c (Proc.devRef .tc main_v71) = TW (E m c (Proc.devRef .tc main_v65)) := by
  simp only [E, entryContents, afterL_cons, afterL_nil]
  after_reads_simp
  rfl

theorem E_v72 : E m c (Proc.devRef .tc main_v72) = TK (E m c (Proc.devRef .tc main_v66)) := by
  simp only [E, entryContents, afterL_cons, afterL_nil]
  after_reads_simp
  rfl

theorem E_v73 : E m c (Proc.devRef .tc main_v73) = TV (E m c (Proc.devRef .tc main_v67)) := by
  simp only [E, entryContents, afterL_cons, afterL_nil]
  after_reads_simp
  rfl

theorem E_v74 : E m c (Proc.devRef .tc main_v74) = TH (E m c (Proc.devRef .tc main_v55)) := by
  simp only [E, entryContents, afterL_cons, afterL_nil]
  after_reads_simp
  rfl

theorem E_v75 : E m c (Proc.devRef .tc main_v75) = TA (E m c (Proc.devRef .tc main_v68)) := by
  simp only [E, entryContents, afterL_cons, afterL_nil]
  after_reads_simp
  rfl

end Cert.Reference7Ideal.Spec

end
-- ==== Proof.WkvRefB.lean ====
module

public import proofs.«01_k».proof.Proof.WkvRefA

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value
open Cert.Kernel7Ideal.Chunk (Inp sMix sLw sA sG sKr sN sKh sK2 sBon hS sg sp tiny small sg_at sp_at tiny_pos small_pos tiny_eq small_eq half_bits div_coe' coe_max')

def H3 (X : FVec Ideal S2x8192x3328 .f32) (f : ℕ → ℕ → ℝ) : Prop := ∀ (b : Fin 2) (t : Fin 8192) (l : Fin 3328), X (ix3 b t l) = ((f (8192 * b.val + t.val) l.val : ℝ) : EReal)
def H1 (X : FVec Ideal S2x8192x1024 .f32) (f : ℕ → ℕ → ℝ) : Prop := ∀ (b : Fin 2) (t : Fin 8192) (l : Fin 1024), X (ix3 b t l) = ((f (8192 * b.val + t.val) l.val : ℝ) : EReal)
def H4 (X : FVec Ideal S2x8192x16x64 .f32) (f : ℕ → ℕ → ℝ) : Prop := ∀ (b : Fin 2) (t : Fin 8192) (h : Fin 16) (n : Fin 64), X (ix4 b t h n) = ((f (8192 * b.val + t.val) (64 * h.val + n.val) : ℝ) : EReal)
def HT (X : FVec Ideal S8192x2x16x64 .f32) (f : ℕ → ℕ → ℝ) : Prop := ∀ (t : Fin 8192) (b : Fin 2) (h : Fin 16) (n : Fin 64), X (ix4 t b h n) = ((f (8192 * b.val + t.val) (64 * h.val + n.val) : ℝ) : EReal)
def HV (X : FVec Ideal S1024 .f32) (f : ℕ → ℝ) : Prop := ∀ j : Fin 1024, X (ix1 j) = ((f j.val : ℝ) : EReal)

/-- Sums and negatives of reals. -/
theorem coe_sum' {n : ℕ} (f : Fin n → ℝ) : ∑ x, ((f x : ℝ) : EReal) = ((∑ x, f x : ℝ) : EReal) :=
  (map_sum (⟨⟨Real.toEReal, EReal.coe_zero⟩, EReal.coe_add⟩ : ℝ →+ EReal) f Finset.univ).symm
theorem coe_neg' (a : ℝ) : -(a : EReal) = ((0 - a : ℝ) : EReal) := by
  rw [zero_sub, EReal.coe_neg]

variable {I : Inp}

theorem has_MIX {z : FVec Ideal S16384x3328 .f32} {mu : FVec Ideal S3328 .f32} (hz : ∀ i j, z (ix2 i j) = ((I.z i.val j.val : ℝ) : EReal)) (hm : ∀ j, mu (ix1 j) = ((I.mu j.val : ℝ) : EReal)) :
    H3 (MIX z mu) (sMix I) := fun b t l => by
  pointwise [MIX]
  have h1 : 8192 * b.val + t.val = b.val * 8192 + t.val := by omega
  rw [hz, hm]
  by_cases g : 1 ≤ t.val ∧ t.val - 1 < 8191
  · rw [dif_pos g, hz, ← EReal.coe_sub, ← EReal.coe_mul, ← EReal.coe_add]
    congr 1
    have h2 : ¬ (8192 * b.val + t.val) % 8192 = 0 := by omega
    have h3 : 8192 * b.val + t.val - 1 = b.val * 8192 + (t.val - 1) := by omega
    unfold sMix
    rw [if_neg h2, h3, h1]
  · rw [dif_neg g]
    have h2 : (8192 * b.val + t.val) % 8192 = 0 := by
      have := t.isLt
      omega
    have h0 : (FloatOps.sitofp FTy.f32 (0#32) : Ideal .f32) = ((0 : ℝ) : EReal) := by
      show (((0#32 : BitVec 32).toInt : ℝ) : EReal) = _
      simp
    rw [h0, ← EReal.coe_sub, ← EReal.coe_mul, ← EReal.coe_add]
    congr 1
    unfold sMix
    rw [if_pos h2, h1]

theorem has_NU {x : FVec Ideal S2x8192x3328 .f32} {dec : FVec Ideal S64x1024 .f32} {w0 : FVec Ideal S1024 .f32} (hx : H3 x (sMix I)) (hd : ∀ i j, dec (ix2 i j) = ((I.dec i.val j.val : ℝ) : EReal)) (hw : HV w0 I.w0) :
    H1 (NU x dec w0) (fun r ch => 0 - (I.w0 ch + ∑ q : Fin 64, Real.tanh (sMix I r (3072 + q.val)) * I.dec q.val ch)) := fun b t l => by
  pointwise [NU]
  simp only [hx _ _ _, hd _ _, hw _, Ideal.tanh_coe, ← EReal.coe_mul, coe_sum', ← EReal.coe_add, coe_neg']

theorem has_SPT {u : FVec Ideal S2x8192x1024 .f32} {f : ℕ → ℕ → ℝ} (hu : H1 u f) : H1 (SPT u) (fun r ch => sp (f r ch)) := fun b t l => by
  pointwise [SPT]
  rw [if_neg (fun h => h rfl), hu]
  have e := sp_at (f (8192 * b.val + t.val) l.val)
  rw [zero_sub] at e
  exact e

theorem has_DW {u : FVec Ideal S2x8192x1024 .f32} {f : ℕ → ℕ → ℝ} (hu : H1 u f) : H1 (DW u) (fun r ch => Real.exp (0 - Real.exp (0 - f r ch - 1 / 2))) := fun b t l => by
  pointwise [DW]
  rw [hu, half_bits, coe_neg', ← EReal.coe_sub, Ideal.exp_coe, coe_neg', Ideal.exp_coe]

theorem has_AT {x : FVec Ideal S2x8192x3328 .f32} {icl : FVec Ideal S64x1024 .f32} {a0 : FVec Ideal S1024 .f32} (hx : H3 x (sMix I)) (hi : ∀ i j, icl (ix2 i j) = ((I.icl i.val j.val : ℝ) : EReal)) (ha : HV a0 I.a0) :
    H1 (AT x icl a0) (sA I) := fun b t l => by
  pointwise [AT]
  simp only [hx _ _ _, hi _ _, ha _, ← EReal.coe_mul, coe_sum', ← EReal.coe_add]
  rw [← zero_sub, sg_at]
  rfl

theorem has_GT {x : FVec Ideal S2x8192x3328 .f32} {gt : FVec Ideal S128x1024 .f32} (hx : H3 x (sMix I)) (hg : ∀ i j, gt (ix2 i j) = ((I.gt i.val j.val : ℝ) : EReal)) :
    H1 (GT x gt) (sG I) := fun b t l => by
  pointwise [GT]
  simp only [hx _ _ _, hg _ _, ← zero_sub, sg_at, ← EReal.coe_mul, coe_sum']
  rfl

theorem has_KR {x : FVec Ideal S2x8192x3328 .f32} {kk : FVec Ideal S1024 .f32} (hx : H3 x (sMix I)) (hk : HV kk I.kk) : H4 (KR x kk) (sKr I) := fun b t h n => by
  pointwise [KR]
  have h1 : h.val * 64 + n.val = 64 * h.val + n.val := by omega
  rw [hx, hk, ← EReal.coe_mul]
  dsimp only
  rw [h1]
  rfl

theorem KN_at {x : FVec Ideal S2x8192x16x64 .f32} (hx : H4 x (sKr I)) (b : Fin 2) (t : Fin 8192) (h : Fin 16) (u : Fin 1) (n : ℕ) (hn : n < 64) :
    KN x (ix4 b t h u) = ((sN I (8192 * b.val + t.val) (64 * h.val + n) : ℝ) : EReal) := by
  pointwise [KN]
  have hq : 0 ≤ ∑ x : Fin 64, sKr I (8192 * b.val + t.val) (64 * h.val + x.val) * sKr I (8192 * b.val + t.val) (64 * h.val + x.val) := Finset.sum_nonneg fun x _ => mul_self_nonneg _
  simp only [hx _ _ _ _, ← EReal.coe_mul, coe_sum']
  rw [Ideal.sqrt_coe, if_neg (not_lt.mpr hq), tiny_eq, coe_max']
  have h1 : (64 * h.val + n) / 64 = h.val := by omega
  unfold sN hS
  rw [h1]

theorem has_KH {x : FVec Ideal S2x8192x16x64 .f32} (hx : H4 x (sKr I)) : H4 (KH x (KN x)) (sKh I) := fun b t h n => by
  pointwise [KH]
  have hp : sN I (8192 * b.val + t.val) (64 * h.val + n.val) ≠ 0 := (lt_of_lt_of_le tiny_pos (le_max_right _ _)).ne'
  rw [KN_at hx b t h 0 n.val n.isLt, hx, div_coe' _ _ hp]
  rfl

theorem has_K2 {x : FVec Ideal S2x8192x3328 .f32} {a : FVec Ideal S2x8192x1024 .f32} {ka : FVec Ideal S1024 .f32} (hx : H3 x (sMix I)) (ha : H1 a (sA I)) (hk : HV ka I.ka) : H1 (K2 x a ka) (sK2 I) := fun b t l => by
  pointwise [K2]
  rw [hx, ha, hk, ← EReal.coe_one, ← EReal.coe_sub, ← EReal.coe_mul, ← EReal.coe_add, ← EReal.coe_mul]
  rfl

theorem has_R4 {x : FVec Ideal S2x8192x3328 .f32} (hx : H3 x (sMix I)) : H4 (R4 x) (sMix I) := fun b t h n => by
  pointwise [R4]
  have h1 : h.val * 64 + n.val = 64 * h.val + n.val := by omega
  rw [hx]
  dsimp only
  rw [h1]
theorem has_V4 {x : FVec Ideal S2x8192x3328 .f32} (hx : H3 x (sMix I)) : H4 (V4 x) (fun r ch => sMix I r (2048 + ch)) := fun b t h n => by
  pointwise [V4]
  have h1 : h.val * 64 + n.val = 64 * h.val + n.val := by omega
  rw [hx]
  dsimp only
  rw [h1]
theorem has_W4 {x : FVec Ideal S2x8192x1024 .f32} {f : ℕ → ℕ → ℝ} (hx : H1 x f) : H4 (W4 x) f := fun b t h n => by
  pointwise [W4]
  have h1 : h.val * 64 + n.val = 64 * h.val + n.val := by omega
  rw [hx]
  dsimp only
  rw [h1]
theorem has_TR {x : FVec Ideal S2x8192x16x64 .f32} {f : ℕ → ℕ → ℝ} (hx : H4 x f) : HT (TR x) f := fun t b h n => by
  pointwise [TR]
  exact hx _ _ _ _

end Cert.Reference7Ideal.Spec

end
-- ==== Proof.WkvRefC.lean ====
module

public import proofs.«01_k».proof.Proof.WkvRefB

public import Idealize.ShloMosaic.Lib.DynamicIndex
public import Idealize.ShloMosaic.Lib.WordCmp

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value
open Cert.Kernel7Ideal.Chunk Cert.Wkv

/-- The start of a step's row. -/
abbrev pos (ctr : IVec S_ 32) : Fin 4 → Int := fun k => ((![ctr, constantI S_ 32 0#32, constantI S_ 32 0#32, constantI S_ 32 0#32] : Fin 4 → IVec S_ 32) k (Shape.Idx.first h_S_)).toInt

/-- A step's row of an array over time. -/
def SL (x : FVec Ideal S8192x2x16x64 .f32) (ctr : IVec S_ 32) : FVec Ideal S2x16x64 .f32 :=
  shapeCast S2x16x64 (Host.dynamicSlice S1x2x16x64 x (pos ctr) sliceFits_S8192x2x16x64_S1x2x16x64) shapeCasts_S1x2x16x64_S2x16x64

/-- The state after a step. -/
def NS (S : FVec Ideal S2x16x64x64 .f32) (w k v kk a : FVec Ideal S2x16x64 .f32) : FVec Ideal S2x16x64x64 .f32 :=
  addf (addf (mulf S (broadcastInDim S2x16x64x64 ![0, 1, 2, 3] bcast_S2x16x1x64_S2x16x64x64_0_1_2_3 (broadcastInDim S2x16x1x64 ![0, 1, 3] bcast_S2x16x64_S2x16x1x64_0_1_3 w))) (mulf (broadcastInDim S2x16x64x64 ![0, 1, 2, 3] bcast_S2x16x64x1_S2x16x64x64_0_1_2_3 (broadcastInDim S2x16x64x1 ![0, 1, 2] bcast_S2x16x64_S2x16x64x1_0_1_2 (Host.dotGeneral dot_S2x16x64x64_S2x16x64_S2x16x64_3_2_2_n_01_01 none S (Host.negf kk)))) (broadcastInDim S2x16x64x64 ![0, 1, 2, 3] bcast_S2x16x1x64_S2x16x64x64_0_1_2_3 (broadcastInDim S2x16x1x64 ![0, 1, 3] bcast_S2x16x64_S2x16x1x64_0_1_3 (mulf kk a))))) (mulf (broadcastInDim S2x16x64x64 ![0, 1, 2, 3] bcast_S2x16x64x1_S2x16x64x64_0_1_2_3 (broadcastInDim S2x16x64x1 ![0, 1, 2] bcast_S2x16x64_S2x16x64x1_0_1_2 v)) (broadcastInDim S2x16x64x64 ![0, 1, 2, 3] bcast_S2x16x1x64_S2x16x64x64_0_1_2_3 (broadcastInDim S2x16x1x64 ![0, 1, 3] bcast_S2x16x64_S2x16x1x64_0_1_3 k)))

/-- A step's result. -/
def YV (S : FVec Ideal S2x16x64x64 .f32) (r : FVec Ideal S2x16x64 .f32) : FVec Ideal S1x2x16x64 .f32 :=
  broadcastInDim S1x2x16x64 ![1, 2, 3] bcast_S2x16x64_S1x2x16x64_1_2_3 (Host.dotGeneral dot_S2x16x64x64_S2x16x64_S2x16x64_3_2_2_n_01_01 none S r)

/-- The results with a step's written. -/
def UP (Y : FVec Ideal S8192x2x16x64 .f32) (u : FVec Ideal S1x2x16x64 .f32) (ctr : IVec S_ 32) : FVec Ideal S8192x2x16x64 .f32 :=
  Host.dynamicUpdateSlice Y u (pos ctr) updateFits_S8192x2x16x64_S1x2x16x64

theorem v140_eq (V : Valuation τ sig (Elt Ideal)) : res_main_while0b_v140 V = NS (V (Proc.devRef .tc main_v77_7)) (SL (V (Proc.devRef .tc main_v77_1)) (V (Proc.devRef .tc main_v77_6))) (SL (V (Proc.devRef .tc main_v77_2)) (V (Proc.devRef .tc main_v77_6))) (SL (V (Proc.devRef .tc main_v77_3)) (V (Proc.devRef .tc main_v77_6))) (SL (V (Proc.devRef .tc main_v77_4)) (V (Proc.devRef .tc main_v77_6))) (SL (V (Proc.devRef .tc main_v77_5)) (V (Proc.devRef .tc main_v77_6))) := by
  unfold res_main_while0b_v140 res_main_while0b_v121 NS SL
  rfl

theorem step8_eq (V : Valuation τ sig (Elt Ideal)) : step_main_v77_8 V = UP (V (Proc.devRef .tc main_v77_8)) (YV (res_main_while0b_v140 V) (SL (V (Proc.devRef .tc main_v77_0)) (V (Proc.devRef .tc main_v77_6)))) (V (Proc.devRef .tc main_v77_6)) := by
  unfold step_main_v77_8 UP YV SL
  rfl

theorem pos_at (k : ℕ) (hk : k < 8192) (a : Fin 4) : pos (fun _ => Scf.iv 0#32 1#32 k) a = (((![k, 0, 0, 0] : Fin 4 → ℕ) a : ℕ) : Int) := by
  fin_cases a
  · show (Scf.iv 0#32 1#32 k).toInt = (k : Int)
    rw [Scf.iv]
    simp only [BitVec.mul_one, BitVec.zero_add]
    rw [BitVec.toInt_eq_toNat_of_lt (by rw [BitVec.toNat_ofNat]; omega), BitVec.toNat_ofNat]
    omega
  · rfl
  · rfl
  · rfl

theorem fits (k : ℕ) (hk : k < 8192) : S8192x2x16x64.Slices (![k, 0, 0, 0] : Fin 4 → ℕ) S1x2x16x64 :=
  ⟨rfl, fun a => by fin_cases a <;> simp [Shape.size] <;> omega⟩

theorem SL_at (x : FVec Ideal S8192x2x16x64 .f32) (k : ℕ) (hk : k < 8192) (b : Fin 2) (h : Fin 16) (n : Fin 64) :
    SL x (fun _ => Scf.iv 0#32 1#32 k) (ix3 b h n) = x (ix4 (⟨k, hk⟩ : Fin 8192) b h n) := by
  unfold SL
  rw [Host.dynamicSlice_eq_extractStridedSlice _ _ _ _ _ (fits k hk) (pos_at k hk)]
  pointwise []

theorem NS_at (S : FVec Ideal S2x16x64x64 .f32) (w k v kk a : FVec Ideal S2x16x64 .f32) (b : Fin 2) (h : Fin 16) (i n : Fin 64) :
    NS S w k v kk a (ix4 b h i n) = S (ix4 b h i n) * w (ix3 b h n) + (∑ x : Fin 64, S (ix4 b h i x) * -kk (ix3 b h x)) * (kk (ix3 b h n) * a (ix3 b h n)) + v (ix3 b h i) * k (ix3 b h n) := by
  pointwise [NS]

theorem YV_at (S : FVec Ideal S2x16x64x64 .f32) (r : FVec Ideal S2x16x64 .f32) (u : Fin 1) (b : Fin 2) (h : Fin 16) (i : Fin 64) :
    YV S r (ix4 u b h i) = ∑ x : Fin 64, S (ix4 b h i x) * r (ix3 b h x) := by
  pointwise [YV]

theorem UP_at (Y : FVec Ideal S8192x2x16x64 .f32) (u : FVec Ideal S1x2x16x64 .f32) (k : ℕ) (hk : k < 8192) (t : Fin 8192) (b : Fin 2) (h : Fin 16) (n : Fin 64) :
    UP Y u (fun _ => Scf.iv 0#32 1#32 k) (ix4 t b h n) = if t.val = k then u (ix4 (0 : Fin 1) b h n) else Y (ix4 t b h n) := by
  unfold UP
  rw [WordCmp.dynamicUpdateSlice_eq_update _ _ _ _ _ (fits k hk) (pos_at k hk), updateSlice_apply]
  by_cases e : t.val = k
  · subst e
    rw [if_pos rfl, dif_pos (by
      intro a
      fin_cases a
      · exact ⟨le_refl _, Nat.lt_succ_self _⟩
      · exact ⟨Nat.zero_le _, by simpa using b.isLt⟩
      · exact ⟨Nat.zero_le _, by simpa using h.isLt⟩
      · exact ⟨Nat.zero_le _, by simpa using n.isLt⟩)]
    refine congrArg u ?_
    funext a
    fin_cases a
    · exact Fin.ext (Nat.sub_self _)
    · rfl
    · rfl
    · rfl
  · rw [if_neg e, dif_neg (by
      intro g
      have g0 := g (0 : Fin 4)
      have g1 : k ≤ t.val := g0.1
      have g2 : t.val < k + 1 := g0.2
      omega)]

/-- A sum over 256 lanes of terms that vanish outside one head. -/
theorem sum_head (f : Fin 256 → ℝ) (q : ℕ) (hq : q < 4) (h0 : ∀ x, hd x ≠ q → f x = 0) :
    ∑ x, f x = ∑ n : Fin 64, f ⟨64 * q + n.val, by omega⟩ := by
  symm
  have e : ∑ x, f x = ∑ x ∈ Finset.univ.filter (fun x : Fin 256 => hd x = q), f x := by
    rw [Finset.sum_filter]
    refine Finset.sum_congr rfl fun x _ => ?_
    split_ifs with g
    · rfl
    · exact h0 x g
  rw [e]
  refine Finset.sum_nbij (fun n => (⟨64 * q + n.val, by have := n.isLt; omega⟩ : Fin 256)) ?_ ?_ ?_ ?_
  · intro n _
    have := n.isLt
    refine Finset.mem_filter.2 ⟨Finset.mem_univ _, ?_⟩
    show (64 * q + n.val) / 64 = q
    omega
  · intro n _ n' _ e
    have := congrArg Fin.val e
    dsimp only at this
    exact Fin.ext (by omega)
  · intro x hx
    have hx' : x.val / 64 = q := (Finset.mem_filter.1 (Finset.mem_coe.1 hx)).2
    refine ⟨⟨x.val % 64, by omega⟩, Finset.mem_coe.2 (Finset.mem_univ _), Fin.ext ?_⟩
    show 64 * q + x.val % 64 = x.val
    omega
  · intro n _
    rfl

/-- A lane of a head. -/
abbrev ln (h n : ℕ) (hn : n < 64) : Fin 256 := ⟨64 * (h % 4) + n, by omega⟩

/-- The state of every head. -/
def HS (I : Inp) (X : FVec Ideal S2x16x64x64 .f32) (k : ℕ) : Prop := ∀ (b : Fin 2) (h : Fin 16) (i n : Fin 64),
  X (ix4 b h i n) = ((sS I b.val (h.val / 4) k (ln h.val n.val n.isLt) (ln h.val i.val i.isLt) : ℝ) : EReal)

/-- A step's row. -/
def HR (X : FVec Ideal S2x16x64 .f32) (f : ℕ → ℕ → ℝ) (k : ℕ) : Prop := ∀ (b : Fin 2) (h : Fin 16) (n : Fin 64),
  X (ix3 b h n) = ((sq' f b.val (h.val / 4) k (ln h.val n.val n.isLt) : ℝ) : EReal)

theorem has_SL {x : FVec Ideal S8192x2x16x64 .f32} {f : ℕ → ℕ → ℝ} (hx : HT x f) (k : ℕ) (hk : k < 8192) : HR (SL x (fun _ => Scf.iv 0#32 1#32 k)) f k := fun b h n => by
  rw [SL_at x k hk, hx]
  unfold sq'
  dsimp only
  have h1 : 64 * h.val + n.val = 256 * (h.val / 4) + (64 * (h.val % 4) + n.val) := by omega
  rw [h1]

variable {I : Inp}

theorem hd_ln (h n : ℕ) (hn : n < 64) : hd (ln h n hn) = h % 4 := by
  show (64 * (h % 4) + n) / 64 = h % 4
  omega

theorem has_NS {S : FVec Ideal S2x16x64x64 .f32} {w k v kk a : FVec Ideal S2x16x64 .f32} {t : ℕ} (hS : HS I S t)
    (hw : HR w (fun r c => Real.exp (sLw I r c)) t) (hk : HR k (sK2 I) t) (hv : HR v (fun r c => sMix I r (2048 + c)) t)
    (hkk : HR kk (sKh I) t) (ha : HR a (sA I) t) : HS I (NS S w k v kk a) (t + 1) := fun b h i n => by
  rw [NS_at]
  simp only [hS _ _ _ _, hw _ _ _, hk _ _ _, hv _ _ _, hkk _ _ _, ha _ _ _, coe_neg', ← EReal.coe_mul, coe_sum', ← EReal.coe_add]
  refine congrArg _ ?_
  have e1 := sum_head (fun x => (0 - sq' (sKh I) b.val (h.val / 4) t x) * sS I b.val (h.val / 4) t x (ln h.val i.val i.isLt)) (h.val % 4) (by omega)
    (fun x hx => by show _ * sS _ _ _ _ _ _ = 0; rw [sS_diag I b.val (h.val / 4) t x _ (by rw [hd_ln]; exact hx), mul_zero])
  have e2 : sS I b.val (h.val / 4) (t + 1) (ln h.val n.val n.isLt) (ln h.val i.val i.isLt)
      = Real.exp (sq' (sLw I) b.val (h.val / 4) t (ln h.val n.val n.isLt)) * sS I b.val (h.val / 4) t (ln h.val n.val n.isLt) (ln h.val i.val i.isLt)
        + (sq' (fun r c => sKh I r c * sA I r c) b.val (h.val / 4) t (ln h.val n.val n.isLt) * (∑ x, (0 - sq' (sKh I) b.val (h.val / 4) t x) * sS I b.val (h.val / 4) t x (ln h.val i.val i.isLt))
          + sq' (sK2 I) b.val (h.val / 4) t (ln h.val n.val n.isLt) * sq' (fun r c => sMix I r (2048 + c)) b.val (h.val / 4) t (ln h.val i.val i.isLt)) := by
    conv_lhs => unfold sS
    have hh : hd (ln h.val n.val n.isLt) = hd (ln h.val i.val i.isLt) := by rw [hd_ln, hd_ln]
    rw [st]
    dsimp only
    rw [if_pos hh]
    rfl
  rw [e2, e1]
  have e3 : ∑ x : Fin 64, sS I b.val (h.val / 4) t (ln h.val x.val x.isLt) (ln h.val i.val i.isLt) * (0 - sq' (sKh I) b.val (h.val / 4) t (ln h.val x.val x.isLt))
      = ∑ x : Fin 64, (0 - sq' (sKh I) b.val (h.val / 4) t (ln h.val x.val x.isLt)) * sS I b.val (h.val / 4) t (ln h.val x.val x.isLt) (ln h.val i.val i.isLt) :=
    Finset.sum_congr rfl fun x _ => mul_comm _ _
  rw [e3]
  generalize (∑ x : Fin 64, (0 - sq' (sKh I) b.val (h.val / 4) t (ln h.val x.val x.isLt)) * sS I b.val (h.val / 4) t (ln h.val x.val x.isLt) (ln h.val i.val i.isLt)) = U
  unfold sq'
  ring

theorem has_YV {S : FVec Ideal S2x16x64x64 .f32} {r : FVec Ideal S2x16x64 .f32} {t : ℕ} (hS : HS I S (t + 1)) (hr : HR r (sMix I) t)
    (u : Fin 1) (b : Fin 2) (h : Fin 16) (i : Fin 64) : YV S r (ix4 u b h i) = ((sY I b.val (h.val / 4) t (ln h.val i.val i.isLt) : ℝ) : EReal) := by
  rw [YV_at]
  simp only [hS _ _ _ _, hr _ _ _, ← EReal.coe_mul, coe_sum']
  refine congrArg _ ?_
  have e1 := sum_head (fun x => sq' (sMix I) b.val (h.val / 4) t x * sS I b.val (h.val / 4) (t + 1) x (ln h.val i.val i.isLt)) (h.val % 4) (by omega)
    (fun x hx => by show _ * sS _ _ _ _ _ _ = 0; rw [sS_diag I b.val (h.val / 4) (t + 1) x _ (by rw [hd_ln]; exact hx), mul_zero])
  have e2 : sY I b.val (h.val / 4) t (ln h.val i.val i.isLt) = ∑ x, sq' (sMix I) b.val (h.val / 4) t x * sS I b.val (h.val / 4) (t + 1) x (ln h.val i.val i.isLt) := rfl
  rw [e2, e1]
  exact Finset.sum_congr rfl fun x _ => mul_comm _ _

end Cert.Reference7Ideal.Spec

end
-- ==== Proof.WkvRefD.lean ====
module

public import proofs.«01_k».proof.Proof.WkvRefC

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value
open Cert.Kernel7Ideal.Chunk Cert.Wkv

variable {I : Inp}

/-- A head's mean, the distance from it, and the normalised row. -/
def gMu (f : ℕ → ℕ → ℝ) (r ch : ℕ) : ℝ := hS (f r) ch * (1 / 64)
def gDv (f : ℕ → ℕ → ℝ) (r ch : ℕ) : ℝ := f r ch - gMu f r ch
def gVr (f : ℕ → ℕ → ℝ) (r ch : ℕ) : ℝ := hS (fun c => gDv f r c * gDv f r c) ch * (1 / 64) + small
def gNm (f : ℕ → ℕ → ℝ) (r ch : ℕ) : ℝ := gDv f r ch * (Real.sqrt (gVr f r ch))⁻¹

theorem hS_head (f : ℕ → ℝ) (h n : ℕ) (hn : n < 64) : hS f (64 * h + n) = ∑ x : Fin 64, f (64 * h + x.val) := by
  have h1 : (64 * h + n) / 64 = h := by omega
  unfold hS
  rw [h1]

theorem bits64 : Ideal.ofBits .f32 0x42800000#32 = ((64 : ℝ) : EReal) := by
  simp [Ideal.ofBits, Ideal.ieee]
  rw [← EReal.coe_mul]
  norm_num

theorem gVr_pos (f : ℕ → ℕ → ℝ) (r ch : ℕ) : 0 < gVr f r ch := by
  unfold gVr hS
  have : 0 ≤ ∑ n : Fin 64, gDv f r (64 * (ch / 64) + n.val) * gDv f r (64 * (ch / 64) + n.val) := Finset.sum_nonneg fun _ _ => mul_self_nonneg _
  have := small_pos
  nlinarith

theorem MEAN_at {y : FVec Ideal S2x8192x16x64 .f32} {f : ℕ → ℕ → ℝ} (hy : H4 y f) (b : Fin 2) (t : Fin 8192) (h : Fin 16) (u : Fin 1) (n : ℕ) (hn : n < 64) :
    MEAN y (ix4 b t h u) = ((gMu f (8192 * b.val + t.val) (64 * h.val + n) : ℝ) : EReal) := by
  pointwise [MEAN]
  simp only [hy _ _ _ _, coe_sum']
  rw [bits64, div_coe' _ _ (by norm_num)]
  unfold gMu
  rw [hS_head _ _ _ hn, mul_one_div]

theorem has_DEV {y : FVec Ideal S2x8192x16x64 .f32} {f : ℕ → ℕ → ℝ} (hy : H4 y f) : H4 (DEV y (MEAN y)) (gDv f) := fun b t h n => by
  pointwise [DEV]
  rw [MEAN_at hy b t h 0 n.val n.isLt, hy, ← EReal.coe_sub]
  rfl

theorem has_NRM {y : FVec Ideal S2x8192x16x64 .f32} {f : ℕ → ℕ → ℝ} (hy : H4 y f) : H4 (NRM y (MEAN y) (DEV y (MEAN y))) (gNm f) := fun b t h n => by
  have hd := has_DEV hy
  have hm := MEAN_at hy b t h 0 n.val n.isLt
  generalize DEV y (MEAN y) = d at hd
  generalize MEAN y = e at hm
  pointwise [NRM]
  simp only [hd _ _ _ _, hm, hy _ _ _ _, ← EReal.coe_mul, coe_sum']
  have hp := gVr_pos f (8192 * b.val + t.val) (64 * h.val + n.val)
  have hv : (∑ x : Fin 64, gDv f (8192 * b.val + t.val) (64 * h.val + x.val) * gDv f (8192 * b.val + t.val) (64 * h.val + x.val)) / 64 + small = gVr f (8192 * b.val + t.val) (64 * h.val + n.val) := by
    unfold gVr
    rw [hS_head _ _ _ n.isLt, mul_one_div]
  rw [bits64, div_coe' _ _ (by norm_num), small_eq, ← EReal.coe_add, hv, Ideal.rsqrt_coe, if_neg (not_lt.mpr hp.le), if_neg hp.ne', ← EReal.coe_sub, ← EReal.coe_mul]
  rfl

theorem flat_at {x : FVec Ideal S2x8192x16x64 .f32} {f : ℕ → ℕ → ℝ} (hx : H4 x f) : H1 (shapeCast S2x8192x1024 x shapeCasts_S2x8192x16x64_S2x8192x1024) f := fun b t l => by
  pointwise []
  rw [hx]
  dsimp only
  have h1 : 64 * (l.val / 64) + l.val % 64 = l.val := by omega
  rw [h1]

theorem has_LNX {x : FVec Ideal S2x8192x16x64 .f32} {lg lb : FVec Ideal S1024 .f32} {f : ℕ → ℕ → ℝ} (hx : H4 x f) (hg : HV lg I.lg) (hb : HV lb I.lb) :
    H1 (LNX x lg lb) (fun r ch => f r ch * I.lg ch + I.lb ch) := fun b t l => by
  have hf := flat_at hx
  unfold LNX
  generalize shapeCast S2x8192x1024 x shapeCasts_S2x8192x16x64_S2x8192x1024 = X at hf ⊢
  pointwise []
  rw [hf, hg, hb, ← EReal.coe_mul, ← EReal.coe_add]

def BON4 (r : FVec Ideal S2x8192x16x64 .f32) (k : FVec Ideal S2x8192x16x64 .f32) (v : FVec Ideal S2x8192x16x64 .f32) (rk : FVec Ideal S16x64 .f32) : FVec Ideal S2x8192x16x64 .f32 :=
  mulf (broadcastInDim S2x8192x16x64 ![0, 1, 2, 3] bcast_S2x8192x16x1_S2x8192x16x64_0_1_2_3 (broadcastInDim S2x8192x16x1 ![0, 1, 2] bcast_S2x8192x16_S2x8192x16x1_0_1_2 (Host.reduceAdd (mulf (mulf r k) (broadcastInDim S2x8192x16x64 ![0, 1, 2, 3] bcast_S1x1x16x64_S2x8192x16x64_0_1_2_3 (broadcastInDim S1x1x16x64 ![2, 3] bcast_S16x64_S1x1x16x64_2_3 rk))) (constant S_ .f32 0x00000000#32) reducesTo_S2x8192x16x64_S2x8192x16_d3 h_S_))) v

theorem has_BON {r k v : FVec Ideal S2x8192x16x64 .f32} {rk : FVec Ideal S16x64 .f32} (hr : H4 r (sMix I)) (hk : H4 k (sK2 I)) (hv : H4 v (fun r ch => sMix I r (2048 + ch)))
    (hrk : ∀ (h : Fin 16) (n : Fin 64), rk (ix2 h n) = ((I.rk (64 * h.val + n.val) : ℝ) : EReal)) : H1 (BON r k v rk) (sBon I) := by
  have h4 : H4 (BON4 r k v rk) (sBon I) := fun b t h n => by
    pointwise [BON4]
    simp only [hr _ _ _ _, hk _ _ _ _, hv _ _ _ _, hrk _ _, ← EReal.coe_mul, coe_sum']
    unfold sBon
    rw [hS_head _ _ _ n.isLt]
  exact flat_at h4

theorem OUT_at {x b g : FVec Ideal S2x8192x1024 .f32} {fx fb fg : ℕ → ℕ → ℝ} (hx : H1 x fx) (hb : H1 b fb) (hg : H1 g fg) (r : Fin 16384) (q : Fin 1024) :
    OUT x b g (ix2 r q) = (((fx r.val q.val + fb r.val q.val) * fg r.val q.val : ℝ) : EReal) := by
  pointwise [OUT]
  rw [hx, hb, hg, ← EReal.coe_add, ← EReal.coe_mul]
  dsimp only
  have h1 : 8192 * (r.val / 8192) + r.val % 8192 = r.val := by omega
  rw [h1]

/-- The recurrence's results by row and channel. -/
def sYr (I : Inp) (r ch : ℕ) : ℝ := sY I (r / 8192) (ch / 256) (r % 8192) ⟨ch % 256, by omega⟩

theorem sYr_at (I : Inp) (r g : ℕ) (x : Fin 256) : sYr I r (256 * g + x.val) = sY I (r / 8192) g (r % 8192) x := by
  unfold sYr
  have h1 : (256 * g + x.val) / 256 = g := by omega
  have h2 : (⟨(256 * g + x.val) % 256, by omega⟩ : Fin 256) = x := Fin.ext (by show (256 * g + x.val) % 256 = x.val; omega)
  rw [h1, h2]

theorem hsum_row (f : ℕ → ℝ) (F : Fin 256 → ℝ) (g : ℕ) (h : ∀ x : Fin 256, F x = f (256 * g + x.val)) (j : Fin 256) : hsum F j = hS f (256 * g + j.val) := by
  rw [← hsum_hS f (256 * g) (by omega) j]
  exact congrArg (fun G => hsum G j) (funext h)

theorem fD_row (I : Inp) (r g : ℕ) (x : Fin 256) : fD (sY I (r / 8192) g) (r % 8192) x = gDv (sYr I) r (256 * g + x.val) := by
  unfold fD gDv gMu
  rw [hsum_row (sYr I r) (sY I (r / 8192) g (r % 8192)) g (fun y => (sYr_at I r g y).symm) x, sYr_at]

theorem sOut_eq (I : Inp) (r q : ℕ) : sOut I (r / 8192) (q / 256) (r % 8192) ⟨q % 256, by omega⟩
    = ((gNm (sYr I) r q * I.lg q + I.lb q) + sBon I r q) * sG I r q := by
  have h1 : 256 * (q / 256) + q % 256 = q := by omega
  have h2 : 8192 * (r / 8192) + r % 8192 = r := by omega
  unfold sOut fOut
  rw [hsum_row (fun c => gDv (sYr I) r c * gDv (sYr I) r c) _ (q / 256) (fun x => by rw [fD_row]), fD_row]
  unfold sq'
  dsimp only
  rw [h1, h2]
  rfl

end Cert.Reference7Ideal.Spec

end
-- ==== Proof.WkvRefE.lean ====
module

public import proofs.«01_k».proof.Proof.WkvRefD

public import proofs.«01_k».proof.Proof.WkvJoin

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value
open Cert.Kernel7Ideal.Chunk Cert.Wkv

variable (m : (ℓ : Loc nD τ sig) → Buf (Elt Ideal) ℓ) (c : Dev nD)

theorem E_v77_0 : E m c (Proc.devRef .tc main_v77_0) = E m c (Proc.devRef .tc main_v70) := by
  simp only [E, entryContents, afterL_cons, afterL_nil]
  after_reads_simp
  rfl

theorem E_v77_1 : E m c (Proc.devRef .tc main_v77_1) = E m c (Proc.devRef .tc main_v71) := by
  simp only [E, entryContents, afterL_cons, afterL_nil]
  after_reads_simp
  rfl

theorem E_v77_2 : E m c (Proc.devRef .tc main_v77_2) = E m c (Proc.devRef .tc main_v72) := by
  simp only [E, entryContents, afterL_cons, afterL_nil]
  after_reads_simp
  rfl

theorem E_v77_3 : E m c (Proc.devRef .tc main_v77_3) = E m c (Proc.devRef .tc main_v73) := by
  simp only [E, entryContents, afterL_cons, afterL_nil]
  after_reads_simp
  rfl

theorem E_v77_4 : E m c (Proc.devRef .tc main_v77_4) = E m c (Proc.devRef .tc main_v74) := by
  simp only [E, entryContents, afterL_cons, afterL_nil]
  after_reads_simp
  rfl

theorem E_v77_5 : E m c (Proc.devRef .tc main_v77_5) = E m c (Proc.devRef .tc main_v75) := by
  simp only [E, entryContents, afterL_cons, afterL_nil]
  after_reads_simp
  rfl

theorem E_v77_7 : E m c (Proc.devRef .tc main_v77_7) = (broadcastInDim S2x16x64x64 ![] bcast_S_S2x16x64x64 (constant (F := Ideal) S_ .f32 0x00000000#32) : FVec Ideal S2x16x64x64 .f32) := by
  simp only [E, entryContents, afterL_cons, afterL_nil]
  after_reads_simp
  rfl

theorem ctr0 (k : ℕ) : atK m k c (Proc.devRef .tc main_v77_6) = fun _ => Scf.iv 0#32 1#32 k := atK_ctr m c k

theorem atK_v77_0 (k : ℕ) : atK m k c (Proc.devRef .tc main_v77_0) = E m c (Proc.devRef .tc main_v77_0) := by
  induction k with
  | zero => rfl
  | succ k ih =>
    rw [show atK m (k + 1) c = afterL bodyI (after condOps (atK m k c)) from rfl, trip_agree (atK m k c) main_v77_0 (by decide), STEP_main_v77_0, ih]

theorem atK_v77_1 (k : ℕ) : atK m k c (Proc.devRef .tc main_v77_1) = E m c (Proc.devRef .tc main_v77_1) := by
  induction k with
  | zero => rfl
  | succ k ih =>
    rw [show atK m (k + 1) c = afterL bodyI (after condOps (atK m k c)) from rfl, trip_agree (atK m k c) main_v77_1 (by decide), STEP_main_v77_1, ih]

theorem atK_v77_2 (k : ℕ) : atK m k c (Proc.devRef .tc main_v77_2) = E m c (Proc.devRef .tc main_v77_2) := by
  induction k with
  | zero => rfl
  | succ k ih =>
    rw [show atK m (k + 1) c = afterL bodyI (after condOps (atK m k c)) from rfl, trip_agree (atK m k c) main_v77_2 (by decide), STEP_main_v77_2, ih]

theorem atK_v77_3 (k : ℕ) : atK m k c (Proc.devRef .tc main_v77_3) = E m c (Proc.devRef .tc main_v77_3) := by
  induction k with
  | zero => rfl
  | succ k ih =>
    rw [show atK m (k + 1) c = afterL bodyI (after condOps (atK m k c)) from rfl, trip_agree (atK m k c) main_v77_3 (by decide), STEP_main_v77_3, ih]

theorem atK_v77_4 (k : ℕ) : atK m k c (Proc.devRef .tc main_v77_4) = E m c (Proc.devRef .tc main_v77_4) := by
  induction k with
  | zero => rfl
  | succ k ih =>
    rw [show atK m (k + 1) c = afterL bodyI (after condOps (atK m k c)) from rfl, trip_agree (atK m k c) main_v77_4 (by decide), STEP_main_v77_4, ih]

theorem atK_v77_5 (k : ℕ) : atK m k c (Proc.devRef .tc main_v77_5) = E m c (Proc.devRef .tc main_v77_5) := by
  induction k with
  | zero => rfl
  | succ k ih =>
    rw [show atK m (k + 1) c = afterL bodyI (after condOps (atK m k c)) from rfl, trip_agree (atK m k c) main_v77_5 (by decide), STEP_main_v77_5, ih]

theorem atK_v77_7 (k : ℕ) : atK m (k + 1) c (Proc.devRef .tc main_v77_7) = NS (atK m k c (Proc.devRef .tc main_v77_7)) (SL (E m c (Proc.devRef .tc main_v77_1)) (fun _ => Scf.iv 0#32 1#32 k)) (SL (E m c (Proc.devRef .tc main_v77_2)) (fun _ => Scf.iv 0#32 1#32 k)) (SL (E m c (Proc.devRef .tc main_v77_3)) (fun _ => Scf.iv 0#32 1#32 k)) (SL (E m c (Proc.devRef .tc main_v77_4)) (fun _ => Scf.iv 0#32 1#32 k)) (SL (E m c (Proc.devRef .tc main_v77_5)) (fun _ => Scf.iv 0#32 1#32 k)) := by
  rw [show atK m (k + 1) c = afterL bodyI (after condOps (atK m k c)) from rfl, trip_agree (atK m k c) main_v77_7 (by decide), STEP_main_v77_7]
  unfold step_main_v77_7
  rw [id, v140_eq, ctr0, atK_v77_1, atK_v77_2, atK_v77_3, atK_v77_4, atK_v77_5]
  rfl

theorem atK_v77_8 (k : ℕ) : atK m (k + 1) c (Proc.devRef .tc main_v77_8) = UP (atK m k c (Proc.devRef .tc main_v77_8)) (YV (atK m (k + 1) c (Proc.devRef .tc main_v77_7)) (SL (E m c (Proc.devRef .tc main_v77_0)) (fun _ => Scf.iv 0#32 1#32 k))) (fun _ => Scf.iv 0#32 1#32 k) := by
  rw [atK_v77_7, show atK m (k + 1) c = afterL bodyI (after condOps (atK m k c)) from rfl, trip_agree (atK m k c) main_v77_8 (by decide), STEP_main_v77_8, step8_eq, v140_eq, ctr0,
    atK_v77_0, atK_v77_1, atK_v77_2, atK_v77_3, atK_v77_4, atK_v77_5]
  rfl

/-- The reference's arrays in a memory hold these reals. -/
abbrev OkR (I : Inp) : Prop := Ok I (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10)) (m ((c.tc : Thread nD τ).loc main_arg11))

variable {m c} {I : Inp} (ok : OkR m c I)
include ok

theorem eMix : H3 (E m c (Proc.devRef .tc main_v7)) (sMix I) := by
  rw [E_v7]; exact has_MIX ok.z ok.mu
theorem eDw : H1 (E m c (Proc.devRef .tc main_v26)) (fun r ch => Real.exp (sLw I r ch)) := by
  rw [E_v26, E_v20, E_v19]; exact has_DW (has_SPT (has_NU (eMix ok) ok.dec ok.w0))
theorem eA : H1 (E m c (Proc.devRef .tc main_v36)) (sA I) := by
  rw [E_v36]; exact has_AT (eMix ok) ok.icl ok.a0
theorem eG : H1 (E m c (Proc.devRef .tc main_v43)) (sG I) := by
  rw [E_v43]; exact has_GT (eMix ok) ok.gt
theorem eKr : H4 (E m c (Proc.devRef .tc main_v47)) (sKr I) := by
  rw [E_v47]; exact has_KR (eMix ok) ok.kk
theorem eKh : H4 (E m c (Proc.devRef .tc main_v55)) (sKh I) := by
  rw [E_v55, E_v53]; exact has_KH (eKr ok)
theorem eK2 : H1 (E m c (Proc.devRef .tc main_v63)) (sK2 I) := by
  rw [E_v63]; exact has_K2 (eMix ok) (eA ok) ok.ka
theorem eR4 : H4 (E m c (Proc.devRef .tc main_v64)) (sMix I) := by
  rw [E_v64]; exact has_R4 (eMix ok)
theorem eK4 : H4 (E m c (Proc.devRef .tc main_v66)) (sK2 I) := by
  rw [E_v66]; exact has_W4 (eK2 ok)
theorem eV4 : H4 (E m c (Proc.devRef .tc main_v67)) (fun r ch => sMix I r (2048 + ch)) := by
  rw [E_v67]; exact has_V4 (eMix ok)
theorem e0 : HT (E m c (Proc.devRef .tc main_v77_0)) (sMix I) := by
  rw [E_v77_0, E_v70]; exact has_TR (eR4 ok)
theorem e1 : HT (E m c (Proc.devRef .tc main_v77_1)) (fun r ch => Real.exp (sLw I r ch)) := by
  rw [E_v77_1, E_v71, E_v65]; exact has_TR (has_W4 (eDw ok))
theorem e2 : HT (E m c (Proc.devRef .tc main_v77_2)) (sK2 I) := by
  rw [E_v77_2, E_v72]; exact has_TR (eK4 ok)
theorem e3 : HT (E m c (Proc.devRef .tc main_v77_3)) (fun r ch => sMix I r (2048 + ch)) := by
  rw [E_v77_3, E_v73]; exact has_TR (eV4 ok)
theorem e4 : HT (E m c (Proc.devRef .tc main_v77_4)) (sKh I) := by
  rw [E_v77_4, E_v74]; exact has_TR (eKh ok)
theorem e5 : HT (E m c (Proc.devRef .tc main_v77_5)) (sA I) := by
  rw [E_v77_5, E_v75, E_v68]; exact has_TR (has_W4 (eA ok))

theorem state_at (k : ℕ) (hk : k ≤ 8192) : HS I (atK m k c (Proc.devRef .tc main_v77_7)) k := by
  induction k with
  | zero =>
    intro b h i n
    rw [show atK m 0 c = E m c from rfl, E_v77_7]
    pointwise []
    rw [EReal.coe_zero.symm]
    rfl
  | succ k ih =>
    rw [atK_v77_7]
    exact has_NS (ih (by omega)) (has_SL (e1 ok) k (by omega)) (has_SL (e2 ok) k (by omega)) (has_SL (e3 ok) k (by omega)) (has_SL (e4 ok) k (by omega)) (has_SL (e5 ok) k (by omega))

theorem rows_at (k : ℕ) (hk : k ≤ 8192) (t : Fin 8192) (b : Fin 2) (h : Fin 16) (i : Fin 64) (ht : t.val < k) :
    atK m k c (Proc.devRef .tc main_v77_8) (ix4 t b h i) = ((sY I b.val (h.val / 4) t.val (ln h.val i.val i.isLt) : ℝ) : EReal) := by
  induction k with
  | zero => omega
  | succ k ih =>
    rw [atK_v77_8, UP_at _ _ k (by omega)]
    by_cases e : t.val = k
    · rw [if_pos e, has_YV (state_at ok (k + 1) hk) (has_SL (e0 ok) k (by omega)), e]
    · rw [if_neg e]
      exact ih (by omega) (by omega)

theorem rows_H4 : H4 (Y4 (atK m 8192 c (Proc.devRef .tc main_v77_8))) (sYr I) := fun b t h n => by
  pointwise [Y4]
  rw [rows_at ok 8192 (le_refl _) t b h n t.isLt]
  have q : 64 * h.val + n.val = 256 * (h.val / 4) + (ln h.val n.val n.isLt).val := by
    show _ = 256 * (h.val / 4) + (64 * (h.val % 4) + n.val)
    omega
  have q1 : (8192 * b.val + t.val) / 8192 = b.val := by omega
  have q2 : (8192 * b.val + t.val) % 8192 = t.val := by omega
  rw [q, sYr_at, q1, q2]

end Cert.Reference7Ideal.Spec

end
-- ==== Proof.WkvRefF.lean ====
module

public import proofs.«01_k».proof.Proof.WkvRefE

@[expose] public section

set_option maxRecDepth 16384

noncomputable section

namespace Cert.Reference7Ideal.Spec

open Idealize.ShloMosaic Idealize.ShloMosaic.TcCoe Idealize.SL.Sem Idealize.ShloMosaic.StableHlo
open Cert.Reference7Ideal Cert.Reference7Ideal.Gen Cert.Reference7Ideal.Value
open Cert.Kernel7Ideal.Chunk Cert.Wkv

/-- What no operation of a trip writes stays. -/
theorem trip_keep (X : Valuation τ sig (Elt Ideal)) (r : Ref sig .tc) (h0 : r ∉ condOps_W) (h1 : r ∉ while0Ops0_W) (h2 : r ∉ while0Ops0_1_W) (h3 : r ∉ while0Ops0_2_W) (h4 : r ∉ while0Ops0_3_W) (h5 : r ∉ while0Ops0_4_W) (h6 : r ∉ while0Ops0_5_W) (h7 : r ∉ while0Ops0_6_W) (h8 : r ∉ while0Ops0_7_W) (h9 : r ∉ while0Ops0_8_W) :
    afterL bodyI (after condOps X) (Proc.devRef .tc r) = X (Proc.devRef .tc r) := by
  simp only [afterL_cons, afterL_nil]
  rw [after_of_writes_sub while0Ops0_8 _ while0Ops0_8_writes h9,
    after_of_writes_sub while0Ops0_7 _ while0Ops0_7_writes h8,
    after_of_writes_sub while0Ops0_6 _ while0Ops0_6_writes h7,
    after_of_writes_sub while0Ops0_5 _ while0Ops0_5_writes h6,
    after_of_writes_sub while0Ops0_4 _ while0Ops0_4_writes h5,
    after_of_writes_sub while0Ops0_3 _ while0Ops0_3_writes h4,
    after_of_writes_sub while0Ops0_2 _ while0Ops0_2_writes h3,
    after_of_writes_sub while0Ops0_1 _ while0Ops0_1_writes h2,
    after_of_writes_sub while0Ops0 _ while0Ops0_writes h1,
    after_of_writes_sub condOps _ condOps_writes h0]

variable (m : (ℓ : Loc nD τ sig) → Buf (Elt Ideal) ℓ) (c : Dev nD)

theorem loop_keep (r : Ref sig .tc) (h0 : r ∉ condOps_W) (h1 : r ∉ while0Ops0_W) (h2 : r ∉ while0Ops0_1_W) (h3 : r ∉ while0Ops0_2_W) (h4 : r ∉ while0Ops0_3_W) (h5 : r ∉ while0Ops0_4_W) (h6 : r ∉ while0Ops0_5_W) (h7 : r ∉ while0Ops0_6_W) (h8 : r ∉ while0Ops0_7_W) (h9 : r ∉ while0Ops0_8_W) (k : ℕ) :
    atK m k c (Proc.devRef .tc r) = E m c (Proc.devRef .tc r) := by
  induction k with
  | zero => rfl
  | succ k ih =>
    rw [show atK m (k + 1) c = afterL bodyI (after condOps (atK m k c)) from rfl, trip_keep _ r h0 h1 h2 h3 h4 h5 h6 h7 h8 h9, ih]

theorem pre_keep (r : Ref sig .tc) (h0 : r ∉ hostOps0_W) (h1 : r ∉ hostOps0_1_W) (h2 : r ∉ hostOps0_2_W) (h3 : r ∉ hostOps0_3_W) (h4 : r ∉ hostOps0_4_W) :
    E m c (Proc.devRef .tc r) = m ((c.tc : Thread nD τ).loc r) := by
  simp only [E, entryContents, afterL_cons, afterL_nil]
  rw [after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

theorem loop_v43 (k : ℕ) : atK m k c (Proc.devRef .tc main_v43) = E m c (Proc.devRef .tc main_v43) := loop_keep m c main_v43 (by decide) (by decide) (by decide) (by decide) (by decide) (by decide) (by decide) (by decide) (by decide) (by decide) k
theorem loop_v64 (k : ℕ) : atK m k c (Proc.devRef .tc main_v64) = E m c (Proc.devRef .tc main_v64) := loop_keep m c main_v64 (by decide) (by decide) (by decide) (by decide) (by decide) (by decide) (by decide) (by decide) (by decide) (by decide) k
theorem loop_v66 (k : ℕ) : atK m k c (Proc.devRef .tc main_v66) = E m c (Proc.devRef .tc main_v66) := loop_keep m c main_v66 (by decide) (by decide) (by decide) (by decide) (by decide) (by decide) (by decide) (by decide) (by decide) (by decide) k
theorem loop_v67 (k : ℕ) : atK m k c (Proc.devRef .tc main_v67) = E m c (Proc.devRef .tc main_v67) := loop_keep m c main_v67 (by decide) (by decide) (by decide) (by decide) (by decide) (by decide) (by decide) (by decide) (by decide) (by decide) k
theorem loop_arg0 (k : ℕ) : atK m k c (Proc.devRef .tc main_arg0) = E m c (Proc.devRef .tc main_arg0) := loop_keep m c main_arg0 (by decide) (by decide) (by decide) (by decide) (by decide) (by decide) (by decide) (by decide) (by decide) (by decide) k
theorem loop_arg1 (k : ℕ) : atK m k c (Proc.devRef .tc main_arg1) = E m c (Proc.devRef .tc main_arg1) := loop_keep m c main_arg1 (by decide) (by decide) (by decide) (by decide) (by decide) (by decide) (by decide) (by decide) (by decide) (by decide) k
theorem loop_arg2 (k : ℕ) : atK m k c (Proc.devRef .tc main_arg2) = E m c (Proc.devRef .tc main_arg2) := loop_keep m c main_arg2 (by decide) (by decide) (by decide) (by decide) (by decide) (by decide) (by decide) (by decide) (by decide) (by decide) k
theorem loop_arg3 (k : ℕ) : atK m k c (Proc.devRef .tc main_arg3) = E m c (Proc.devRef .tc main_arg3) := loop_keep m c main_arg3 (by decide) (by decide) (by decide) (by decide) (by decide) (by decide) (by decide) (by decide) (by decide) (by decide) k
theorem loop_arg4 (k : ℕ) : atK m k c (Proc.devRef .tc main_arg4) = E m c (Proc.devRef .tc main_arg4) := loop_keep m c main_arg4 (by decide) (by decide) (by decide) (by decide) (by decide) (by decide) (by decide) (by decide) (by decide) (by decide) k
theorem loop_arg5 (k : ℕ) : atK m k c (Proc.devRef .tc main_arg5) = E m c (Proc.devRef .tc main_arg5) := loop_keep m c main_arg5 (by decide) (by decide) (by decide) (by decide) (by decide) (by decide) (by decide) (by decide) (by decide) (by decide) k
theorem loop_arg6 (k : ℕ) : atK m k c (Proc.devRef .tc main_arg6) = E m c (Proc.devRef .tc main_arg6) := loop_keep m c main_arg6 (by decide) (by decide) (by decide) (by decide) (by decide) (by decide) (by decide) (by decide) (by decide) (by decide) k
theorem loop_arg7 (k : ℕ) : atK m k c (Proc.devRef .tc main_arg7) = E m c (Proc.devRef .tc main_arg7) := loop_keep m c main_arg7 (by decide) (by decide) (by decide) (by decide) (by decide) (by decide) (by decide) (by decide) (by decide) (by decide) k
theorem loop_arg8 (k : ℕ) : atK m k c (Proc.devRef .tc main_arg8) = E m c (Proc.devRef .tc main_arg8) := loop_keep m c main_arg8 (by decide) (by decide) (by decide) (by decide) (by decide) (by decide) (by decide) (by decide) (by decide) (by decide) k
theorem loop_arg9 (k : ℕ) : atK m k c (Proc.devRef .tc main_arg9) = E m c (Proc.devRef .tc main_arg9) := loop_keep m c main_arg9 (by decide) (by decide) (by decide) (by decide) (by decide) (by decide) (by decide) (by decide) (by decide) (by decide) k
theorem loop_arg10 (k : ℕ) : atK m k c (Proc.devRef .tc main_arg10) = E m c (Proc.devRef .tc main_arg10) := loop_keep m c main_arg10 (by decide) (by decide) (by decide) (by decide) (by decide) (by decide) (by decide) (by decide) (by decide) (by decide) k
theorem loop_arg11 (k : ℕ) : atK m k c (Proc.devRef .tc main_arg11) = E m c (Proc.devRef .tc main_arg11) := loop_keep m c main_arg11 (by decide) (by decide) (by decide) (by decide) (by decide) (by decide) (by decide) (by decide) (by decide) (by decide) k
theorem pre_arg0 : E m c (Proc.devRef .tc main_arg0) = m ((c.tc : Thread nD τ).loc main_arg0) := pre_keep m c main_arg0 (by decide) (by decide) (by decide) (by decide) (by decide)
theorem pre_arg1 : E m c (Proc.devRef .tc main_arg1) = m ((c.tc : Thread nD τ).loc main_arg1) := pre_keep m c main_arg1 (by decide) (by decide) (by decide) (by decide) (by decide)
theorem pre_arg2 : E m c (Proc.devRef .tc main_arg2) = m ((c.tc : Thread nD τ).loc main_arg2) := pre_keep m c main_arg2 (by decide) (by decide) (by decide) (by decide) (by decide)
theorem pre_arg3 : E m c (Proc.devRef .tc main_arg3) = m ((c.tc : Thread nD τ).loc main_arg3) := pre_keep m c main_arg3 (by decide) (by decide) (by decide) (by decide) (by decide)
theorem pre_arg4 : E m c (Proc.devRef .tc main_arg4) = m ((c.tc : Thread nD τ).loc main_arg4) := pre_keep m c main_arg4 (by decide) (by decide) (by decide) (by decide) (by decide)
theorem pre_arg5 : E m c (Proc.devRef .tc main_arg5) = m ((c.tc : Thread nD τ).loc main_arg5) := pre_keep m c main_arg5 (by decide) (by decide) (by decide) (by decide) (by decide)
theorem pre_arg6 : E m c (Proc.devRef .tc main_arg6) = m ((c.tc : Thread nD τ).loc main_arg6) := pre_keep m c main_arg6 (by decide) (by decide) (by decide) (by decide) (by decide)
theorem pre_arg7 : E m c (Proc.devRef .tc main_arg7) = m ((c.tc : Thread nD τ).loc main_arg7) := pre_keep m c main_arg7 (by decide) (by decide) (by decide) (by decide) (by decide)
theorem pre_arg8 : E m c (Proc.devRef .tc main_arg8) = m ((c.tc : Thread nD τ).loc main_arg8) := pre_keep m c main_arg8 (by decide) (by decide) (by decide) (by decide) (by decide)
theorem pre_arg9 : E m c (Proc.devRef .tc main_arg9) = m ((c.tc : Thread nD τ).loc main_arg9) := pre_keep m c main_arg9 (by decide) (by decide) (by decide) (by decide) (by decide)
theorem pre_arg10 : E m c (Proc.devRef .tc main_arg10) = m ((c.tc : Thread nD τ).loc main_arg10) := pre_keep m c main_arg10 (by decide) (by decide) (by decide) (by decide) (by decide)
theorem pre_arg11 : E m c (Proc.devRef .tc main_arg11) = m ((c.tc : Thread nD τ).loc main_arg11) := pre_keep m c main_arg11 (by decide) (by decide) (by decide) (by decide) (by decide)
theorem post_arg0 (X : Valuation τ sig (Elt Ideal)) : after hostOps0_5 X (Proc.devRef .tc main_arg0) = X (Proc.devRef .tc main_arg0) := by
  after_reads_simp
theorem post_arg1 (X : Valuation τ sig (Elt Ideal)) : after hostOps0_5 X (Proc.devRef .tc main_arg1) = X (Proc.devRef .tc main_arg1) := by
  after_reads_simp
theorem post_arg2 (X : Valuation τ sig (Elt Ideal)) : after hostOps0_5 X (Proc.devRef .tc main_arg2) = X (Proc.devRef .tc main_arg2) := by
  after_reads_simp
theorem post_arg3 (X : Valuation τ sig (Elt Ideal)) : after hostOps0_5 X (Proc.devRef .tc main_arg3) = X (Proc.devRef .tc main_arg3) := by
  after_reads_simp
theorem post_arg4 (X : Valuation τ sig (Elt Ideal)) : after hostOps0_5 X (Proc.devRef .tc main_arg4) = X (Proc.devRef .tc main_arg4) := by
  after_reads_simp
theorem post_arg5 (X : Valuation τ sig (Elt Ideal)) : after hostOps0_5 X (Proc.devRef .tc main_arg5) = X (Proc.devRef .tc main_arg5) := by
  after_reads_simp
theorem post_arg6 (X : Valuation τ sig (Elt Ideal)) : after hostOps0_5 X (Proc.devRef .tc main_arg6) = X (Proc.devRef .tc main_arg6) := by
  after_reads_simp
theorem post_arg7 (X : Valuation τ sig (Elt Ideal)) : after hostOps0_5 X (Proc.devRef .tc main_arg7) = X (Proc.devRef .tc main_arg7) := by
  after_reads_simp
theorem post_arg8 (X : Valuation τ sig (Elt Ideal)) : after hostOps0_5 X (Proc.devRef .tc main_arg8) = X (Proc.devRef .tc main_arg8) := by
  after_reads_simp
theorem post_arg9 (X : Valuation τ sig (Elt Ideal)) : after hostOps0_5 X (Proc.devRef .tc main_arg9) = X (Proc.devRef .tc main_arg9) := by
  after_reads_simp
theorem post_arg10 (X : Valuation τ sig (Elt Ideal)) : after hostOps0_5 X (Proc.devRef .tc main_arg10) = X (Proc.devRef .tc main_arg10) := by
  after_reads_simp
theorem post_arg11 (X : Valuation τ sig (Elt Ideal)) : after hostOps0_5 X (Proc.devRef .tc main_arg11) = X (Proc.devRef .tc main_arg11) := by
  after_reads_simp

theorem post_out (X : Valuation τ sig (Elt Ideal)) : after hostOps0_5 X (Proc.devRef .tc main_v116)
    = OUT (LNX (NRM (Y4 (X (Proc.devRef .tc main_v77_8))) (MEAN (Y4 (X (Proc.devRef .tc main_v77_8)))) (DEV (Y4 (X (Proc.devRef .tc main_v77_8))) (MEAN (Y4 (X (Proc.devRef .tc main_v77_8)))))) (X (Proc.devRef .tc main_arg10)) (X (Proc.devRef .tc main_arg11))) (BON (X (Proc.devRef .tc main_v64)) (X (Proc.devRef .tc main_v66)) (X (Proc.devRef .tc main_v67)) (X (Proc.devRef .tc main_arg9))) (X (Proc.devRef .tc main_v43)) := by
  after_reads_simp
  rfl

/-- The buffers at the end, from the loop's last trip on. -/
abbrev Fin0 : Valuation τ sig (Elt Ideal) := finalContents condOps preI bodyI postI 8192 m c

theorem cond_v77_8 (X : Valuation τ sig (Elt Ideal)) : after condOps X (Proc.devRef .tc main_v77_8) = X (Proc.devRef .tc main_v77_8) := cond_keeps X main_v77_8 (by decide)

theorem cond_keep (X : Valuation τ sig (Elt Ideal)) (r : Ref sig .tc) (h : r ∉ condOps_W) : after condOps X (Proc.devRef .tc r) = X (Proc.devRef .tc r) :=
  after_of_writes_sub condOps _ condOps_writes h

theorem fin_eq (r : Ref sig .tc) : Fin0 m c (Proc.devRef .tc r) = after hostOps0_5 (after condOps (atK m 8192 c)) (Proc.devRef .tc r) := rfl

theorem fin_arg0 : Fin0 m c (Proc.devRef .tc main_arg0) = m ((c.tc : Thread nD τ).loc main_arg0) := by
  rw [fin_eq, post_arg0, cond_keep _ main_arg0 (by decide), loop_arg0, pre_arg0]
theorem fin_arg1 : Fin0 m c (Proc.devRef .tc main_arg1) = m ((c.tc : Thread nD τ).loc main_arg1) := by
  rw [fin_eq, post_arg1, cond_keep _ main_arg1 (by decide), loop_arg1, pre_arg1]
theorem fin_arg2 : Fin0 m c (Proc.devRef .tc main_arg2) = m ((c.tc : Thread nD τ).loc main_arg2) := by
  rw [fin_eq, post_arg2, cond_keep _ main_arg2 (by decide), loop_arg2, pre_arg2]
theorem fin_arg3 : Fin0 m c (Proc.devRef .tc main_arg3) = m ((c.tc : Thread nD τ).loc main_arg3) := by
  rw [fin_eq, post_arg3, cond_keep _ main_arg3 (by decide), loop_arg3, pre_arg3]
theorem fin_arg4 : Fin0 m c (Proc.devRef .tc main_arg4) = m ((c.tc : Thread nD τ).loc main_arg4) := by
  rw [fin_eq, post_arg4, cond_keep _ main_arg4 (by decide), loop_arg4, pre_arg4]
theorem fin_arg5 : Fin0 m c (Proc.devRef .tc main_arg5) = m ((c.tc : Thread nD τ).loc main_arg5) := by
  rw [fin_eq, post_arg5, cond_keep _ main_arg5 (by decide), loop_arg5, pre_arg5]
theorem fin_arg6 : Fin0 m c (Proc.devRef .tc main_arg6) = m ((c.tc : Thread nD τ).loc main_arg6) := by
  rw [fin_eq, post_arg6, cond_keep _ main_arg6 (by decide), loop_arg6, pre_arg6]
theorem fin_arg7 : Fin0 m c (Proc.devRef .tc main_arg7) = m ((c.tc : Thread nD τ).loc main_arg7) := by
  rw [fin_eq, post_arg7, cond_keep _ main_arg7 (by decide), loop_arg7, pre_arg7]
theorem fin_arg8 : Fin0 m c (Proc.devRef .tc main_arg8) = m ((c.tc : Thread nD τ).loc main_arg8) := by
  rw [fin_eq, post_arg8, cond_keep _ main_arg8 (by decide), loop_arg8, pre_arg8]
theorem fin_arg9 : Fin0 m c (Proc.devRef .tc main_arg9) = m ((c.tc : Thread nD τ).loc main_arg9) := by
  rw [fin_eq, post_arg9, cond_keep _ main_arg9 (by decide), loop_arg9, pre_arg9]
theorem fin_arg10 : Fin0 m c (Proc.devRef .tc main_arg10) = m ((c.tc : Thread nD τ).loc main_arg10) := by
  rw [fin_eq, post_arg10, cond_keep _ main_arg10 (by decide), loop_arg10, pre_arg10]
theorem fin_arg11 : Fin0 m c (Proc.devRef .tc main_arg11) = m ((c.tc : Thread nD τ).loc main_arg11) := by
  rw [fin_eq, post_arg11, cond_keep _ main_arg11 (by decide), loop_arg11, pre_arg11]

variable {m c}

theorem fin_out {I : Inp} (ok : OkR m c I) (q : Fin 16384) (l : Fin 1024) :
    (Fin0 m c (Proc.devRef .tc main_v116) : FVec Ideal S16384x1024 .bf16) (ix2 q l) = ((sOut I (q.val / 8192) (l.val / 256) (q.val % 8192) ⟨l.val % 256, by omega⟩ : ℝ) : EReal) := by
  rw [fin_eq, post_out, cond_v77_8, cond_keep _ main_arg10 (by decide), cond_keep _ main_arg11 (by decide), cond_keep _ main_v64 (by decide), cond_keep _ main_v66 (by decide),
    cond_keep _ main_v67 (by decide), cond_keep _ main_arg9 (by decide), cond_keep _ main_v43 (by decide), loop_arg10, loop_arg11, loop_arg9, loop_v64, loop_v66, loop_v67, loop_v43,
    pre_arg10, pre_arg11, pre_arg9, OUT_at (has_LNX (has_NRM (rows_H4 ok)) ok.lg ok.lb) (has_BON (eR4 ok) (eK4 ok) (eV4 ok) ok.rk) (eG ok), sOut_eq]

/-- The reference's run: its result and its arrays at the end. -/
theorem run (m : (ℓ : Loc nD τ sig) → Buf (Elt Ideal) ℓ) (ρ : Dev nD → PrngReg) : θ_run (defs (F := Ideal)) (onTc (τ := τ) (main (F := Ideal))) ⟨m, fun _ => 0, ρ⟩
    (fun r => ∀ c : Dev nD, r.2.mem ((c.tc : Thread nD τ).loc main_v116) = Fin0 m c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun r h c => ⟨h c main_v116 rfl, (h c main_arg0 rfl).trans (fin_arg0 m c), (h c main_arg1 rfl).trans (fin_arg1 m c), (h c main_arg2 rfl).trans (fin_arg2 m c), (h c main_arg3 rfl).trans (fin_arg3 m c), (h c main_arg4 rfl).trans (fin_arg4 m c), (h c main_arg5 rfl).trans (fin_arg5 m c), (h c main_arg6 rfl).trans (fin_arg6 m c), (h c main_arg7 rfl).trans (fin_arg7 m c), (h c main_arg8 rfl).trans (fin_arg8 m c), (h c main_arg9 rfl).trans (fin_arg9 m c), (h c main_arg10 rfl).trans (fin_arg10 m c), (h c main_arg11 rfl).trans (fin_arg11 m c)⟩) (run_fold m ρ)

end Cert.Reference7Ideal.Spec

end
-- ==== Proof.Rms.lean ====
module

public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Rms

open Idealize.ShloMosaic Idealize.ShloMosaic.TcCoe Idealize.SL.Sem
open Cert.Reference5Ideal Cert.Reference5Ideal.Gen

/-- A row scaled by the inverse root of its mean square, and by a gain for each lane. -/
def rms (x g : Fin 2048 → EReal) (d : Fin 2048) : EReal :=
  x d * Ideal.rsqrt (Ideal.div (∑ k, x k * x k) (Ideal.ofBits FTy.f32 1157627904#32) + Ideal.ofBits FTy.f32 897988541#32) * g d

/-- The references' normalised rows, as a term of the rows and the gains. -/
def XN {F : FTy → Type} [FloatOps F] (x : FVec F S16384x2048 .f32) (g : FVec F S2048 .f32) : FVec F S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem XN_at (x : FVec Ideal S16384x2048 .f32) (g : FVec Ideal S2048 .f32) (r : Fin 16384) (l : Fin 2048) :
    XN (F := Ideal) x g (ix2 r l) = rms (fun d => x (ix2 r d)) (fun d => g (ix1 d)) l := by
  pointwise [XN]
  rfl

end Cert.Rms
-- ==== Proof.NormMatmulRwkv.lean ====
module

public import proofs.«01_k».proof.Proof.Gen.Kernel2Ideal.Value
public import proofs.«01_k».proof.Proof.Gen.Reference2Ideal.Run
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

namespace Cert.Reference2Ideal.Read

open Idealize.ShloMosaic Idealize.ShloMosaic.TcCoe Idealize.SL.Sem
open Cert.Reference2Ideal Cert.Reference2Ideal.Gen

/-- The reference's first columns of the projection, as a term of its arguments. -/
def REF {F : FTy → Type} [FloatOps F] (x : FVec F S16384x2048 .f32) (g : FVec F S2048 .f32) (w : FVec F S2048x6400 .f32) : FVec F S16384x3328 .f32 :=
  extractStridedSlice S16384x3328 ![0, 0] (Host.dotGeneral dot_S16384x2048_S2048x6400_S16384x6400_1_0_0_1_n_n none (Rms.XN x g) w) slices_S16384x6400_S16384x3328_0_0

theorem REF_at (x : FVec Ideal S16384x2048 .f32) (g : FVec Ideal S2048 .f32) (w : FVec Ideal S2048x6400 .f32) (r : Fin 16384) (l : Fin 3328) :
    REF (F := Ideal) x g w (ix2 r l) = ∑ k : Fin 2048, Rms.rms (fun d => x (ix2 r d)) (fun d => g (ix1 d)) k * w (ix2 k (⟨l.val, by omega⟩ : Fin 6400)) := by
  pointwise [REF]
  simp only [Rms.XN_at]

end Cert.Reference2Ideal.Read

namespace Cert.Kernel2Ideal.NormMatmul

open Idealize.ShloMosaic Idealize.ShloMosaic.TcCoe Idealize.SL.Sem
open Cert.Kernel2Ideal Cert.Kernel2Ideal.Gen

theorem pay1_at (x : FVec Ideal S1024x2048 .f32) (g : FVec Ideal S1x2048 .f32) (r : Fin 1024) (l : Fin 2048) :
    k0_pay1 (F := Ideal) x g (ix2 r l) = Rms.rms (fun d => x (ix2 r d)) (fun d => g (ix2 0 d)) l := by
  pointwise [k0_pay1]
  rfl

theorem pay2_at (x : FVec Ideal S1024x2048 .bf16) (w : FVec Ideal S2048x1664 .bf16) (r : Fin 1024) (l : Fin 1664) :
    k0_pay2 (F := Ideal) x w (ix2 r l) = ∑ k : Fin 2048, x (ix2 r k) * w (ix2 k l) := by
  pointwise [k0_pay2]

variable (m : (ℓ : Loc nD τ sig) → Buf (Elt Ideal) ℓ)

/-- The block each window stages at a grid point. -/
theorem idx : ∀ t : Fin cfg0.N,
    win0_0.index t = ![t.val / 2, 0] ∧ win0_1.index t = ![0, 0] ∧ win0_2.index t = ![0, t.val % 2] ∧ win0_3.index t = ![t.val / 2, t.val % 2] :=
  (by decide +kernel : ∀ t : Fin grid0.N, _)

/-- The gains, as the host makes them a row. -/
theorem V_g (c : Dev nD) : (V m c main_v2 : FVec Ideal S1x2048 .f32) = shapeCast S1x2048 ((m ((c.tc : Thread nD τ).loc main_arg1)) : FVec Ideal S2048 .f32) shapeCasts_S2048_S1x2048 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

/-- The first columns of the weights, as the host makes them. -/
theorem V_w (c : Dev nD) : (V m c main_v1 : FVec Ideal S2048x3328 .bf16)
    = extractStridedSlice S2048x3328 ![0, 0] (truncf (F := Ideal) .bf16 ((m ((c.tc : Thread nD τ).loc main_arg2)) : FVec Ideal S2048x6400 .f32) bitsLt_bf16_f32) slices_S2048x6400_S2048x3328_0_0 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem x_at (c : Dev nD) (t : Fin cfg0.N) (ht : t.val < 32) (r : Fin 1024) (l : Fin 2048) :
    (iblk m c 0 t : FVec Ideal S1024x2048 .f32) (ix2 r l)
      = ((m ((c.tc : Thread nD τ).loc main_arg0)) : FVec Ideal S16384x2048 .f32) (ix2 (⟨1024 * (t.val / 2) + r.val, by omega⟩ : Fin 16384) l) := by
  blk_point [iblk, V_main_arg0, idx t]

theorem g_at (c : Dev nD) (t : Fin cfg0.N) (l : Fin 2048) :
    (iblk m c 1 t : FVec Ideal S1x2048 .f32) (ix2 0 l) = ((m ((c.tc : Thread nD τ).loc main_arg1)) : FVec Ideal S2048 .f32) (ix1 l) := by
  trans (V m c main_v2 : FVec Ideal S1x2048 .f32) (ix2 0 l)
  · blk_point [iblk, idx t]
  · rw [V_g]
    pointwise

theorem w_at (c : Dev nD) (t : Fin cfg0.N) (k : Fin 2048) (l : Fin 1664) :
    (iblk m c 2 t : FVec Ideal S2048x1664 .bf16) (ix2 k l) = ((m ((c.tc : Thread nD τ).loc main_arg2)) : FVec Ideal S2048x6400 .f32) (ix2 k (⟨1664 * (t.val % 2) + l.val, by omega⟩ : Fin 6400)) := by
  trans (V m c main_v1 : FVec Ideal S2048x3328 .bf16) (ix2 k (⟨1664 * (t.val % 2) + l.val, by omega⟩ : Fin 3328))
  · blk_point [iblk, idx t]
  · rw [V_w]
    pointwise

/-- At a point of the first column block the scratch is left at the normalised rows of the point's block. -/
theorem scratch_even (c : Dev nD) (t : Fin cfg0.N) (h : t.val % 2 = 0) :
    (outsAt0 m c t.val t.isLt).2 = k0_pay1 (F := Ideal) (iblk m c 0 t) (iblk m c 1 t) := by
  rw [outsAt0_A m c t h]
  frame_out

theorem out_even (c : Dev nD) (t : Fin cfg0.N) (h : t.val % 2 = 0) :
    (outsAt0 m c t.val t.isLt).1 = k0_pay2 (F := Ideal) (k0_pay1 (F := Ideal) (iblk m c 0 t) (iblk m c 1 t)) (iblk m c 2 t) := by
  rw [outsAt0_A m c t h]
  frame_out

/-- At a point of the second column block the rows are those the point before left in the scratch. -/
theorem out_odd (c : Dev nD) (t : Fin cfg0.N) (h : ¬ t.val % 2 = 0) :
    (outsAt0 m c t.val t.isLt).1
      = k0_pay2 (F := Ideal) (outsAt0 m c (t.val - 1) (Nat.lt_of_le_of_lt (Nat.sub_le _ _) t.isLt)).2 (iblk m c 2 t) := by
  rw [outsAt0_B m c t h]
  frame_out
  rw [(Memref.isWhole_whole cc0_scratch0).read_unread]

/-- The block written at a grid point, at a row and a lane. -/
theorem out_at (c : Dev nD) (t : Fin cfg0.N) (ht : t.val < 32) (r : Fin 1024) (l : Fin 1664) :
    (outsAt0 m c t.val t.isLt).1 (ix2 r l)
      = ∑ k : Fin 2048, Rms.rms (fun d => ((m ((c.tc : Thread nD τ).loc main_arg0)) : FVec Ideal S16384x2048 .f32) (ix2 (⟨1024 * (t.val / 2) + r.val, by omega⟩ : Fin 16384) d))
            (fun d => ((m ((c.tc : Thread nD τ).loc main_arg1)) : FVec Ideal S2048 .f32) (ix1 d)) k
          * ((m ((c.tc : Thread nD τ).loc main_arg2)) : FVec Ideal S2048x6400 .f32) (ix2 k (⟨1664 * (t.val % 2) + l.val, by omega⟩ : Fin 6400)) := by
  by_cases h : t.val % 2 = 0
  · rw [out_even m c t h, pay2_at]
    simp only [pay1_at, x_at m c t ht, g_at m c t, w_at m c t]
  · rw [out_odd m c t h, pay2_at]
    have hs := scratch_even m c ⟨t.val - 1, by omega⟩ (by show (t.val - 1) % 2 = 0; omega)
    have hrow : (t.val - 1) / 2 = t.val / 2 := by omega
    rw [hs]
    simp only [pay1_at, x_at m c ⟨t.val - 1, by omega⟩ (by show t.val - 1 < 32; omega), g_at, w_at m c t, hrow]

/-- The block written at a grid point is the reference's block. -/
theorem point (c : Dev nD) (t : Fin cfg0.N) (y : S1024x1664.Idx) (Y : FVec Ideal S16384x3328 .f32)
    (hY : Y = Reference2Ideal.Read.REF (F := Ideal) (m ((c.tc : Thread nD τ).loc main_arg0)) (m ((c.tc : Thread nD τ).loc main_arg1)) (m ((c.tc : Thread nD τ).loc main_arg2))) :
    (outsAt0 m c t.val t.isLt).1 y = Y (((cfg0.win 3).blk t).view.emb y) := by
  have ht : t.val < 32 := lt_of_lt_of_eq t.isLt (by decide +kernel)
  obtain ⟨r, l, rfl⟩ : ∃ (r : Fin 1024) (l : Fin 1664), y = ix2 r l := ⟨y 0, y 1, by funext a; fin_cases a <;> rfl⟩
  trans Y (ix2 (⟨1024 * (t.val / 2) + r.val, by omega⟩ : Fin 16384) (⟨1664 * (t.val % 2) + l.val, by omega⟩ : Fin 3328))
  · rw [out_at m c t ht, hY, Reference2Ideal.Read.REF_at]
  · blk_point [idx t]

/-- The array after the whole grid is the reference's result. -/
theorem final (c : Dev nD) :
    (dats m 0 c).arrAt 3 (cfgs 0).N = Reference2Ideal.Read.REF (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point m c t y _ rfl

end Cert.Kernel2Ideal.NormMatmul
-- ==== Proof.NormMatmulAtt.lean ====
module

public import proofs.«01_k».proof.Proof.Gen.Kernel3Ideal.Value
public import proofs.«01_k».proof.Proof.Gen.Reference3Ideal.Run
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

namespace Cert.Reference3Ideal.Read

open Idealize.ShloMosaic Idealize.ShloMosaic.TcCoe Idealize.SL.Sem
open Cert.Reference3Ideal Cert.Reference3Ideal.Gen

/-- The reference's last columns of the projection, as a term of its arguments. -/
def REF {F : FTy → Type} [FloatOps F] (x : FVec F S16384x2048 .f32) (g : FVec F S2048 .f32) (w : FVec F S2048x6400 .f32) : FVec F S16384x3072 .bf16 :=
  truncf .bf16 (extractStridedSlice S16384x3072 ![0, 3328] (Host.dotGeneral dot_S16384x2048_S2048x6400_S16384x6400_1_0_0_1_n_n none (Rms.XN x g) w) slices_S16384x6400_S16384x3072_0_3328) bitsLt_bf16_f32

theorem REF_at (x : FVec Ideal S16384x2048 .f32) (g : FVec Ideal S2048 .f32) (w : FVec Ideal S2048x6400 .f32) (r : Fin 16384) (l : Fin 3072) :
    REF (F := Ideal) x g w (ix2 r l) = ∑ k : Fin 2048, Rms.rms (fun d => x (ix2 r d)) (fun d => g (ix1 d)) k * w (ix2 k (⟨3328 + l.val, by omega⟩ : Fin 6400)) := by
  pointwise [REF]
  simp only [Rms.XN_at]

end Cert.Reference3Ideal.Read

namespace Cert.Kernel3Ideal.NormMatmul

open Idealize.ShloMosaic Idealize.ShloMosaic.TcCoe Idealize.SL.Sem
open Cert.Kernel3Ideal Cert.Kernel3Ideal.Gen

theorem pay1_at (x : FVec Ideal S1024x2048 .f32) (g : FVec Ideal S1x2048 .f32) (r : Fin 1024) (l : Fin 2048) :
    k0_pay1 (F := Ideal) x g (ix2 r l) = Rms.rms (fun d => x (ix2 r d)) (fun d => g (ix2 0 d)) l := by
  pointwise [k0_pay1]
  rfl

theorem pay2_at (x : FVec Ideal S1024x2048 .bf16) (w : FVec Ideal S2048x1536 .bf16) (r : Fin 1024) (l : Fin 1536) :
    k0_pay2 (F := Ideal) x w (ix2 r l) = ∑ k : Fin 2048, x (ix2 r k) * w (ix2 k l) := by
  pointwise [k0_pay2]

variable (m : (ℓ : Loc nD τ sig) → Buf (Elt Ideal) ℓ)

/-- The block each window stages at a grid point. -/
theorem idx : ∀ t : Fin cfg0.N,
    win0_0.index t = ![t.val / 2, 0] ∧ win0_1.index t = ![0, 0] ∧ win0_2.index t = ![0, t.val % 2] ∧ win0_3.index t = ![t.val / 2, t.val % 2] :=
  (by decide +kernel : ∀ t : Fin grid0.N, _)

/-- The gains, as the host makes them a row. -/
theorem V_g (c : Dev nD) : (V m c main_v2 : FVec Ideal S1x2048 .f32) = shapeCast S1x2048 ((m ((c.tc : Thread nD τ).loc main_arg1)) : FVec Ideal S2048 .f32) shapeCasts_S2048_S1x2048 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

/-- The last columns of the weights, as the host makes them. -/
theorem V_w (c : Dev nD) : (V m c main_v1 : FVec Ideal S2048x3072 .bf16)
    = extractStridedSlice S2048x3072 ![0, 3328] (truncf (F := Ideal) .bf16 ((m ((c.tc : Thread nD τ).loc main_arg2)) : FVec Ideal S2048x6400 .f32) bitsLt_bf16_f32) slices_S2048x6400_S2048x3072_0_3328 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem x_at (c : Dev nD) (t : Fin cfg0.N) (ht : t.val < 32) (r : Fin 1024) (l : Fin 2048) :
    (iblk m c 0 t : FVec Ideal S1024x2048 .f32) (ix2 r l)
      = ((m ((c.tc : Thread nD τ).loc main_arg0)) : FVec Ideal S16384x2048 .f32) (ix2 (⟨1024 * (t.val / 2) + r.val, by omega⟩ : Fin 16384) l) := by
  blk_point [iblk, V_main_arg0, idx t]

theorem g_at (c : Dev nD) (t : Fin cfg0.N) (l : Fin 2048) :
    (iblk m c 1 t : FVec Ideal S1x2048 .f32) (ix2 0 l) = ((m ((c.tc : Thread nD τ).loc main_arg1)) : FVec Ideal S2048 .f32) (ix1 l) := by
  trans (V m c main_v2 : FVec Ideal S1x2048 .f32) (ix2 0 l)
  · blk_point [iblk, idx t]
  · rw [V_g]
    pointwise

theorem w_at (c : Dev nD) (t : Fin cfg0.N) (k : Fin 2048) (l : Fin 1536) :
    (iblk m c 2 t : FVec Ideal S2048x1536 .bf16) (ix2 k l) = ((m ((c.tc : Thread nD τ).loc main_arg2)) : FVec Ideal S2048x6400 .f32) (ix2 k (⟨3328 + (1536 * (t.val % 2) + l.val), by omega⟩ : Fin 6400)) := by
  trans (V m c main_v1 : FVec Ideal S2048x3072 .bf16) (ix2 k (⟨1536 * (t.val % 2) + l.val, by omega⟩ : Fin 3072))
  · blk_point [iblk, idx t]
  · rw [V_w]
    pointwise

/-- At a point of the first column block the scratch is left at the normalised rows of the point's block. -/
theorem scratch_even (c : Dev nD) (t : Fin cfg0.N) (h : t.val % 2 = 0) :
    (outsAt0 m c t.val t.isLt).2 = k0_pay1 (F := Ideal) (iblk m c 0 t) (iblk m c 1 t) := by
  rw [outsAt0_A m c t h]
  frame_out

theorem out_even (c : Dev nD) (t : Fin cfg0.N) (h : t.val % 2 = 0) :
    (outsAt0 m c t.val t.isLt).1 = k0_pay2 (F := Ideal) (k0_pay1 (F := Ideal) (iblk m c 0 t) (iblk m c 1 t)) (iblk m c 2 t) := by
  rw [outsAt0_A m c t h]
  frame_out

/-- At a point of the second column block the rows are those the point before left in the scratch. -/
theorem out_odd (c : Dev nD) (t : Fin cfg0.N) (h : ¬ t.val % 2 = 0) :
    (outsAt0 m c t.val t.isLt).1
      = k0_pay2 (F := Ideal) (outsAt0 m c (t.val - 1) (Nat.lt_of_le_of_lt (Nat.sub_le _ _) t.isLt)).2 (iblk m c 2 t) := by
  rw [outsAt0_B m c t h]
  frame_out
  rw [(Memref.isWhole_whole cc0_scratch0).read_unread]

/-- The block written at a grid point, at a row and a lane. -/
theorem out_at (c : Dev nD) (t : Fin cfg0.N) (ht : t.val < 32) (r : Fin 1024) (l : Fin 1536) :
    (outsAt0 m c t.val t.isLt).1 (ix2 r l)
      = ∑ k : Fin 2048, Rms.rms (fun d => ((m ((c.tc : Thread nD τ).loc main_arg0)) : FVec Ideal S16384x2048 .f32) (ix2 (⟨1024 * (t.val / 2) + r.val, by omega⟩ : Fin 16384) d))
            (fun d => ((m ((c.tc : Thread nD τ).loc main_arg1)) : FVec Ideal S2048 .f32) (ix1 d)) k
          * ((m ((c.tc : Thread nD τ).loc main_arg2)) : FVec Ideal S2048x6400 .f32) (ix2 k (⟨3328 + (1536 * (t.val % 2) + l.val), by omega⟩ : Fin 6400)) := by
  by_cases h : t.val % 2 = 0
  · rw [out_even m c t h, pay2_at]
    simp only [pay1_at, x_at m c t ht, g_at m c t, w_at m c t]
  · rw [out_odd m c t h, pay2_at]
    have hs := scratch_even m c ⟨t.val - 1, by omega⟩ (by show (t.val - 1) % 2 = 0; omega)
    have hrow : (t.val - 1) / 2 = t.val / 2 := by omega
    rw [hs]
    simp only [pay1_at, x_at m c ⟨t.val - 1, by omega⟩ (by show t.val - 1 < 32; omega), g_at, w_at m c t, hrow]

/-- The block written at a grid point is the reference's block. -/
theorem point (c : Dev nD) (t : Fin cfg0.N) (y : S1024x1536.Idx) (Y : FVec Ideal S16384x3072 .bf16)
    (hY : Y = Reference3Ideal.Read.REF (F := Ideal) (m ((c.tc : Thread nD τ).loc main_arg0)) (m ((c.tc : Thread nD τ).loc main_arg1)) (m ((c.tc : Thread nD τ).loc main_arg2))) :
    (outsAt0 m c t.val t.isLt).1 y = Y (((cfg0.win 3).blk t).view.emb y) := by
  have ht : t.val < 32 := lt_of_lt_of_eq t.isLt (by decide +kernel)
  obtain ⟨r, l, rfl⟩ : ∃ (r : Fin 1024) (l : Fin 1536), y = ix2 r l := ⟨y 0, y 1, by funext a; fin_cases a <;> rfl⟩
  trans Y (ix2 (⟨1024 * (t.val / 2) + r.val, by omega⟩ : Fin 16384) (⟨1536 * (t.val % 2) + l.val, by omega⟩ : Fin 3072))
  · rw [out_at m c t ht, hY, Reference3Ideal.Read.REF_at]
  · blk_point [idx t]

/-- The array after the whole grid is the reference's result. -/
theorem final (c : Dev nD) :
    (dats m 0 c).arrAt 3 (cfgs 0).N = Reference3Ideal.Read.REF (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point m c t y _ rfl

end Cert.Kernel3Ideal.NormMatmul
-- ==== Proof.OutProj.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference4Ideal.Read

open Idealize.ShloMosaic Idealize.ShloMosaic.TcCoe Idealize.SL.Sem
open Cert.Reference4Ideal Cert.Reference4Ideal.Gen

/-- The reference's result, as a term of its arguments. -/
def REF {F : FTy → Type} [FloatOps F] (x : FVec F S16384x2048 .f32) (yr ya : FVec F S16384x1024 .bf16) (w : FVec F S2048x2048 .f32) : FVec F S16384x2048 .f32 :=
  addf x (Host.dotGeneral dot_S16384x2048_S2048x2048_S16384x2048_1_0_0_1_n_n none (extf .f32 (concatenate S16384x2048 1 [⟨S16384x1024, yr⟩, ⟨S16384x1024, ya⟩] concatenates_S16384x1024_S16384x1024_S16384x2048_d1) bitsLt_bf16_f32) w)

/-- At a row and a lane, the product over the two joined halves is the sum of the products over each. -/
theorem REF_at (x : FVec Ideal S16384x2048 .f32) (yr ya : FVec Ideal S16384x1024 .bf16) (w : FVec Ideal S2048x2048 .f32) (r : Fin 16384) (l : Fin 2048) :
    REF (F := Ideal) x yr ya w (ix2 r l)
      = x (ix2 r l) + (∑ k : Fin 1024, yr (ix2 r k) * w (ix2 (⟨k.val, by omega⟩ : Fin 2048) l))
        + ∑ k : Fin 1024, ya (ix2 r k) * w (ix2 (⟨1024 + k.val, by omega⟩ : Fin 2048) l) := by
  pointwise [REF]
  exact (add_assoc _ _ _).symm

end Cert.Reference4Ideal.Read

namespace Cert.Kernel4Ideal.OutProj

open Idealize.ShloMosaic Idealize.ShloMosaic.TcCoe Idealize.SL.Sem
open Cert.Kernel4Ideal Cert.Kernel4Ideal.Gen

/-- A written block at a row and a lane. -/
theorem out_at (x : FVec Ideal S512x2048 .f32) (yr ya : FVec Ideal S512x1024 .bf16) (wr wa : FVec Ideal S1024x2048 .bf16) (r : Fin 512) (l : Fin 2048) :
    out0_5 (F := Ideal) x yr ya wr wa (ix2 r l)
      = x (ix2 r l) + (∑ k : Fin 1024, yr (ix2 r k) * wr (ix2 k l)) + ∑ k : Fin 1024, ya (ix2 r k) * wa (ix2 k l) := by
  unfold out0_5
  have hz : (![0, 0] : Fin 2 → ℕ) = fun _ => 0 := by funext a; fin_cases a <;> rfl
  have e0 := View.ld_unit_zero (Val := Elt Ideal) (S := S512x2048) (e := .f32) hz inb_S512x2048_S512x2048_0_0
  have e1 := View.ld_unit_zero (Val := Elt Ideal) (S := S512x1024) (e := .bf16) hz inb_S512x1024_S512x1024_0_0
  have e2 := View.ld_unit_zero (Val := Elt Ideal) (S := S1024x2048) (e := .bf16) hz inb_S1024x2048_S1024x2048_0_0
  rw [View.canon_unit_zero hz, e0 x, e1 yr, e1 ya, e2 wr, e2 wa]
  pointwise [k0_pay1]

variable (m : (ℓ : Loc nD τ sig) → Buf (Elt Ideal) ℓ)

/-- The block each window stages at a grid point. -/
theorem idx : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The upper half of the weights, as the host makes it. -/
theorem V_wr (c : Dev nD) : (V m c main_v1 : FVec Ideal S1024x2048 .bf16)
    = extractStridedSlice S1024x2048 ![0, 0] (truncf (F := Ideal) .bf16 (m ((c.tc : Thread nD τ).loc main_arg3) : FVec Ideal S2048x2048 .f32) bitsLt_bf16_f32) slices_S2048x2048_S1024x2048_0_0 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

/-- The lower half of the weights. -/
theorem V_wa (c : Dev nD) : (V m c main_v2 : FVec Ideal S1024x2048 .bf16)
    = extractStridedSlice S1024x2048 ![1024, 0] (truncf (F := Ideal) .bf16 (m ((c.tc : Thread nD τ).loc main_arg3) : FVec Ideal S2048x2048 .f32) bitsLt_bf16_f32) slices_S2048x2048_S1024x2048_1024_0 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem x_at (c : Dev nD) (t : Fin cfg0.N) (ht : t.val < 32) (r : Fin 512) (l : Fin 2048) :
    (iblk m c 0 t : FVec Ideal S512x2048 .f32) (ix2 r l)
      = (m ((c.tc : Thread nD τ).loc main_arg0) : FVec Ideal S16384x2048 .f32) (ix2 (⟨512 * t.val + r.val, by omega⟩ : Fin 16384) l) := by
  blk_point [iblk, V_main_arg0, idx t]

theorem yr_at (c : Dev nD) (t : Fin cfg0.N) (ht : t.val < 32) (r : Fin 512) (k : Fin 1024) :
    (iblk m c 1 t : FVec Ideal S512x1024 .bf16) (ix2 r k)
      = (m ((c.tc : Thread nD τ).loc main_arg1) : FVec Ideal S16384x1024 .bf16) (ix2 (⟨512 * t.val + r.val, by omega⟩ : Fin 16384) k) := by
  blk_point [iblk, V_main_arg1, idx t]

theorem ya_at (c : Dev nD) (t : Fin cfg0.N) (ht : t.val < 32) (r : Fin 512) (k : Fin 1024) :
    (iblk m c 2 t : FVec Ideal S512x1024 .bf16) (ix2 r k)
      = (m ((c.tc : Thread nD τ).loc main_arg2) : FVec Ideal S16384x1024 .bf16) (ix2 (⟨512 * t.val + r.val, by omega⟩ : Fin 16384) k) := by
  blk_point [iblk, V_main_arg2, idx t]

theorem wr_at (c : Dev nD) (t : Fin cfg0.N) (k : Fin 1024) (l : Fin 2048) :
    (iblk m c 3 t : FVec Ideal S1024x2048 .bf16) (ix2 k l)
      = (m ((c.tc : Thread nD τ).loc main_arg3) : FVec Ideal S2048x2048 .f32) (ix2 (⟨k.val, by omega⟩ : Fin 2048) l) := by
  trans (V m c main_v1 : FVec Ideal S1024x2048 .bf16) (ix2 k l)
  · blk_point [iblk, idx t]
  · rw [V_wr]
    pointwise

theorem wa_at (c : Dev nD) (t : Fin cfg0.N) (k : Fin 1024) (l : Fin 2048) :
    (iblk m c 4 t : FVec Ideal S1024x2048 .bf16) (ix2 k l)
      = (m ((c.tc : Thread nD τ).loc main_arg3) : FVec Ideal S2048x2048 .f32) (ix2 (⟨1024 + k.val, by omega⟩ : Fin 2048) l) := by
  trans (V m c main_v2 : FVec Ideal S1024x2048 .bf16) (ix2 k l)
  · blk_point [iblk, idx t]
  · rw [V_wa]
    pointwise

/-- The block written at a grid point is the reference's block. -/
theorem point (c : Dev nD) (t : Fin cfg0.N) (y : S512x2048.Idx) (Y : FVec Ideal S16384x2048 .f32)
    (hY : Y = Reference4Ideal.Read.REF (F := Ideal) (m ((c.tc : Thread nD τ).loc main_arg0)) (m ((c.tc : Thread nD τ).loc main_arg1)) (m ((c.tc : Thread nD τ).loc main_arg2)) (m ((c.tc : Thread nD τ).loc main_arg3))) :
    out0_5 (F := Ideal) (iblk m c 0 t) (iblk m c 1 t) (iblk m c 2 t) (iblk m c 3 t) (iblk m c 4 t) y
      = Y (((cfg0.win 5).blk t).view.emb y) := by
  have ht : t.val < 32 := lt_of_lt_of_eq t.isLt (by decide +kernel)
  obtain ⟨r, l, rfl⟩ : ∃ r l, y = ix2 r l := ⟨y 0, y 1, by funext a; fin_cases a <;> rfl⟩
  trans Y (ix2 (⟨512 * t.val + r.val, by omega⟩ : Fin 16384) l)
  · rw [out_at, hY, Reference4Ideal.Read.REF_at]
    simp only [x_at m c t ht, yr_at m c t ht, ya_at m c t ht, wr_at m c t, wa_at m c t]
  · blk_point [idx t]

/-- The array after the whole grid is the reference's result. -/
theorem final (c : Dev nD) :
    (dats m 0 c).arrAt 5 (cfgs 0).N = Reference4Ideal.Read.REF (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  exact point m c t y _ rfl

end Cert.Kernel4Ideal.OutProj
-- ==== Proof.PeerQuery.lean ====
module

public import proofs.«01_k».proof.Proof.Gen.Kernel5Ideal.Value
public import proofs.«01_k».proof.Proof.Gen.Reference5Ideal.Run
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

namespace Cert.Reference5Ideal.Read

open Idealize.ShloMosaic Idealize.ShloMosaic.TcCoe Idealize.SL.Sem
open Cert.Reference5Ideal Cert.Reference5Ideal.Gen

/-- The reference's queries, as a term of its arguments. -/
def REF {F : FTy → Type} [FloatOps F] (x : FVec F S16384x2048 .f32) (g : FVec F S2048 .f32) (w : FVec F S2048x2048 .f32) : FVec F S16384x2048 .bf16 :=
  truncf .bf16 (Host.dotGeneral dot_S16384x2048_S2048x2048_S16384x2048_1_0_0_1_n_n none (Rms.XN x g) w) bitsLt_bf16_f32

/-- The reference's normalised rows, transposed. -/
def REFT {F : FTy → Type} [FloatOps F] (x : FVec F S16384x2048 .f32) (g : FVec F S2048 .f32) : FVec F S2048x16384 .bf16 :=
  truncf .bf16 (transpose S2048x16384 [1, 0] (Rms.XN x g) transposes_S16384x2048_S2048x16384_1_0) bitsLt_bf16_f32

theorem REF_at (x : FVec Ideal S16384x2048 .f32) (g : FVec Ideal S2048 .f32) (w : FVec Ideal S2048x2048 .f32) (r : Fin 16384) (l : Fin 2048) :
    REF (F := Ideal) x g w (ix2 r l) = ∑ k : Fin 2048, Rms.rms (fun d => x (ix2 r d)) (fun d => g (ix1 d)) k * w (ix2 k l) := by
  pointwise [REF]
  simp only [Rms.XN_at]

theorem REFT_at (x : FVec Ideal S16384x2048 .f32) (g : FVec Ideal S2048 .f32) (l : Fin 2048) (r : Fin 16384) :
    REFT (F := Ideal) x g (ix2 l r) = Rms.rms (fun d => x (ix2 r d)) (fun d => g (ix1 d)) l := by
  pointwise [REFT]
  rw [Rms.XN_at]

end Cert.Reference5Ideal.Read

namespace Cert.Kernel5Ideal.PeerQuery

open Idealize.ShloMosaic Idealize.ShloMosaic.TcCoe Idealize.SL.Sem
open Cert.Kernel5Ideal Cert.Kernel5Ideal.Gen

theorem pay1_at (x : FVec Ideal S512x2048 .f32) (g : FVec Ideal S1x2048 .f32) (r : Fin 512) (l : Fin 2048) :
    k0_pay1 (F := Ideal) x g (ix2 r l) = Rms.rms (fun d => x (ix2 r d)) (fun d => g (ix2 0 d)) l := by
  pointwise [k0_pay1]
  rfl

/-- A written block of queries at a row and a lane. -/
theorem out_at (x : FVec Ideal S512x2048 .f32) (g : FVec Ideal S1x2048 .f32) (w : FVec Ideal S2048x2048 .bf16) (r : Fin 512) (l : Fin 2048) :
    out0_3 (F := Ideal) x g w (ix2 r l) = ∑ k : Fin 2048, Rms.rms (fun d => x (ix2 r d)) (fun d => g (ix2 0 d)) k * w (ix2 k l) := by
  unfold out0_3
  have hz : (![0, 0] : Fin 2 → ℕ) = fun _ => 0 := by funext a; fin_cases a <;> rfl
  have e0 := View.ld_unit_zero (Val := Elt Ideal) (S := S512x2048) (e := .f32) hz inb_S512x2048_S512x2048_0_0
  have e1 := View.ld_unit_zero (Val := Elt Ideal) (S := S1x2048) (e := .f32) hz inb_S1x2048_S1x2048_0_0
  have e2 := View.ld_unit_zero (Val := Elt Ideal) (S := S2048x2048) (e := .bf16) hz inb_S2048x2048_S2048x2048_0_0
  rw [View.canon_unit_zero hz, e0 x, e1 g, e2 w]
  pointwise [k0_pay3]
  simp only [pay1_at]

/-- A written block of transposed rows at a lane and a row. -/
theorem outT_at (x : FVec Ideal S512x2048 .f32) (g : FVec Ideal S1x2048 .f32) (w : FVec Ideal S2048x2048 .bf16) (l : Fin 2048) (r : Fin 512) :
    out0_4 (F := Ideal) x g w (ix2 l r) = Rms.rms (fun d => x (ix2 r d)) (fun d => g (ix2 0 d)) l := by
  unfold out0_4
  have hz : (![0, 0] : Fin 2 → ℕ) = fun _ => 0 := by funext a; fin_cases a <;> rfl
  have e0 := View.ld_unit_zero (Val := Elt Ideal) (S := S512x2048) (e := .f32) hz inb_S512x2048_S512x2048_0_0
  have e1 := View.ld_unit_zero (Val := Elt Ideal) (S := S1x2048) (e := .f32) hz inb_S1x2048_S1x2048_0_0
  rw [View.canon_unit_zero hz, e0 x, e1 g]
  pointwise [k0_pay2]
  rw [pay1_at]

variable (m : (ℓ : Loc nD τ sig) → Buf (Elt Ideal) ℓ)

/-- The block each window stages at a grid point. -/
theorem idx : ∀ t : Fin cfg0.N,
    win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

theorem x_at (c : Dev nD) (t : Fin cfg0.N) (ht : t.val < 32) (r : Fin 512) (l : Fin 2048) :
    (iblk m c 0 t : FVec Ideal S512x2048 .f32) (ix2 r l)
      = ((m ((c.tc : Thread nD τ).loc main_arg0)) : FVec Ideal S16384x2048 .f32) (ix2 (⟨512 * t.val + r.val, by omega⟩ : Fin 16384) l) := by
  blk_point [iblk, V_main_arg0, idx t]

/-- The gains, as the host makes them a row. -/
theorem V_g (c : Dev nD) : (V m c main_v0 : FVec Ideal S1x2048 .f32)
    = shapeCast S1x2048 ((m ((c.tc : Thread nD τ).loc main_arg1)) : FVec Ideal S2048 .f32) shapeCasts_S2048_S1x2048 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_w (c : Dev nD) : (V m c main_v1 : FVec Ideal S2048x2048 .bf16)
    = truncf (F := Ideal) .bf16 ((m ((c.tc : Thread nD τ).loc main_arg2)) : FVec Ideal S2048x2048 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem g_at (c : Dev nD) (t : Fin cfg0.N) (l : Fin 2048) :
    (iblk m c 1 t : FVec Ideal S1x2048 .f32) (ix2 0 l) = ((m ((c.tc : Thread nD τ).loc main_arg1)) : FVec Ideal S2048 .f32) (ix1 l) := by
  trans (V m c main_v0 : FVec Ideal S1x2048 .f32) (ix2 0 l)
  · blk_point [iblk, idx t]
  · rw [V_g]
    pointwise

theorem w_at (c : Dev nD) (t : Fin cfg0.N) (k : Fin 2048) (l : Fin 2048) :
    (iblk m c 2 t : FVec Ideal S2048x2048 .bf16) (ix2 k l) = ((m ((c.tc : Thread nD τ).loc main_arg2)) : FVec Ideal S2048x2048 .f32) (ix2 k l) := by
  trans (V m c main_v1 : FVec Ideal S2048x2048 .bf16) (ix2 k l)
  · blk_point [iblk, idx t]
  · rw [V_w]
    pointwise

/-- The block of queries written at a grid point is the reference's block. -/
theorem point (c : Dev nD) (t : Fin cfg0.N) (y : S512x2048.Idx) (Y : FVec Ideal S16384x2048 .bf16)
    (hY : Y = Reference5Ideal.Read.REF (F := Ideal) (m ((c.tc : Thread nD τ).loc main_arg0)) (m ((c.tc : Thread nD τ).loc main_arg1)) (m ((c.tc : Thread nD τ).loc main_arg2))) :
    out0_3 (F := Ideal) (iblk m c 0 t) (iblk m c 1 t) (iblk m c 2 t) y = Y (((cfg0.win 3).blk t).view.emb y) := by
  have ht : t.val < 32 := lt_of_lt_of_eq t.isLt (by decide +kernel)
  obtain ⟨r, l, rfl⟩ : ∃ (r : Fin 512) (l : Fin 2048), y = ix2 r l := ⟨y 0, y 1, by funext a; fin_cases a <;> rfl⟩
  trans Y (ix2 (⟨512 * t.val + r.val, by omega⟩ : Fin 16384) l)
  · rw [out_at, hY, Reference5Ideal.Read.REF_at]
    simp only [x_at m c t ht, g_at m c t, w_at m c t]
  · blk_point [idx t]

/-- The block of transposed rows written at a grid point is the reference's block. -/
theorem pointT (c : Dev nD) (t : Fin cfg0.N) (y : S2048x512.Idx) (Y : FVec Ideal S2048x16384 .bf16)
    (hY : Y = Reference5Ideal.Read.REFT (F := Ideal) (m ((c.tc : Thread nD τ).loc main_arg0)) (m ((c.tc : Thread nD τ).loc main_arg1))) :
    out0_4 (F := Ideal) (iblk m c 0 t) (iblk m c 1 t) (iblk m c 2 t) y = Y (((cfg0.win 4).blk t).view.emb y) := by
  have ht : t.val < 32 := lt_of_lt_of_eq t.isLt (by decide +kernel)
  obtain ⟨l, r, rfl⟩ : ∃ (l : Fin 2048) (r : Fin 512), y = ix2 l r := ⟨y 0, y 1, by funext a; fin_cases a <;> rfl⟩
  trans Y (ix2 l (⟨512 * t.val + r.val, by omega⟩ : Fin 16384))
  · rw [outT_at, hY, Reference5Ideal.Read.REFT_at]
    simp only [x_at m c t ht, g_at m c t]
  · blk_point [idx t]

/-- The queries after the whole grid are the reference's. -/
theorem final (c : Dev nD) :
    (dats m 0 c).arrAt 3 (cfgs 0).N = Reference5Ideal.Read.REF (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point m c t y _ rfl

/-- The transposed rows after the whole grid are the reference's. -/
theorem finalT (c : Dev nD) :
    (dats m 0 c).arrAt 4 (cfgs 0).N = Reference5Ideal.Read.REFT (F := Ideal) (m ((c.tc : Thread nD τ).loc main_arg0)) (m ((c.tc : Thread nD τ).loc main_arg1)) := by
  refine (dats m 0 c).arrAt_eq_of_covers 4 _ (by decide +kernel) fun t _ y => ?_
  blk_simp
  rw [after0_4]
  exact pointT m c t y _ rfl

end Cert.Kernel5Ideal.PeerQuery
-- ==== Proof.PleFinal.lean ====
module

public import proofs.«01_k».proof.Proof.Gen.Kernel6Ideal.Value
public import proofs.«01_k».proof.Proof.Gen.Reference6Ideal.Run
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

namespace Cert.Reference6Ideal.Read

open Idealize.ShloMosaic Idealize.ShloMosaic.TcCoe Idealize.SL.Sem
open Cert.Reference6Ideal Cert.Reference6Ideal.Gen

/-- The stream with the experts' output added. -/
def HS {F : FTy → Type} [FloatOps F] (x : FVec F S16384x2048 .f32) (o : FVec F S2048x16384 .f32) : FVec F S16384x2048 .f32 :=
  addf x (transpose S16384x2048 [1, 0] o transposes_S2048x16384_S16384x2048_1_0)

/-- The stream after the gated embedding. -/
def H2 {F : FTy → Type} [FloatOps F] (h : FVec F S16384x2048 .f32) (g : FVec F S2048 .f32) (w : FVec F S2048x2048 .f32) (p : FVec F S16384x256 .f32) (u : FVec F S256x2048 .f32) : FVec F S16384x2048 .f32 :=
  addf h (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none (Rms.XN h g) w))))) (Host.dotGeneral dot_S16384x256_S256x2048_S16384x2048_1_0_0_1_n_n none p u))

/-- The reference's result, as a term of its arguments. -/
def REF {F : FTy → Type} [FloatOps F] (x : FVec F S16384x2048 .f32) (o : FVec F S2048x16384 .f32) (g : FVec F S2048 .f32) (w : FVec F S2048x2048 .f32) (p : FVec F S16384x256 .f32) (u : FVec F S256x2048 .f32) (gf : FVec F S2048 .f32) : FVec F S16384x2048 .f32 :=
  Rms.XN (H2 (HS x o) g w p u) gf

/-- A row with its gated embedding added: the gate reads the normalised row, `e` is the embedding brought to the row's width. -/
def ple (h g : Fin 2048 → EReal) (w : Fin 2048 → Fin 2048 → EReal) (e : Fin 2048 → EReal) (d : Fin 2048) : EReal :=
  h d + Ideal.div 1 (1 + Ideal.exp (-∑ k, Rms.rms h g k * w k d)) * e d

theorem HS_at (x : FVec Ideal S16384x2048 .f32) (o : FVec Ideal S2048x16384 .f32) (r : Fin 16384) (l : Fin 2048) :
    HS (F := Ideal) x o (ix2 r l) = x (ix2 r l) + o (ix2 l r) := by
  pointwise [HS]

theorem H2_at (h : FVec Ideal S16384x2048 .f32) (g : FVec Ideal S2048 .f32) (w : FVec Ideal S2048x2048 .f32) (p : FVec Ideal S16384x256 .f32) (u : FVec Ideal S256x2048 .f32) (r : Fin 16384) (l : Fin 2048) :
    H2 (F := Ideal) h g w p u (ix2 r l)
      = ple (fun d => h (ix2 r d)) (fun d => g (ix1 d)) (fun k d => w (ix2 k d)) (fun d => ∑ k : Fin 256, p (ix2 r k) * u (ix2 k d)) l := by
  pointwise [H2]
  simp only [Rms.XN_at]
  rfl

theorem REF_at (x : FVec Ideal S16384x2048 .f32) (o : FVec Ideal S2048x16384 .f32) (g : FVec Ideal S2048 .f32) (w : FVec Ideal S2048x2048 .f32) (p : FVec Ideal S16384x256 .f32) (u : FVec Ideal S256x2048 .f32) (gf : FVec Ideal S2048 .f32) (r : Fin 16384) (l : Fin 2048) :
    REF (F := Ideal) x o g w p u gf (ix2 r l)
      = Rms.rms (ple (fun d => x (ix2 r d) + o (ix2 d r)) (fun d => g (ix1 d)) (fun k d => w (ix2 k d)) (fun d => ∑ k : Fin 256, p (ix2 r k) * u (ix2 k d))) (fun d => gf (ix1 d)) l := by
  unfold REF
  rw [Rms.XN_at]
  simp only [H2_at, HS_at]

end Cert.Reference6Ideal.Read

namespace Cert.Kernel6Ideal.PleFinal

open Idealize.ShloMosaic Idealize.ShloMosaic.TcCoe Idealize.SL.Sem
open Cert.Kernel6Ideal Cert.Kernel6Ideal.Gen Cert.Reference6Ideal.Read

theorem pay1_at (h : FVec Ideal S512x2048 .f32) (g : FVec Ideal S1x2048 .f32) (r : Fin 512) (l : Fin 2048) :
    k0_pay1 (F := Ideal) h g (ix2 r l) = Rms.rms (fun d => h (ix2 r d)) (fun d => g (ix2 0 d)) l := by
  pointwise [k0_pay1]
  rfl

theorem pay2_at (x : FVec Ideal S512x2048 .f32) (o : FVec Ideal S2048x512 .f32) (g : FVec Ideal S1x2048 .f32) (w : FVec Ideal S2048x2048 .bf16) (p : FVec Ideal S512x256 .f32) (u : FVec Ideal S256x2048 .bf16) (r : Fin 512) (l : Fin 2048) :
    k0_pay2 (F := Ideal) x o g w p u (ix2 r l)
      = ple (fun d => x (ix2 r d) + o (ix2 d r)) (fun d => g (ix2 0 d)) (fun k d => w (ix2 k d)) (fun d => ∑ k : Fin 256, p (ix2 r k) * u (ix2 k d)) l := by
  pointwise [k0_pay2]
  rw [zero_sub]
  rfl

/-- A written block at a row and a lane. -/
theorem out_at (x : FVec Ideal S512x2048 .f32) (o : FVec Ideal S2048x512 .f32) (g : FVec Ideal S1x2048 .f32) (w : FVec Ideal S2048x2048 .bf16) (p : FVec Ideal S512x256 .f32) (u : FVec Ideal S256x2048 .bf16) (gf : FVec Ideal S1x2048 .f32) (r : Fin 512) (l : Fin 2048) :
    out0_7 (F := Ideal) x o g w p u gf (ix2 r l)
      = Rms.rms (ple (fun d => x (ix2 r d) + o (ix2 d r)) (fun d => g (ix2 0 d)) (fun k d => w (ix2 k d)) (fun d => ∑ k : Fin 256, p (ix2 r k) * u (ix2 k d))) (fun d => gf (ix2 0 d)) l := by
  unfold out0_7
  have hz : (![0, 0] : Fin 2 → ℕ) = fun _ => 0 := by funext a; fin_cases a <;> rfl
  have e0 := View.ld_unit_zero (Val := Elt Ideal) (S := S512x2048) (e := .f32) hz inb_S512x2048_S512x2048_0_0
  have e1 := View.ld_unit_zero (Val := Elt Ideal) (S := S2048x512) (e := .f32) hz inb_S2048x512_S2048x512_0_0
  have e2 := View.ld_unit_zero (Val := Elt Ideal) (S := S1x2048) (e := .f32) hz inb_S1x2048_S1x2048_0_0
  have e3 := View.ld_unit_zero (Val := Elt Ideal) (S := S2048x2048) (e := .bf16) hz inb_S2048x2048_S2048x2048_0_0
  have e4 := View.ld_unit_zero (Val := Elt Ideal) (S := S512x256) (e := .f32) hz inb_S512x256_S512x256_0_0
  have e5 := View.ld_unit_zero (Val := Elt Ideal) (S := S256x2048) (e := .bf16) hz inb_S256x2048_S256x2048_0_0
  rw [View.canon_unit_zero hz, e0 x, e1 o, e2 g, e3 w, e4 p, e5 u, e2 gf, pay1_at]
  simp only [pay2_at]

variable (m : (ℓ : Loc nD τ sig) → Buf (Elt Ideal) ℓ)

/-- The block each window stages at a grid point. -/
theorem idx : ∀ t : Fin cfg0.N,
    win0_0.index t = ![t.val, 0] ∧ win0_1.index t = ![0, t.val] ∧ win0_2.index t = ![0, 0] ∧ win0_3.index t = ![0, 0]
    ∧ win0_4.index t = ![t.val, 0] ∧ win0_5.index t = ![0, 0] ∧ win0_6.index t = ![0, 0] ∧ win0_7.index t = ![t.val, 0] :=
  (by decide +kernel : ∀ t : Fin grid0.N, _)

theorem V_g (c : Dev nD) : (V m c main_v0 : FVec Ideal S1x2048 .f32) = shapeCast S1x2048 ((m ((c.tc : Thread nD τ).loc main_arg2)) : FVec Ideal S2048 .f32) shapeCasts_S2048_S1x2048 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_w (c : Dev nD) : (V m c main_v1 : FVec Ideal S2048x2048 .bf16) = truncf (F := Ideal) .bf16 ((m ((c.tc : Thread nD τ).loc main_arg3)) : FVec Ideal S2048x2048 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_u (c : Dev nD) : (V m c main_v2 : FVec Ideal S256x2048 .bf16) = truncf (F := Ideal) .bf16 ((m ((c.tc : Thread nD τ).loc main_arg5)) : FVec Ideal S256x2048 .f32) bitsLt_bf16_f32 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_gf (c : Dev nD) : (V m c main_v3 : FVec Ideal S1x2048 .f32) = shapeCast S1x2048 ((m ((c.tc : Thread nD τ).loc main_arg6)) : FVec Ideal S2048 .f32) shapeCasts_S2048_S1x2048 := by
  simp only [V, hostOps0, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem x_at (c : Dev nD) (t : Fin cfg0.N) (ht : t.val < 32) (r : Fin 512) (l : Fin 2048) :
    (iblk m c 0 t : FVec Ideal S512x2048 .f32) (ix2 r l)
      = ((m ((c.tc : Thread nD τ).loc main_arg0)) : FVec Ideal S16384x2048 .f32) (ix2 (⟨512 * t.val + r.val, by omega⟩ : Fin 16384) l) := by
  blk_point [iblk, V_main_arg0, idx t]

theorem o_at (c : Dev nD) (t : Fin cfg0.N) (ht : t.val < 32) (l : Fin 2048) (r : Fin 512) :
    (iblk m c 1 t : FVec Ideal S2048x512 .f32) (ix2 l r)
      = ((m ((c.tc : Thread nD τ).loc main_arg1)) : FVec Ideal S2048x16384 .f32) (ix2 l (⟨512 * t.val + r.val, by omega⟩ : Fin 16384)) := by
  blk_point [iblk, V_main_arg1, idx t]

theorem g_at (c : Dev nD) (t : Fin cfg0.N) (l : Fin 2048) :
    (iblk m c 2 t : FVec Ideal S1x2048 .f32) (ix2 0 l) = ((m ((c.tc : Thread nD τ).loc main_arg2)) : FVec Ideal S2048 .f32) (ix1 l) := by
  trans (V m c main_v0 : FVec Ideal S1x2048 .f32) (ix2 0 l)
  · blk_point [iblk, idx t]
  · rw [V_g]
    pointwise

theorem w_at (c : Dev nD) (t : Fin cfg0.N) (k : Fin 2048) (l : Fin 2048) :
    (iblk m c 3 t : FVec Ideal S2048x2048 .bf16) (ix2 k l) = ((m ((c.tc : Thread nD τ).loc main_arg3)) : FVec Ideal S2048x2048 .f32) (ix2 k l) := by
  trans (V m c main_v1 : FVec Ideal S2048x2048 .bf16) (ix2 k l)
  · blk_point [iblk, idx t]
  · rw [V_w]
    pointwise

theorem p_at (c : Dev nD) (t : Fin cfg0.N) (ht : t.val < 32) (r : Fin 512) (k : Fin 256) :
    (iblk m c 4 t : FVec Ideal S512x256 .f32) (ix2 r k)
      = ((m ((c.tc : Thread nD τ).loc main_arg4)) : FVec Ideal S16384x256 .f32) (ix2 (⟨512 * t.val + r.val, by omega⟩ : Fin 16384) k) := by
  blk_point [iblk, V_main_arg4, idx t]

theorem u_at (c : Dev nD) (t : Fin cfg0.N) (k : Fin 256) (l : Fin 2048) :
    (iblk m c 5 t : FVec Ideal S256x2048 .bf16) (ix2 k l) = ((m ((c.tc : Thread nD τ).loc main_arg5)) : FVec Ideal S256x2048 .f32) (ix2 k l) := by
  trans (V m c main_v2 : FVec Ideal S256x2048 .bf16) (ix2 k l)
  · blk_point [iblk, idx t]
  · rw [V_u]
    pointwise

theorem gf_at (c : Dev nD) (t : Fin cfg0.N) (l : Fin 2048) :
    (iblk m c 6 t : FVec Ideal S1x2048 .f32) (ix2 0 l) = ((m ((c.tc : Thread nD τ).loc main_arg6)) : FVec Ideal S2048 .f32) (ix1 l) := by
  trans (V m c main_v3 : FVec Ideal S1x2048 .f32) (ix2 0 l)
  · blk_point [iblk, idx t]
  · rw [V_gf]
    pointwise

/-- The block written at a grid point is the reference's block. -/
theorem point (c : Dev nD) (t : Fin cfg0.N) (y : S512x2048.Idx) (Y : FVec Ideal S16384x2048 .f32)
    (hY : Y = REF (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    out0_7 (F := Ideal) (iblk m c 0 t) (iblk m c 1 t) (iblk m c 2 t) (iblk m c 3 t) (iblk m c 4 t) (iblk m c 5 t) (iblk m c 6 t) y = Y (((cfg0.win 7).blk t).view.emb y) := by
  have ht : t.val < 32 := lt_of_lt_of_eq t.isLt (by decide +kernel)
  obtain ⟨r, l, rfl⟩ : ∃ (r : Fin 512) (l : Fin 2048), y = ix2 r l := ⟨y 0, y 1, by funext a; fin_cases a <;> rfl⟩
  trans Y (ix2 (⟨512 * t.val + r.val, by omega⟩ : Fin 16384) l)
  · rw [out_at, hY, REF_at]
    simp only [x_at m c t ht, o_at m c t ht, g_at m c t, w_at m c t, p_at m c t ht, u_at m c t, gf_at m c t]
  · blk_point [idx t]

/-- The array after the whole grid is the reference's result. -/
theorem final (c : Dev nD) :
    (dats m 0 c).arrAt 7 (cfgs 0).N = REF (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  exact point m c t y _ rfl

end Cert.Kernel6Ideal.PleFinal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Final
public import proofs.«01_k».proof.Proof.Finite
public import proofs.«01_k».proof.Proof.WkvGrid
public import proofs.«01_k».proof.Proof.WkvFinite
public import proofs.«01_k».proof.Proof.WkvRefF
public import proofs.«01_k».proof.Proof.NormMatmulRwkv
public import proofs.«01_k».proof.Proof.NormMatmulAtt
public import proofs.«01_k».proof.Proof.OutProj
public import proofs.«01_k».proof.Proof.PeerQuery
public import proofs.«01_k».proof.Proof.PleFinal
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite_inputs := by
  pair_intro
  · run_from Cert.KernelIdeal.Value.run_blocks m g
  · run_from Cert.ReferenceIdeal.Value.run m' g'
    rw [Cert.ReferenceIdeal.Read.res_eq, (hagree c).1, (hagree c).2]
    exact (Cert.KernelIdeal.Final.final m c (Cert.Pre_finite_inputs.finite_of_pre _ _ (hpre c))).symm

theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  exact (θ_run Cert.ReferenceIdeal.defs _ _).mono (fun r h => ⟨fun c => (h c).2, sem_eq_zero_of_no_sems (by decide) r.2⟩)
    (Cert.ReferenceIdeal.Value.run (F := Ideal) m ρ)

theorem algebraic2 : Cert.algebraic_Kernel2Ideal_Reference2Ideal := by
  pair_intro
  · run_from Cert.Kernel2Ideal.Value.run_blocks m g
  · run_from Cert.Reference2Ideal.Value.run m' g'
    exact (Cert.Kernel2Ideal.NormMatmul.final m c).symm

theorem algebraic3 : Cert.algebraic_Kernel3Ideal_Reference3Ideal := by
  pair_intro
  · run_from Cert.Kernel3Ideal.Value.run_blocks m g
  · run_from Cert.Reference3Ideal.Value.run m' g'
    exact (Cert.Kernel3Ideal.NormMatmul.final m c).symm

theorem algebraic4 : Cert.algebraic_Kernel4Ideal_Reference4Ideal := by
  pair_intro
  · run_from Cert.Kernel4Ideal.Value.run_blocks m g
  · run_from Cert.Reference4Ideal.Value.run m' g'
    rw [(hagree c).2.1, (hagree c).2.2.1]
    exact (Cert.Kernel4Ideal.OutProj.final m c).symm

theorem algebraic5 : Cert.algebraic_Kernel5Ideal_Reference5Ideal := by
  pair_intro
  · run_from Cert.Kernel5Ideal.Value.run_blocks m g
  · run_from Cert.Reference5Ideal.Value.run m' g'
    · exact (Cert.Kernel5Ideal.PeerQuery.final m c).symm
    · exact (Cert.Kernel5Ideal.PeerQuery.finalT m c).symm

theorem algebraic6 : Cert.algebraic_Kernel6Ideal_Reference6Ideal := by
  pair_intro
  · run_from Cert.Kernel6Ideal.Value.run_blocks m g
  · run_from Cert.Reference6Ideal.Value.run m' g'
    unfold Cert.Reference6Ideal.Value.res_main_v37
    rw [(hagree c).1, (hagree c).2.1, (hagree c).2.2.1, (hagree c).2.2.2.1, (hagree c).2.2.2.2.1, (hagree c).2.2.2.2.2.1, (hagree c).2.2.2.2.2.2]
    exact (Cert.Kernel6Ideal.PleFinal.final m c).symm

theorem algebraic7 : Cert.algebraic_Kernel7Ideal_Reference7Ideal_pre_finite_wkv := by
  pair_intro
  · run_from Cert.Kernel7Ideal.Value.run_blocks m g
  · refine (θ_run Cert.Reference7Ideal.defs _ _).mono
      (fun r h c => ⟨(h c).1.trans ?_, (h c).2⟩) (Cert.Reference7Ideal.Spec.run m' g')
    obtain ⟨I, ok⟩ : ∃ I, Cert.Kernel7Ideal.Chunk.OkM m c I :=
      ⟨_, Cert.Pre_finite_wkv.ok_of_pre (hpre c)⟩
    have okR := ok
    unfold Cert.Kernel7Ideal.Chunk.OkM at okR
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2.1, ← (hagree c).2.2.2.2.2.2.2.2.2.2.1, ← (hagree c).2.2.2.2.2.2.2.2.2.2.2] at okR
    exact (Cert.Kernel7Ideal.Chunk.final m c ok _ (Cert.Reference7Ideal.Spec.fin_out okR)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_inputs.facts, Cert.Pre_finite_wkv.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2.2, sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩) (Cert.Reference6Ideal.Value.run (F := Ideal) m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩) (Cert.Reference7Ideal.Spec.run m ρ),
  fun m ρ _ => (θ_run Cert.Reference7Ideal.defs _ _).mono (fun r h => ⟨fun c => (h c).2, sem_eq_zero_of_no_sems (by decide) r.2⟩) (Cert.Reference7Ideal.Spec.run m ρ),
  trivial,
  algebraic,
  trivial,
  algebraic2,
  trivial,
  algebraic3,
  trivial,
  algebraic4,
  trivial,
  algebraic5,
  trivial,
  algebraic6,
  trivial,
  algebraic7⟩

end Cert.Proof

end
